-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  IdealRules.named_const.Statement Cert.KernelIdeal.κ "q_scale" .f32 0x3E38AA3B#32 (((Real.log 2)⁻¹ * (1 / 8) : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v58_0)) (v1 : (c : Dev Cert.Kernel3Ideal.nD) → Buf (Elt Ideal) ((c.tc : Thread Cert.Kernel3Ideal.nD Cert.Kernel3Ideal.τ).loc Cert.Kernel3Ideal.main_v58_1)) (v2 : (c : Dev Cert.Kernel3Ideal.nD) → Buf (Elt Ideal) ((c.tc : Thread Cert.Kernel3Ideal.nD Cert.Kernel3Ideal.τ).loc Cert.Kernel3Ideal.main_v58_2)) (v3 : (c : Dev Cert.Kernel3Ideal.nD) → Buf (Elt Ideal) ((c.tc : Thread Cert.Kernel3Ideal.nD Cert.Kernel3Ideal.τ).loc Cert.Kernel3Ideal.main_v58_3)) (v4 : (c : Dev Cert.Kernel3Ideal.nD) → Buf (Elt Ideal) ((c.tc : Thread Cert.Kernel3Ideal.nD Cert.Kernel3Ideal.τ).loc Cert.Kernel3Ideal.main_v58_4)) (v5 : (c : Dev Cert.Kernel3Ideal.nD) → Buf (Elt Ideal) ((c.tc : Thread Cert.Kernel3Ideal.nD Cert.Kernel3Ideal.τ).loc Cert.Kernel3Ideal.main_v58_5)) (v6 : (c : Dev Cert.Kernel3Ideal.nD) → Buf (Elt Ideal) ((c.tc : Thread Cert.Kernel3Ideal.nD Cert.Kernel3Ideal.τ).loc Cert.Kernel3Ideal.main_v58_6)) (v7 : (c : Dev Cert.Kernel3Ideal.nD) → Buf (Elt Ideal) ((c.tc : Thread Cert.Kernel3Ideal.nD Cert.Kernel3Ideal.τ).loc Cert.Kernel3Ideal.main_v58_7)) (v8 : (c : Dev Cert.Kernel3Ideal.nD) → Buf (Elt Ideal) ((c.tc : Thread Cert.Kernel3Ideal.nD Cert.Kernel3Ideal.τ).loc Cert.Kernel3Ideal.main_v58_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v58_0) = v0 c
          ∧ r.2.mem ((c.tc : Thread Cert.Kernel3Ideal.nD Cert.Kernel3Ideal.τ).loc Cert.Kernel3Ideal.main_v58_1) = v1 c
          ∧ r.2.mem ((c.tc : Thread Cert.Kernel3Ideal.nD Cert.Kernel3Ideal.τ).loc Cert.Kernel3Ideal.main_v58_2) = v2 c
          ∧ r.2.mem ((c.tc : Thread Cert.Kernel3Ideal.nD Cert.Kernel3Ideal.τ).loc Cert.Kernel3Ideal.main_v58_3) = v3 c
          ∧ r.2.mem ((c.tc : Thread Cert.Kernel3Ideal.nD Cert.Kernel3Ideal.τ).loc Cert.Kernel3Ideal.main_v58_4) = v4 c
          ∧ r.2.mem ((c.tc : Thread Cert.Kernel3Ideal.nD Cert.Kernel3Ideal.τ).loc Cert.Kernel3Ideal.main_v58_5) = v5 c
          ∧ r.2.mem ((c.tc : Thread Cert.Kernel3Ideal.nD Cert.Kernel3Ideal.τ).loc Cert.Kernel3Ideal.main_v58_6) = v6 c
          ∧ r.2.mem ((c.tc : Thread Cert.Kernel3Ideal.nD Cert.Kernel3Ideal.τ).loc Cert.Kernel3Ideal.main_v58_7) = v7 c
          ∧ r.2.mem ((c.tc : Thread Cert.Kernel3Ideal.nD Cert.Kernel3Ideal.τ).loc Cert.Kernel3Ideal.main_v58_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v128) = v0 c
          ∧ r.2.mem ((c.tc : Thread Cert.Reference3Ideal.nD Cert.Reference3Ideal.τ).loc Cert.Reference3Ideal.main_v132) = v1 c
          ∧ r.2.mem ((c.tc : Thread Cert.Reference3Ideal.nD Cert.Reference3Ideal.τ).loc Cert.Reference3Ideal.main_v137) = v2 c
          ∧ r.2.mem ((c.tc : Thread Cert.Reference3Ideal.nD Cert.Reference3Ideal.τ).loc Cert.Reference3Ideal.main_v139) = v3 c
          ∧ r.2.mem ((c.tc : Thread Cert.Reference3Ideal.nD Cert.Reference3Ideal.τ).loc Cert.Reference3Ideal.main_v140) = v4 c
          ∧ r.2.mem ((c.tc : Thread Cert.Reference3Ideal.nD Cert.Reference3Ideal.τ).loc Cert.Reference3Ideal.main_v212) = v5 c
          ∧ r.2.mem ((c.tc : Thread Cert.Reference3Ideal.nD Cert.Reference3Ideal.τ).loc Cert.Reference3Ideal.main_v216) = v6 c
          ∧ r.2.mem ((c.tc : Thread Cert.Reference3Ideal.nD Cert.Reference3Ideal.τ).loc Cert.Reference3Ideal.main_v221) = v7 c
          ∧ r.2.mem ((c.tc : Thread Cert.Reference3Ideal.nD Cert.Reference3Ideal.τ).loc Cert.Reference3Ideal.main_v223) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v60_0)) (v1 : (c : Dev Cert.Kernel4Ideal.nD) → Buf (Elt Ideal) ((c.tc : Thread Cert.Kernel4Ideal.nD Cert.Kernel4Ideal.τ).loc Cert.Kernel4Ideal.main_v60_1)) (v2 : (c : Dev Cert.Kernel4Ideal.nD) → Buf (Elt Ideal) ((c.tc : Thread Cert.Kernel4Ideal.nD Cert.Kernel4Ideal.τ).loc Cert.Kernel4Ideal.main_v60_2)) (v3 : (c : Dev Cert.Kernel4Ideal.nD) → Buf (Elt Ideal) ((c.tc : Thread Cert.Kernel4Ideal.nD Cert.Kernel4Ideal.τ).loc Cert.Kernel4Ideal.main_v60_3)) (v4 : (c : Dev Cert.Kernel4Ideal.nD) → Buf (Elt Ideal) ((c.tc : Thread Cert.Kernel4Ideal.nD Cert.Kernel4Ideal.τ).loc Cert.Kernel4Ideal.main_v60_4)) (v5 : (c : Dev Cert.Kernel4Ideal.nD) → Buf (Elt Ideal) ((c.tc : Thread Cert.Kernel4Ideal.nD Cert.Kernel4Ideal.τ).loc Cert.Kernel4Ideal.main_v60_5)) (v6 : (c : Dev Cert.Kernel4Ideal.nD) → Buf (Elt Ideal) ((c.tc : Thread Cert.Kernel4Ideal.nD Cert.Kernel4Ideal.τ).loc Cert.Kernel4Ideal.main_v60_6)) (v7 : (c : Dev Cert.Kernel4Ideal.nD) → Buf (Elt Ideal) ((c.tc : Thread Cert.Kernel4Ideal.nD Cert.Kernel4Ideal.τ).loc Cert.Kernel4Ideal.main_v60_7)) (v8 : (c : Dev Cert.Kernel4Ideal.nD) → Buf (Elt Ideal) ((c.tc : Thread Cert.Kernel4Ideal.nD Cert.Kernel4Ideal.τ).loc Cert.Kernel4Ideal.main_v60_8)) (v9 : (c : Dev Cert.Kernel4Ideal.nD) → Buf (Elt Ideal) ((c.tc : Thread Cert.Kernel4Ideal.nD Cert.Kernel4Ideal.τ).loc Cert.Kernel4Ideal.main_v60_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v60_0) = v0 c
          ∧ r.2.mem ((c.tc : Thread Cert.Kernel4Ideal.nD Cert.Kernel4Ideal.τ).loc Cert.Kernel4Ideal.main_v60_1) = v1 c
          ∧ r.2.mem ((c.tc : Thread Cert.Kernel4Ideal.nD Cert.Kernel4Ideal.τ).loc Cert.Kernel4Ideal.main_v60_2) = v2 c
          ∧ r.2.mem ((c.tc : Thread Cert.Kernel4Ideal.nD Cert.Kernel4Ideal.τ).loc Cert.Kernel4Ideal.main_v60_3) = v3 c
          ∧ r.2.mem ((c.tc : Thread Cert.Kernel4Ideal.nD Cert.Kernel4Ideal.τ).loc Cert.Kernel4Ideal.main_v60_4) = v4 c
          ∧ r.2.mem ((c.tc : Thread Cert.Kernel4Ideal.nD Cert.Kernel4Ideal.τ).loc Cert.Kernel4Ideal.main_v60_5) = v5 c
          ∧ r.2.mem ((c.tc : Thread Cert.Kernel4Ideal.nD Cert.Kernel4Ideal.τ).loc Cert.Kernel4Ideal.main_v60_6) = v6 c
          ∧ r.2.mem ((c.tc : Thread Cert.Kernel4Ideal.nD Cert.Kernel4Ideal.τ).loc Cert.Kernel4Ideal.main_v60_7) = v7 c
          ∧ r.2.mem ((c.tc : Thread Cert.Kernel4Ideal.nD Cert.Kernel4Ideal.τ).loc Cert.Kernel4Ideal.main_v60_8) = v8 c
          ∧ r.2.mem ((c.tc : Thread Cert.Kernel4Ideal.nD Cert.Kernel4Ideal.τ).loc Cert.Kernel4Ideal.main_v60_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v135) = v1 c
          ∧ r.2.mem ((c.tc : Thread Cert.Reference4Ideal.nD Cert.Reference4Ideal.τ).loc Cert.Reference4Ideal.main_v139) = v2 c
          ∧ r.2.mem ((c.tc : Thread Cert.Reference4Ideal.nD Cert.Reference4Ideal.τ).loc Cert.Reference4Ideal.main_v144) = v3 c
          ∧ r.2.mem ((c.tc : Thread Cert.Reference4Ideal.nD Cert.Reference4Ideal.τ).loc Cert.Reference4Ideal.main_v146) = v4 c
          ∧ r.2.mem ((c.tc : Thread Cert.Reference4Ideal.nD Cert.Reference4Ideal.τ).loc Cert.Reference4Ideal.main_v147) = v5 c
          ∧ r.2.mem ((c.tc : Thread Cert.Reference4Ideal.nD Cert.Reference4Ideal.τ).loc Cert.Reference4Ideal.main_v219) = v6 c
          ∧ r.2.mem ((c.tc : Thread Cert.Reference4Ideal.nD Cert.Reference4Ideal.τ).loc Cert.Reference4Ideal.main_v223) = v7 c
          ∧ r.2.mem ((c.tc : Thread Cert.Reference4Ideal.nD Cert.Reference4Ideal.τ).loc Cert.Reference4Ideal.main_v228) = v8 c
          ∧ r.2.mem ((c.tc : Thread Cert.Reference4Ideal.nD Cert.Reference4Ideal.τ).loc Cert.Reference4Ideal.main_v230) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S32x2048x384 : Shape := ⟨3, ![32, 2048, 384]⟩
abbrev S32x256x128 : Shape := ⟨3, ![32, 256, 128]⟩
abbrev S32x2048x128 : Shape := ⟨3, ![32, 2048, 128]⟩
abbrev S_ : Shape := ⟨0, ![]⟩

class Facts : Prop where
  bcast_S_S32x2048x384 : S_.BroadcastsInDim S32x2048x384 (![] : Fin 0 → Fin S32x2048x384.rank)
  reducesTo_S32x2048x384_S_d0_1_2 : S32x2048x384.ReducesTo [0, 1, 2] S_
  h_S_ : 0 < S_.numel
  bcast_S_S32x256x128 : S_.BroadcastsInDim S32x256x128 (![] : Fin 0 → Fin S32x256x128.rank)
  reducesTo_S32x256x128_S_d0_1_2 : S32x256x128.ReducesTo [0, 1, 2] S_
  bcast_S_S32x2048x128 : S_.BroadcastsInDim S32x2048x128 (![] : Fin 0 → Fin S32x2048x128.rank)
  reducesTo_S32x2048x128_S_d0_1_2 : S32x2048x128.ReducesTo [0, 1, 2] S_

variable [Facts]

def fn_part1 {F : FTy → Type} [FloatOps F] (main_arg4 : FVec F S32x2048x128 .f32) (main_v12 : IVec S_ 1) (main_v14 : IVec S32x2048x128 1) (main_v15 : FVec F S32x2048x128 .f32) : IVec S_ 1 :=
  let main_v16 : IVec S32x2048x128 1 := cmpf .ogt main_arg4 main_v15
  let main_v17 : IVec S32x2048x128 1 := andi main_v14 main_v16
  let main_c_6 : IVec S_ 1 := constantI S_ 1 1#1
  let main_v18 : IVec S_ 1 := (fun x v => Host.reduce IntOp.andi x v reducesTo_S32x2048x128_S_d0_1_2 h_S_) main_v17 main_c_6
  let main_v19 : IVec S_ 1 := andi main_v12 main_v18
  main_v19

def fn {F : FTy → Type} [FloatOps F] (main_arg0 : FVec F S32x2048x384 .f32) (main_arg1 : FVec F S32x2048x384 .f32) (main_arg2 : FVec F S32x256x128 .f32) (main_arg3 : FVec F S32x256x128 .f32) (main_arg4 : FVec F S32x2048x128 .f32) (main_arg5 : FVec F S32x2048x128 .f32) : IVec S_ 1 :=
  let main_cst : FVec F S_ .f32 := constant S_ .f32 0x7F800000#32
  let main_v0 : FVec F S32x2048x384 .f32 := broadcastInDim S32x2048x384 ![] bcast_S_S32x2048x384 main_cst
  let main_v1 : IVec S32x2048x384 1 := cmpf .olt main_arg0 main_v0
  let main_cst_0 : FVec F S_ .f32 := constant S_ .f32 0xFF800000#32
  let main_v2 : FVec F S32x2048x384 .f32 := broadcastInDim S32x2048x384 ![] bcast_S_S32x2048x384 main_cst_0
  let main_v3 : IVec S32x2048x384 1 := cmpf .ogt main_arg0 main_v2
  let main_v4 : IVec S32x2048x384 1 := andi main_v1 main_v3
  let main_c : IVec S_ 1 := constantI S_ 1 1#1
  let main_v5 : IVec S_ 1 := (fun x v => Host.reduce IntOp.andi x v reducesTo_S32x2048x384_S_d0_1_2 h_S_) main_v4 main_c
  let main_cst_1 : FVec F S_ .f32 := constant S_ .f32 0x7F800000#32
  let main_v6 : FVec F S32x256x128 .f32 := broadcastInDim S32x256x128 ![] bcast_S_S32x256x128 main_cst_1
  let main_v7 : IVec S32x256x128 1 := cmpf .olt main_arg2 main_v6
  let main_cst_2 : FVec F S_ .f32 := constant S_ .f32 0xFF800000#32
  let main_v8 : FVec F S32x256x128 .f32 := broadcastInDim S32x256x128 ![] bcast_S_S32x256x128 main_cst_2
  let main_v9 : IVec S32x256x128 1 := cmpf .ogt main_arg2 main_v8
  let main_v10 : IVec S32x256x128 1 := andi main_v7 main_v9
  let main_c_3 : IVec S_ 1 := constantI S_ 1 1#1
  let main_v11 : IVec S_ 1 := (fun x v => Host.reduce IntOp.andi x v reducesTo_S32x256x128_S_d0_1_2 h_S_) main_v10 main_c_3
  let main_v12 : IVec S_ 1 := andi main_v5 main_v11
  let main_cst_4 : FVec F S_ .f32 := constant S_ .f32 0x7F800000#32
  let main_v13 : FVec F S32x2048x128 .f32 := broadcastInDim S32x2048x128 ![] bcast_S_S32x2048x128 main_cst_4
  let main_v14 : IVec S32x2048x128 1 := cmpf .olt main_arg4 main_v13
  let main_cst_5 : FVec F S_ .f32 := constant S_ .f32 0xFF800000#32
  let main_v15 : FVec F S32x2048x128 .f32 := broadcastInDim S32x2048x128 ![] bcast_S_S32x2048x128 main_cst_5
  fn_part1 (F := F) main_arg4 main_v12 main_v14 main_v15
-- ==== Kernel.lean ====
abbrev S32x2048x384 : Shape := ⟨3, ![32, 2048, 384]⟩
abbrev S32x256x128 : Shape := ⟨3, ![32, 256, 128]⟩
abbrev S32x2048x128 : Shape := ⟨3, ![32, 2048, 128]⟩
abbrev S_ : Shape := ⟨0, ![]⟩
abbrev S32x256x64 : Shape := ⟨3, ![32, 256, 64]⟩
abbrev S32x256x256 : Shape := ⟨3, ![32, 256, 256]⟩
abbrev S32x2048x64 : Shape := ⟨3, ![32, 2048, 64]⟩
abbrev S32x2048x256 : Shape := ⟨3, ![32, 2048, 256]⟩
abbrev S1x2048x384 : Shape := ⟨3, ![1, 2048, 384]⟩
abbrev S1x256x256 : Shape := ⟨3, ![1, 256, 256]⟩
abbrev S1x2048x256 : Shape := ⟨3, ![1, 2048, 256]⟩
abbrev S2304x512 : Shape := ⟨2, ![2304, 512]⟩
abbrev S2304x1024 : Shape := ⟨2, ![2304, 1024]⟩
abbrev S1x128 : Shape := ⟨2, ![1, 128]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S2304x128 : Shape := ⟨2, ![2304, 128]⟩
abbrev S768x128 : Shape := ⟨2, ![768, 128]⟩
abbrev S256x768 : Shape := ⟨2, ![256, 768]⟩
abbrev S256 : Shape := ⟨1, ![256]⟩
abbrev S256x1 : Shape := ⟨2, ![256, 1]⟩
abbrev S768x256 : Shape := ⟨2, ![768, 256]⟩
abbrev S256x256 : Shape := ⟨2, ![256, 256]⟩

abbrev nBuf : Space → Nat
  | .hbm => 37
  | .vmem => 16
  | .smem => 0
  | _ => 0

abbrev bufTy : (tb : Table) → Fin (tcTables nBuf tb) → BufTy
  | .hbm, ⟨0, _⟩ => ⟨S32x2048x384, .f32⟩
  | .hbm, ⟨1, _⟩ => ⟨S32x2048x384, .f32⟩
  | .hbm, ⟨2, _⟩ => ⟨S32x256x128, .f32⟩
  | .hbm, ⟨3, _⟩ => ⟨S32x256x128, .f32⟩
  | .hbm, ⟨4, _⟩ => ⟨S32x2048x128, .f32⟩
  | .hbm, ⟨5, _⟩ => ⟨S32x2048x128, .f32⟩
  | .hbm, ⟨6, _⟩ => ⟨S32x2048x384, .f32⟩
  | .hbm, ⟨7, _⟩ => ⟨S32x2048x384, .f32⟩
  | .hbm, ⟨8, _⟩ => ⟨S_, .f32⟩
  | .hbm, ⟨9, _⟩ => ⟨S32x2048x384, .f32⟩
  | .hbm, ⟨10, _⟩ => ⟨S32x2048x384, .f32⟩
  | .hbm, ⟨11, _⟩ => ⟨S_, .f32⟩
  | .hbm, ⟨12, _⟩ => ⟨S32x2048x384, .f32⟩
  | .hbm, ⟨13, _⟩ => ⟨S32x2048x384, .f32⟩
  | .hbm, ⟨14, _⟩ => ⟨S32x2048x384, .f32⟩
  | .hbm, ⟨15, _⟩ => ⟨S32x2048x384, .bf16⟩
  | .hbm, ⟨16, _⟩ => ⟨S32x256x64, .f32⟩
  | .hbm, ⟨17, _⟩ => ⟨S32x256x64, .f32⟩
  | .hbm, ⟨18, _⟩ => ⟨S32x256x128, .f32⟩
  | .hbm, ⟨19, _⟩ => ⟨S32x256x256, .f32⟩
  | .hbm, ⟨20, _⟩ => ⟨S32x256x256, .bf16⟩
  | .hbm, ⟨21, _⟩ => ⟨S32x256x64, .f32⟩
  | .hbm, ⟨22, _⟩ => ⟨S32x256x64, .f32⟩
  | .hbm, ⟨23, _⟩ => ⟨S32x256x128, .f32⟩
  | .hbm, ⟨24, _⟩ => ⟨S32x256x256, .f32⟩
  | .hbm, ⟨25, _⟩ => ⟨S32x256x256, .bf16⟩
  | .hbm, ⟨26, _⟩ => ⟨S32x2048x64, .f32⟩
  | .hbm, ⟨27, _⟩ => ⟨S32x2048x64, .f32⟩
  | .hbm, ⟨28, _⟩ => ⟨S32x2048x128, .f32⟩
  | .hbm, ⟨29, _⟩ => ⟨S32x2048x256, .f32⟩
  | .hbm, ⟨30, _⟩ => ⟨S32x2048x256, .bf16⟩
  | .hbm, ⟨31, _⟩ => ⟨S32x2048x64, .f32⟩
  | .hbm, ⟨32, _⟩ => ⟨S32x2048x64, .f32⟩
  | .hbm, ⟨33, _⟩ => ⟨S32x2048x128, .f32⟩
  | .hbm, ⟨34, _⟩ => ⟨S32x2048x256, .f32⟩
  | .hbm, ⟨35, _⟩ => ⟨S32x2048x256, .bf16⟩
  | .hbm, ⟨36, _⟩ => ⟨S32x2048x384, .bf16⟩
  | .local _ .vmem, ⟨0, _⟩ => ⟨S1x2048x384, .f32⟩
  | .local _ .vmem, ⟨1, _⟩ => ⟨S1x2048x384, .f32⟩
  | .local _ .vmem, ⟨2, _⟩ => ⟨S1x2048x384, .bf16⟩
  | .local _ .vmem, ⟨3, _⟩ => ⟨S1x2048x384, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x384, .bf16⟩
  | .local _ .vmem, ⟨13, _⟩ => ⟨S1x2048x384, .bf16⟩
  | .local _ .vmem, ⟨14, _⟩ => ⟨S2304x512, .bf16⟩
  | .local _ .vmem, ⟨15, _⟩ => ⟨S2304x1024, .bf16⟩
  | _, _ => ⟨S32x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_v0 : Ref sig .tc := ⟨.hbm, 21, rfl⟩
abbrev main_call1_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_v0 : Ref sig .tc := ⟨.hbm, 26, rfl⟩
abbrev main_call2_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call3_v0 : Ref sig .tc := ⟨.hbm, 31, rfl⟩
abbrev main_call3_v1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "q_scale" => some (((Real.log 2)⁻¹ * (1 / 8) : ℝ) : EReal)
  | _ => none
-- ==== ReferenceIdeal.lean ====
abbrev S32x2048x384 : Shape := ⟨3, ![32, 2048, 384]⟩
abbrev S32x256x128 : Shape := ⟨3, ![32, 256, 128]⟩
abbrev S32x2048x128 : Shape := ⟨3, ![32, 2048, 128]⟩
abbrev S32x2048x2x3x64 : Shape := ⟨5, ![32, 2048, 2, 3, 64]⟩
abbrev S32x2304x128 : Shape := ⟨3, ![32, 2304, 128]⟩
abbrev S32x2304x2x64 : Shape := ⟨4, ![32, 2304, 2, 64]⟩
abbrev S32x2x2304x2048x3 : Shape := ⟨5, ![32, 2, 2304, 2048, 3]⟩
abbrev S32x2x3x2048x2304 : Shape := ⟨5, ![32, 2, 3, 2048, 2304]⟩
abbrev S_ : Shape := ⟨0, ![]⟩
abbrev S32x2x3x2048 : Shape := ⟨4, ![32, 2, 3, 2048]⟩
abbrev S32x2x3x2048x1 : Shape := ⟨5, ![32, 2, 3, 2048, 1]⟩
abbrev S32x2x64x3x2048 : Shape := ⟨5, ![32, 2, 64, 3, 2048]⟩

abbrev nBuf : Space → Nat
  | .hbm => 44
  | .vmem => 0
  | .smem => 0
  | _ => 0

abbrev bufTy : (tb : Table) → Fin (tcTables nBuf tb) → BufTy
  | .hbm, ⟨0, _⟩ => ⟨S32x2048x384, .f32⟩
  | .hbm, ⟨1, _⟩ => ⟨S32x2048x384, .f32⟩
  | .hbm, ⟨2, _⟩ => ⟨S32x256x128, .f32⟩
  | .hbm, ⟨3, _⟩ => ⟨S32x256x128, .f32⟩
  | .hbm, ⟨4, _⟩ => ⟨S32x2048x128, .f32⟩
  | .hbm, ⟨5, _⟩ => ⟨S32x2048x128, .f32⟩
  | .hbm, ⟨6, _⟩ => ⟨S32x2048x2x3x64, .f32⟩
  | .hbm, ⟨7, _⟩ => ⟨S32x2304x128, .f32⟩
  | .hbm, ⟨8, _⟩ => ⟨S32x2304x2x64, .f32⟩
  | .hbm, ⟨9, _⟩ => ⟨S32x2304x128, .f32⟩
  | .hbm, ⟨10, _⟩ => ⟨S32x2304x2x64, .f32⟩
  | .hbm, ⟨11, _⟩ => ⟨S32x2x2304x2048x3, .f32⟩
  | .hbm, ⟨12, _⟩ => ⟨S32x2x3x2048x2304, .f32⟩
  | .hbm, ⟨13, _⟩ => ⟨S_, .f32⟩
  | .hbm, ⟨14, _⟩ => ⟨S32x2x3x2048x2304, .f32⟩
  | .hbm, ⟨15, _⟩ => ⟨S32x2x3x2048x2304, .f32⟩
  | .hbm, ⟨16, _⟩ => ⟨S_, .f32⟩
  | .hbm, ⟨17, _⟩ => ⟨S32x2x3x2048, .f32⟩
  | .hbm, ⟨18, _⟩ => ⟨S_, .f32⟩
  | .hbm, ⟨19, _⟩ => ⟨S32x2x3x2048, .f32⟩
  | .hbm, ⟨20, _⟩ => ⟨S32x2x3x2048, .f32⟩
  | .hbm, ⟨21, _⟩ => ⟨S32x2x3x2048x1, .f32⟩
  | .hbm, ⟨22, _⟩ => ⟨S32x2x3x2048x2304, .f32⟩
  | .hbm, ⟨23, _⟩ => ⟨S32x2x3x2048x2304, .f32⟩
  | .hbm, ⟨24, _⟩ => ⟨S32x2x3x2048x2304, .f32⟩
  | .hbm, ⟨25, _⟩ => ⟨S_, .f32⟩
  | .hbm, ⟨26, _⟩ => ⟨S32x2x3x2048, .f32⟩
  | .hbm, ⟨27, _⟩ => ⟨S32x2x3x2048x1, .f32⟩
  | .hbm, ⟨28, _⟩ => ⟨S32x2x3x2048x2304, .f32⟩
  | .hbm, ⟨29, _⟩ => ⟨S32x2x3x2048x2304, .f32⟩
  | .hbm, ⟨30, _⟩ => ⟨S32x2x64x3x2048, .f32⟩
  | .hbm, ⟨31, _⟩ => ⟨S32x2048x2x3x64, .f32⟩
  | .hbm, ⟨32, _⟩ => ⟨S32x2048x384, .f32⟩
  | .hbm, ⟨33, _⟩ => ⟨S32x2048x384, .f32⟩
  | .hbm, ⟨34, _⟩ => ⟨S32x2048x384, .f32⟩
  | .hbm, ⟨35, _⟩ => ⟨S_, .f32⟩
  | .hbm, ⟨36, _⟩ => ⟨S32x2048x384, .f32⟩
  | .hbm, ⟨37, _⟩ => ⟨S32x2048x384, .f32⟩
  | .hbm, ⟨38, _⟩ => ⟨S_, .f32⟩
  | .hbm, ⟨39, _⟩ => ⟨S32x2048x384, .f32⟩
  | .hbm, ⟨40, _⟩ => ⟨S32x2048x384, .f32⟩
  | .hbm, ⟨41, _⟩ => ⟨S32x2048x384, .f32⟩
  | .hbm, ⟨42, _⟩ => ⟨S32x2048x384, .f32⟩
  | .hbm, ⟨43, _⟩ => ⟨S32x2048x384, .bf16⟩
  | _, _ => ⟨S32x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x1024 : Shape := ⟨2, ![32, 1024]⟩
abbrev S32x2048x384 : Shape := ⟨3, ![32, 2048, 384]⟩
abbrev S32x2048x256 : Shape := ⟨3, ![32, 2048, 256]⟩
abbrev S1024x1024 : Shape := ⟨2, ![1024, 1024]⟩
abbrev S32x1x1024 : Shape := ⟨3, ![32, 1, 1024]⟩
abbrev S1x1024x1024 : Shape := ⟨3, ![1, 1024, 1024]⟩
abbrev S1x1x1024 : Shape := ⟨3, ![1, 1, 1024]⟩
abbrev S1x1024x384 : Shape := ⟨3, ![1, 1024, 384]⟩
abbrev S1x1024x256 : Shape := ⟨3, ![1, 1024, 256]⟩
abbrev S1x1024 : Shape := ⟨2, ![1, 1024]⟩
abbrev S1024x384 : Shape := ⟨2, ![1024, 384]⟩
abbrev S1024x256 : Shape := ⟨2, ![1024, 256]⟩

abbrev nBuf : Space → Nat
  | .hbm => 9
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x2048x384, .bf16⟩
  | .hbm, ⟨3, _⟩ => ⟨S32x2048x256, .bf16⟩
  | .hbm, ⟨4, _⟩ => ⟨S32x2048x384, .bf16⟩
  | .hbm, ⟨5, _⟩ => ⟨S1024x1024, .f32⟩
  | .hbm, ⟨6, _⟩ => ⟨S32x1x1024, .f32⟩
  | .hbm, ⟨7, _⟩ => ⟨S1024x1024, .bf16⟩
  | .hbm, ⟨8, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x384, .bf16⟩
  | .local _ .vmem, ⟨5, _⟩ => ⟨S1x1024x384, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x384, .bf16⟩
  | .local _ .vmem, ⟨9, _⟩ => ⟨S1x1024x384, .bf16⟩
  | .local _ .vmem, ⟨10, _⟩ => ⟨S1024x1024, .bf16⟩
  | .local _ .vmem, ⟨11, _⟩ => ⟨S1x1024x1024, .f32⟩
  | .local _ .vmem, ⟨12, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S32x2048x1024 : Shape := ⟨3, ![32, 2048, 1024]⟩
abbrev S32x1024 : Shape := ⟨2, ![32, 1024]⟩
abbrev S32x2048x384 : Shape := ⟨3, ![32, 2048, 384]⟩
abbrev S32x2048x256 : Shape := ⟨3, ![32, 2048, 256]⟩
abbrev S1024x1024 : Shape := ⟨2, ![1024, 1024]⟩
abbrev S32x1x1024 : Shape := ⟨3, ![32, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x2048x384, .bf16⟩
  | .hbm, ⟨3, _⟩ => ⟨S32x2048x256, .bf16⟩
  | .hbm, ⟨4, _⟩ => ⟨S32x2048x384, .bf16⟩
  | .hbm, ⟨5, _⟩ => ⟨S1024x1024, .f32⟩
  | .hbm, ⟨6, _⟩ => ⟨S32x1x1024, .f32⟩
  | .hbm, ⟨7, _⟩ => ⟨S32x2048x1024, .bf16⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x3072 : Shape := ⟨2, ![32, 3072]⟩
abbrev S1024 : Shape := ⟨1, ![1024]⟩
abbrev S1024x3072 : Shape := ⟨2, ![1024, 3072]⟩
abbrev S64 : Shape := ⟨1, ![64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S2048x2x1x16 : Shape := ⟨4, ![2048, 2, 1, 16]⟩
abbrev S2048x2x2x16 : Shape := ⟨4, ![2048, 2, 2, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S6x64 : Shape := ⟨2, ![6, 64]⟩
abbrev S384 : Shape := ⟨1, ![384]⟩
abbrev S2x64 : Shape := ⟨2, ![2, 64]⟩
abbrev S128 : Shape := ⟨1, ![128]⟩
abbrev S512 : Shape := ⟨1, ![512]⟩
abbrev S1x512 : Shape := ⟨2, ![1, 512]⟩
abbrev S32x1x3072 : Shape := ⟨3, ![32, 1, 3072]⟩
abbrev S1x1024 : Shape := ⟨2, ![1, 1024]⟩
abbrev S32x2048x384 : Shape := ⟨3, ![32, 2048, 384]⟩
abbrev S32x2048x256 : Shape := ⟨3, ![32, 2048, 256]⟩
abbrev S1x1024x1024 : Shape := ⟨3, ![1, 1024, 1024]⟩
abbrev S1x1x3072 : Shape := ⟨3, ![1, 1, 3072]⟩
abbrev S1024x128 : Shape := ⟨2, ![1024, 128]⟩
abbrev S1x1024x384 : Shape := ⟨3, ![1, 1024, 384]⟩
abbrev S1x1024x256 : Shape := ⟨3, ![1, 1024, 256]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x1024 : Shape := ⟨2, ![1024, 1024]⟩
abbrev S256x512 : Shape := ⟨2, ![256, 512]⟩
abbrev S1x128 : Shape := ⟨2, ![1, 128]⟩
abbrev S256x384 : Shape := ⟨2, ![256, 384]⟩
abbrev S1x256x384 : Shape := ⟨3, ![1, 256, 384]⟩
abbrev S256x256 : Shape := ⟨2, ![256, 256]⟩
abbrev S1x256x256 : Shape := ⟨3, ![1, 256, 256]⟩

abbrev nBuf : Space → Nat
  | .hbm => 115
  | .vmem => 30
  | .smem => 0
  | _ => 0

abbrev bufTy : (tb : Table) → Fin (tcTables nBuf tb) → BufTy
  | .hbm, ⟨0, _⟩ => ⟨S32x2048x1024, .f32⟩
  | .hbm, ⟨1, _⟩ => ⟨S32x3072, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S2048, .i32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048, .f32⟩
  | .hbm, ⟨36, _⟩ => ⟨S2048x1, .f32⟩
  | .hbm, ⟨37, _⟩ => ⟨S1x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S_, .i32⟩
  | .hbm, ⟨56, _⟩ => ⟨S_, .i1⟩
  | .hbm, ⟨57, _⟩ => ⟨S2048, .i1⟩
  | .hbm, ⟨58, _⟩ => ⟨S2048, .i1⟩
  | .hbm, ⟨59, _⟩ => ⟨S2048, .i1⟩
  | .hbm, ⟨60, _⟩ => ⟨S2048, .i32⟩
  | .hbm, ⟨61, _⟩ => ⟨S2048, .i32⟩
  | .hbm, ⟨62, _⟩ => ⟨S2048, .i32⟩
  | .hbm, ⟨63, _⟩ => ⟨S2048, .f32⟩
  | .hbm, ⟨64, _⟩ => ⟨S2048x1, .f32⟩
  | .hbm, ⟨65, _⟩ => ⟨S1x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x1x16, .f32⟩
  | .hbm, ⟨70, _⟩ => ⟨S2048x1x16, .f32⟩
  | .hbm, ⟨71, _⟩ => ⟨S2048x2x16, .f32⟩
  | .hbm, ⟨72, _⟩ => ⟨S2048x2x16, .f32⟩
  | .hbm, ⟨73, _⟩ => ⟨S2048x2x1x16, .f32⟩
  | .hbm, ⟨74, _⟩ => ⟨S2048x2x16, .f32⟩
  | .hbm, ⟨75, _⟩ => ⟨S2048x2x1x16, .f32⟩
  | .hbm, ⟨76, _⟩ => ⟨S2048x2x2x16, .f32⟩
  | .hbm, ⟨77, _⟩ => ⟨S2048x64, .f32⟩
  | .hbm, ⟨78, _⟩ => ⟨S2048x2x1x16, .f32⟩
  | .hbm, ⟨79, _⟩ => ⟨S2048x2x2x16, .f32⟩
  | .hbm, ⟨80, _⟩ => ⟨S2048x64, .f32⟩
  | .hbm, ⟨81, _⟩ => ⟨S1x2048x1x64, .f32⟩
  | .hbm, ⟨82, _⟩ => ⟨S1x2048x2x64, .f32⟩
  | .hbm, ⟨83, _⟩ => ⟨S2048x128, .f32⟩
  | .hbm, ⟨84, _⟩ => ⟨S1x2048x1x64, .f32⟩
  | .hbm, ⟨85, _⟩ => ⟨S1x2048x2x64, .f32⟩
  | .hbm, ⟨86, _⟩ => ⟨S2048x128, .f32⟩
  | .hbm, ⟨87, _⟩ => ⟨S1x64, .f32⟩
  | .hbm, ⟨88, _⟩ => ⟨S6x64, .f32⟩
  | .hbm, ⟨89, _⟩ => ⟨S384, .f32⟩
  | .hbm, ⟨90, _⟩ => ⟨S1x64, .f32⟩
  | .hbm, ⟨91, _⟩ => ⟨S2x64, .f32⟩
  | .hbm, ⟨92, _⟩ => ⟨S128, .f32⟩
  | .hbm, ⟨93, _⟩ => ⟨S512, .f32⟩
  | .hbm, ⟨94, _⟩ => ⟨S1x512, .f32⟩
  | .hbm, ⟨95, _⟩ => ⟨S1x64, .f32⟩
  | .hbm, ⟨96, _⟩ => ⟨S6x64, .f32⟩
  | .hbm, ⟨97, _⟩ => ⟨S384, .f32⟩
  | .hbm, ⟨98, _⟩ => ⟨S1x64, .f32⟩
  | .hbm, ⟨99, _⟩ => ⟨S2x64, .f32⟩
  | .hbm, ⟨100, _⟩ => ⟨S128, .f32⟩
  | .hbm, ⟨101, _⟩ => ⟨S512, .f32⟩
  | .hbm, ⟨102, _⟩ => ⟨S1x512, .f32⟩
  | .hbm, ⟨103, _⟩ => ⟨S32x1x3072, .f32⟩
  | .hbm, ⟨104, _⟩ => ⟨S1x1024, .f32⟩
  | .hbm, ⟨105, _⟩ => ⟨S1024x3072, .bf16⟩
  | .hbm, ⟨106, _⟩ => ⟨S32x2048x384, .bf16⟩
  | .hbm, ⟨107, _⟩ => ⟨S32x2048x256, .bf16⟩
  | .hbm, ⟨108, _⟩ => ⟨S32x2048x256, .bf16⟩
  | .hbm, ⟨109, _⟩ => ⟨S32x2048x384, .bf16⟩
  | .hbm, ⟨110, _⟩ => ⟨S32x2048x1024, .bf16⟩
  | .hbm, ⟨111, _⟩ => ⟨S32x2048x384, .bf16⟩
  | .hbm, ⟨112, _⟩ => ⟨S32x2048x256, .bf16⟩
  | .hbm, ⟨113, _⟩ => ⟨S32x2048x256, .bf16⟩
  | .hbm, ⟨114, _⟩ => ⟨S32x2048x384, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x3072, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x512, .f32⟩
  | .local _ .vmem, ⟨11, _⟩ => ⟨S1x512, .f32⟩
  | .local _ .vmem, ⟨12, _⟩ => ⟨S1x1024x384, .bf16⟩
  | .local _ .vmem, ⟨13, _⟩ => ⟨S1x1024x384, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x384, .bf16⟩
  | .local _ .vmem, ⟨19, _⟩ => ⟨S1x1024x384, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x384, .bf16⟩
  | .local _ .vmem, ⟨23, _⟩ => ⟨S1x1024x384, .bf16⟩
  | .local _ .vmem, ⟨24, _⟩ => ⟨S1x1024x256, .bf16⟩
  | .local _ .vmem, ⟨25, _⟩ => ⟨S1x1024x256, .bf16⟩
  | .local _ .vmem, ⟨26, _⟩ => ⟨S1x1024x256, .bf16⟩
  | .local _ .vmem, ⟨27, _⟩ => ⟨S1x1024x256, .bf16⟩
  | .local _ .vmem, ⟨28, _⟩ => ⟨S1x1024x384, .bf16⟩
  | .local _ .vmem, ⟨29, _⟩ => ⟨S1x1024x384, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_1 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58_0 : Ref sig .tc := ⟨.hbm, 106, rfl⟩
abbrev main_v58_1 : Ref sig .tc := ⟨.hbm, 107, rfl⟩
abbrev main_v58_2 : Ref sig .tc := ⟨.hbm, 108, rfl⟩
abbrev main_v58_3 : Ref sig .tc := ⟨.hbm, 109, rfl⟩
abbrev main_v58_4 : Ref sig .tc := ⟨.hbm, 110, rfl⟩
abbrev main_v58_5 : Ref sig .tc := ⟨.hbm, 111, rfl⟩
abbrev main_v58_6 : Ref sig .tc := ⟨.hbm, 112, rfl⟩
abbrev main_v58_7 : Ref sig .tc := ⟨.hbm, 113, rfl⟩
abbrev main_v58_8 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S32x2048x1024 : Shape := ⟨3, ![32, 2048, 1024]⟩
abbrev S32x3072 : Shape := ⟨2, ![32, 3072]⟩
abbrev S1024 : Shape := ⟨1, ![1024]⟩
abbrev S1024x3072 : Shape := ⟨2, ![1024, 3072]⟩
abbrev S64 : Shape := ⟨1, ![64]⟩
abbrev S16 : Shape := ⟨1, ![16]⟩
abbrev S_ : Shape := ⟨0, ![]⟩
abbrev S32x64 : Shape := ⟨2, ![32, 64]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S1x2048x1x2x16 : Shape := ⟨5, ![1, 2048, 1, 2, 16]⟩
abbrev S32x1024 : Shape := ⟨2, ![32, 1024]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x3072 : Shape := ⟨3, ![32, 2048, 3072]⟩
abbrev S32x2048x384 : Shape := ⟨3, ![32, 2048, 384]⟩
abbrev S32x2048x128 : Shape := ⟨3, ![32, 2048, 128]⟩
abbrev S32x2048x6x64 : Shape := ⟨4, ![32, 2048, 6, 64]⟩
abbrev S32x2048x6 : Shape := ⟨3, ![32, 2048, 6]⟩
abbrev S32x2048x6x1 : Shape := ⟨4, ![32, 2048, 6, 1]⟩
abbrev S1x1x1x64 : Shape := ⟨4, ![1, 1, 1, 64]⟩
abbrev S32x2048x6x2x2x16 : Shape := ⟨6, ![32, 2048, 6, 2, 2, 16]⟩
abbrev S32x2048x6x2x1x16 : Shape := ⟨6, ![32, 2048, 6, 2, 1, 16]⟩
abbrev S32x2048x6x2x16 : Shape := ⟨5, ![32, 2048, 6, 2, 16]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S32x2048x2x2x2x16 : Shape := ⟨6, ![32, 2048, 2, 2, 2, 16]⟩
abbrev S32x2048x2x2x1x16 : Shape := ⟨6, ![32, 2048, 2, 2, 1, 16]⟩
abbrev S32x2048x2x2x16 : Shape := ⟨5, ![32, 2048, 2, 2, 16]⟩
abbrev S32x2048x4x64 : Shape := ⟨4, ![32, 2048, 4, 64]⟩
abbrev S32x2048x256 : Shape := ⟨3, ![32, 2048, 256]⟩

abbrev nBuf : Space → Nat
  | .hbm => 266
  | .vmem => 0
  | .smem => 0
  | _ => 0

abbrev hbmTy0_0 (i : Nat) : BufTy := match i % 128 with
  | 0 => ⟨S32x2048x1024, .f32⟩
  | 1 => ⟨S32x3072, .f32⟩
  | 2 => ⟨S1024, .f32⟩
  | 3 => ⟨S1024x3072, .f32⟩
  | 4 => ⟨S64, .f32⟩
  | 5 => ⟨S64, .f32⟩
  | 6 => ⟨S64, .f32⟩
  | 7 => ⟨S64, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S32x64, .i32⟩
  | 17 => ⟨S32x64, .i32⟩
  | 18 => ⟨S2048, .i32⟩
  | 19 => ⟨S2048, .f32⟩
  | 20 => ⟨S2048x1, .f32⟩
  | 21 => ⟨S1x16, .f32⟩
  | 22 => ⟨S2048x16, .f32⟩
  | 23 => ⟨S2048x16, .f32⟩
  | 24 => ⟨S2048x16, .f32⟩
  | 25 => ⟨S2048, .i32⟩
  | 26 => ⟨S2048, .f32⟩
  | 27 => ⟨S2048x1, .f32⟩
  | 28 => ⟨S1x16, .f32⟩
  | 29 => ⟨S2048x16, .f32⟩
  | 30 => ⟨S2048x16, .f32⟩
  | 31 => ⟨S2048x16, .f32⟩
  | 32 => ⟨S2048x1x16, .f32⟩
  | 33 => ⟨S2048x1x16, .f32⟩
  | 34 => ⟨S2048x2x16, .f32⟩
  | 35 => ⟨S2048x2x16, .f32⟩
  | 36 => ⟨S1x2048x1x2x16, .f32⟩
  | 37 => ⟨S2048x2x16, .f32⟩
  | 38 => ⟨S1x2048x1x2x16, .f32⟩
  | 39 => ⟨S32x1024, .f32⟩
  | 40 => ⟨S32x1024, .f32⟩
  | 41 => ⟨S32x1024, .f32⟩
  | 42 => ⟨S32x2048x1024, .f32⟩
  | 43 => ⟨S_, .f32⟩
  | 44 => ⟨S32x2048, .f32⟩
  | 45 => ⟨S32x2048x1, .f32⟩
  | 46 => ⟨S_, .f32⟩
  | 47 => ⟨S32x2048x1, .f32⟩
  | 48 => ⟨S32x2048x1, .f32⟩
  | 49 => ⟨S_, .f32⟩
  | 50 => ⟨S32x2048x1, .f32⟩
  | 51 => ⟨S32x2048x1, .f32⟩
  | 52 => ⟨S32x2048x1, .f32⟩
  | 53 => ⟨S32x2048x1024, .f32⟩
  | 54 => ⟨S32x2048x1024, .f32⟩
  | 55 => ⟨S1x1x1024, .f32⟩
  | 56 => ⟨S32x2048x1024, .f32⟩
  | 57 => ⟨S32x2048x1024, .f32⟩
  | 58 => ⟨S32x1x1024, .f32⟩
  | 59 => ⟨S_, .f32⟩
  | 60 => ⟨S32x1x1024, .f32⟩
  | 61 => ⟨S32x1x1024, .f32⟩
  | 62 => ⟨S32x2048x1024, .f32⟩
  | 63 => ⟨S32x2048x1024, .f32⟩
  | 64 => ⟨S32x1x1024, .f32⟩
  | 65 => ⟨S32x2048x1024, .f32⟩
  | 66 => ⟨S32x2048x1024, .f32⟩
  | 67 => ⟨S32x2048x3072, .f32⟩
  | 68 => ⟨S32x2048x1024, .f32⟩
  | 69 => ⟨S32x2048x1024, .f32⟩
  | 70 => ⟨S32x2048x1024, .f32⟩
  | 71 => ⟨S32x2048x384, .f32⟩
  | 72 => ⟨S32x2048x128, .f32⟩
  | 73 => ⟨S32x2048x128, .f32⟩
  | 74 => ⟨S32x2048x384, .f32⟩
  | 75 => ⟨S32x2048x6x64, .f32⟩
  | 76 => ⟨S32x2048x6x64, .f32⟩
  | 77 => ⟨S_, .f32⟩
  | 78 => ⟨S32x2048x6, .f32⟩
  | 79 => ⟨S32x2048x6x1, .f32⟩
  | 80 => ⟨S_, .f32⟩
  | 81 => ⟨S32x2048x6x1, .f32⟩
  | 82 => ⟨S32x2048x6x1, .f32⟩
  | 83 => ⟨S_, .f32⟩
  | 84 => ⟨S32x2048x6x1, .f32⟩
  | 85 => ⟨S32x2048x6x1, .f32⟩
  | 86 => ⟨S32x2048x6x1, .f32⟩
  | 87 => ⟨S32x2048x6x64, .f32⟩
  | 88 => ⟨S32x2048x6x64, .f32⟩
  | 89 => ⟨S1x1x1x64, .f32⟩
  | 90 => ⟨S32x2048x6x64, .f32⟩
  | 91 => ⟨S32x2048x6x64, .f32⟩
  | 92 => ⟨S32x2048x6x2x2x16, .f32⟩
  | 93 => ⟨S32x2048x6x2x1x16, .f32⟩
  | 94 => ⟨S32x2048x6x2x16, .f32⟩
  | 95 => ⟨S32x2048x6x2x1x16, .f32⟩
  | 96 => ⟨S32x2048x6x2x16, .f32⟩
  | 97 => ⟨S32x2048x6x2x16, .f32⟩
  | 98 => ⟨S32x2048x6x2x16, .f32⟩
  | 99 => ⟨S32x2048x6x2x16, .f32⟩
  | 100 => ⟨S32x2048x6x2x16, .f32⟩
  | 101 => ⟨S32x2048x6x2x16, .f32⟩
  | 102 => ⟨S32x2048x6x2x16, .f32⟩
  | 103 => ⟨S32x2048x6x2x16, .f32⟩
  | 104 => ⟨S32x2048x6x2x16, .f32⟩
  | 105 => ⟨S32x2048x6x2x16, .f32⟩
  | 106 => ⟨S32x2048x6x2x16, .f32⟩
  | 107 => ⟨S32x2048x6x2x1x16, .f32⟩
  | 108 => ⟨S32x2048x6x2x1x16, .f32⟩
  | 109 => ⟨S32x2048x6x2x2x16, .f32⟩
  | 110 => ⟨S32x2048x6x64, .f32⟩
  | 111 => ⟨S32x2048x384, .f32⟩
  | 112 => ⟨S32x2048x2x64, .f32⟩
  | 113 => ⟨S32x2048x2x64, .f32⟩
  | 114 => ⟨S_, .f32⟩
  | 115 => ⟨S32x2048x2, .f32⟩
  | 116 => ⟨S32x2048x2x1, .f32⟩
  | 117 => ⟨S_, .f32⟩
  | 118 => ⟨S32x2048x2x1, .f32⟩
  | 119 => ⟨S32x2048x2x1, .f32⟩
  | 120 => ⟨S_, .f32⟩
  | 121 => ⟨S32x2048x2x1, .f32⟩
  | 122 => ⟨S32x2048x2x1, .f32⟩
  | 123 => ⟨S32x2048x2x1, .f32⟩
  | 124 => ⟨S32x2048x2x64, .f32⟩
  | 125 => ⟨S32x2048x2x64, .f32⟩
  | 126 => ⟨S1x1x1x64, .f32⟩
  | 127 => ⟨S32x2048x2x64, .f32⟩
  | _ => ⟨S32x2048x1024, .f32⟩

abbrev hbmTy0_1 (i : Nat) : BufTy := match i % 128 with
  | 0 => ⟨S32x2048x2x64, .f32⟩
  | 1 => ⟨S32x2048x2x2x2x16, .f32⟩
  | 2 => ⟨S32x2048x2x2x1x16, .f32⟩
  | 3 => ⟨S32x2048x2x2x16, .f32⟩
  | 4 => ⟨S32x2048x2x2x1x16, .f32⟩
  | 5 => ⟨S32x2048x2x2x16, .f32⟩
  | 6 => ⟨S32x2048x2x2x16, .f32⟩
  | 7 => ⟨S32x2048x2x2x16, .f32⟩
  | 8 => ⟨S32x2048x2x2x16, .f32⟩
  | 9 => ⟨S32x2048x2x2x16, .f32⟩
  | 10 => ⟨S32x2048x2x2x16, .f32⟩
  | 11 => ⟨S32x2048x2x2x16, .f32⟩
  | 12 => ⟨S32x2048x2x2x16, .f32⟩
  | 13 => ⟨S32x2048x2x2x16, .f32⟩
  | 14 => ⟨S32x2048x2x2x16, .f32⟩
  | 15 => ⟨S32x2048x2x2x16, .f32⟩
  | 16 => ⟨S32x2048x2x2x1x16, .f32⟩
  | 17 => ⟨S32x2048x2x2x1x16, .f32⟩
  | 18 => ⟨S32x2048x2x2x2x16, .f32⟩
  | 19 => ⟨S32x2048x2x64, .f32⟩
  | 20 => ⟨S32x2048x384, .bf16⟩
  | 21 => ⟨S32x2048x2x64, .f32⟩
  | 22 => ⟨S32x2048x4x64, .f32⟩
  | 23 => ⟨S32x2048x256, .f32⟩
  | 24 => ⟨S32x2048x256, .bf16⟩
  | 25 => ⟨S32x2048x2x64, .f32⟩
  | 26 => ⟨S32x2048x2x64, .f32⟩
  | 27 => ⟨S32x2048x4x64, .f32⟩
  | 28 => ⟨S32x2048x256, .f32⟩
  | 29 => ⟨S32x2048x256, .bf16⟩
  | 30 => ⟨S32x2048x384, .f32⟩
  | 31 => ⟨S32x2048x384, .f32⟩
  | 32 => ⟨S_, .f32⟩
  | 33 => ⟨S32x2048x384, .f32⟩
  | 34 => ⟨S32x2048x384, .f32⟩
  | 35 => ⟨S_, .f32⟩
  | 36 => ⟨S32x2048x384, .f32⟩
  | 37 => ⟨S32x2048x384, .f32⟩
  | 38 => ⟨S32x2048x384, .f32⟩
  | 39 => ⟨S32x2048x384, .bf16⟩
  | 40 => ⟨S32x2048x1024, .bf16⟩
  | 41 => ⟨S32x2048x384, .f32⟩
  | 42 => ⟨S32x2048x128, .f32⟩
  | 43 => ⟨S32x2048x128, .f32⟩
  | 44 => ⟨S32x2048x384, .f32⟩
  | 45 => ⟨S32x2048x6x64, .f32⟩
  | 46 => ⟨S32x2048x6x64, .f32⟩
  | 47 => ⟨S_, .f32⟩
  | 48 => ⟨S32x2048x6, .f32⟩
  | 49 => ⟨S32x2048x6x1, .f32⟩
  | 50 => ⟨S_, .f32⟩
  | 51 => ⟨S32x2048x6x1, .f32⟩
  | 52 => ⟨S32x2048x6x1, .f32⟩
  | 53 => ⟨S_, .f32⟩
  | 54 => ⟨S32x2048x6x1, .f32⟩
  | 55 => ⟨S32x2048x6x1, .f32⟩
  | 56 => ⟨S32x2048x6x1, .f32⟩
  | 57 => ⟨S32x2048x6x64, .f32⟩
  | 58 => ⟨S32x2048x6x64, .f32⟩
  | 59 => ⟨S1x1x1x64, .f32⟩
  | 60 => ⟨S32x2048x6x64, .f32⟩
  | 61 => ⟨S32x2048x6x64, .f32⟩
  | 62 => ⟨S32x2048x6x2x2x16, .f32⟩
  | 63 => ⟨S32x2048x6x2x1x16, .f32⟩
  | 64 => ⟨S32x2048x6x2x16, .f32⟩
  | 65 => ⟨S32x2048x6x2x1x16, .f32⟩
  | 66 => ⟨S32x2048x6x2x16, .f32⟩
  | 67 => ⟨S32x2048x6x2x16, .f32⟩
  | 68 => ⟨S32x2048x6x2x16, .f32⟩
  | 69 => ⟨S32x2048x6x2x16, .f32⟩
  | 70 => ⟨S32x2048x6x2x16, .f32⟩
  | 71 => ⟨S32x2048x6x2x16, .f32⟩
  | 72 => ⟨S32x2048x6x2x16, .f32⟩
  | 73 => ⟨S32x2048x6x2x16, .f32⟩
  | 74 => ⟨S32x2048x6x2x16, .f32⟩
  | 75 => ⟨S32x2048x6x2x16, .f32⟩
  | 76 => ⟨S32x2048x6x2x16, .f32⟩
  | 77 => ⟨S32x2048x6x2x1x16, .f32⟩
  | 78 => ⟨S32x2048x6x2x1x16, .f32⟩
  | 79 => ⟨S32x2048x6x2x2x16, .f32⟩
  | 80 => ⟨S32x2048x6x64, .f32⟩
  | 81 => ⟨S32x2048x384, .f32⟩
  | 82 => ⟨S32x2048x2x64, .f32⟩
  | 83 => ⟨S32x2048x2x64, .f32⟩
  | 84 => ⟨S_, .f32⟩
  | 85 => ⟨S32x2048x2, .f32⟩
  | 86 => ⟨S32x2048x2x1, .f32⟩
  | 87 => ⟨S_, .f32⟩
  | 88 => ⟨S32x2048x2x1, .f32⟩
  | 89 => ⟨S32x2048x2x1, .f32⟩
  | 90 => ⟨S_, .f32⟩
  | 91 => ⟨S32x2048x2x1, .f32⟩
  | 92 => ⟨S32x2048x2x1, .f32⟩
  | 93 => ⟨S32x2048x2x1, .f32⟩
  | 94 => ⟨S32x2048x2x64, .f32⟩
  | 95 => ⟨S32x2048x2x64, .f32⟩
  | 96 => ⟨S1x1x1x64, .f32⟩
  | 97 => ⟨S32x2048x2x64, .f32⟩
  | 98 => ⟨S32x2048x2x64, .f32⟩
  | 99 => ⟨S32x2048x2x2x2x16, .f32⟩
  | 100 => ⟨S32x2048x2x2x1x16, .f32⟩
  | 101 => ⟨S32x2048x2x2x16, .f32⟩
  | 102 => ⟨S32x2048x2x2x1x16, .f32⟩
  | 103 => ⟨S32x2048x2x2x16, .f32⟩
  | 104 => ⟨S32x2048x2x2x16, .f32⟩
  | 105 => ⟨S32x2048x2x2x16, .f32⟩
  | 106 => ⟨S32x2048x2x2x16, .f32⟩
  | 107 => ⟨S32x2048x2x2x16, .f32⟩
  | 108 => ⟨S32x2048x2x2x16, .f32⟩
  | 109 => ⟨S32x2048x2x2x16, .f32⟩
  | 110 => ⟨S32x2048x2x2x16, .f32⟩
  | 111 => ⟨S32x2048x2x2x16, .f32⟩
  | 112 => ⟨S32x2048x2x2x16, .f32⟩
  | 113 => ⟨S32x2048x2x2x16, .f32⟩
  | 114 => ⟨S32x2048x2x2x1x16, .f32⟩
  | 115 => ⟨S32x2048x2x2x1x16, .f32⟩
  | 116 => ⟨S32x2048x2x2x2x16, .f32⟩
  | 117 => ⟨S32x2048x2x64, .f32⟩
  | 118 => ⟨S32x2048x384, .bf16⟩
  | 119 => ⟨S32x2048x2x64, .f32⟩
  | 120 => ⟨S32x2048x4x64, .f32⟩
  | 121 => ⟨S32x2048x256, .f32⟩
  | 122 => ⟨S32x2048x256, .bf16⟩
  | 123 => ⟨S32x2048x2x64, .f32⟩
  | 124 => ⟨S32x2048x2x64, .f32⟩
  | 125 => ⟨S32x2048x4x64, .f32⟩
  | 126 => ⟨S32x2048x256, .f32⟩
  | 127 => ⟨S32x2048x256, .bf16⟩
  | _ => ⟨S32x2048x1024, .f32⟩

abbrev hbmTy0_2 (i : Nat) : BufTy := match i % 128 with
  | 0 => ⟨S32x2048x384, .f32⟩
  | 1 => ⟨S32x2048x384, .f32⟩
  | 2 => ⟨S_, .f32⟩
  | 3 => ⟨S32x2048x384, .f32⟩
  | 4 => ⟨S32x2048x384, .f32⟩
  | 5 => ⟨S_, .f32⟩
  | 6 => ⟨S32x2048x384, .f32⟩
  | 7 => ⟨S32x2048x384, .f32⟩
  | 8 => ⟨S32x2048x384, .f32⟩
  | 9 => ⟨S32x2048x384, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_5 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_8 : Ref sig .tc := ⟨.hbm, 114, rfl⟩
abbrev main_v97 : Ref sig .tc := ⟨.hbm, 115, rfl⟩
abbrev main_v98 : Ref sig .tc := ⟨.hbm, 116, rfl⟩
abbrev main_cst_9 : Ref sig .tc := ⟨.hbm, 117, rfl⟩
abbrev main_v99 : Ref sig .tc := ⟨.hbm, 118, rfl⟩
abbrev main_v100 : Ref sig .tc := ⟨.hbm, 119, rfl⟩
abbrev main_cst_10 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_call0_v0 : Ref sig .tc := ⟨.hbm, 158, rfl⟩
abbrev main_call0_v1 : Ref sig .tc := ⟨.hbm, 159, rfl⟩
abbrev main_call0_cst : Ref sig .tc := ⟨.hbm, 160, rfl⟩
abbrev main_call0_v2 : Ref sig .tc := ⟨.hbm, 161, rfl⟩
abbrev main_call0_v3 : Ref sig .tc := ⟨.hbm, 162, rfl⟩
abbrev main_call0_cst_0 : Ref sig .tc := ⟨.hbm, 163, rfl⟩
abbrev main_call0_v4 : Ref sig .tc := ⟨.hbm, 164, rfl⟩
abbrev main_call0_v5 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_cst_11 : Ref sig .tc := ⟨.hbm, 175, rfl⟩
abbrev main_v147 : Ref sig .tc := ⟨.hbm, 176, rfl⟩
abbrev main_v148 : Ref sig .tc := ⟨.hbm, 177, rfl⟩
abbrev main_cst_12 : Ref sig .tc := ⟨.hbm, 178, rfl⟩
abbrev main_v149 : Ref sig .tc := ⟨.hbm, 179, rfl⟩
abbrev main_v150 : Ref sig .tc := ⟨.hbm, 180, rfl⟩
abbrev main_cst_13 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_cst_14 : Ref sig .tc := ⟨.hbm, 212, rfl⟩
abbrev main_v181 : Ref sig .tc := ⟨.hbm, 213, rfl⟩
abbrev main_v182 : Ref sig .tc := ⟨.hbm, 214, rfl⟩
abbrev main_cst_15 : Ref sig .tc := ⟨.hbm, 215, rfl⟩
abbrev main_v183 : Ref sig .tc := ⟨.hbm, 216, rfl⟩
abbrev main_v184 : Ref sig .tc := ⟨.hbm, 217, rfl⟩
abbrev main_cst_16 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_call1_v0 : Ref sig .tc := ⟨.hbm, 256, rfl⟩
abbrev main_call1_v1 : Ref sig .tc := ⟨.hbm, 257, rfl⟩
abbrev main_call1_cst : Ref sig .tc := ⟨.hbm, 258, rfl⟩
abbrev main_call1_v2 : Ref sig .tc := ⟨.hbm, 259, rfl⟩
abbrev main_call1_v3 : Ref sig .tc := ⟨.hbm, 260, rfl⟩
abbrev main_call1_cst_0 : Ref sig .tc := ⟨.hbm, 261, rfl⟩
abbrev main_call1_v4 : Ref sig .tc := ⟨.hbm, 262, rfl⟩
abbrev main_call1_v5 : Ref sig .tc := ⟨.hbm, 263, rfl⟩
abbrev main_v222 : Ref sig .tc := ⟨.hbm, 264, rfl⟩
abbrev main_v223 : Ref sig .tc := ⟨.hbm, 265, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x1024 : Shape := ⟨2, ![32, 1024]⟩
abbrev S32x2048x384 : Shape := ⟨3, ![32, 2048, 384]⟩
abbrev S32x2048x256 : Shape := ⟨3, ![32, 2048, 256]⟩
abbrev S1024x1024 : Shape := ⟨2, ![1024, 1024]⟩
abbrev S32x3072 : Shape := ⟨2, ![32, 3072]⟩
abbrev S1024 : Shape := ⟨1, ![1024]⟩
abbrev S1024x3072 : Shape := ⟨2, ![1024, 3072]⟩
abbrev S64 : Shape := ⟨1, ![64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S2048x2x1x16 : Shape := ⟨4, ![2048, 2, 1, 16]⟩
abbrev S2048x2x2x16 : Shape := ⟨4, ![2048, 2, 2, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S6x64 : Shape := ⟨2, ![6, 64]⟩
abbrev S384 : Shape := ⟨1, ![384]⟩
abbrev S2x64 : Shape := ⟨2, ![2, 64]⟩
abbrev S128 : Shape := ⟨1, ![128]⟩
abbrev S512 : Shape := ⟨1, ![512]⟩
abbrev S1x512 : Shape := ⟨2, ![1, 512]⟩
abbrev S32x1x3072 : Shape := ⟨3, ![32, 1, 3072]⟩
abbrev S1x1024 : Shape := ⟨2, ![1, 1024]⟩
abbrev S32x1x1024 : Shape := ⟨3, ![32, 1, 1024]⟩
abbrev S1x1x1024 : Shape := ⟨3, ![1, 1, 1024]⟩
abbrev S1x1024x384 : Shape := ⟨3, ![1, 1024, 384]⟩
abbrev S1x1024x256 : Shape := ⟨3, ![1, 1024, 256]⟩
abbrev S1x1024x1024 : Shape := ⟨3, ![1, 1024, 1024]⟩
abbrev S1x1x3072 : Shape := ⟨3, ![1, 1, 3072]⟩
abbrev S1024x128 : Shape := ⟨2, ![1024, 128]⟩
abbrev S1x256x1024 : Shape := ⟨3, ![1, 256, 1024]⟩
abbrev S256x1024 : Shape := ⟨2, ![256, 1024]⟩
abbrev S1x256x384 : Shape := ⟨3, ![1, 256, 384]⟩
abbrev S256x384 : Shape := ⟨2, ![256, 384]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S256x512 : Shape := ⟨2, ![256, 512]⟩
abbrev S1x128 : Shape := ⟨2, ![1, 128]⟩

abbrev nBuf : Space → Nat
  | .hbm => 123
  | .vmem => 41
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x2048x384, .bf16⟩
  | .hbm, ⟨3, _⟩ => ⟨S32x2048x256, .bf16⟩
  | .hbm, ⟨4, _⟩ => ⟨S32x2048x384, .bf16⟩
  | .hbm, ⟨5, _⟩ => ⟨S1024x1024, .f32⟩
  | .hbm, ⟨6, _⟩ => ⟨S32x3072, .f32⟩
  | .hbm, ⟨7, _⟩ => ⟨S1024, .f32⟩
  | .hbm, ⟨8, _⟩ => ⟨S1024x3072, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S2048, .i32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S2048, .i1⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S2048, .f32⟩
  | .hbm, ⟨41, _⟩ => ⟨S2048x1, .f32⟩
  | .hbm, ⟨42, _⟩ => ⟨S1x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S_, .i1⟩
  | .hbm, ⟨62, _⟩ => ⟨S2048, .i1⟩
  | .hbm, ⟨63, _⟩ => ⟨S2048, .i1⟩
  | .hbm, ⟨64, _⟩ => ⟨S2048, .i1⟩
  | .hbm, ⟨65, _⟩ => ⟨S2048, .i32⟩
  | .hbm, ⟨66, _⟩ => ⟨S2048, .i32⟩
  | .hbm, ⟨67, _⟩ => ⟨S2048, .i32⟩
  | .hbm, ⟨68, _⟩ => ⟨S2048, .f32⟩
  | .hbm, ⟨69, _⟩ => ⟨S2048x1, .f32⟩
  | .hbm, ⟨70, _⟩ => ⟨S1x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x1x16, .f32⟩
  | .hbm, ⟨75, _⟩ => ⟨S2048x1x16, .f32⟩
  | .hbm, ⟨76, _⟩ => ⟨S2048x2x16, .f32⟩
  | .hbm, ⟨77, _⟩ => ⟨S2048x2x16, .f32⟩
  | .hbm, ⟨78, _⟩ => ⟨S2048x2x1x16, .f32⟩
  | .hbm, ⟨79, _⟩ => ⟨S2048x2x16, .f32⟩
  | .hbm, ⟨80, _⟩ => ⟨S2048x2x1x16, .f32⟩
  | .hbm, ⟨81, _⟩ => ⟨S2048x2x2x16, .f32⟩
  | .hbm, ⟨82, _⟩ => ⟨S2048x64, .f32⟩
  | .hbm, ⟨83, _⟩ => ⟨S2048x2x1x16, .f32⟩
  | .hbm, ⟨84, _⟩ => ⟨S2048x2x2x16, .f32⟩
  | .hbm, ⟨85, _⟩ => ⟨S2048x64, .f32⟩
  | .hbm, ⟨86, _⟩ => ⟨S1x2048x1x64, .f32⟩
  | .hbm, ⟨87, _⟩ => ⟨S1x2048x2x64, .f32⟩
  | .hbm, ⟨88, _⟩ => ⟨S2048x128, .f32⟩
  | .hbm, ⟨89, _⟩ => ⟨S1x2048x1x64, .f32⟩
  | .hbm, ⟨90, _⟩ => ⟨S1x2048x2x64, .f32⟩
  | .hbm, ⟨91, _⟩ => ⟨S2048x128, .f32⟩
  | .hbm, ⟨92, _⟩ => ⟨S1x64, .f32⟩
  | .hbm, ⟨93, _⟩ => ⟨S6x64, .f32⟩
  | .hbm, ⟨94, _⟩ => ⟨S384, .f32⟩
  | .hbm, ⟨95, _⟩ => ⟨S1x64, .f32⟩
  | .hbm, ⟨96, _⟩ => ⟨S2x64, .f32⟩
  | .hbm, ⟨97, _⟩ => ⟨S128, .f32⟩
  | .hbm, ⟨98, _⟩ => ⟨S512, .f32⟩
  | .hbm, ⟨99, _⟩ => ⟨S1x512, .f32⟩
  | .hbm, ⟨100, _⟩ => ⟨S1x64, .f32⟩
  | .hbm, ⟨101, _⟩ => ⟨S6x64, .f32⟩
  | .hbm, ⟨102, _⟩ => ⟨S384, .f32⟩
  | .hbm, ⟨103, _⟩ => ⟨S1x64, .f32⟩
  | .hbm, ⟨104, _⟩ => ⟨S2x64, .f32⟩
  | .hbm, ⟨105, _⟩ => ⟨S128, .f32⟩
  | .hbm, ⟨106, _⟩ => ⟨S512, .f32⟩
  | .hbm, ⟨107, _⟩ => ⟨S1x512, .f32⟩
  | .hbm, ⟨108, _⟩ => ⟨S32x1x3072, .f32⟩
  | .hbm, ⟨109, _⟩ => ⟨S1x1024, .f32⟩
  | .hbm, ⟨110, _⟩ => ⟨S1024x3072, .bf16⟩
  | .hbm, ⟨111, _⟩ => ⟨S32x1x1024, .f32⟩
  | .hbm, ⟨112, _⟩ => ⟨S1024x1024, .bf16⟩
  | .hbm, ⟨113, _⟩ => ⟨S32x2048x1024, .f32⟩
  | .hbm, ⟨114, _⟩ => ⟨S32x2048x384, .bf16⟩
  | .hbm, ⟨115, _⟩ => ⟨S32x2048x256, .bf16⟩
  | .hbm, ⟨116, _⟩ => ⟨S32x2048x256, .bf16⟩
  | .hbm, ⟨117, _⟩ => ⟨S32x2048x384, .bf16⟩
  | .hbm, ⟨118, _⟩ => ⟨S32x2048x1024, .bf16⟩
  | .hbm, ⟨119, _⟩ => ⟨S32x2048x384, .bf16⟩
  | .hbm, ⟨120, _⟩ => ⟨S32x2048x256, .bf16⟩
  | .hbm, ⟨121, _⟩ => ⟨S32x2048x256, .bf16⟩
  | .hbm, ⟨122, _⟩ => ⟨S32x2048x384, .bf16⟩
  | .local _ .vmem, ⟨0, _⟩ => ⟨S1x1x1024, .f32⟩
  | .local _ .vmem, ⟨1, _⟩ => ⟨S1x1x1024, .f32⟩
  | .local _ .vmem, ⟨2, _⟩ => ⟨S1x1024x384, .bf16⟩
  | .local _ .vmem, ⟨3, _⟩ => ⟨S1x1024x384, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x384, .bf16⟩
  | .local _ .vmem, ⟨7, _⟩ => ⟨S1x1024x384, .bf16⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1x1x3072, .f32⟩
  | .local _ .vmem, ⟨12, _⟩ => ⟨S1x1x3072, .f32⟩
  | .local _ .vmem, ⟨13, _⟩ => ⟨S1x1024, .f32⟩
  | .local _ .vmem, ⟨14, _⟩ => ⟨S1024x3072, .bf16⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1x512, .f32⟩
  | .local _ .vmem, ⟨20, _⟩ => ⟨S1x512, .f32⟩
  | .local _ .vmem, ⟨21, _⟩ => ⟨S1x1024x1024, .f32⟩
  | .local _ .vmem, ⟨22, _⟩ => ⟨S1x1024x1024, .f32⟩
  | .local _ .vmem, ⟨23, _⟩ => ⟨S1x1024x384, .bf16⟩
  | .local _ .vmem, ⟨24, _⟩ => ⟨S1x1024x384, .bf16⟩
  | .local _ .vmem, ⟨25, _⟩ => ⟨S1x1024x256, .bf16⟩
  | .local _ .vmem, ⟨26, _⟩ => ⟨S1x1024x256, .bf16⟩
  | .local _ .vmem, ⟨27, _⟩ => ⟨S1x1024x256, .bf16⟩
  | .local _ .vmem, ⟨28, _⟩ => ⟨S1x1024x256, .bf16⟩
  | .local _ .vmem, ⟨29, _⟩ => ⟨S1x1024x384, .bf16⟩
  | .local _ .vmem, ⟨30, _⟩ => ⟨S1x1024x384, .bf16⟩
  | .local _ .vmem, ⟨31, _⟩ => ⟨S1x1024x1024, .bf16⟩
  | .local _ .vmem, ⟨32, _⟩ => ⟨S1x1024x1024, .bf16⟩
  | .local _ .vmem, ⟨33, _⟩ => ⟨S1x1024x384, .bf16⟩
  | .local _ .vmem, ⟨34, _⟩ => ⟨S1x1024x384, .bf16⟩
  | .local _ .vmem, ⟨35, _⟩ => ⟨S1x1024x256, .bf16⟩
  | .local _ .vmem, ⟨36, _⟩ => ⟨S1x1024x256, .bf16⟩
  | .local _ .vmem, ⟨37, _⟩ => ⟨S1x1024x256, .bf16⟩
  | .local _ .vmem, ⟨38, _⟩ => ⟨S1x1024x256, .bf16⟩
  | .local _ .vmem, ⟨39, _⟩ => ⟨S1x1024x384, .bf16⟩
  | .local _ .vmem, ⟨40, _⟩ => ⟨S1x1024x384, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c_1 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60_0 : Ref sig .tc := ⟨.hbm, 113, rfl⟩
abbrev main_v60_1 : Ref sig .tc := ⟨.hbm, 114, rfl⟩
abbrev main_v60_2 : Ref sig .tc := ⟨.hbm, 115, rfl⟩
abbrev main_v60_3 : Ref sig .tc := ⟨.hbm, 116, rfl⟩
abbrev main_v60_4 : Ref sig .tc := ⟨.hbm, 117, rfl⟩
abbrev main_v60_5 : Ref sig .tc := ⟨.hbm, 118, rfl⟩
abbrev main_v60_6 : Ref sig .tc := ⟨.hbm, 119, rfl⟩
abbrev main_v60_7 : Ref sig .tc := ⟨.hbm, 120, rfl⟩
abbrev main_v60_8 : Ref sig .tc := ⟨.hbm, 121, rfl⟩
abbrev main_v60_9 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x384 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1024x384 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference4Ideal.lean ====
abbrev S32x2048x1024 : Shape := ⟨3, ![32, 2048, 1024]⟩
abbrev S32x1024 : Shape := ⟨2, ![32, 1024]⟩
abbrev S32x2048x384 : Shape := ⟨3, ![32, 2048, 384]⟩
abbrev S32x2048x256 : Shape := ⟨3, ![32, 2048, 256]⟩
abbrev S1024x1024 : Shape := ⟨2, ![1024, 1024]⟩
abbrev S32x3072 : Shape := ⟨2, ![32, 3072]⟩
abbrev S1024 : Shape := ⟨1, ![1024]⟩
abbrev S1024x3072 : Shape := ⟨2, ![1024, 3072]⟩
abbrev S64 : Shape := ⟨1, ![64]⟩
abbrev S32x1x1024 : Shape := ⟨3, ![32, 1, 1024]⟩
abbrev S16 : Shape := ⟨1, ![16]⟩
abbrev S_ : Shape := ⟨0, ![]⟩
abbrev S32x64 : Shape := ⟨2, ![32, 64]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S1x2048x1x2x16 : Shape := ⟨5, ![1, 2048, 1, 2, 16]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3072 : Shape := ⟨3, ![32, 2048, 3072]⟩
abbrev S32x2048x128 : Shape := ⟨3, ![32, 2048, 128]⟩
abbrev S32x2048x6x64 : Shape := ⟨4, ![32, 2048, 6, 64]⟩
abbrev S32x2048x6 : Shape := ⟨3, ![32, 2048, 6]⟩
abbrev S32x2048x6x1 : Shape := ⟨4, ![32, 2048, 6, 1]⟩
abbrev S1x1x1x64 : Shape := ⟨4, ![1, 1, 1, 64]⟩
abbrev S32x2048x6x2x2x16 : Shape := ⟨6, ![32, 2048, 6, 2, 2, 16]⟩
abbrev S32x2048x6x2x1x16 : Shape := ⟨6, ![32, 2048, 6, 2, 1, 16]⟩
abbrev S32x2048x6x2x16 : Shape := ⟨5, ![32, 2048, 6, 2, 16]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S32x2048x2x2x2x16 : Shape := ⟨6, ![32, 2048, 2, 2, 2, 16]⟩
abbrev S32x2048x2x2x1x16 : Shape := ⟨6, ![32, 2048, 2, 2, 1, 16]⟩
abbrev S32x2048x2x2x16 : Shape := ⟨5, ![32, 2048, 2, 2, 16]⟩
abbrev S32x2048x4x64 : Shape := ⟨4, ![32, 2048, 4, 64]⟩

abbrev nBuf : Space → Nat
  | .hbm => 278
  | .vmem => 0
  | .smem => 0
  | _ => 0

abbrev hbmTy0_0 (i : Nat) : BufTy := match i % 128 with
  | 0 => ⟨S32x2048x1024, .f32⟩
  | 1 => ⟨S32x1024, .f32⟩
  | 2 => ⟨S32x2048x384, .bf16⟩
  | 3 => ⟨S32x2048x256, .bf16⟩
  | 4 => ⟨S32x2048x384, .bf16⟩
  | 5 => ⟨S1024x1024, .f32⟩
  | 6 => ⟨S32x3072, .f32⟩
  | 7 => ⟨S1024, .f32⟩
  | 8 => ⟨S1024x3072, .f32⟩
  | 9 => ⟨S64, .f32⟩
  | 10 => ⟨S64, .f32⟩
  | 11 => ⟨S64, .f32⟩
  | 12 => ⟨S64, .f32⟩
  | 13 => ⟨S32x1x1024, .f32⟩
  | 14 => ⟨S32x2048x1024, .bf16⟩
  | 15 => ⟨S32x2048x1024, .f32⟩
  | 16 => ⟨S32x2048x1024, .f32⟩
  | 17 => ⟨S32x2048x1024, .f32⟩
  | 18 => ⟨S32x2048x1024, .f32⟩
  | 19 => ⟨S32x2048x1024, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S32x64, .i32⟩
  | 29 => ⟨S32x64, .i32⟩
  | 30 => ⟨S2048, .i32⟩
  | 31 => ⟨S2048, .f32⟩
  | 32 => ⟨S2048x1, .f32⟩
  | 33 => ⟨S1x16, .f32⟩
  | 34 => ⟨S2048x16, .f32⟩
  | 35 => ⟨S2048x16, .f32⟩
  | 36 => ⟨S2048x16, .f32⟩
  | 37 => ⟨S2048, .i32⟩
  | 38 => ⟨S2048, .f32⟩
  | 39 => ⟨S2048x1, .f32⟩
  | 40 => ⟨S1x16, .f32⟩
  | 41 => ⟨S2048x16, .f32⟩
  | 42 => ⟨S2048x16, .f32⟩
  | 43 => ⟨S2048x16, .f32⟩
  | 44 => ⟨S2048x1x16, .f32⟩
  | 45 => ⟨S2048x1x16, .f32⟩
  | 46 => ⟨S2048x2x16, .f32⟩
  | 47 => ⟨S2048x2x16, .f32⟩
  | 48 => ⟨S1x2048x1x2x16, .f32⟩
  | 49 => ⟨S2048x2x16, .f32⟩
  | 50 => ⟨S1x2048x1x2x16, .f32⟩
  | 51 => ⟨S32x1024, .f32⟩
  | 52 => ⟨S32x1024, .f32⟩
  | 53 => ⟨S32x1024, .f32⟩
  | 54 => ⟨S32x2048x1024, .f32⟩
  | 55 => ⟨S_, .f32⟩
  | 56 => ⟨S32x2048, .f32⟩
  | 57 => ⟨S32x2048x1, .f32⟩
  | 58 => ⟨S_, .f32⟩
  | 59 => ⟨S32x2048x1, .f32⟩
  | 60 => ⟨S32x2048x1, .f32⟩
  | 61 => ⟨S_, .f32⟩
  | 62 => ⟨S32x2048x1, .f32⟩
  | 63 => ⟨S32x2048x1, .f32⟩
  | 64 => ⟨S32x2048x1, .f32⟩
  | 65 => ⟨S32x2048x1024, .f32⟩
  | 66 => ⟨S32x2048x1024, .f32⟩
  | 67 => ⟨S1x1x1024, .f32⟩
  | 68 => ⟨S32x2048x1024, .f32⟩
  | 69 => ⟨S32x2048x1024, .f32⟩
  | 70 => ⟨S32x1x1024, .f32⟩
  | 71 => ⟨S_, .f32⟩
  | 72 => ⟨S32x1x1024, .f32⟩
  | 73 => ⟨S32x1x1024, .f32⟩
  | 74 => ⟨S32x2048x1024, .f32⟩
  | 75 => ⟨S32x2048x1024, .f32⟩
  | 76 => ⟨S32x1x1024, .f32⟩
  | 77 => ⟨S32x2048x1024, .f32⟩
  | 78 => ⟨S32x2048x1024, .f32⟩
  | 79 => ⟨S32x2048x3072, .f32⟩
  | 80 => ⟨S32x2048x1024, .f32⟩
  | 81 => ⟨S32x2048x1024, .f32⟩
  | 82 => ⟨S32x2048x1024, .f32⟩
  | 83 => ⟨S32x2048x384, .f32⟩
  | 84 => ⟨S32x2048x128, .f32⟩
  | 85 => ⟨S32x2048x128, .f32⟩
  | 86 => ⟨S32x2048x384, .f32⟩
  | 87 => ⟨S32x2048x6x64, .f32⟩
  | 88 => ⟨S32x2048x6x64, .f32⟩
  | 89 => ⟨S_, .f32⟩
  | 90 => ⟨S32x2048x6, .f32⟩
  | 91 => ⟨S32x2048x6x1, .f32⟩
  | 92 => ⟨S_, .f32⟩
  | 93 => ⟨S32x2048x6x1, .f32⟩
  | 94 => ⟨S32x2048x6x1, .f32⟩
  | 95 => ⟨S_, .f32⟩
  | 96 => ⟨S32x2048x6x1, .f32⟩
  | 97 => ⟨S32x2048x6x1, .f32⟩
  | 98 => ⟨S32x2048x6x1, .f32⟩
  | 99 => ⟨S32x2048x6x64, .f32⟩
  | 100 => ⟨S32x2048x6x64, .f32⟩
  | 101 => ⟨S1x1x1x64, .f32⟩
  | 102 => ⟨S32x2048x6x64, .f32⟩
  | 103 => ⟨S32x2048x6x64, .f32⟩
  | 104 => ⟨S32x2048x6x2x2x16, .f32⟩
  | 105 => ⟨S32x2048x6x2x1x16, .f32⟩
  | 106 => ⟨S32x2048x6x2x16, .f32⟩
  | 107 => ⟨S32x2048x6x2x1x16, .f32⟩
  | 108 => ⟨S32x2048x6x2x16, .f32⟩
  | 109 => ⟨S32x2048x6x2x16, .f32⟩
  | 110 => ⟨S32x2048x6x2x16, .f32⟩
  | 111 => ⟨S32x2048x6x2x16, .f32⟩
  | 112 => ⟨S32x2048x6x2x16, .f32⟩
  | 113 => ⟨S32x2048x6x2x16, .f32⟩
  | 114 => ⟨S32x2048x6x2x16, .f32⟩
  | 115 => ⟨S32x2048x6x2x16, .f32⟩
  | 116 => ⟨S32x2048x6x2x16, .f32⟩
  | 117 => ⟨S32x2048x6x2x16, .f32⟩
  | 118 => ⟨S32x2048x6x2x16, .f32⟩
  | 119 => ⟨S32x2048x6x2x1x16, .f32⟩
  | 120 => ⟨S32x2048x6x2x1x16, .f32⟩
  | 121 => ⟨S32x2048x6x2x2x16, .f32⟩
  | 122 => ⟨S32x2048x6x64, .f32⟩
  | 123 => ⟨S32x2048x384, .f32⟩
  | 124 => ⟨S32x2048x2x64, .f32⟩
  | 125 => ⟨S32x2048x2x64, .f32⟩
  | 126 => ⟨S_, .f32⟩
  | 127 => ⟨S32x2048x2, .f32⟩
  | _ => ⟨S32x2048x1024, .f32⟩

abbrev hbmTy0_1 (i : Nat) : BufTy := match i % 128 with
  | 0 => ⟨S32x2048x2x1, .f32⟩
  | 1 => ⟨S_, .f32⟩
  | 2 => ⟨S32x2048x2x1, .f32⟩
  | 3 => ⟨S32x2048x2x1, .f32⟩
  | 4 => ⟨S_, .f32⟩
  | 5 => ⟨S32x2048x2x1, .f32⟩
  | 6 => ⟨S32x2048x2x1, .f32⟩
  | 7 => ⟨S32x2048x2x1, .f32⟩
  | 8 => ⟨S32x2048x2x64, .f32⟩
  | 9 => ⟨S32x2048x2x64, .f32⟩
  | 10 => ⟨S1x1x1x64, .f32⟩
  | 11 => ⟨S32x2048x2x64, .f32⟩
  | 12 => ⟨S32x2048x2x64, .f32⟩
  | 13 => ⟨S32x2048x2x2x2x16, .f32⟩
  | 14 => ⟨S32x2048x2x2x1x16, .f32⟩
  | 15 => ⟨S32x2048x2x2x16, .f32⟩
  | 16 => ⟨S32x2048x2x2x1x16, .f32⟩
  | 17 => ⟨S32x2048x2x2x16, .f32⟩
  | 18 => ⟨S32x2048x2x2x16, .f32⟩
  | 19 => ⟨S32x2048x2x2x16, .f32⟩
  | 20 => ⟨S32x2048x2x2x16, .f32⟩
  | 21 => ⟨S32x2048x2x2x16, .f32⟩
  | 22 => ⟨S32x2048x2x2x16, .f32⟩
  | 23 => ⟨S32x2048x2x2x16, .f32⟩
  | 24 => ⟨S32x2048x2x2x16, .f32⟩
  | 25 => ⟨S32x2048x2x2x16, .f32⟩
  | 26 => ⟨S32x2048x2x2x16, .f32⟩
  | 27 => ⟨S32x2048x2x2x16, .f32⟩
  | 28 => ⟨S32x2048x2x2x1x16, .f32⟩
  | 29 => ⟨S32x2048x2x2x1x16, .f32⟩
  | 30 => ⟨S32x2048x2x2x2x16, .f32⟩
  | 31 => ⟨S32x2048x2x64, .f32⟩
  | 32 => ⟨S32x2048x384, .bf16⟩
  | 33 => ⟨S32x2048x2x64, .f32⟩
  | 34 => ⟨S32x2048x4x64, .f32⟩
  | 35 => ⟨S32x2048x256, .f32⟩
  | 36 => ⟨S32x2048x256, .bf16⟩
  | 37 => ⟨S32x2048x2x64, .f32⟩
  | 38 => ⟨S32x2048x2x64, .f32⟩
  | 39 => ⟨S32x2048x4x64, .f32⟩
  | 40 => ⟨S32x2048x256, .f32⟩
  | 41 => ⟨S32x2048x256, .bf16⟩
  | 42 => ⟨S32x2048x384, .f32⟩
  | 43 => ⟨S32x2048x384, .f32⟩
  | 44 => ⟨S_, .f32⟩
  | 45 => ⟨S32x2048x384, .f32⟩
  | 46 => ⟨S32x2048x384, .f32⟩
  | 47 => ⟨S_, .f32⟩
  | 48 => ⟨S32x2048x384, .f32⟩
  | 49 => ⟨S32x2048x384, .f32⟩
  | 50 => ⟨S32x2048x384, .f32⟩
  | 51 => ⟨S32x2048x384, .bf16⟩
  | 52 => ⟨S32x2048x1024, .bf16⟩
  | 53 => ⟨S32x2048x384, .f32⟩
  | 54 => ⟨S32x2048x128, .f32⟩
  | 55 => ⟨S32x2048x128, .f32⟩
  | 56 => ⟨S32x2048x384, .f32⟩
  | 57 => ⟨S32x2048x6x64, .f32⟩
  | 58 => ⟨S32x2048x6x64, .f32⟩
  | 59 => ⟨S_, .f32⟩
  | 60 => ⟨S32x2048x6, .f32⟩
  | 61 => ⟨S32x2048x6x1, .f32⟩
  | 62 => ⟨S_, .f32⟩
  | 63 => ⟨S32x2048x6x1, .f32⟩
  | 64 => ⟨S32x2048x6x1, .f32⟩
  | 65 => ⟨S_, .f32⟩
  | 66 => ⟨S32x2048x6x1, .f32⟩
  | 67 => ⟨S32x2048x6x1, .f32⟩
  | 68 => ⟨S32x2048x6x1, .f32⟩
  | 69 => ⟨S32x2048x6x64, .f32⟩
  | 70 => ⟨S32x2048x6x64, .f32⟩
  | 71 => ⟨S1x1x1x64, .f32⟩
  | 72 => ⟨S32x2048x6x64, .f32⟩
  | 73 => ⟨S32x2048x6x64, .f32⟩
  | 74 => ⟨S32x2048x6x2x2x16, .f32⟩
  | 75 => ⟨S32x2048x6x2x1x16, .f32⟩
  | 76 => ⟨S32x2048x6x2x16, .f32⟩
  | 77 => ⟨S32x2048x6x2x1x16, .f32⟩
  | 78 => ⟨S32x2048x6x2x16, .f32⟩
  | 79 => ⟨S32x2048x6x2x16, .f32⟩
  | 80 => ⟨S32x2048x6x2x16, .f32⟩
  | 81 => ⟨S32x2048x6x2x16, .f32⟩
  | 82 => ⟨S32x2048x6x2x16, .f32⟩
  | 83 => ⟨S32x2048x6x2x16, .f32⟩
  | 84 => ⟨S32x2048x6x2x16, .f32⟩
  | 85 => ⟨S32x2048x6x2x16, .f32⟩
  | 86 => ⟨S32x2048x6x2x16, .f32⟩
  | 87 => ⟨S32x2048x6x2x16, .f32⟩
  | 88 => ⟨S32x2048x6x2x16, .f32⟩
  | 89 => ⟨S32x2048x6x2x1x16, .f32⟩
  | 90 => ⟨S32x2048x6x2x1x16, .f32⟩
  | 91 => ⟨S32x2048x6x2x2x16, .f32⟩
  | 92 => ⟨S32x2048x6x64, .f32⟩
  | 93 => ⟨S32x2048x384, .f32⟩
  | 94 => ⟨S32x2048x2x64, .f32⟩
  | 95 => ⟨S32x2048x2x64, .f32⟩
  | 96 => ⟨S_, .f32⟩
  | 97 => ⟨S32x2048x2, .f32⟩
  | 98 => ⟨S32x2048x2x1, .f32⟩
  | 99 => ⟨S_, .f32⟩
  | 100 => ⟨S32x2048x2x1, .f32⟩
  | 101 => ⟨S32x2048x2x1, .f32⟩
  | 102 => ⟨S_, .f32⟩
  | 103 => ⟨S32x2048x2x1, .f32⟩
  | 104 => ⟨S32x2048x2x1, .f32⟩
  | 105 => ⟨S32x2048x2x1, .f32⟩
  | 106 => ⟨S32x2048x2x64, .f32⟩
  | 107 => ⟨S32x2048x2x64, .f32⟩
  | 108 => ⟨S1x1x1x64, .f32⟩
  | 109 => ⟨S32x2048x2x64, .f32⟩
  | 110 => ⟨S32x2048x2x64, .f32⟩
  | 111 => ⟨S32x2048x2x2x2x16, .f32⟩
  | 112 => ⟨S32x2048x2x2x1x16, .f32⟩
  | 113 => ⟨S32x2048x2x2x16, .f32⟩
  | 114 => ⟨S32x2048x2x2x1x16, .f32⟩
  | 115 => ⟨S32x2048x2x2x16, .f32⟩
  | 116 => ⟨S32x2048x2x2x16, .f32⟩
  | 117 => ⟨S32x2048x2x2x16, .f32⟩
  | 118 => ⟨S32x2048x2x2x16, .f32⟩
  | 119 => ⟨S32x2048x2x2x16, .f32⟩
  | 120 => ⟨S32x2048x2x2x16, .f32⟩
  | 121 => ⟨S32x2048x2x2x16, .f32⟩
  | 122 => ⟨S32x2048x2x2x16, .f32⟩
  | 123 => ⟨S32x2048x2x2x16, .f32⟩
  | 124 => ⟨S32x2048x2x2x16, .f32⟩
  | 125 => ⟨S32x2048x2x2x16, .f32⟩
  | 126 => ⟨S32x2048x2x2x1x16, .f32⟩
  | 127 => ⟨S32x2048x2x2x1x16, .f32⟩
  | _ => ⟨S32x2048x1024, .f32⟩

abbrev hbmTy0_2 (i : Nat) : BufTy := match i % 128 with
  | 0 => ⟨S32x2048x2x2x2x16, .f32⟩
  | 1 => ⟨S32x2048x2x64, .f32⟩
  | 2 => ⟨S32x2048x384, .bf16⟩
  | 3 => ⟨S32x2048x2x64, .f32⟩
  | 4 => ⟨S32x2048x4x64, .f32⟩
  | 5 => ⟨S32x2048x256, .f32⟩
  | 6 => ⟨S32x2048x256, .bf16⟩
  | 7 => ⟨S32x2048x2x64, .f32⟩
  | 8 => ⟨S32x2048x2x64, .f32⟩
  | 9 => ⟨S32x2048x4x64, .f32⟩
  | 10 => ⟨S32x2048x256, .f32⟩
  | 11 => ⟨S32x2048x256, .bf16⟩
  | 12 => ⟨S32x2048x384, .f32⟩
  | 13 => ⟨S32x2048x384, .f32⟩
  | 14 => ⟨S_, .f32⟩
  | 15 => ⟨S32x2048x384, .f32⟩
  | 16 => ⟨S32x2048x384, .f32⟩
  | 17 => ⟨S_, .f32⟩
  | 18 => ⟨S32x2048x384, .f32⟩
  | 19 => ⟨S32x2048x384, .f32⟩
  | 20 => ⟨S32x2048x384, .f32⟩
  | 21 => ⟨S32x2048x384, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_1 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_4 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_cst_6 : Ref sig .tc := ⟨.hbm, 92, rfl⟩
abbrev main_v72 : Ref sig .tc := ⟨.hbm, 93, rfl⟩
abbrev main_v73 : Ref sig .tc := ⟨.hbm, 94, rfl⟩
abbrev main_cst_7 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_8 : Ref sig .tc := ⟨.hbm, 126, rfl⟩
abbrev main_v104 : Ref sig .tc := ⟨.hbm, 127, rfl⟩
abbrev main_v105 : Ref sig .tc := ⟨.hbm, 128, rfl⟩
abbrev main_cst_9 : Ref sig .tc := ⟨.hbm, 129, rfl⟩
abbrev main_v106 : Ref sig .tc := ⟨.hbm, 130, rfl⟩
abbrev main_v107 : Ref sig .tc := ⟨.hbm, 131, rfl⟩
abbrev main_cst_10 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_call0_v0 : Ref sig .tc := ⟨.hbm, 170, rfl⟩
abbrev main_call0_v1 : Ref sig .tc := ⟨.hbm, 171, rfl⟩
abbrev main_call0_cst : Ref sig .tc := ⟨.hbm, 172, rfl⟩
abbrev main_call0_v2 : Ref sig .tc := ⟨.hbm, 173, rfl⟩
abbrev main_call0_v3 : Ref sig .tc := ⟨.hbm, 174, rfl⟩
abbrev main_call0_cst_0 : Ref sig .tc := ⟨.hbm, 175, rfl⟩
abbrev main_call0_v4 : Ref sig .tc := ⟨.hbm, 176, rfl⟩
abbrev main_call0_v5 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_11 : Ref sig .tc := ⟨.hbm, 187, rfl⟩
abbrev main_v154 : Ref sig .tc := ⟨.hbm, 188, rfl⟩
abbrev main_v155 : Ref sig .tc := ⟨.hbm, 189, rfl⟩
abbrev main_cst_12 : Ref sig .tc := ⟨.hbm, 190, rfl⟩
abbrev main_v156 : Ref sig .tc := ⟨.hbm, 191, rfl⟩
abbrev main_v157 : Ref sig .tc := ⟨.hbm, 192, rfl⟩
abbrev main_cst_13 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_cst_14 : Ref sig .tc := ⟨.hbm, 224, rfl⟩
abbrev main_v188 : Ref sig .tc := ⟨.hbm, 225, rfl⟩
abbrev main_v189 : Ref sig .tc := ⟨.hbm, 226, rfl⟩
abbrev main_cst_15 : Ref sig .tc := ⟨.hbm, 227, rfl⟩
abbrev main_v190 : Ref sig .tc := ⟨.hbm, 228, rfl⟩
abbrev main_v191 : Ref sig .tc := ⟨.hbm, 229, rfl⟩
abbrev main_cst_16 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v229 : Ref sig .tc := ⟨.hbm, 276, rfl⟩
abbrev main_v230 : Ref sig .tc := ⟨.hbm, 277, rfl⟩

abbrev nD : Nat := 1
abbrev τ : Topo := Topo.v7x

variable {F : FTy → Type} [FloatOps F]
-- ==== Proof.Tile.lean ====
module
public import proofs.«01_k».proof.Proof.Gen.KernelIdeal.Value
@[expose] public section
set_option maxRecDepth 16384
set_option synthInstance.maxSize 4096
noncomputable section
open Idealize.ShloMosaic Idealize.ShloMosaic.TcCoe Idealize.SL.Sem
namespace Cert.KernelIdeal.Att
open Cert.KernelIdeal Cert.KernelIdeal.Gen
variable {F : FTy → Type} [FloatOps F] [Named F]

/-! The attention body, read as one tile of 256 queries used 24 times: every store of the output is
`tile` at its query rows, its gate rows, and two padded heads' key and value blocks. -/

/-- A load of a rectangle of a buffer's contents `X`. -/
abbrev ldr {s : Shape} {e : EltTy} (X : Vec F s e) (r : LoadRect s) : r.shape.Idx → Elt F e := fun x => X (r.idx x)

/-- The queries of a tile, scaled and rounded. -/
def qpart (q : Vec F S1x256x128 .f32) : FVec F S256x128 .bf16 :=
  truncf .bf16 (mulf (shapeCast S256x128 q shapeCasts_S1x256x128_S256x128)
    (broadcast S256x128 (Named.named (F := F) Cert.KernelIdeal.κ "q_scale" (φ := .f32) 0x3E38AA3B#32))) bitsLt_bf16_f32

/-- The scores against one third of the keys. -/
def scores (qp : FVec F S256x128 .bf16) (k : Vec F S768x128 .bf16) : FVec F S256x768 .f32 :=
  matmul dot_S256x128_S768x128_S256x768_1_1_0_0_n_n none qp k (constant S256x768 .f32 0x00000000#32)

/-- The row maxima of a block of scores, as a column. -/
def rowMax (s : FVec F S256x768 .f32) : FVec F S256x1 .f32 :=
  shapeCast S256x1 (multiReduction .maximumf [1] S256 s 0xFF800000#32 reduces_S256x768_S256 (.inl rfl) rfl) shapeCasts_S256_S256x1

/-- One third of the keys' part of the weighted values and of the weights' sum. -/
def part (s : FVec F S256x768 .f32) (mx : FVec F S256x1 .f32) (v : Vec F S768x256 .bf16) : FVec F S256x256 .f32 :=
  matmul dot_S256x768_S768x256_S256x256_1_0_0_1_n_n none
    (truncf .bf16 (exp2 (subf s (broadcastTo S256x768 mx broadcasts_S256x1_S256x768))) bitsLt_bf16_f32) v
    (constant S256x256 .f32 0x00000000#32)

/-- The maximum over the three thirds. -/
def maxAll (s0 s1 s2 : FVec F S256x768 .f32) : FVec F S256x1 .f32 :=
  maximumf (maximumf (rowMax s0) (rowMax s1)) (rowMax s2)

/-- The weighted values (columns 0 to 127) and the weights' sum (columns 128 to 255). -/
def total (s0 s1 s2 : FVec F S256x768 .f32) (v0 v1 v2 : Vec F S768x256 .bf16) : FVec F S256x256 .f32 :=
  addf (addf (part s0 (maxAll s0 s1 s2) v0) (part s1 (maxAll s0 s1 s2) v1)) (part s2 (maxAll s0 s1 s2) v2)

/-- One padded head: the weighted values over the weights' sum. -/
def head (qp : FVec F S256x128 .bf16) (k0 k1 k2 : Vec F S768x128 .bf16) (v0 v1 v2 : Vec F S768x256 .bf16) :
    FVec F S256x128 .f32 :=
  divf (extractStridedSlice S256x128 ![0, 0] (total (scores qp k0) (scores qp k1) (scores qp k2) v0 v1 v2) slices_S256x256_o0_0_S256x128)
    (extractStridedSlice S256x128 ![0, 128] (total (scores qp k0) (scores qp k1) (scores qp k2) v0 v1 v2) slices_S256x256_o0_128_S256x128)

/-- Two padded heads side by side, gated. -/
def gated (h0 h1 : FVec F S256x128 .f32) (g : Vec F S1x256x128 .bf16) : Vec F S1x256x128 .bf16 :=
  shapeCast S1x256x128 (truncf .bf16 (mulf (addf (addf (broadcast S256x128 (Scalar.ofBits .f32 0x00000000#32)) h0) h1)
    (extf .f32 (shapeCast S256x128 g shapeCasts_S1x256x128_S256x128) bitsLt_bf16_f32)) bitsLt_bf16_f32) shapeCasts_S256x128_S1x256x128

/-- Padded head 0 of the staged keys and values. -/
def head0 (K : Vec F S2304x512 .bf16) (V : Vec F S2304x1024 .bf16) (qp : FVec F S256x128 .bf16) : FVec F S256x128 .f32 :=
  head qp (ldr K (Rect.unit (s := S2304x512) ![0, 0] S768x128.size inb_S2304x512_S768x128_0_0).toLoadRect) (ldr K (Rect.unit (s := S2304x512) ![768, 0] S768x128.size inb_S2304x512_S768x128_768_0).toLoadRect) (ldr K (Rect.unit (s := S2304x512) ![1536, 0] S768x128.size inb_S2304x512_S768x128_1536_0).toLoadRect)
    (ldr V (Rect.unit (s := S2304x1024) ![0, 0] S768x256.size inb_S2304x1024_S768x256_0_0).toLoadRect) (ldr V (Rect.unit (s := S2304x1024) ![768, 0] S768x256.size inb_S2304x1024_S768x256_768_0).toLoadRect) (ldr V (Rect.unit (s := S2304x1024) ![1536, 0] S768x256.size inb_S2304x1024_S768x256_1536_0).toLoadRect)

/-- Padded head 1 of the staged keys and values. -/
def head1 (K : Vec F S2304x512 .bf16) (V : Vec F S2304x1024 .bf16) (qp : FVec F S256x128 .bf16) : FVec F S256x128 .f32 :=
  head qp (ldr K (Rect.unit (s := S2304x512) ![0, 128] S768x128.size inb_S2304x512_S768x128_0_128).toLoadRect) (ldr K (Rect.unit (s := S2304x512) ![768, 128] S768x128.size inb_S2304x512_S768x128_768_128).toLoadRect) (ldr K (Rect.unit (s := S2304x512) ![1536, 128] S768x128.size inb_S2304x512_S768x128_1536_128).toLoadRect)
    (ldr V (Rect.unit (s := S2304x1024) ![0, 256] S768x256.size inb_S2304x1024_S768x256_0_256).toLoadRect) (ldr V (Rect.unit (s := S2304x1024) ![768, 256] S768x256.size inb_S2304x1024_S768x256_768_256).toLoadRect) (ldr V (Rect.unit (s := S2304x1024) ![1536, 256] S768x256.size inb_S2304x1024_S768x256_1536_256).toLoadRect)

/-- Padded head 2 of the staged keys and values. -/
def head2 (K : Vec F S2304x512 .bf16) (V : Vec F S2304x1024 .bf16) (qp : FVec F S256x128 .bf16) : FVec F S256x128 .f32 :=
  head qp (ldr K (Rect.unit (s := S2304x512) ![0, 256] S768x128.size inb_S2304x512_S768x128_0_256).toLoadRect) (ldr K (Rect.unit (s := S2304x512) ![768, 256] S768x128.size inb_S2304x512_S768x128_768_256).toLoadRect) (ldr K (Rect.unit (s := S2304x512) ![1536, 256] S768x128.size inb_S2304x512_S768x128_1536_256).toLoadRect)
    (ldr V (Rect.unit (s := S2304x1024) ![0, 512] S768x256.size inb_S2304x1024_S768x256_0_512).toLoadRect) (ldr V (Rect.unit (s := S2304x1024) ![768, 512] S768x256.size inb_S2304x1024_S768x256_768_512).toLoadRect) (ldr V (Rect.unit (s := S2304x1024) ![1536, 512] S768x256.size inb_S2304x1024_S768x256_1536_512).toLoadRect)

/-- Padded head 3 of the staged keys and values. -/
def head3 (K : Vec F S2304x512 .bf16) (V : Vec F S2304x1024 .bf16) (qp : FVec F S256x128 .bf16) : FVec F S256x128 .f32 :=
  head qp (ldr K (Rect.unit (s := S2304x512) ![0, 384] S768x128.size inb_S2304x512_S768x128_0_384).toLoadRect) (ldr K (Rect.unit (s := S2304x512) ![768, 384] S768x128.size inb_S2304x512_S768x128_768_384).toLoadRect) (ldr K (Rect.unit (s := S2304x512) ![1536, 384] S768x128.size inb_S2304x512_S768x128_1536_384).toLoadRect)
    (ldr V (Rect.unit (s := S2304x1024) ![0, 768] S768x256.size inb_S2304x1024_S768x256_0_768).toLoadRect) (ldr V (Rect.unit (s := S2304x1024) ![768, 768] S768x256.size inb_S2304x1024_S768x256_768_768).toLoadRect) (ldr V (Rect.unit (s := S2304x1024) ![1536, 768] S768x256.size inb_S2304x1024_S768x256_1536_768).toLoadRect)

/-- The tile of columns 0 to 127: padded heads 0 and 1. -/
def tile0 (K : Vec F S2304x512 .bf16) (V : Vec F S2304x1024 .bf16) (q : Vec F S1x256x128 .f32) (g : Vec F S1x256x128 .bf16) :
    Vec F S1x256x128 .bf16 :=
  gated (head0 K V (qpart q)) (head1 K V (qpart q)) g

/-- The tile of columns 128 to 255: padded heads 0 and 3. -/
def tile1 (K : Vec F S2304x512 .bf16) (V : Vec F S2304x1024 .bf16) (q : Vec F S1x256x128 .f32) (g : Vec F S1x256x128 .bf16) :
    Vec F S1x256x128 .bf16 :=
  gated (head0 K V (qpart q)) (head3 K V (qpart q)) g

/-- The tile of columns 256 to 383: padded heads 2 and 3. -/
def tile2 (K : Vec F S2304x512 .bf16) (V : Vec F S2304x1024 .bf16) (q : Vec F S1x256x128 .f32) (g : Vec F S1x256x128 .bf16) :
    Vec F S1x256x128 .bf16 :=
  gated (head2 K V (qpart q)) (head3 K V (qpart q)) g

/-- The output's stores, the last first. -/
def stores (Q : Vec F S1x2048x384 .f32) (G : Vec F S1x2048x384 .bf16) (K : Vec F S2304x512 .bf16) (V : Vec F S2304x1024 .bf16) :
    List (View.Piece (Elt F) S1x2048x384 .bf16) :=
  [⟨Rect.unit (s := S1x2048x384) ![0, 1792, 256] S1x256x128.size inb_S1x2048x384_S1x256x128_0_1792_256, tile2 K V (ldr Q (Rect.unit (s := S1x2048x384) ![0, 1792, 256] S1x256x128.size inb_S1x2048x384_S1x256x128_0_1792_256).toLoadRect) (ldr G (Rect.unit (s := S1x2048x384) ![0, 1792, 256] S1x256x128.size inb_S1x2048x384_S1x256x128_0_1792_256).toLoadRect)⟩,
   ⟨Rect.unit (s := S1x2048x384) ![0, 1792, 128] S1x256x128.size inb_S1x2048x384_S1x256x128_0_1792_128, tile1 K V (ldr Q (Rect.unit (s := S1x2048x384) ![0, 1792, 128] S1x256x128.size inb_S1x2048x384_S1x256x128_0_1792_128).toLoadRect) (ldr G (Rect.unit (s := S1x2048x384) ![0, 1792, 128] S1x256x128.size inb_S1x2048x384_S1x256x128_0_1792_128).toLoadRect)⟩,
   ⟨Rect.unit (s := S1x2048x384) ![0, 1792, 0] S1x256x128.size inb_S1x2048x384_S1x256x128_0_1792_0, tile0 K V (ldr Q (Rect.unit (s := S1x2048x384) ![0, 1792, 0] S1x256x128.size inb_S1x2048x384_S1x256x128_0_1792_0).toLoadRect) (ldr G (Rect.unit (s := S1x2048x384) ![0, 1792, 0] S1x256x128.size inb_S1x2048x384_S1x256x128_0_1792_0).toLoadRect)⟩,
   ⟨Rect.unit (s := S1x2048x384) ![0, 1536, 256] S1x256x128.size inb_S1x2048x384_S1x256x128_0_1536_256, tile2 K V (ldr Q (Rect.unit (s := S1x2048x384) ![0, 1536, 256] S1x256x128.size inb_S1x2048x384_S1x256x128_0_1536_256).toLoadRect) (ldr G (Rect.unit (s := S1x2048x384) ![0, 1536, 256] S1x256x128.size inb_S1x2048x384_S1x256x128_0_1536_256).toLoadRect)⟩,
   ⟨Rect.unit (s := S1x2048x384) ![0, 1536, 128] S1x256x128.size inb_S1x2048x384_S1x256x128_0_1536_128, tile1 K V (ldr Q (Rect.unit (s := S1x2048x384) ![0, 1536, 128] S1x256x128.size inb_S1x2048x384_S1x256x128_0_1536_128).toLoadRect) (ldr G (Rect.unit (s := S1x2048x384) ![0, 1536, 128] S1x256x128.size inb_S1x2048x384_S1x256x128_0_1536_128).toLoadRect)⟩,
   ⟨Rect.unit (s := S1x2048x384) ![0, 1536, 0] S1x256x128.size inb_S1x2048x384_S1x256x128_0_1536_0, tile0 K V (ldr Q (Rect.unit (s := S1x2048x384) ![0, 1536, 0] S1x256x128.size inb_S1x2048x384_S1x256x128_0_1536_0).toLoadRect) (ldr G (Rect.unit (s := S1x2048x384) ![0, 1536, 0] S1x256x128.size inb_S1x2048x384_S1x256x128_0_1536_0).toLoadRect)⟩,
   ⟨Rect.unit (s := S1x2048x384) ![0, 1280, 256] S1x256x128.size inb_S1x2048x384_S1x256x128_0_1280_256, tile2 K V (ldr Q (Rect.unit (s := S1x2048x384) ![0, 1280, 256] S1x256x128.size inb_S1x2048x384_S1x256x128_0_1280_256).toLoadRect) (ldr G (Rect.unit (s := S1x2048x384) ![0, 1280, 256] S1x256x128.size inb_S1x2048x384_S1x256x128_0_1280_256).toLoadRect)⟩,
   ⟨Rect.unit (s := S1x2048x384) ![0, 1280, 128] S1x256x128.size inb_S1x2048x384_S1x256x128_0_1280_128, tile1 K V (ldr Q (Rect.unit (s := S1x2048x384) ![0, 1280, 128] S1x256x128.size inb_S1x2048x384_S1x256x128_0_1280_128).toLoadRect) (ldr G (Rect.unit (s := S1x2048x384) ![0, 1280, 128] S1x256x128.size inb_S1x2048x384_S1x256x128_0_1280_128).toLoadRect)⟩,
   ⟨Rect.unit (s := S1x2048x384) ![0, 1280, 0] S1x256x128.size inb_S1x2048x384_S1x256x128_0_1280_0, tile0 K V (ldr Q (Rect.unit (s := S1x2048x384) ![0, 1280, 0] S1x256x128.size inb_S1x2048x384_S1x256x128_0_1280_0).toLoadRect) (ldr G (Rect.unit (s := S1x2048x384) ![0, 1280, 0] S1x256x128.size inb_S1x2048x384_S1x256x128_0_1280_0).toLoadRect)⟩,
   ⟨Rect.unit (s := S1x2048x384) ![0, 1024, 256] S1x256x128.size inb_S1x2048x384_S1x256x128_0_1024_256, tile2 K V (ldr Q (Rect.unit (s := S1x2048x384) ![0, 1024, 256] S1x256x128.size inb_S1x2048x384_S1x256x128_0_1024_256).toLoadRect) (ldr G (Rect.unit (s := S1x2048x384) ![0, 1024, 256] S1x256x128.size inb_S1x2048x384_S1x256x128_0_1024_256).toLoadRect)⟩,
   ⟨Rect.unit (s := S1x2048x384) ![0, 1024, 128] S1x256x128.size inb_S1x2048x384_S1x256x128_0_1024_128, tile1 K V (ldr Q (Rect.unit (s := S1x2048x384) ![0, 1024, 128] S1x256x128.size inb_S1x2048x384_S1x256x128_0_1024_128).toLoadRect) (ldr G (Rect.unit (s := S1x2048x384) ![0, 1024, 128] S1x256x128.size inb_S1x2048x384_S1x256x128_0_1024_128).toLoadRect)⟩,
   ⟨Rect.unit (s := S1x2048x384) ![0, 1024, 0] S1x256x128.size inb_S1x2048x384_S1x256x128_0_1024_0, tile0 K V (ldr Q (Rect.unit (s := S1x2048x384) ![0, 1024, 0] S1x256x128.size inb_S1x2048x384_S1x256x128_0_1024_0).toLoadRect) (ldr G (Rect.unit (s := S1x2048x384) ![0, 1024, 0] S1x256x128.size inb_S1x2048x384_S1x256x128_0_1024_0).toLoadRect)⟩,
   ⟨Rect.unit (s := S1x2048x384) ![0, 768, 256] S1x256x128.size inb_S1x2048x384_S1x256x128_0_768_256, tile2 K V (ldr Q (Rect.unit (s := S1x2048x384) ![0, 768, 256] S1x256x128.size inb_S1x2048x384_S1x256x128_0_768_256).toLoadRect) (ldr G (Rect.unit (s := S1x2048x384) ![0, 768, 256] S1x256x128.size inb_S1x2048x384_S1x256x128_0_768_256).toLoadRect)⟩,
   ⟨Rect.unit (s := S1x2048x384) ![0, 768, 128] S1x256x128.size inb_S1x2048x384_S1x256x128_0_768_128, tile1 K V (ldr Q (Rect.unit (s := S1x2048x384) ![0, 768, 128] S1x256x128.size inb_S1x2048x384_S1x256x128_0_768_128).toLoadRect) (ldr G (Rect.unit (s := S1x2048x384) ![0, 768, 128] S1x256x128.size inb_S1x2048x384_S1x256x128_0_768_128).toLoadRect)⟩,
   ⟨Rect.unit (s := S1x2048x384) ![0, 768, 0] S1x256x128.size inb_S1x2048x384_S1x256x128_0_768_0, tile0 K V (ldr Q (Rect.unit (s := S1x2048x384) ![0, 768, 0] S1x256x128.size inb_S1x2048x384_S1x256x128_0_768_0).toLoadRect) (ldr G (Rect.unit (s := S1x2048x384) ![0, 768, 0] S1x256x128.size inb_S1x2048x384_S1x256x128_0_768_0).toLoadRect)⟩,
   ⟨Rect.unit (s := S1x2048x384) ![0, 512, 256] S1x256x128.size inb_S1x2048x384_S1x256x128_0_512_256, tile2 K V (ldr Q (Rect.unit (s := S1x2048x384) ![0, 512, 256] S1x256x128.size inb_S1x2048x384_S1x256x128_0_512_256).toLoadRect) (ldr G (Rect.unit (s := S1x2048x384) ![0, 512, 256] S1x256x128.size inb_S1x2048x384_S1x256x128_0_512_256).toLoadRect)⟩,
   ⟨Rect.unit (s := S1x2048x384) ![0, 512, 128] S1x256x128.size inb_S1x2048x384_S1x256x128_0_512_128, tile1 K V (ldr Q (Rect.unit (s := S1x2048x384) ![0, 512, 128] S1x256x128.size inb_S1x2048x384_S1x256x128_0_512_128).toLoadRect) (ldr G (Rect.unit (s := S1x2048x384) ![0, 512, 128] S1x256x128.size inb_S1x2048x384_S1x256x128_0_512_128).toLoadRect)⟩,
   ⟨Rect.unit (s := S1x2048x384) ![0, 512, 0] S1x256x128.size inb_S1x2048x384_S1x256x128_0_512_0, tile0 K V (ldr Q (Rect.unit (s := S1x2048x384) ![0, 512, 0] S1x256x128.size inb_S1x2048x384_S1x256x128_0_512_0).toLoadRect) (ldr G (Rect.unit (s := S1x2048x384) ![0, 512, 0] S1x256x128.size inb_S1x2048x384_S1x256x128_0_512_0).toLoadRect)⟩,
   ⟨Rect.unit (s := S1x2048x384) ![0, 256, 256] S1x256x128.size inb_S1x2048x384_S1x256x128_0_256_256, tile2 K V (ldr Q (Rect.unit (s := S1x2048x384) ![0, 256, 256] S1x256x128.size inb_S1x2048x384_S1x256x128_0_256_256).toLoadRect) (ldr G (Rect.unit (s := S1x2048x384) ![0, 256, 256] S1x256x128.size inb_S1x2048x384_S1x256x128_0_256_256).toLoadRect)⟩,
   ⟨Rect.unit (s := S1x2048x384) ![0, 256, 128] S1x256x128.size inb_S1x2048x384_S1x256x128_0_256_128, tile1 K V (ldr Q (Rect.unit (s := S1x2048x384) ![0, 256, 128] S1x256x128.size inb_S1x2048x384_S1x256x128_0_256_128).toLoadRect) (ldr G (Rect.unit (s := S1x2048x384) ![0, 256, 128] S1x256x128.size inb_S1x2048x384_S1x256x128_0_256_128).toLoadRect)⟩,
   ⟨Rect.unit (s := S1x2048x384) ![0, 256, 0] S1x256x128.size inb_S1x2048x384_S1x256x128_0_256_0, tile0 K V (ldr Q (Rect.unit (s := S1x2048x384) ![0, 256, 0] S1x256x128.size inb_S1x2048x384_S1x256x128_0_256_0).toLoadRect) (ldr G (Rect.unit (s := S1x2048x384) ![0, 256, 0] S1x256x128.size inb_S1x2048x384_S1x256x128_0_256_0).toLoadRect)⟩,
   ⟨Rect.unit (s := S1x2048x384) ![0, 0, 256] S1x256x128.size inb_S1x2048x384_S1x256x128_0_0_256, tile2 K V (ldr Q (Rect.unit (s := S1x2048x384) ![0, 0, 256] S1x256x128.size inb_S1x2048x384_S1x256x128_0_0_256).toLoadRect) (ldr G (Rect.unit (s := S1x2048x384) ![0, 0, 256] S1x256x128.size inb_S1x2048x384_S1x256x128_0_0_256).toLoadRect)⟩,
   ⟨Rect.unit (s := S1x2048x384) ![0, 0, 128] S1x256x128.size inb_S1x2048x384_S1x256x128_0_0_128, tile1 K V (ldr Q (Rect.unit (s := S1x2048x384) ![0, 0, 128] S1x256x128.size inb_S1x2048x384_S1x256x128_0_0_128).toLoadRect) (ldr G (Rect.unit (s := S1x2048x384) ![0, 0, 128] S1x256x128.size inb_S1x2048x384_S1x256x128_0_0_128).toLoadRect)⟩,
   ⟨Rect.unit (s := S1x2048x384) ![0, 0, 0] S1x256x128.size inb_S1x2048x384_S1x256x128_0_0_0, tile0 K V (ldr Q (Rect.unit (s := S1x2048x384) ![0, 0, 0] S1x256x128.size inb_S1x2048x384_S1x256x128_0_0_0).toLoadRect) (ldr G (Rect.unit (s := S1x2048x384) ![0, 0, 0] S1x256x128.size inb_S1x2048x384_S1x256x128_0_0_0).toLoadRect)⟩]

/-- In case A the body's stores of the output are `stores` of its windows and of the staged keys and values. -/
theorem stores_A (c : Dev nD) (i : grid0.Coords) (a2 : Memref sig .tc .vmem S1x2048x384 .f32) (h2 : a2.IsWhole) (a3 : Memref sig .tc .vmem S1x2048x384 .bf16) (h3 : a3.IsWhole) (a4 : Memref sig .tc .vmem S1x256x256 .bf16) (h4 : a4.IsWhole) (a5 : Memref sig .tc .vmem S1x256x256 .bf16) (h5 : a5.IsWhole) (a6 : Memref sig .tc .vmem S1x2048x256 .bf16) (h6 : a6.IsWhole) (a7 : Memref sig .tc .vmem S1x2048x256 .bf16) (h7 : a7.IsWhole) (a8 : Memref sig .tc .vmem S1x2048x384 .bf16) (h8 : a8.IsWhole) (a9 : Memref sig .tc .vmem S2304x512 .bf16) (h9 : a9.IsWhole) (a10 : Memref sig .tc .vmem S2304x1024 .bf16) (h10 : a10.IsWhole) (hc0 : cond0_0 i) (hc1 : cond0_1 i)
    (x0 : Vec F S1x2048x384 .f32) (x1 : Vec F S1x2048x384 .bf16) (x2 : Vec F S1x256x256 .bf16) (x3 : Vec F S1x256x256 .bf16) (x4 : Vec F S1x2048x256 .bf16) (x5 : Vec F S1x2048x256 .bf16) :
    (kernelRun0_A c i a2 h2 a3 h3 a4 h4 a5 h5 a6 h6 a7 h7 a8 h8 a9 h9 a10 h10 hc0 hc1 x0 x1 x2 x3 x4 x5).1 = stores (a2.view.read (Elt F) (h2.unread x0)) (a3.view.read (Elt F) (h3.unread x1))
      (a9.view.read (Elt F) (a9.view.writes (Elt F) a9.view.junk (kernelRun0_A c i a2 h2 a3 h3 a4 h4 a5 h5 a6 h6 a7 h7 a8 h8 a9 h9 a10 h10 hc0 hc1 x0 x1 x2 x3 x4 x5).2.2.1))
      (a10.view.read (Elt F) (a10.view.writes (Elt F) a10.view.junk (kernelRun0_A c i a2 h2 a3 h3 a4 h4 a5 h5 a6 h6 a7 h7 a8 h8 a9 h9 a10 h10 hc0 hc1 x0 x1 x2 x3 x4 x5).2.1)) := rfl

/-- In case B the body's stores of the output are `stores` of its windows and of the staged keys and values. -/
theorem stores_B (c : Dev nD) (i : grid0.Coords) (a2 : Memref sig .tc .vmem S1x2048x384 .f32) (h2 : a2.IsWhole) (a3 : Memref sig .tc .vmem S1x2048x384 .bf16) (h3 : a3.IsWhole) (a4 : Memref sig .tc .vmem S1x256x256 .bf16) (h4 : a4.IsWhole) (a5 : Memref sig .tc .vmem S1x256x256 .bf16) (h5 : a5.IsWhole) (a6 : Memref sig .tc .vmem S1x2048x256 .bf16) (h6 : a6.IsWhole) (a7 : Memref sig .tc .vmem S1x2048x256 .bf16) (h7 : a7.IsWhole) (a8 : Memref sig .tc .vmem S1x2048x384 .bf16) (h8 : a8.IsWhole) (a9 : Memref sig .tc .vmem S2304x512 .bf16) (h9 : a9.IsWhole) (a10 : Memref sig .tc .vmem S2304x1024 .bf16) (h10 : a10.IsWhole) (hc0 : cond0_0 i) (hc1 : ¬cond0_1 i)
    (x0 : Vec F S1x2048x384 .f32) (x1 : Vec F S1x2048x384 .bf16) (x2 : Vec F S1x256x256 .bf16) (x3 : Vec F S1x256x256 .bf16) (x4 : Vec F S1x2048x256 .bf16) (x5 : Vec F S1x2048x256 .bf16) (xs1 : Vec F S2304x1024 .bf16) :
    (kernelRun0_B c i a2 h2 a3 h3 a4 h4 a5 h5 a6 h6 a7 h7 a8 h8 a9 h9 a10 h10 hc0 hc1 x0 x1 x2 x3 x4 x5 xs1).1 = stores (a2.view.read (Elt F) (h2.unread x0)) (a3.view.read (Elt F) (h3.unread x1))
      (a9.view.read (Elt F) (a9.view.writes (Elt F) a9.view.junk (kernelRun0_B c i a2 h2 a3 h3 a4 h4 a5 h5 a6 h6 a7 h7 a8 h8 a9 h9 a10 h10 hc0 hc1 x0 x1 x2 x3 x4 x5 xs1).2.2.1))
      (a10.view.read (Elt F) (a10.view.writes (Elt F) (h10.unread xs1) (kernelRun0_B c i a2 h2 a3 h3 a4 h4 a5 h5 a6 h6 a7 h7 a8 h8 a9 h9 a10 h10 hc0 hc1 x0 x1 x2 x3 x4 x5 xs1).2.1)) := rfl

end Cert.KernelIdeal.Att
end
-- ==== Proof.HeadAt.lean ====
module
public import proofs.«01_k».proof.Proof.Tile
public import Idealize.ShloMosaic.Lib.Pointwise
@[expose] public section
set_option maxRecDepth 16384
set_option synthInstance.maxSize 4096
noncomputable section
open Idealize.ShloMosaic Idealize.ShloMosaic.TcCoe Idealize.SL.Sem
namespace Cert.KernelIdeal.Att
open Cert.KernelIdeal Cert.KernelIdeal.Gen

/-! One padded head of a tile, read at a query row and a lane, in the ideal numbers: the three thirds
of the keys make one maximum and one sum over all 2304 keys. -/

/-- Key `i` of third `j`. -/
def key (j : Fin 3) (i : Fin 768) : Fin 2304 := ⟨j.val * 768 + i.val, by omega⟩

theorem scores_at (qp : FVec Ideal S256x128 .bf16) (k : Vec Ideal S768x128 .bf16) (r : Fin 256) (i : Fin 768) :
    scores qp k (ix2 r i) = ∑ d : Fin 128, qp (ix2 r d) * k (ix2 i d) := by
  pointwise [scores]

theorem rowMax_at (s : FVec Ideal S256x768 .f32) (r : Fin 256) :
    rowMax s (ix2 r 0) = Finset.univ.sup fun i : Fin 768 => s (ix2 r i) := by
  pointwise [rowMax]
  have h : Ideal.ofBits .f32 0xFF800000#32 = ⊥ := by simp [Ideal.ofBits, Ideal.ieee]
  rw [h]
  rfl

theorem part_at (s : FVec Ideal S256x768 .f32) (mx : FVec Ideal S256x1 .f32) (v : Vec Ideal S768x256 .bf16) (r : Fin 256) (l : Fin 256) :
    part s mx v (ix2 r l) = ∑ i : Fin 768, Ideal.exp2 (s (ix2 r i) - mx (ix2 r 0)) * v (ix2 i l) := by
  pointwise [part]
  rfl

theorem sup_thirds (f : Fin 2304 → EReal) :
    max (max (Finset.univ.sup fun i => f (key 0 i)) (Finset.univ.sup fun i => f (key 1 i))) (Finset.univ.sup fun i => f (key 2 i))
      = Finset.univ.sup f := by
  apply le_antisymm
  · refine max_le (max_le ?_ ?_) ?_ <;> exact Finset.sup_le fun i _ => Finset.le_sup (f := f) (Finset.mem_univ _)
  · refine Finset.sup_le fun k _ => ?_
    by_cases h0 : k.val < 768
    · refine le_max_of_le_left (le_max_of_le_left ?_)
      have : k = key 0 ⟨k.val, h0⟩ := Fin.ext (by simp [key])
      rw [this]
      exact Finset.le_sup (f := fun i => f (key 0 i)) (Finset.mem_univ _)
    · by_cases h1 : k.val < 1536
      · refine le_max_of_le_left (le_max_of_le_right ?_)
        have : k = key 1 ⟨k.val - 768, by omega⟩ := Fin.ext (by simp [key]; omega)
        rw [this]
        exact Finset.le_sup (f := fun i => f (key 1 i)) (Finset.mem_univ _)
      · refine le_max_of_le_right ?_
        have : k = key 2 ⟨k.val - 1536, by omega⟩ := Fin.ext (by simp [key]; omega)
        rw [this]
        exact Finset.le_sup (f := fun i => f (key 2 i)) (Finset.mem_univ _)

theorem sum_thirds (f : Fin 2304 → EReal) :
    (∑ i, f (key 0 i)) + (∑ i, f (key 1 i)) + (∑ i, f (key 2 i)) = ∑ k, f k := by
  rw [Fin.sum_univ_tiles 3 768 rfl f, Fin.sum_univ_three]
  rfl

/-- The scores of one query row against padded keys. -/
def scoreRow (q : Fin 128 → EReal) (kk : Fin 2304 → Fin 128 → EReal) (j : Fin 2304) : EReal := ∑ d, q d * kk j d

/-- The weight of key `j`, before its division by the weights' sum. -/
def weight (s : Fin 2304 → EReal) (j : Fin 2304) : EReal := Ideal.exp2 (s j - Finset.univ.sup s)

/-- The padded head of one query row: weighted values (`l`) over the weights' sum (`128 + l`). -/
def headRow (s : Fin 2304 → EReal) (vv : Fin 2304 → Fin 256 → EReal) (l : Fin 128) : EReal :=
  Ideal.div (∑ j, weight s j * vv j ⟨l.val, by omega⟩) (∑ j, weight s j * vv j ⟨128 + l.val, by omega⟩)

theorem total_at (s0 s1 s2 : FVec Ideal S256x768 .f32) (v0 v1 v2 : Vec Ideal S768x256 .bf16)
    (s : Fin 2304 → EReal) (vv : Fin 2304 → Fin 256 → EReal) (r : Fin 256)
    (h0 : ∀ i, s0 (ix2 r i) = s (key 0 i)) (h1 : ∀ i, s1 (ix2 r i) = s (key 1 i)) (h2 : ∀ i, s2 (ix2 r i) = s (key 2 i))
    (g0 : ∀ i l, v0 (ix2 i l) = vv (key 0 i) l) (g1 : ∀ i l, v1 (ix2 i l) = vv (key 1 i) l) (g2 : ∀ i l, v2 (ix2 i l) = vv (key 2 i) l)
    (l : Fin 256) : total s0 s1 s2 v0 v1 v2 (ix2 r l) = ∑ j, weight s j * vv j l := by
  have hm : maxAll s0 s1 s2 (ix2 r 0) = Finset.univ.sup s := by
    show max (max (rowMax s0 (ix2 r 0)) (rowMax s1 (ix2 r 0))) (rowMax s2 (ix2 r 0)) = _
    rw [rowMax_at, rowMax_at, rowMax_at, ← sup_thirds s]
    simp only [h0, h1, h2]
  show part s0 _ v0 (ix2 r l) + part s1 _ v1 (ix2 r l) + part s2 _ v2 (ix2 r l) = _
  rw [part_at, part_at, part_at, hm, ← sum_thirds]
  simp only [h0, h1, h2, g0, g1, g2, weight]

theorem head_at (qp : FVec Ideal S256x128 .bf16) (k0 k1 k2 : Vec Ideal S768x128 .bf16) (v0 v1 v2 : Vec Ideal S768x256 .bf16)
    (kk : Fin 2304 → Fin 128 → EReal) (vv : Fin 2304 → Fin 256 → EReal) (r : Fin 256)
    (h0 : ∀ i d, k0 (ix2 i d) = kk (key 0 i) d) (h1 : ∀ i d, k1 (ix2 i d) = kk (key 1 i) d) (h2 : ∀ i d, k2 (ix2 i d) = kk (key 2 i) d)
    (g0 : ∀ i l, v0 (ix2 i l) = vv (key 0 i) l) (g1 : ∀ i l, v1 (ix2 i l) = vv (key 1 i) l) (g2 : ∀ i l, v2 (ix2 i l) = vv (key 2 i) l)
    (l : Fin 128) : head qp k0 k1 k2 v0 v1 v2 (ix2 r l) = headRow (scoreRow (fun d => qp (ix2 r d)) kk) vv l := by
  have ht := total_at (scores qp k0) (scores qp k1) (scores qp k2) v0 v1 v2 (scoreRow (fun d => qp (ix2 r d)) kk) vv r
    (fun i => by rw [scores_at]; simp only [h0]; rfl) (fun i => by rw [scores_at]; simp only [h1]; rfl)
    (fun i => by rw [scores_at]; simp only [h2]; rfl) g0 g1 g2
  unfold headRow
  rw [← ht, ← ht]
  pointwise [head]

theorem qpart_at (q : Vec Ideal S1x256x128 .f32) (r : Fin 256) (d : Fin 128) :
    qpart q (ix2 r d) = q (ix3 0 r d) * (((Real.log 2)⁻¹ * (1 / 8) : ℝ) : EReal) := by
  pointwise [qpart]
  rw [IdealRules.named_const.ideal_named_scalar _ _ _ _ rfl]

theorem gated_at (h0 h1 : FVec Ideal S256x128 .f32) (g : Vec Ideal S1x256x128 .bf16) (r : Fin 256) (l : Fin 128) :
    gated h0 h1 g (ix3 0 r l) = (h0 (ix2 r l) + h1 (ix2 r l)) * g (ix3 0 r l) := by
  pointwise [gated]

end Cert.KernelIdeal.Att
end
-- ==== Proof.Stage.lean ====
module
public import proofs.«01_k».proof.Proof.Tile
public import Idealize.ShloMosaic.Lib.Pointwise
public import Idealize.ShloMosaic.Lib.Pipeline.ValueKit
public import Idealize.ShloMosaic.Lib.Pipeline.ReadBack
@[expose] public section
set_option maxRecDepth 16384
set_option synthInstance.maxSize 4096
noncomputable section
open Idealize.ShloMosaic Idealize.ShloMosaic.TcCoe Idealize.SL.Sem
namespace Cert.KernelIdeal.Att
open Cert.KernelIdeal Cert.KernelIdeal.Gen
variable {F : FTy → Type} [FloatOps F] [Named F]

/-! What the body stages in its two scratch buffers: every key (value) head twice, padded with zeros to
128 lanes, at the lanes of even and of odd query heads; beside each padded value head a block of ones. -/

/-- Lanes 0 to 63 kept, the others zero. -/
def lo256 (x : Vec F S1x256x128 .bf16) : FVec F S256x128 .bf16 :=
  shapeCast S256x128 (select (broadcastTo S256x128 (shapeCast S1x128 k0_pay2 shapeCasts_S1x128_S1x128) broadcasts_S1x128_S256x128)
    (shapeCast S256x128 x shapeCasts_S1x256x128_S256x128) (broadcast S256x128 (Scalar.ofBits .bf16 0x0000#16))) shapeCasts_S256x128_S256x128

/-- Lanes 64 to 127 kept, the others zero. -/
def hi256 (x : Vec F S1x256x128 .bf16) : FVec F S256x128 .bf16 :=
  shapeCast S256x128 (select (broadcastTo S256x128 (shapeCast S1x128 k0_pay2 shapeCasts_S1x128_S1x128) broadcasts_S1x128_S256x128)
    (broadcast S256x128 (Scalar.ofBits .bf16 0x0000#16)) (shapeCast S256x128 x shapeCasts_S1x256x128_S256x128)) shapeCasts_S256x128_S256x128

/-- Lanes 0 to 63 kept, the others zero. -/
def lo2048 (x : Vec F S1x2048x128 .bf16) : FVec F S2048x128 .bf16 :=
  shapeCast S2048x128 (select (broadcastTo S2048x128 (shapeCast S1x128 k0_pay2 shapeCasts_S1x128_S1x128) broadcasts_S1x128_S2048x128)
    (shapeCast S2048x128 x shapeCasts_S1x2048x128_S2048x128) (broadcast S2048x128 (Scalar.ofBits .bf16 0x0000#16))) shapeCasts_S2048x128_S2048x128

/-- Lanes 64 to 127 kept, the others zero. -/
def hi2048 (x : Vec F S1x2048x128 .bf16) : FVec F S2048x128 .bf16 :=
  shapeCast S2048x128 (select (broadcastTo S2048x128 (shapeCast S1x128 k0_pay2 shapeCasts_S1x128_S1x128) broadcasts_S1x128_S2048x128)
    (broadcast S2048x128 (Scalar.ofBits .bf16 0x0000#16)) (shapeCast S2048x128 x shapeCasts_S1x2048x128_S2048x128)) shapeCasts_S2048x128_S2048x128

/-- The stores that stage the keys, the last first. -/
def keyStores (X : Vec F S1x256x256 .bf16) (Y : Vec F S1x2048x256 .bf16) : List (View.Piece (Elt F) S2304x512 .bf16) :=
  [⟨Rect.unit (s := S2304x512) ![256, 384] S2048x128.size inb_S2304x512_S2048x128_256_384,
     hi2048 (ldr Y (Rect.unit (s := S1x2048x256) ![0, 0, 0] S1x2048x128.size inb_S1x2048x256_S1x2048x128_0_0_0).toLoadRect)⟩,
   ⟨Rect.unit (s := S2304x512) ![256, 256] S2048x128.size inb_S2304x512_S2048x128_256_256,
     lo2048 (ldr Y (Rect.unit (s := S1x2048x256) ![0, 0, 128] S1x2048x128.size inb_S1x2048x256_S1x2048x128_0_0_128).toLoadRect)⟩,
   ⟨Rect.unit (s := S2304x512) ![256, 128] S2048x128.size inb_S2304x512_S2048x128_256_128,
     hi2048 (ldr Y (Rect.unit (s := S1x2048x256) ![0, 0, 128] S1x2048x128.size inb_S1x2048x256_S1x2048x128_0_0_128).toLoadRect)⟩,
   ⟨Rect.unit (s := S2304x512) ![256, 0] S2048x128.size inb_S2304x512_S2048x128_256_0,
     lo2048 (ldr Y (Rect.unit (s := S1x2048x256) ![0, 0, 0] S1x2048x128.size inb_S1x2048x256_S1x2048x128_0_0_0).toLoadRect)⟩,
   ⟨Rect.unit (s := S2304x512) ![0, 384] S256x128.size inb_S2304x512_S256x128_0_384,
     hi256 (ldr X (Rect.unit (s := S1x256x256) ![0, 0, 0] S1x256x128.size inb_S1x256x256_S1x256x128_0_0_0).toLoadRect)⟩,
   ⟨Rect.unit (s := S2304x512) ![0, 256] S256x128.size inb_S2304x512_S256x128_0_256,
     lo256 (ldr X (Rect.unit (s := S1x256x256) ![0, 0, 128] S1x256x128.size inb_S1x256x256_S1x256x128_0_0_128).toLoadRect)⟩,
   ⟨Rect.unit (s := S2304x512) ![0, 128] S256x128.size inb_S2304x512_S256x128_0_128,
     hi256 (ldr X (Rect.unit (s := S1x256x256) ![0, 0, 128] S1x256x128.size inb_S1x256x256_S1x256x128_0_0_128).toLoadRect)⟩,
   ⟨Rect.unit (s := S2304x512) ![0, 0] S256x128.size inb_S2304x512_S256x128_0_0,
     lo256 (ldr X (Rect.unit (s := S1x256x256) ![0, 0, 0] S1x256x128.size inb_S1x256x256_S1x256x128_0_0_0).toLoadRect)⟩]

/-- The stores that stage the values, the last first. -/
def valStores (X : Vec F S1x256x256 .bf16) (Y : Vec F S1x2048x256 .bf16) : List (View.Piece (Elt F) S2304x1024 .bf16) :=
  [⟨Rect.unit (s := S2304x1024) ![256, 768] S2048x128.size inb_S2304x1024_S2048x128_256_768,
     hi2048 (ldr Y (Rect.unit (s := S1x2048x256) ![0, 0, 0] S1x2048x128.size inb_S1x2048x256_S1x2048x128_0_0_0).toLoadRect)⟩,
   ⟨Rect.unit (s := S2304x1024) ![256, 512] S2048x128.size inb_S2304x1024_S2048x128_256_512,
     lo2048 (ldr Y (Rect.unit (s := S1x2048x256) ![0, 0, 128] S1x2048x128.size inb_S1x2048x256_S1x2048x128_0_0_128).toLoadRect)⟩,
   ⟨Rect.unit (s := S2304x1024) ![256, 256] S2048x128.size inb_S2304x1024_S2048x128_256_256,
     hi2048 (ldr Y (Rect.unit (s := S1x2048x256) ![0, 0, 128] S1x2048x128.size inb_S1x2048x256_S1x2048x128_0_0_128).toLoadRect)⟩,
   ⟨Rect.unit (s := S2304x1024) ![256, 0] S2048x128.size inb_S2304x1024_S2048x128_256_0,
     lo2048 (ldr Y (Rect.unit (s := S1x2048x256) ![0, 0, 0] S1x2048x128.size inb_S1x2048x256_S1x2048x128_0_0_0).toLoadRect)⟩,
   ⟨Rect.unit (s := S2304x1024) ![0, 768] S256x128.size inb_S2304x1024_S256x128_0_768,
     hi256 (ldr X (Rect.unit (s := S1x256x256) ![0, 0, 0] S1x256x128.size inb_S1x256x256_S1x256x128_0_0_0).toLoadRect)⟩,
   ⟨Rect.unit (s := S2304x1024) ![0, 512] S256x128.size inb_S2304x1024_S256x128_0_512,
     lo256 (ldr X (Rect.unit (s := S1x256x256) ![0, 0, 128] S1x256x128.size inb_S1x256x256_S1x256x128_0_0_128).toLoadRect)⟩,
   ⟨Rect.unit (s := S2304x1024) ![0, 256] S256x128.size inb_S2304x1024_S256x128_0_256,
     hi256 (ldr X (Rect.unit (s := S1x256x256) ![0, 0, 128] S1x256x128.size inb_S1x256x256_S1x256x128_0_0_128).toLoadRect)⟩,
   ⟨Rect.unit (s := S2304x1024) ![0, 0] S256x128.size inb_S2304x1024_S256x128_0_0,
     lo256 (ldr X (Rect.unit (s := S1x256x256) ![0, 0, 0] S1x256x128.size inb_S1x256x256_S1x256x128_0_0_0).toLoadRect)⟩]

/-- The stores of the ones, the last first. -/
def oneStores : List (View.Piece (Elt F) S2304x1024 .bf16) :=
  [⟨Rect.unit (s := S2304x1024) ![0, 896] S2304x128.size inb_S2304x1024_S2304x128_0_896, k0_pay37⟩,
   ⟨Rect.unit (s := S2304x1024) ![0, 640] S2304x128.size inb_S2304x1024_S2304x128_0_640, k0_pay37⟩,
   ⟨Rect.unit (s := S2304x1024) ![0, 384] S2304x128.size inb_S2304x1024_S2304x128_0_384, k0_pay37⟩,
   ⟨Rect.unit (s := S2304x1024) ![0, 128] S2304x128.size inb_S2304x1024_S2304x128_0_128, k0_pay37⟩]

theorem keys_A (c : Dev nD) (i : grid0.Coords) (a2 : Memref sig .tc .vmem S1x2048x384 .f32) (h2 : a2.IsWhole) (a3 : Memref sig .tc .vmem S1x2048x384 .bf16) (h3 : a3.IsWhole) (a4 : Memref sig .tc .vmem S1x256x256 .bf16) (h4 : a4.IsWhole) (a5 : Memref sig .tc .vmem S1x256x256 .bf16) (h5 : a5.IsWhole) (a6 : Memref sig .tc .vmem S1x2048x256 .bf16) (h6 : a6.IsWhole) (a7 : Memref sig .tc .vmem S1x2048x256 .bf16) (h7 : a7.IsWhole) (a8 : Memref sig .tc .vmem S1x2048x384 .bf16) (h8 : a8.IsWhole) (a9 : Memref sig .tc .vmem S2304x512 .bf16) (h9 : a9.IsWhole) (a10 : Memref sig .tc .vmem S2304x1024 .bf16) (h10 : a10.IsWhole) (hc0 : cond0_0 i) (hc1 : cond0_1 i)
    (x0 : Vec F S1x2048x384 .f32) (x1 : Vec F S1x2048x384 .bf16) (x2 : Vec F S1x256x256 .bf16) (x3 : Vec F S1x256x256 .bf16) (x4 : Vec F S1x2048x256 .bf16) (x5 : Vec F S1x2048x256 .bf16) :
    (kernelRun0_A c i a2 h2 a3 h3 a4 h4 a5 h5 a6 h6 a7 h7 a8 h8 a9 h9 a10 h10 hc0 hc1 x0 x1 x2 x3 x4 x5).2.2.1 = keyStores (a4.view.read (Elt F) (h4.unread x2)) (a6.view.read (Elt F) (h6.unread x4)) := rfl

theorem vals_A (c : Dev nD) (i : grid0.Coords) (a2 : Memref sig .tc .vmem S1x2048x384 .f32) (h2 : a2.IsWhole) (a3 : Memref sig .tc .vmem S1x2048x384 .bf16) (h3 : a3.IsWhole) (a4 : Memref sig .tc .vmem S1x256x256 .bf16) (h4 : a4.IsWhole) (a5 : Memref sig .tc .vmem S1x256x256 .bf16) (h5 : a5.IsWhole) (a6 : Memref sig .tc .vmem S1x2048x256 .bf16) (h6 : a6.IsWhole) (a7 : Memref sig .tc .vmem S1x2048x256 .bf16) (h7 : a7.IsWhole) (a8 : Memref sig .tc .vmem S1x2048x384 .bf16) (h8 : a8.IsWhole) (a9 : Memref sig .tc .vmem S2304x512 .bf16) (h9 : a9.IsWhole) (a10 : Memref sig .tc .vmem S2304x1024 .bf16) (h10 : a10.IsWhole) (hc0 : cond0_0 i) (hc1 : cond0_1 i)
    (x0 : Vec F S1x2048x384 .f32) (x1 : Vec F S1x2048x384 .bf16) (x2 : Vec F S1x256x256 .bf16) (x3 : Vec F S1x256x256 .bf16) (x4 : Vec F S1x2048x256 .bf16) (x5 : Vec F S1x2048x256 .bf16) :
    (kernelRun0_A c i a2 h2 a3 h3 a4 h4 a5 h5 a6 h6 a7 h7 a8 h8 a9 h9 a10 h10 hc0 hc1 x0 x1 x2 x3 x4 x5).2.1 = oneStores ++ valStores (a5.view.read (Elt F) (h5.unread x3)) (a7.view.read (Elt F) (h7.unread x5)) := rfl

theorem keys_B (c : Dev nD) (i : grid0.Coords) (a2 : Memref sig .tc .vmem S1x2048x384 .f32) (h2 : a2.IsWhole) (a3 : Memref sig .tc .vmem S1x2048x384 .bf16) (h3 : a3.IsWhole) (a4 : Memref sig .tc .vmem S1x256x256 .bf16) (h4 : a4.IsWhole) (a5 : Memref sig .tc .vmem S1x256x256 .bf16) (h5 : a5.IsWhole) (a6 : Memref sig .tc .vmem S1x2048x256 .bf16) (h6 : a6.IsWhole) (a7 : Memref sig .tc .vmem S1x2048x256 .bf16) (h7 : a7.IsWhole) (a8 : Memref sig .tc .vmem S1x2048x384 .bf16) (h8 : a8.IsWhole) (a9 : Memref sig .tc .vmem S2304x512 .bf16) (h9 : a9.IsWhole) (a10 : Memref sig .tc .vmem S2304x1024 .bf16) (h10 : a10.IsWhole) (hc0 : cond0_0 i) (hc1 : ¬cond0_1 i)
    (x0 : Vec F S1x2048x384 .f32) (x1 : Vec F S1x2048x384 .bf16) (x2 : Vec F S1x256x256 .bf16) (x3 : Vec F S1x256x256 .bf16) (x4 : Vec F S1x2048x256 .bf16) (x5 : Vec F S1x2048x256 .bf16) (xs1 : Vec F S2304x1024 .bf16) :
    (kernelRun0_B c i a2 h2 a3 h3 a4 h4 a5 h5 a6 h6 a7 h7 a8 h8 a9 h9 a10 h10 hc0 hc1 x0 x1 x2 x3 x4 x5 xs1).2.2.1 = keyStores (a4.view.read (Elt F) (h4.unread x2)) (a6.view.read (Elt F) (h6.unread x4)) := rfl

theorem vals_B (c : Dev nD) (i : grid0.Coords) (a2 : Memref sig .tc .vmem S1x2048x384 .f32) (h2 : a2.IsWhole) (a3 : Memref sig .tc .vmem S1x2048x384 .bf16) (h3 : a3.IsWhole) (a4 : Memref sig .tc .vmem S1x256x256 .bf16) (h4 : a4.IsWhole) (a5 : Memref sig .tc .vmem S1x256x256 .bf16) (h5 : a5.IsWhole) (a6 : Memref sig .tc .vmem S1x2048x256 .bf16) (h6 : a6.IsWhole) (a7 : Memref sig .tc .vmem S1x2048x256 .bf16) (h7 : a7.IsWhole) (a8 : Memref sig .tc .vmem S1x2048x384 .bf16) (h8 : a8.IsWhole) (a9 : Memref sig .tc .vmem S2304x512 .bf16) (h9 : a9.IsWhole) (a10 : Memref sig .tc .vmem S2304x1024 .bf16) (h10 : a10.IsWhole) (hc0 : cond0_0 i) (hc1 : ¬cond0_1 i)
    (x0 : Vec F S1x2048x384 .f32) (x1 : Vec F S1x2048x384 .bf16) (x2 : Vec F S1x256x256 .bf16) (x3 : Vec F S1x256x256 .bf16) (x4 : Vec F S1x2048x256 .bf16) (x5 : Vec F S1x2048x256 .bf16) (xs1 : Vec F S2304x1024 .bf16) :
    (kernelRun0_B c i a2 h2 a3 h3 a4 h4 a5 h5 a6 h6 a7 h7 a8 h8 a9 h9 a10 h10 hc0 hc1 x0 x1 x2 x3 x4 x5 xs1).2.1 = valStores (a5.view.read (Elt F) (h5.unread x3)) (a7.view.read (Elt F) (h7.unread x5)) := rfl

/-- Row `r` and column `col` of the context's array over the latents'. -/
def src (X : Vec F S1x256x256 .bf16) (Y : Vec F S1x2048x256 .bf16) (r : Fin 2304) (col : Fin 256) : Elt F .bf16 :=
  if h : r.val < 256 then X (ix3 0 ⟨r.val, h⟩ col) else Y (ix3 0 ⟨r.val - 256, by omega⟩ col)

/-- The column of the source a padded block's lane holds. -/
def srcCol (b : Fin 4) (l : Fin 128) : Fin 256 := if b.val = 0 ∨ b.val = 3 then ⟨l.val, by omega⟩ else ⟨128 + l.val, by omega⟩

/-- Padded block `b` at row `r` and lane `l`. -/
def padAt (X : Vec F S1x256x256 .bf16) (Y : Vec F S1x2048x256 .bf16) (r : Fin 2304) (b : Fin 4) (l : Fin 128) : Elt F .bf16 :=
  if l.val < 64 ↔ b.val % 2 = 0 then src X Y r (srcCol b l) else Scalar.ofBits (F := F) .bf16 0x0000#16

/-- The staged keys. -/
def keyPad (X : Vec F S1x256x256 .bf16) (Y : Vec F S1x2048x256 .bf16) : Vec F S2304x512 .bf16 := fun y =>
  padAt X Y (y 0) ⟨(y 1).val / 128, by have := (y 1).isLt; simp at this; omega⟩ ⟨(y 1).val % 128, by omega⟩

/-- The staged values, a block of ones beside each padded head. -/
def valPad (X : Vec F S1x256x256 .bf16) (Y : Vec F S1x2048x256 .bf16) : Vec F S2304x1024 .bf16 := fun y =>
  if h : (y 1).val % 256 < 128 then
    padAt X Y (y 0) ⟨(y 1).val / 256, by have := (y 1).isLt; simp at this; omega⟩ ⟨(y 1).val % 256, h⟩
  else Scalar.ofBits (F := F) .bf16 0x3F80#16

theorem lane_slt (l : Fin 128) : IntOp.cmpi CmpIPredicate.slt (BitVec.ofNat 32 l.val) 64#32 = if l.val < 64 then 1#1 else 0#1 := by
  revert l; decide

theorem lo256_at (x : Vec F S1x256x128 .bf16) (r : Fin 256) (l : Fin 128) :
    lo256 x (ix2 r l) = if l.val < 64 then x (ix3 0 r l) else Scalar.ofBits (F := F) .bf16 0x0000#16 := by
  pointwise [lo256, k0_pay2]
  rw [lane_slt]
  split_ifs <;> rfl

theorem hi256_at (x : Vec F S1x256x128 .bf16) (r : Fin 256) (l : Fin 128) :
    hi256 x (ix2 r l) = if l.val < 64 then Scalar.ofBits (F := F) .bf16 0x0000#16 else x (ix3 0 r l) := by
  pointwise [hi256, k0_pay2]
  rw [lane_slt]
  split_ifs <;> rfl

theorem lo2048_at (x : Vec F S1x2048x128 .bf16) (r : Fin 2048) (l : Fin 128) :
    lo2048 x (ix2 r l) = if l.val < 64 then x (ix3 0 r l) else Scalar.ofBits (F := F) .bf16 0x0000#16 := by
  pointwise [lo2048, k0_pay2]
  rw [lane_slt]
  split_ifs <;> rfl

theorem hi2048_at (x : Vec F S1x2048x128 .bf16) (r : Fin 2048) (l : Fin 128) :
    hi2048 x (ix2 r l) = if l.val < 64 then Scalar.ofBits (F := F) .bf16 0x0000#16 else x (ix3 0 r l) := by
  pointwise [hi2048, k0_pay2]
  rw [lane_slt]
  split_ifs <;> rfl

theorem src_ctx (X : Vec F S1x256x256 .bf16) (Y : Vec F S1x2048x256 .bf16) (r : Fin 2304) (k : Fin 256) (col : Fin 256)
    (h : r.val = k.val) : src X Y r col = X (ix3 0 k col) := by
  have h' : r.val < 256 := by omega
  unfold src
  rw [dif_pos h']
  exact congrArg (fun z => X (ix3 0 z col)) (Fin.ext h)

theorem src_lat (X : Vec F S1x256x256 .bf16) (Y : Vec F S1x2048x256 .bf16) (r : Fin 2304) (k : Fin 2048) (col : Fin 256)
    (h : r.val = 256 + k.val) : src X Y r col = Y (ix3 0 k col) := by
  have h' : ¬ r.val < 256 := by omega
  unfold src
  rw [dif_neg h']
  exact congrArg (fun z => Y (ix3 0 z col)) (Fin.ext (by simp only []; omega))

theorem padAt_ctx (X : Vec F S1x256x256 .bf16) (Y : Vec F S1x2048x256 .bf16) (r : Fin 2304) (k : Fin 256) (b : Fin 4) (l : Fin 128)
    (h : r.val = k.val) : padAt X Y r b l =
      if l.val < 64 ↔ b.val % 2 = 0 then X (ix3 0 k (srcCol b l)) else Scalar.ofBits (F := F) .bf16 0x0000#16 := by
  unfold padAt
  rw [src_ctx X Y r k _ h]

theorem padAt_lat (X : Vec F S1x256x256 .bf16) (Y : Vec F S1x2048x256 .bf16) (r : Fin 2304) (k : Fin 2048) (b : Fin 4) (l : Fin 128)
    (h : r.val = 256 + k.val) : padAt X Y r b l =
      if l.val < 64 ↔ b.val % 2 = 0 then Y (ix3 0 k (srcCol b l)) else Scalar.ofBits (F := F) .bf16 0x0000#16 := by
  unfold padAt
  rw [src_lat X Y r k _ h]

theorem keyPad_at (X : Vec F S1x256x256 .bf16) (Y : Vec F S1x2048x256 .bf16) (y : S2304x512.Idx) (b : Fin 4) (l : Fin 128)
    (h : (y 1).val = 128 * b.val + l.val) : keyPad X Y y = padAt X Y (y 0) b l := by
  unfold keyPad
  congr 1
  · exact Fin.ext (by simp only []; omega)
  · exact Fin.ext (by simp only []; omega)

theorem valPad_at (X : Vec F S1x256x256 .bf16) (Y : Vec F S1x2048x256 .bf16) (y : S2304x1024.Idx) (b : Fin 4) (l : Fin 128)
    (h : (y 1).val = 256 * b.val + l.val) : valPad X Y y = padAt X Y (y 0) b l := by
  unfold valPad
  rw [dif_pos (by omega)]
  congr 1
  · exact Fin.ext (by simp only []; omega)
  · exact Fin.ext (by simp only []; omega)

theorem valPad_one (X : Vec F S1x256x256 .bf16) (Y : Vec F S1x2048x256 .bf16) (y : S2304x1024.Idx)
    (h : ¬ (y 1).val % 256 < 128) : valPad X Y y = Scalar.ofBits (F := F) .bf16 0x3F80#16 := by
  unfold valPad
  rw [dif_neg h]

/-- The buffer's contents after its stores: where the stores agree with one function and an index is
either stored to or held that function's value before, the function. -/
theorem read_stores {s : Shape} {e : EltTy} {sp : Space} (v : View sig .tc sp s e) (f : v.ty.Contents (Elt F))
    (L : List (View.Piece (Elt F) s e)) (G : Vec F s e) (hG : View.PiecesOf (Val := Elt F) G L) (y : s.Idx)
    (hy : (∃ p ∈ L, y ∈ p.1.set) ∨ v.read (Elt F) f y = G y) : v.read (Elt F) (v.writes (Elt F) f L) y = G y := by
  by_cases hc : ∃ p ∈ L, y ∈ p.1.set
  · rw [View.read_writes_apply_eq_canon v f y L hc]
    have := View.canon_append_of_piecesOf (Val := Elt F) G [] L hG y hc
    rwa [List.append_nil] at this
  · rw [View.read_writes_apply_of_forall_not_mem v f y L (fun p hp hm => hc ⟨p, hp, hm⟩)]
    exact hy.resolve_left hc

theorem keys_agree (X : Vec F S1x256x256 .bf16) (Y : Vec F S1x2048x256 .bf16) :
    View.PiecesOf (Val := Elt F) (keyPad X Y) (keyStores X Y) := by
  refine ⟨?_, ?_, ?_, ?_, ?_, ?_, ?_, ?_, trivial⟩
  · intro x
    idx_vars x
    refine (hi2048_at _ x0 x1).trans (.trans ?_ (((keyPad_at X Y _ 3 x1 (by simp [Rect.emb_apply])).trans
      (padAt_lat X Y _ x0 _ _ (by simp [Rect.emb_apply])))).symm)
    by_cases hl : x1.val < 64 <;> simp [hl, srcCol, ldr] <;> exact congrArg Y (by idx_ext)
  · intro x
    idx_vars x
    refine (lo2048_at _ x0 x1).trans (.trans ?_ (((keyPad_at X Y _ 2 x1 (by simp [Rect.emb_apply])).trans
      (padAt_lat X Y _ x0 _ _ (by simp [Rect.emb_apply])))).symm)
    by_cases hl : x1.val < 64 <;> simp [hl, srcCol, ldr] <;> exact congrArg Y (by idx_ext)
  · intro x
    idx_vars x
    refine (hi2048_at _ x0 x1).trans (.trans ?_ (((keyPad_at X Y _ 1 x1 (by simp [Rect.emb_apply])).trans
      (padAt_lat X Y _ x0 _ _ (by simp [Rect.emb_apply])))).symm)
    by_cases hl : x1.val < 64 <;> simp [hl, srcCol, ldr] <;> exact congrArg Y (by idx_ext)
  · intro x
    idx_vars x
    refine (lo2048_at _ x0 x1).trans (.trans ?_ (((keyPad_at X Y _ 0 x1 (by simp [Rect.emb_apply])).trans
      (padAt_lat X Y _ x0 _ _ (by simp [Rect.emb_apply])))).symm)
    by_cases hl : x1.val < 64 <;> simp [hl, srcCol, ldr] <;> exact congrArg Y (by idx_ext)
  · intro x
    idx_vars x
    refine (hi256_at _ x0 x1).trans (.trans ?_ (((keyPad_at X Y _ 3 x1 (by simp [Rect.emb_apply])).trans
      (padAt_ctx X Y _ x0 _ _ (by simp [Rect.emb_apply])))).symm)
    by_cases hl : x1.val < 64 <;> simp [hl, srcCol, ldr] <;> exact congrArg X (by idx_ext)
  · intro x
    idx_vars x
    refine (lo256_at _ x0 x1).trans (.trans ?_ (((keyPad_at X Y _ 2 x1 (by simp [Rect.emb_apply])).trans
      (padAt_ctx X Y _ x0 _ _ (by simp [Rect.emb_apply])))).symm)
    by_cases hl : x1.val < 64 <;> simp [hl, srcCol, ldr] <;> exact congrArg X (by idx_ext)
  · intro x
    idx_vars x
    refine (hi256_at _ x0 x1).trans (.trans ?_ (((keyPad_at X Y _ 1 x1 (by simp [Rect.emb_apply])).trans
      (padAt_ctx X Y _ x0 _ _ (by simp [Rect.emb_apply])))).symm)
    by_cases hl : x1.val < 64 <;> simp [hl, srcCol, ldr] <;> exact congrArg X (by idx_ext)
  · intro x
    idx_vars x
    refine (lo256_at _ x0 x1).trans (.trans ?_ (((keyPad_at X Y _ 0 x1 (by simp [Rect.emb_apply])).trans
      (padAt_ctx X Y _ x0 _ _ (by simp [Rect.emb_apply])))).symm)
    by_cases hl : x1.val < 64 <;> simp [hl, srcCol, ldr] <;> exact congrArg X (by idx_ext)

theorem vals_agree (X : Vec F S1x256x256 .bf16) (Y : Vec F S1x2048x256 .bf16) :
    View.PiecesOf (Val := Elt F) (valPad X Y) (valStores X Y) := by
  refine ⟨?_, ?_, ?_, ?_, ?_, ?_, ?_, ?_, trivial⟩
  · intro x
    idx_vars x
    refine (hi2048_at _ x0 x1).trans (.trans ?_ (((valPad_at X Y _ 3 x1 (by simp [Rect.emb_apply])).trans
      (padAt_lat X Y _ x0 _ _ (by simp [Rect.emb_apply])))).symm)
    by_cases hl : x1.val < 64 <;> simp [hl, srcCol, ldr] <;> exact congrArg Y (by idx_ext)
  · intro x
    idx_vars x
    refine (lo2048_at _ x0 x1).trans (.trans ?_ (((valPad_at X Y _ 2 x1 (by simp [Rect.emb_apply])).trans
      (padAt_lat X Y _ x0 _ _ (by simp [Rect.emb_apply])))).symm)
    by_cases hl : x1.val < 64 <;> simp [hl, srcCol, ldr] <;> exact congrArg Y (by idx_ext)
  · intro x
    idx_vars x
    refine (hi2048_at _ x0 x1).trans (.trans ?_ (((valPad_at X Y _ 1 x1 (by simp [Rect.emb_apply])).trans
      (padAt_lat X Y _ x0 _ _ (by simp [Rect.emb_apply])))).symm)
    by_cases hl : x1.val < 64 <;> simp [hl, srcCol, ldr] <;> exact congrArg Y (by idx_ext)
  · intro x
    idx_vars x
    refine (lo2048_at _ x0 x1).trans (.trans ?_ (((valPad_at X Y _ 0 x1 (by simp [Rect.emb_apply])).trans
      (padAt_lat X Y _ x0 _ _ (by simp [Rect.emb_apply])))).symm)
    by_cases hl : x1.val < 64 <;> simp [hl, srcCol, ldr] <;> exact congrArg Y (by idx_ext)
  · intro x
    idx_vars x
    refine (hi256_at _ x0 x1).trans (.trans ?_ (((valPad_at X Y _ 3 x1 (by simp [Rect.emb_apply])).trans
      (padAt_ctx X Y _ x0 _ _ (by simp [Rect.emb_apply])))).symm)
    by_cases hl : x1.val < 64 <;> simp [hl, srcCol, ldr] <;> exact congrArg X (by idx_ext)
  · intro x
    idx_vars x
    refine (lo256_at _ x0 x1).trans (.trans ?_ (((valPad_at X Y _ 2 x1 (by simp [Rect.emb_apply])).trans
      (padAt_ctx X Y _ x0 _ _ (by simp [Rect.emb_apply])))).symm)
    by_cases hl : x1.val < 64 <;> simp [hl, srcCol, ldr] <;> exact congrArg X (by idx_ext)
  · intro x
    idx_vars x
    refine (hi256_at _ x0 x1).trans (.trans ?_ (((valPad_at X Y _ 1 x1 (by simp [Rect.emb_apply])).trans
      (padAt_ctx X Y _ x0 _ _ (by simp [Rect.emb_apply])))).symm)
    by_cases hl : x1.val < 64 <;> simp [hl, srcCol, ldr] <;> exact congrArg X (by idx_ext)
  · intro x
    idx_vars x
    refine (lo256_at _ x0 x1).trans (.trans ?_ (((valPad_at X Y _ 0 x1 (by simp [Rect.emb_apply])).trans
      (padAt_ctx X Y _ x0 _ _ (by simp [Rect.emb_apply])))).symm)
    by_cases hl : x1.val < 64 <;> simp [hl, srcCol, ldr] <;> exact congrArg X (by idx_ext)

theorem ones_agree (X : Vec F S1x256x256 .bf16) (Y : Vec F S1x2048x256 .bf16) :
    View.PiecesOf (Val := Elt F) (valPad X Y) oneStores := by
  refine ⟨?_, ?_, ?_, ?_, trivial⟩ <;>
  · intro x
    idx_vars x
    refine .trans ?_ (valPad_one X Y _ (by simp [Rect.emb_apply]; omega)).symm
    pointwise [k0_pay37]

theorem keys_cover (X : Vec F S1x256x256 .bf16) (Y : Vec F S1x2048x256 .bf16) (y : S2304x512.Idx) :
    ∃ p ∈ keyStores X Y, y ∈ p.1.set :=
  View.cover_of_tiledBy (keyStores X Y) ![256, 128] (by sl_kernel_rfl) y

theorem vals_cover (X : Vec F S1x256x256 .bf16) (Y : Vec F S1x2048x256 .bf16) (y : S2304x1024.Idx) :
    ∃ p ∈ oneStores ++ valStores X Y, y ∈ p.1.set :=
  View.cover_of_tiledBy (oneStores ++ valStores X Y) ![256, 128] (by sl_kernel_rfl) y

theorem ones_col (y : S2304x1024.Idx) (p : View.Piece (Elt F) S2304x1024 .bf16) (hp : p ∈ oneStores (F := F)) (hy : y ∈ p.1.set) :
    ¬ (y 1).val % 256 < 128 := by
  unfold oneStores at hp
  simp only [List.mem_cons, List.not_mem_nil, or_false] at hp
  rcases hp with rfl | rfl | rfl | rfl <;>
  · obtain ⟨j, hj, he⟩ := LoadRect.mem_set _ |>.mp hy 1
    simp at hj he
    omega

/-- The key scratch, after its stores: the padded keys. -/
theorem keys_read {sp : Space} (v : View sig .tc sp S2304x512 .bf16) (f : v.ty.Contents (Elt F))
    (X : Vec F S1x256x256 .bf16) (Y : Vec F S1x2048x256 .bf16) :
    v.read (Elt F) (v.writes (Elt F) f (keyStores X Y)) = keyPad X Y :=
  funext fun y => read_stores v f _ _ (keys_agree X Y) y (.inl (keys_cover X Y y))

theorem piecesOf_append {s : Shape} {e : EltTy} (G : Vec F s e) : ∀ (L L' : List (View.Piece (Elt F) s e)),
    View.PiecesOf (Val := Elt F) G L → View.PiecesOf (Val := Elt F) G L' → View.PiecesOf (Val := Elt F) G (L ++ L')
  | [], _, _, h => h
  | _ :: L, L', h, h' => ⟨h.1, piecesOf_append G L L' h.2 h'⟩

/-- The value scratch, after the stores of a point that also stores the ones. -/
theorem vals_read_A {sp : Space} (v : View sig .tc sp S2304x1024 .bf16) (f : v.ty.Contents (Elt F))
    (X : Vec F S1x256x256 .bf16) (Y : Vec F S1x2048x256 .bf16) :
    v.read (Elt F) (v.writes (Elt F) f (oneStores ++ valStores X Y)) = valPad X Y :=
  funext fun y => read_stores v f _ _ (piecesOf_append _ _ _ (ones_agree X Y) (vals_agree X Y)) y (.inl (vals_cover X Y y))

/-- The value scratch, after the stores of a point that finds the ones in it. -/
theorem vals_read_B {sp : Space} (v : View sig .tc sp S2304x1024 .bf16) (f : v.ty.Contents (Elt F))
    (X : Vec F S1x256x256 .bf16) (Y : Vec F S1x2048x256 .bf16)
    (hf : ∀ y : S2304x1024.Idx, ¬ (y 1).val % 256 < 128 → v.read (Elt F) f y = Scalar.ofBits (F := F) .bf16 0x3F80#16) :
    v.read (Elt F) (v.writes (Elt F) f (valStores X Y)) = valPad X Y :=
  funext fun y => read_stores v f _ _ (vals_agree X Y) y (by
    by_cases h : (y 1).val % 256 < 128
    · obtain ⟨p, hp, hy⟩ := vals_cover X Y y
      rcases List.mem_append.mp hp with hp | hp
      · exact absurd h (ones_col y p hp hy)
      · exact .inl ⟨p, hp, hy⟩
    · exact .inr ((hf y h).trans (valPad_one X Y y h).symm))

end Cert.KernelIdeal.Att
end
-- ==== Proof.Block.lean ====
module
public import proofs.«01_k».proof.Proof.HeadAt
public import proofs.«01_k».proof.Proof.Stage
@[expose] public section
set_option maxRecDepth 16384
set_option synthInstance.maxSize 4096
noncomputable section
open Idealize.ShloMosaic Idealize.ShloMosaic.TcCoe Idealize.SL.Sem
namespace Cert.KernelIdeal.Att
open Cert.KernelIdeal Cert.KernelIdeal.Gen

/-! The output block of one grid point, read at an index: two padded heads, gated. -/

/-- The scale the queries take in the kernel: the score's 1/8 over the natural logarithm of 2. -/
def qscale : EReal := (((Real.log 2)⁻¹ * (1 / 8) : ℝ) : EReal)

/-- Padded key block `b`. -/
def kcol (K : Vec Ideal S2304x512 .bf16) (b : Fin 4) (j : Fin 2304) (d : Fin 128) : EReal := K (ix2 j ⟨128 * b.val + d.val, by omega⟩)

/-- Padded value block `b` and its ones. -/
def vcol (V : Vec Ideal S2304x1024 .bf16) (b : Fin 4) (j : Fin 2304) (l : Fin 256) : EReal := V (ix2 j ⟨256 * b.val + l.val, by omega⟩)

/-- A query row against padded head `b`. -/
def headOf (K : Vec Ideal S2304x512 .bf16) (V : Vec Ideal S2304x1024 .bf16) (b : Fin 4) (q : Fin 128 → EReal) (l : Fin 128) : EReal :=
  headRow (scoreRow q (kcol K b)) (vcol V b) l

/-- The padded heads a pair of query heads reads. -/
def evenBlk (p : Fin 3) : Fin 4 := if p.val = 2 then 2 else 0
def oddBlk (p : Fin 3) : Fin 4 := if p.val = 0 then 1 else 3

/-- A query row against its pair of padded heads. -/
def pairOf (K : Vec Ideal S2304x512 .bf16) (V : Vec Ideal S2304x1024 .bf16) (p : Fin 3) (q : Fin 128 → EReal) (l : Fin 128) : EReal :=
  headOf K V (evenBlk p) q l + headOf K V (oddBlk p) q l

/-- The output block of a grid point. -/
def outBlk (Q : Vec Ideal S1x2048x384 .f32) (G : Vec Ideal S1x2048x384 .bf16) (K : Vec Ideal S2304x512 .bf16)
    (V : Vec Ideal S2304x1024 .bf16) : Vec Ideal S1x2048x384 .bf16 := fun y =>
  (show EReal from pairOf K V ⟨(y 2).val / 128, by have := (y 2).isLt; simp at this; omega⟩
    (fun d => (show EReal from Q (ix3 0 (y 1) ⟨128 * ((y 2).val / 128) + d.val, by have := (y 2).isLt; simp at this; omega⟩)) * qscale)
    ⟨(y 2).val % 128, by omega⟩) * (show EReal from G y)

theorem outBlk_at (Q : Vec Ideal S1x2048x384 .f32) (G : Vec Ideal S1x2048x384 .bf16) (K : Vec Ideal S2304x512 .bf16)
    (V : Vec Ideal S2304x1024 .bf16) (y : S1x2048x384.Idx) (p : Fin 3) (l : Fin 128) (t : Fin 2048) (h1 : (y 1).val = t.val)
    (h : (y 2).val = 128 * p.val + l.val) :
    outBlk Q G K V y = (show EReal from pairOf K V p (fun d => (show EReal from Q (ix3 0 t ⟨128 * p.val + d.val, by omega⟩)) * qscale) l)
      * (show EReal from G y) := by
  obtain ⟨i0, i1, i2, rfl⟩ : ∃ (i0 : Fin 1) (i1 : Fin 2048) (i2 : Fin 384), y = ix3 i0 i1 i2 := ⟨y 0, y 1, y 2, eq_ix3 y⟩
  obtain rfl : i1 = t := Fin.ext h1
  have h' : i2.val = 128 * p.val + l.val := h
  have hp : i2.val / 128 = p.val := by omega
  have hl : i2.val % 128 = l.val := by omega
  show pairOf K V ⟨i2.val / 128, _⟩ (fun d => (show EReal from Q (ix3 0 i1 ⟨128 * (i2.val / 128) + d.val, _⟩)) * qscale) ⟨i2.val % 128, _⟩ * _ = _
  simp only [hp, hl]

theorem head0_at (K : Vec Ideal S2304x512 .bf16) (V : Vec Ideal S2304x1024 .bf16) (qp : FVec Ideal S256x128 .bf16)
    (r : Fin 256) (l : Fin 128) : head0 K V qp (ix2 r l) = headOf K V 0 (fun d => qp (ix2 r d)) l := by
  refine head_at qp _ _ _ _ _ _ (kcol K 0) (vcol V 0) r ?_ ?_ ?_ ?_ ?_ ?_ l
  · exact fun i d => congrArg K (by simp only [key]; idx_ext)
  · exact fun i d => congrArg K (by simp only [key]; idx_ext)
  · exact fun i d => congrArg K (by simp only [key]; idx_ext)
  · exact fun i d => congrArg V (by simp only [key]; idx_ext)
  · exact fun i d => congrArg V (by simp only [key]; idx_ext)
  · exact fun i d => congrArg V (by simp only [key]; idx_ext)

theorem head1_at (K : Vec Ideal S2304x512 .bf16) (V : Vec Ideal S2304x1024 .bf16) (qp : FVec Ideal S256x128 .bf16)
    (r : Fin 256) (l : Fin 128) : head1 K V qp (ix2 r l) = headOf K V 1 (fun d => qp (ix2 r d)) l := by
  refine head_at qp _ _ _ _ _ _ (kcol K 1) (vcol V 1) r ?_ ?_ ?_ ?_ ?_ ?_ l
  · exact fun i d => congrArg K (by simp only [key]; idx_ext)
  · exact fun i d => congrArg K (by simp only [key]; idx_ext)
  · exact fun i d => congrArg K (by simp only [key]; idx_ext)
  · exact fun i d => congrArg V (by simp only [key]; idx_ext)
  · exact fun i d => congrArg V (by simp only [key]; idx_ext)
  · exact fun i d => congrArg V (by simp only [key]; idx_ext)

theorem head2_at (K : Vec Ideal S2304x512 .bf16) (V : Vec Ideal S2304x1024 .bf16) (qp : FVec Ideal S256x128 .bf16)
    (r : Fin 256) (l : Fin 128) : head2 K V qp (ix2 r l) = headOf K V 2 (fun d => qp (ix2 r d)) l := by
  refine head_at qp _ _ _ _ _ _ (kcol K 2) (vcol V 2) r ?_ ?_ ?_ ?_ ?_ ?_ l
  · exact fun i d => congrArg K (by simp only [key]; idx_ext)
  · exact fun i d => congrArg K (by simp only [key]; idx_ext)
  · exact fun i d => congrArg K (by simp only [key]; idx_ext)
  · exact fun i d => congrArg V (by simp only [key]; idx_ext)
  · exact fun i d => congrArg V (by simp only [key]; idx_ext)
  · exact fun i d => congrArg V (by simp only [key]; idx_ext)

theorem head3_at (K : Vec Ideal S2304x512 .bf16) (V : Vec Ideal S2304x1024 .bf16) (qp : FVec Ideal S256x128 .bf16)
    (r : Fin 256) (l : Fin 128) : head3 K V qp (ix2 r l) = headOf K V 3 (fun d => qp (ix2 r d)) l := by
  refine head_at qp _ _ _ _ _ _ (kcol K 3) (vcol V 3) r ?_ ?_ ?_ ?_ ?_ ?_ l
  · exact fun i d => congrArg K (by simp only [key]; idx_ext)
  · exact fun i d => congrArg K (by simp only [key]; idx_ext)
  · exact fun i d => congrArg K (by simp only [key]; idx_ext)
  · exact fun i d => congrArg V (by simp only [key]; idx_ext)
  · exact fun i d => congrArg V (by simp only [key]; idx_ext)
  · exact fun i d => congrArg V (by simp only [key]; idx_ext)

theorem tile0_at (K : Vec Ideal S2304x512 .bf16) (V : Vec Ideal S2304x1024 .bf16) (q : Vec Ideal S1x256x128 .f32)
    (g : Vec Ideal S1x256x128 .bf16) (r : Fin 256) (l : Fin 128) :
    tile0 K V q g (ix3 0 r l) = pairOf K V 0 (fun d => (show EReal from q (ix3 0 r d)) * qscale) l * (show EReal from g (ix3 0 r l)) := by
  refine (gated_at _ _ g r l).trans ?_
  rw [head0_at, head1_at]
  simp only [qpart_at]
  rfl

theorem tile1_at (K : Vec Ideal S2304x512 .bf16) (V : Vec Ideal S2304x1024 .bf16) (q : Vec Ideal S1x256x128 .f32)
    (g : Vec Ideal S1x256x128 .bf16) (r : Fin 256) (l : Fin 128) :
    tile1 K V q g (ix3 0 r l) = pairOf K V 1 (fun d => (show EReal from q (ix3 0 r d)) * qscale) l * (show EReal from g (ix3 0 r l)) := by
  refine (gated_at _ _ g r l).trans ?_
  rw [head0_at, head3_at]
  simp only [qpart_at]
  rfl

theorem tile2_at (K : Vec Ideal S2304x512 .bf16) (V : Vec Ideal S2304x1024 .bf16) (q : Vec Ideal S1x256x128 .f32)
    (g : Vec Ideal S1x256x128 .bf16) (r : Fin 256) (l : Fin 128) :
    tile2 K V q g (ix3 0 r l) = pairOf K V 2 (fun d => (show EReal from q (ix3 0 r d)) * qscale) l * (show EReal from g (ix3 0 r l)) := by
  refine (gated_at _ _ g r l).trans ?_
  rw [head2_at, head3_at]
  simp only [qpart_at]
  rfl

/-- Every store of the output agrees with `outBlk`. -/
theorem stores_agree (Q : Vec Ideal S1x2048x384 .f32) (G : Vec Ideal S1x2048x384 .bf16) (K : Vec Ideal S2304x512 .bf16)
    (V : Vec Ideal S2304x1024 .bf16) : View.PiecesOf (Val := Elt Ideal) (outBlk Q G K V) (stores Q G K V) := by
  refine ⟨?_, ?_, ?_, ?_, ?_, ?_, ?_, ?_, ?_, ?_, ?_, ?_, ?_, ?_, ?_, ?_, ?_, ?_, ?_, ?_, ?_, ?_, ?_, ?_, trivial⟩
  · intro x
    idx_vars x
    obtain rfl : x0 = 0 := Subsingleton.elim _ _
    refine (tile2_at K V _ _ x1 x2).trans (.trans ?_ (outBlk_at Q G K V _ 2 x2 ⟨1792 + x1.val, by omega⟩ (by simp [Rect.emb_apply]) (by simp [Rect.emb_apply])).symm)
    exact Ideal.mul_congr (congrArg (fun w => pairOf K V 2 w x2) (funext fun d => congrArg (fun z => (show EReal from Q z) * qscale) (by idx_ext))) rfl
  · intro x
    idx_vars x
    obtain rfl : x0 = 0 := Subsingleton.elim _ _
    refine (tile1_at K V _ _ x1 x2).trans (.trans ?_ (outBlk_at Q G K V _ 1 x2 ⟨1792 + x1.val, by omega⟩ (by simp [Rect.emb_apply]) (by simp [Rect.emb_apply])).symm)
    exact Ideal.mul_congr (congrArg (fun w => pairOf K V 1 w x2) (funext fun d => congrArg (fun z => (show EReal from Q z) * qscale) (by idx_ext))) rfl
  · intro x
    idx_vars x
    obtain rfl : x0 = 0 := Subsingleton.elim _ _
    refine (tile0_at K V _ _ x1 x2).trans (.trans ?_ (outBlk_at Q G K V _ 0 x2 ⟨1792 + x1.val, by omega⟩ (by simp [Rect.emb_apply]) (by simp [Rect.emb_apply])).symm)
    exact Ideal.mul_congr (congrArg (fun w => pairOf K V 0 w x2) (funext fun d => congrArg (fun z => (show EReal from Q z) * qscale) (by idx_ext))) rfl
  · intro x
    idx_vars x
    obtain rfl : x0 = 0 := Subsingleton.elim _ _
    refine (tile2_at K V _ _ x1 x2).trans (.trans ?_ (outBlk_at Q G K V _ 2 x2 ⟨1536 + x1.val, by omega⟩ (by simp [Rect.emb_apply]) (by simp [Rect.emb_apply])).symm)
    exact Ideal.mul_congr (congrArg (fun w => pairOf K V 2 w x2) (funext fun d => congrArg (fun z => (show EReal from Q z) * qscale) (by idx_ext))) rfl
  · intro x
    idx_vars x
    obtain rfl : x0 = 0 := Subsingleton.elim _ _
    refine (tile1_at K V _ _ x1 x2).trans (.trans ?_ (outBlk_at Q G K V _ 1 x2 ⟨1536 + x1.val, by omega⟩ (by simp [Rect.emb_apply]) (by simp [Rect.emb_apply])).symm)
    exact Ideal.mul_congr (congrArg (fun w => pairOf K V 1 w x2) (funext fun d => congrArg (fun z => (show EReal from Q z) * qscale) (by idx_ext))) rfl
  · intro x
    idx_vars x
    obtain rfl : x0 = 0 := Subsingleton.elim _ _
    refine (tile0_at K V _ _ x1 x2).trans (.trans ?_ (outBlk_at Q G K V _ 0 x2 ⟨1536 + x1.val, by omega⟩ (by simp [Rect.emb_apply]) (by simp [Rect.emb_apply])).symm)
    exact Ideal.mul_congr (congrArg (fun w => pairOf K V 0 w x2) (funext fun d => congrArg (fun z => (show EReal from Q z) * qscale) (by idx_ext))) rfl
  · intro x
    idx_vars x
    obtain rfl : x0 = 0 := Subsingleton.elim _ _
    refine (tile2_at K V _ _ x1 x2).trans (.trans ?_ (outBlk_at Q G K V _ 2 x2 ⟨1280 + x1.val, by omega⟩ (by simp [Rect.emb_apply]) (by simp [Rect.emb_apply])).symm)
    exact Ideal.mul_congr (congrArg (fun w => pairOf K V 2 w x2) (funext fun d => congrArg (fun z => (show EReal from Q z) * qscale) (by idx_ext))) rfl
  · intro x
    idx_vars x
    obtain rfl : x0 = 0 := Subsingleton.elim _ _
    refine (tile1_at K V _ _ x1 x2).trans (.trans ?_ (outBlk_at Q G K V _ 1 x2 ⟨1280 + x1.val, by omega⟩ (by simp [Rect.emb_apply]) (by simp [Rect.emb_apply])).symm)
    exact Ideal.mul_congr (congrArg (fun w => pairOf K V 1 w x2) (funext fun d => congrArg (fun z => (show EReal from Q z) * qscale) (by idx_ext))) rfl
  · intro x
    idx_vars x
    obtain rfl : x0 = 0 := Subsingleton.elim _ _
    refine (tile0_at K V _ _ x1 x2).trans (.trans ?_ (outBlk_at Q G K V _ 0 x2 ⟨1280 + x1.val, by omega⟩ (by simp [Rect.emb_apply]) (by simp [Rect.emb_apply])).symm)
    exact Ideal.mul_congr (congrArg (fun w => pairOf K V 0 w x2) (funext fun d => congrArg (fun z => (show EReal from Q z) * qscale) (by idx_ext))) rfl
  · intro x
    idx_vars x
    obtain rfl : x0 = 0 := Subsingleton.elim _ _
    refine (tile2_at K V _ _ x1 x2).trans (.trans ?_ (outBlk_at Q G K V _ 2 x2 ⟨1024 + x1.val, by omega⟩ (by simp [Rect.emb_apply]) (by simp [Rect.emb_apply])).symm)
    exact Ideal.mul_congr (congrArg (fun w => pairOf K V 2 w x2) (funext fun d => congrArg (fun z => (show EReal from Q z) * qscale) (by idx_ext))) rfl
  · intro x
    idx_vars x
    obtain rfl : x0 = 0 := Subsingleton.elim _ _
    refine (tile1_at K V _ _ x1 x2).trans (.trans ?_ (outBlk_at Q G K V _ 1 x2 ⟨1024 + x1.val, by omega⟩ (by simp [Rect.emb_apply]) (by simp [Rect.emb_apply])).symm)
    exact Ideal.mul_congr (congrArg (fun w => pairOf K V 1 w x2) (funext fun d => congrArg (fun z => (show EReal from Q z) * qscale) (by idx_ext))) rfl
  · intro x
    idx_vars x
    obtain rfl : x0 = 0 := Subsingleton.elim _ _
    refine (tile0_at K V _ _ x1 x2).trans (.trans ?_ (outBlk_at Q G K V _ 0 x2 ⟨1024 + x1.val, by omega⟩ (by simp [Rect.emb_apply]) (by simp [Rect.emb_apply])).symm)
    exact Ideal.mul_congr (congrArg (fun w => pairOf K V 0 w x2) (funext fun d => congrArg (fun z => (show EReal from Q z) * qscale) (by idx_ext))) rfl
  · intro x
    idx_vars x
    obtain rfl : x0 = 0 := Subsingleton.elim _ _
    refine (tile2_at K V _ _ x1 x2).trans (.trans ?_ (outBlk_at Q G K V _ 2 x2 ⟨768 + x1.val, by omega⟩ (by simp [Rect.emb_apply]) (by simp [Rect.emb_apply])).symm)
    exact Ideal.mul_congr (congrArg (fun w => pairOf K V 2 w x2) (funext fun d => congrArg (fun z => (show EReal from Q z) * qscale) (by idx_ext))) rfl
  · intro x
    idx_vars x
    obtain rfl : x0 = 0 := Subsingleton.elim _ _
    refine (tile1_at K V _ _ x1 x2).trans (.trans ?_ (outBlk_at Q G K V _ 1 x2 ⟨768 + x1.val, by omega⟩ (by simp [Rect.emb_apply]) (by simp [Rect.emb_apply])).symm)
    exact Ideal.mul_congr (congrArg (fun w => pairOf K V 1 w x2) (funext fun d => congrArg (fun z => (show EReal from Q z) * qscale) (by idx_ext))) rfl
  · intro x
    idx_vars x
    obtain rfl : x0 = 0 := Subsingleton.elim _ _
    refine (tile0_at K V _ _ x1 x2).trans (.trans ?_ (outBlk_at Q G K V _ 0 x2 ⟨768 + x1.val, by omega⟩ (by simp [Rect.emb_apply]) (by simp [Rect.emb_apply])).symm)
    exact Ideal.mul_congr (congrArg (fun w => pairOf K V 0 w x2) (funext fun d => congrArg (fun z => (show EReal from Q z) * qscale) (by idx_ext))) rfl
  · intro x
    idx_vars x
    obtain rfl : x0 = 0 := Subsingleton.elim _ _
    refine (tile2_at K V _ _ x1 x2).trans (.trans ?_ (outBlk_at Q G K V _ 2 x2 ⟨512 + x1.val, by omega⟩ (by simp [Rect.emb_apply]) (by simp [Rect.emb_apply])).symm)
    exact Ideal.mul_congr (congrArg (fun w => pairOf K V 2 w x2) (funext fun d => congrArg (fun z => (show EReal from Q z) * qscale) (by idx_ext))) rfl
  · intro x
    idx_vars x
    obtain rfl : x0 = 0 := Subsingleton.elim _ _
    refine (tile1_at K V _ _ x1 x2).trans (.trans ?_ (outBlk_at Q G K V _ 1 x2 ⟨512 + x1.val, by omega⟩ (by simp [Rect.emb_apply]) (by simp [Rect.emb_apply])).symm)
    exact Ideal.mul_congr (congrArg (fun w => pairOf K V 1 w x2) (funext fun d => congrArg (fun z => (show EReal from Q z) * qscale) (by idx_ext))) rfl
  · intro x
    idx_vars x
    obtain rfl : x0 = 0 := Subsingleton.elim _ _
    refine (tile0_at K V _ _ x1 x2).trans (.trans ?_ (outBlk_at Q G K V _ 0 x2 ⟨512 + x1.val, by omega⟩ (by simp [Rect.emb_apply]) (by simp [Rect.emb_apply])).symm)
    exact Ideal.mul_congr (congrArg (fun w => pairOf K V 0 w x2) (funext fun d => congrArg (fun z => (show EReal from Q z) * qscale) (by idx_ext))) rfl
  · intro x
    idx_vars x
    obtain rfl : x0 = 0 := Subsingleton.elim _ _
    refine (tile2_at K V _ _ x1 x2).trans (.trans ?_ (outBlk_at Q G K V _ 2 x2 ⟨256 + x1.val, by omega⟩ (by simp [Rect.emb_apply]) (by simp [Rect.emb_apply])).symm)
    exact Ideal.mul_congr (congrArg (fun w => pairOf K V 2 w x2) (funext fun d => congrArg (fun z => (show EReal from Q z) * qscale) (by idx_ext))) rfl
  · intro x
    idx_vars x
    obtain rfl : x0 = 0 := Subsingleton.elim _ _
    refine (tile1_at K V _ _ x1 x2).trans (.trans ?_ (outBlk_at Q G K V _ 1 x2 ⟨256 + x1.val, by omega⟩ (by simp [Rect.emb_apply]) (by simp [Rect.emb_apply])).symm)
    exact Ideal.mul_congr (congrArg (fun w => pairOf K V 1 w x2) (funext fun d => congrArg (fun z => (show EReal from Q z) * qscale) (by idx_ext))) rfl
  · intro x
    idx_vars x
    obtain rfl : x0 = 0 := Subsingleton.elim _ _
    refine (tile0_at K V _ _ x1 x2).trans (.trans ?_ (outBlk_at Q G K V _ 0 x2 ⟨256 + x1.val, by omega⟩ (by simp [Rect.emb_apply]) (by simp [Rect.emb_apply])).symm)
    exact Ideal.mul_congr (congrArg (fun w => pairOf K V 0 w x2) (funext fun d => congrArg (fun z => (show EReal from Q z) * qscale) (by idx_ext))) rfl
  · intro x
    idx_vars x
    obtain rfl : x0 = 0 := Subsingleton.elim _ _
    refine (tile2_at K V _ _ x1 x2).trans (.trans ?_ (outBlk_at Q G K V _ 2 x2 ⟨0 + x1.val, by omega⟩ (by simp [Rect.emb_apply]) (by simp [Rect.emb_apply])).symm)
    exact Ideal.mul_congr (congrArg (fun w => pairOf K V 2 w x2) (funext fun d => congrArg (fun z => (show EReal from Q z) * qscale) (by idx_ext))) rfl
  · intro x
    idx_vars x
    obtain rfl : x0 = 0 := Subsingleton.elim _ _
    refine (tile1_at K V _ _ x1 x2).trans (.trans ?_ (outBlk_at Q G K V _ 1 x2 ⟨0 + x1.val, by omega⟩ (by simp [Rect.emb_apply]) (by simp [Rect.emb_apply])).symm)
    exact Ideal.mul_congr (congrArg (fun w => pairOf K V 1 w x2) (funext fun d => congrArg (fun z => (show EReal from Q z) * qscale) (by idx_ext))) rfl
  · intro x
    idx_vars x
    obtain rfl : x0 = 0 := Subsingleton.elim _ _
    refine (tile0_at K V _ _ x1 x2).trans (.trans ?_ (outBlk_at Q G K V _ 0 x2 ⟨0 + x1.val, by omega⟩ (by simp [Rect.emb_apply]) (by simp [Rect.emb_apply])).symm)
    exact Ideal.mul_congr (congrArg (fun w => pairOf K V 0 w x2) (funext fun d => congrArg (fun z => (show EReal from Q z) * qscale) (by idx_ext))) rfl

theorem stores_cover (Q : Vec Ideal S1x2048x384 .f32) (G : Vec Ideal S1x2048x384 .bf16) (K : Vec Ideal S2304x512 .bf16)
    (V : Vec Ideal S2304x1024 .bf16) (y : S1x2048x384.Idx) : ∃ p ∈ stores Q G K V, y ∈ p.1.set :=
  View.cover_of_tiledBy (stores Q G K V) ![1, 256, 128] (by sl_kernel_rfl) y

theorem stores_read {sp : Space} (v : View sig .tc sp S1x2048x384 .bf16) (f : v.ty.Contents (Elt Ideal))
    (Q : Vec Ideal S1x2048x384 .f32) (G : Vec Ideal S1x2048x384 .bf16) (K : Vec Ideal S2304x512 .bf16)
    (V : Vec Ideal S2304x1024 .bf16) : v.read (Elt Ideal) (v.writes (Elt Ideal) f (stores Q G K V)) = outBlk Q G K V :=
  funext fun y => read_stores v f _ _ (stores_agree Q G K V) y (.inl (stores_cover Q G K V y))

end Cert.KernelIdeal.Att
end
-- ==== Proof.Points.lean ====
module
public import proofs.«01_k».proof.Proof.Block
@[expose] public section
set_option maxRecDepth 16384
noncomputable section
open Idealize.ShloMosaic Idealize.ShloMosaic.TcCoe Idealize.SL.Sem
namespace Cert.KernelIdeal.Att
open Cert.KernelIdeal Cert.KernelIdeal.Gen

/-! What the grid's points leave: the value scratch holds the point's own padded values, and the
output window the point's own attention block. -/

variable (m : (ℓ : Loc nD τ sig) → Buf (Elt Ideal) ℓ)

/-- The value scratch after point `n`: its ones were stored at the first point and are kept. -/
theorem carry (c : Dev nD) : ∀ (n : ℕ) (h : n < cfg0.N),
    (outsAt0 m c n h).2 = valPad (iblk m c 3 ⟨n, h⟩) (iblk m c 5 ⟨n, h⟩)
  | n, h => by
    by_cases h1 : n % 32 = 0
    · have e := outsAt0_A m c ⟨n, h⟩ h1
      rw [show outsAt0 m c n h = _ from e]
      dsimp only
      unfold sout0_A_1
      rw [vals_A, vals_read_A, Memref.IsWhole.read_unread, Memref.IsWhole.read_unread]
    · have e := outsAt0_B m c ⟨n, h⟩ h1
      rw [show outsAt0 m c n h = _ from e]
      dsimp only
      unfold sout0_B_1
      have ih := carry c (n - 1) (Nat.lt_of_le_of_lt (Nat.sub_le _ _) h)
      rw [vals_B, vals_read_B, Memref.IsWhole.read_unread, Memref.IsWhole.read_unread]
      intro y hy
      rw [Memref.IsWhole.read_unread, ih]
      exact valPad_one _ _ y hy
  termination_by n => n
  decreasing_by
    have : n ≠ 0 := fun e => h1 (by rw [e])
    omega

/-- The output window at point `t`. -/
theorem out_at (c : Dev nD) (t : Fin cfg0.N) :
    (outsAt0 m c t.val t.isLt).1 = outBlk (iblk m c 0 t) (iblk m c 1 t) (keyPad (iblk m c 2 t) (iblk m c 4 t))
      (valPad (iblk m c 3 t) (iblk m c 5 t)) := by
  by_cases h1 : t.val % 32 = 0
  · rw [outsAt0_A m c t h1]
    dsimp only
    unfold out0_A_6
    rw [stores_A, keys_A, vals_A, keys_read, vals_read_A, stores_read]
    simp only [Memref.IsWhole.read_unread]
  · rw [outsAt0_B m c t h1]
    dsimp only
    unfold out0_B_6
    rw [stores_B, keys_B, vals_B, keys_read, vals_read_B, stores_read]
    · simp only [Memref.IsWhole.read_unread]
    · intro y hy
      rw [Memref.IsWhole.read_unread, carry]
      exact valPad_one _ _ y hy

end Cert.KernelIdeal.Att
end
-- ==== Proof.Math.lean ====
module
public import proofs.«01_k».proof.Proof.HeadAt
@[expose] public section
noncomputable section
open Idealize.ShloMosaic Idealize.ShloMosaic.TcCoe Idealize.SL.Sem
namespace Cert.KernelIdeal.Att

/-! Softmax over finite scores: weights in base 2, divided after the sum, against weights in base e, divided before it. -/

theorem exp2_real (x : ℝ) : Ideal.exp2 (x : EReal) = ((2 ^ x : ℝ) : EReal) := rfl
theorem exp_real (x : ℝ) : Ideal.exp (x : EReal) = ((Real.exp x : ℝ) : EReal) := rfl

/-- The largest of finitely many real scores is one of them. -/
theorem sup_attained (S : Fin 2304 → ℝ) : ∃ i, (∀ j, S j ≤ S i) ∧ (Finset.univ.sup fun j => (S j : EReal)) = (S i : EReal) := by
  obtain ⟨i, _, hi⟩ := Finset.exists_max_image (Finset.univ : Finset (Fin 2304)) S ⟨0, Finset.mem_univ _⟩
  refine ⟨i, fun j => hi j (Finset.mem_univ _), le_antisymm ?_ (Finset.le_sup (f := fun j => (S j : EReal)) (Finset.mem_univ i))⟩
  exact Finset.sup_le fun j _ => EReal.coe_le_coe_iff.2 (hi j (Finset.mem_univ _))

/-- The reference's weight of key `j`. -/
def prob (s : Fin 2304 → EReal) (j : Fin 2304) : EReal :=
  Ideal.div (Ideal.exp (s j - Finset.univ.sup s)) (∑ i, Ideal.exp (s i - Finset.univ.sup s))

theorem mul_sum_left (c : ℝ) (hc : 0 ≤ c) (f : Fin 2304 → EReal) : (∑ j, f j) * (c : EReal) = ∑ j, f j * c := by
  induction (Finset.univ : Finset (Fin 2304)) using Finset.induction_on with
  | empty => simp
  | insert a s ha ih =>
    rw [Finset.sum_insert ha, Finset.sum_insert ha, EReal.right_distrib_of_nonneg_of_ne_top (by exact_mod_cast hc) (EReal.coe_ne_top c), ih]

theorem sum_real (f : Fin 2304 → ℝ) : ∑ j, (f j : EReal) = ((∑ j, f j : ℝ) : EReal) := by
  induction (Finset.univ : Finset (Fin 2304)) using Finset.induction_on with
  | empty => simp
  | insert a s ha ih => rw [Finset.sum_insert ha, Finset.sum_insert ha, ih, EReal.coe_add]

/-- One padded head of one query row, its scores finite and its second half ones: the softmax of the scores against its values. -/
theorem headRow_eq (S : Fin 2304 → ℝ) (vv : Fin 2304 → Fin 256 → EReal) (l : Fin 128)
    (hone : ∀ j, vv j ⟨128 + l.val, by omega⟩ = 1) :
    headRow (fun j => (((Real.log 2)⁻¹ * S j : ℝ) : EReal)) vv l = ∑ j, vv j ⟨l.val, by omega⟩ * prob (fun j => (S j : EReal)) j := by
  have hL : 0 < (Real.log 2)⁻¹ := inv_pos.2 (Real.log_pos (by norm_num))
  obtain ⟨i, hi, hs⟩ := sup_attained S
  have hs' : (Finset.univ.sup fun j => (((Real.log 2)⁻¹ * S j : ℝ) : EReal)) = (((Real.log 2)⁻¹ * S i : ℝ) : EReal) := by
    refine le_antisymm (Finset.sup_le fun j _ => EReal.coe_le_coe_iff.2 (mul_le_mul_of_nonneg_left (hi j) hL.le)) ?_
    exact Finset.le_sup (f := fun j => (((Real.log 2)⁻¹ * S j : ℝ) : EReal)) (Finset.mem_univ i)
  have hw : ∀ j, weight (fun j => (((Real.log 2)⁻¹ * S j : ℝ) : EReal)) j = ((Real.exp (S j - S i) : ℝ) : EReal) := by
    intro j
    unfold weight
    rw [hs', ← EReal.coe_sub, exp2_real, Real.rpow_def_of_pos (by norm_num)]
    have h2 : Real.log 2 * ((Real.log 2)⁻¹ * S j - (Real.log 2)⁻¹ * S i) = S j - S i := by
      rw [← mul_sub, ← mul_assoc, mul_inv_cancel₀ (Real.log_pos (by norm_num)).ne', one_mul]
    rw [h2]
  have he : ∀ j, Ideal.exp ((S j : EReal) - (Finset.univ.sup fun j => (S j : EReal))) = ((Real.exp (S j - S i) : ℝ) : EReal) := by
    intro j
    rw [hs, ← EReal.coe_sub, exp_real]
  have hD : 0 < ∑ j, Real.exp (S j - S i) := Finset.sum_pos (fun j _ => Real.exp_pos _) ⟨0, Finset.mem_univ _⟩
  unfold headRow prob
  simp only [hw, he, hone, mul_one, sum_real, Ideal.div_coe hD.ne']
  rw [mul_sum_left _ (one_div_pos.2 hD).le]
  exact Finset.sum_congr rfl fun j _ => by ac_rfl

end Cert.KernelIdeal.Att
end
-- ==== Proof.Windows.lean ====
module
public import proofs.«01_k».proof.Proof.Gen.KernelIdeal.Value
public import Idealize.ShloMosaic.Lib.Pointwise
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.KernelIdeal.Att
open Cert.KernelIdeal Cert.KernelIdeal.Gen

/-! The blocks the grid's points stage, read at an index as entries of the argument arrays. -/

variable (m : (ℓ : Loc nD τ sig) → Buf (Elt Ideal) ℓ)

/-- The batch of a grid point. -/
theorem point_batch : ∀ t : Fin cfg0.N, win0_0.index t 0 = t.val ∧ win0_0.index t 1 = 0 ∧ win0_0.index t 2 = 0 ∧
    win0_1.index t 0 = t.val ∧ win0_1.index t 1 = 0 ∧ win0_1.index t 2 = 0 ∧
    win0_2.index t 0 = t.val ∧ win0_2.index t 1 = 0 ∧ win0_2.index t 2 = 0 ∧
    win0_3.index t 0 = t.val ∧ win0_3.index t 1 = 0 ∧ win0_3.index t 2 = 0 ∧
    win0_4.index t 0 = t.val ∧ win0_4.index t 1 = 0 ∧ win0_4.index t 2 = 0 ∧
    win0_5.index t 0 = t.val ∧ win0_5.index t 1 = 0 ∧ win0_5.index t 2 = 0 ∧
    win0_6.index t 0 = t.val ∧ win0_6.index t 1 = 0 ∧ win0_6.index t 2 = 0 :=
  (by decide +kernel : ∀ t : Fin grid0.N, _)

theorem win0_at (c : Dev nD) (t : Fin cfg0.N) (b : Fin 32) (hb : b.val = t.val) (r : Fin 2048) (k : Fin 384) :
    iblk m c 0 t (ix3 0 r k) = m ((c : Thread nD τ).loc main_arg0) (ix3 b r k) := by
  blk_ext [iblk, V, point_batch t]

/-- The gate the host computes. -/
def gate (A : FVec Ideal S32x2048x384 .f32) : FVec Ideal S32x2048x384 .bf16 :=
  truncf .bf16 (mulf A (Host.divf (broadcastInDim S32x2048x384 ![] bcast_S_S32x2048x384 (constant S_ .f32 0x3F800000#32))
    (addf (broadcastInDim S32x2048x384 ![] bcast_S_S32x2048x384 (constant S_ .f32 0x3F800000#32)) (Host.exp (Host.negf A))))) bitsLt_bf16_f32

theorem gate_at (A : FVec Ideal S32x2048x384 .f32) (b : Fin 32) (r : Fin 2048) (k : Fin 384) :
    gate A (ix3 b r k) = A (ix3 b r k) * Ideal.div 1 (1 + Ideal.exp (-A (ix3 b r k))) := by
  pointwise [gate]

theorem gate_eq (c : Dev nD) : V m c main_v7 = gate (m ((c : Thread nD τ).loc main_arg1)) := by
  unfold V
  simp only [List.flatten_cons, List.flatten_nil, List.cons_append, List.nil_append, hostOps0, hostOps0_1, hostOps0_2, hostOps0_3, hostOps0_4, hostOps0_5, hostOps0_6, hostOps0_7, hostOps0_8]
  after_results
  rfl

theorem win1_at (c : Dev nD) (t : Fin cfg0.N) (b : Fin 32) (hb : b.val = t.val) (r : Fin 2048) (k : Fin 384) :
    iblk m c 1 t (ix3 0 r k) = gate (m ((c : Thread nD τ).loc main_arg1)) (ix3 b r k) := by
  rw [← gate_eq]
  blk_ext [iblk, V, point_batch t]

/-- The column of a 128-wide array that column `k` of the array beside its swapped halves holds. -/
def swapCol (k : Fin 256) : Fin 128 := ⟨if k.val < 128 then k.val else (k.val + 64) % 128, by split_ifs <;> omega⟩

/-- An array beside itself with the halves of its columns swapped. -/
def swapped256 (A : FVec Ideal S32x256x128 .f32) : FVec Ideal S32x256x256 .bf16 :=
  truncf .bf16 (concatenate S32x256x256 2 [⟨S32x256x128, A⟩, ⟨S32x256x128, concatenate S32x256x128 2
    [⟨S32x256x64, extractStridedSlice S32x256x64 ![0, 0, 64] A slices_S32x256x128_S32x256x64_0_0_64⟩,
      ⟨S32x256x64, extractStridedSlice S32x256x64 ![0, 0, 0] A slices_S32x256x128_S32x256x64_0_0_0⟩]
    concatenates_S32x256x64_S32x256x64_S32x256x128_d2⟩] concatenates_S32x256x128_S32x256x128_S32x256x256_d2) bitsLt_bf16_f32

theorem swapped256_at (A : FVec Ideal S32x256x128 .f32) (b : Fin 32) (r : Fin 256) (k : Fin 256) :
    swapped256 A (ix3 b r k) = A (ix3 b r (swapCol k)) := by
  pointwise [swapped256]
  split_ifs <;> exact congrArg (fun z => A (ix3 b r z)) (Fin.ext (by simp only [swapCol]; split_ifs <;> omega))

/-- An array beside itself with the halves of its columns swapped. -/
def swapped2048 (A : FVec Ideal S32x2048x128 .f32) : FVec Ideal S32x2048x256 .bf16 :=
  truncf .bf16 (concatenate S32x2048x256 2 [⟨S32x2048x128, A⟩, ⟨S32x2048x128, concatenate S32x2048x128 2
    [⟨S32x2048x64, extractStridedSlice S32x2048x64 ![0, 0, 64] A slices_S32x2048x128_S32x2048x64_0_0_64⟩,
      ⟨S32x2048x64, extractStridedSlice S32x2048x64 ![0, 0, 0] A slices_S32x2048x128_S32x2048x64_0_0_0⟩]
    concatenates_S32x2048x64_S32x2048x64_S32x2048x128_d2⟩] concatenates_S32x2048x128_S32x2048x128_S32x2048x256_d2) bitsLt_bf16_f32

theorem swapped2048_at (A : FVec Ideal S32x2048x128 .f32) (b : Fin 32) (r : Fin 2048) (k : Fin 256) :
    swapped2048 A (ix3 b r k) = A (ix3 b r (swapCol k)) := by
  pointwise [swapped2048]
  split_ifs <;> exact congrArg (fun z => A (ix3 b r z)) (Fin.ext (by simp only [swapCol]; split_ifs <;> omega))

theorem win2_eq (c : Dev nD) : V m c main_v10 = swapped256 (m ((c : Thread nD τ).loc main_arg2)) := by
  unfold V
  simp only [List.flatten_cons, List.flatten_nil, List.cons_append, List.nil_append, hostOps0, hostOps0_1, hostOps0_2, hostOps0_3, hostOps0_4, hostOps0_5, hostOps0_6, hostOps0_7, hostOps0_8]
  after_results
  rfl

theorem win2_at (c : Dev nD) (t : Fin cfg0.N) (b : Fin 32) (hb : b.val = t.val) (r : Fin 256) (k : Fin 256) :
    iblk m c 2 t (ix3 0 r k) = m ((c : Thread nD τ).loc main_arg2) (ix3 b r (swapCol k)) := by
  refine .trans ?_ (swapped256_at (m ((c : Thread nD τ).loc main_arg2)) b r k)
  rw [← win2_eq]
  blk_ext [iblk, V, point_batch t]

theorem win3_eq (c : Dev nD) : V m c main_v13 = swapped256 (m ((c : Thread nD τ).loc main_arg3)) := by
  unfold V
  simp only [List.flatten_cons, List.flatten_nil, List.cons_append, List.nil_append, hostOps0, hostOps0_1, hostOps0_2, hostOps0_3, hostOps0_4, hostOps0_5, hostOps0_6, hostOps0_7, hostOps0_8]
  after_results
  rfl

theorem win3_at (c : Dev nD) (t : Fin cfg0.N) (b : Fin 32) (hb : b.val = t.val) (r : Fin 256) (k : Fin 256) :
    iblk m c 3 t (ix3 0 r k) = m ((c : Thread nD τ).loc main_arg3) (ix3 b r (swapCol k)) := by
  refine .trans ?_ (swapped256_at (m ((c : Thread nD τ).loc main_arg3)) b r k)
  rw [← win3_eq]
  blk_ext [iblk, V, point_batch t]

theorem win4_eq (c : Dev nD) : V m c main_v16 = swapped2048 (m ((c : Thread nD τ).loc main_arg4)) := by
  unfold V
  simp only [List.flatten_cons, List.flatten_nil, List.cons_append, List.nil_append, hostOps0, hostOps0_1, hostOps0_2, hostOps0_3, hostOps0_4, hostOps0_5, hostOps0_6, hostOps0_7, hostOps0_8]
  after_results
  rfl

theorem win4_at (c : Dev nD) (t : Fin cfg0.N) (b : Fin 32) (hb : b.val = t.val) (r : Fin 2048) (k : Fin 256) :
    iblk m c 4 t (ix3 0 r k) = m ((c : Thread nD τ).loc main_arg4) (ix3 b r (swapCol k)) := by
  refine .trans ?_ (swapped2048_at (m ((c : Thread nD τ).loc main_arg4)) b r k)
  rw [← win4_eq]
  blk_ext [iblk, V, point_batch t]

theorem win5_eq (c : Dev nD) : V m c main_v19 = swapped2048 (m ((c : Thread nD τ).loc main_arg5)) := by
  unfold V
  simp only [List.flatten_cons, List.flatten_nil, List.cons_append, List.nil_append, hostOps0, hostOps0_1, hostOps0_2, hostOps0_3, hostOps0_4, hostOps0_5, hostOps0_6, hostOps0_7, hostOps0_8]
  after_results
  rfl

theorem win5_at (c : Dev nD) (t : Fin cfg0.N) (b : Fin 32) (hb : b.val = t.val) (r : Fin 2048) (k : Fin 256) :
    iblk m c 5 t (ix3 0 r k) = m ((c : Thread nD τ).loc main_arg5) (ix3 b r (swapCol k)) := by
  refine .trans ?_ (swapped2048_at (m ((c : Thread nD τ).loc main_arg5)) b r k)
  rw [← win5_eq]
  blk_ext [iblk, V, point_batch t]

end Cert.KernelIdeal.Att
end
-- ==== Proof.Pair.lean ====
module
public import proofs.«01_k».proof.Proof.Math
public import proofs.«01_k».proof.Proof.Block
public import proofs.«01_k».proof.Proof.Windows
@[expose] public section
set_option maxRecDepth 16384
noncomputable section
open Idealize.ShloMosaic Idealize.ShloMosaic.TcCoe Idealize.SL.Sem
namespace Cert.KernelIdeal.Att
open Cert.KernelIdeal Cert.KernelIdeal.Gen

/-! A pair of padded heads, read as the softmax attention of the argument arrays. -/

/-- Row `j` of the context rows followed by the latent rows, key head `h`, coordinate `d`. -/
def kvAt (C : FVec Ideal S32x256x128 .f32) (L : FVec Ideal S32x2048x128 .f32) (b : Fin 32) (j : Fin 2304) (h : Fin 2) (d : Fin 64) : EReal :=
  if hj : j.val < 256 then C (ix3 b ⟨j.val, hj⟩ ⟨64 * h.val + d.val, by omega⟩)
    else L (ix3 b ⟨j.val - 256, by omega⟩ ⟨64 * h.val + d.val, by omega⟩)

/-- The score of query row `t` of head `3 h + g` against row `j`. -/
def scoreAt (Q : FVec Ideal S32x2048x384 .f32) (C : FVec Ideal S32x256x128 .f32) (L : FVec Ideal S32x2048x128 .f32)
    (b : Fin 32) (h : Fin 2) (g : Fin 3) (t : Fin 2048) (j : Fin 2304) : EReal :=
  (∑ d : Fin 64, kvAt C L b j h d * Q (ix3 b t ⟨64 * (3 * h.val + g.val) + d.val, by omega⟩)) * ((1 / 8 : ℝ) : EReal)

/-- The attention's output before its gate. -/
def attAt (Q : FVec Ideal S32x2048x384 .f32) (CK CV : FVec Ideal S32x256x128 .f32) (LK LV : FVec Ideal S32x2048x128 .f32)
    (b : Fin 32) (h : Fin 2) (g : Fin 3) (t : Fin 2048) (d : Fin 64) : EReal :=
  ∑ j : Fin 2304, kvAt CV LV b j h d * prob (scoreAt Q CK LK b h g t) j

theorem zero_bf16 : (Scalar.ofBits (F := Ideal) .bf16 0x0000#16 : EReal) = 0 := by
  show Ideal.ofBits .bf16 0x0000#16 = 0
  simp [Ideal.ofBits, Ideal.ieee]

theorem one_bf16 : (Scalar.ofBits (F := Ideal) .bf16 0x3F80#16 : EReal) = 1 := by
  show Ideal.ofBits .bf16 0x3F80#16 = 1
  simp [Ideal.ofBits, Ideal.ieee, -EReal.coe_mul]
  norm_num

theorem swap_src (blk : Fin 4) (l : Fin 128) (h : Fin 2) (hb : h.val = blk.val / 2) (hl : l.val < 64 ↔ blk.val % 2 = 0) :
    (swapCol (srcCol blk l)).val = 64 * h.val + l.val % 64 := by
  have hv := blk.isLt
  have hlt := l.isLt
  rw [hb]
  unfold swapCol srcCol
  by_cases hc : blk.val = 0 ∨ blk.val = 3
  · rw [if_pos hc]
    show (if l.val < 128 then l.val else (l.val + 64) % 128) = _
    rw [if_pos hlt]
    omega
  · rw [if_neg hc]
    show (if 128 + l.val < 128 then 128 + l.val else (128 + l.val + 64) % 128) = _
    rw [if_neg (by omega)]
    omega

section
variable (b : Fin 32) (X : Vec Ideal S1x256x256 .bf16) (Y : Vec Ideal S1x2048x256 .bf16)
  (C : FVec Ideal S32x256x128 .f32) (L : FVec Ideal S32x2048x128 .f32)
  (hX : ∀ (r : Fin 256) (k : Fin 256), X (ix3 0 r k) = C (ix3 b r (swapCol k)))
  (hY : ∀ (r : Fin 2048) (k : Fin 256), Y (ix3 0 r k) = L (ix3 b r (swapCol k)))
include hX hY

theorem padAt_src (j : Fin 2304) (blk : Fin 4) (h : Fin 2) (hb : h.val = blk.val / 2) (l : Fin 128) :
    padAt X Y j blk l = if l.val < 64 ↔ blk.val % 2 = 0 then kvAt C L b j h ⟨l.val % 64, by omega⟩ else (0 : EReal) := by
  unfold padAt
  by_cases hl : l.val < 64 ↔ blk.val % 2 = 0
  · rw [if_pos hl, if_pos hl]
    have hs := swap_src blk l h hb hl
    unfold src kvAt
    by_cases hj : j.val < 256
    · rw [dif_pos hj, dif_pos hj, hX]
      exact congrArg (fun k => C (ix3 b ⟨j.val, hj⟩ k)) (Fin.ext hs)
    · rw [dif_neg hj, dif_neg hj, hY]
      exact congrArg (fun k => L (ix3 b ⟨j.val - 256, _⟩ k)) (Fin.ext hs)
  · rw [if_neg hl, if_neg hl]
    exact zero_bf16

theorem kcol_src (j : Fin 2304) (blk : Fin 4) (h : Fin 2) (hb : h.val = blk.val / 2) (l : Fin 128) :
    kcol (keyPad X Y) blk j l = if l.val < 64 ↔ blk.val % 2 = 0 then kvAt C L b j h ⟨l.val % 64, by omega⟩ else (0 : EReal) :=
  (keyPad_at X Y (ix2 j ⟨128 * blk.val + l.val, by omega⟩) blk l rfl).trans (padAt_src b X Y C L hX hY j blk h hb l)

theorem vcol_src (j : Fin 2304) (blk : Fin 4) (h : Fin 2) (hb : h.val = blk.val / 2) (l : Fin 128) :
    vcol (valPad X Y) blk j ⟨l.val, by omega⟩ = if l.val < 64 ↔ blk.val % 2 = 0 then kvAt C L b j h ⟨l.val % 64, by omega⟩ else (0 : EReal) :=
  (valPad_at X Y (ix2 j ⟨256 * blk.val + l.val, by omega⟩) blk l rfl).trans (padAt_src b X Y C L hX hY j blk h hb l)

omit hX hY in
theorem vcol_one (j : Fin 2304) (blk : Fin 4) (l : Fin 128) : vcol (valPad X Y) blk j ⟨128 + l.val, by omega⟩ = 1 :=
  (valPad_one X Y (ix2 j ⟨256 * blk.val + (128 + l.val), by omega⟩) (by
    show ¬ (256 * blk.val + (128 + l.val)) % 256 < 128
    omega)).trans one_bf16

/-- Only one half of the lanes of a padded key block meets the queries. -/
theorem scoreRow_src (q : Fin 128 → EReal) (j : Fin 2304) (blk : Fin 4) (h : Fin 2) (par : Fin 2) (hb : blk.val = 2 * h.val + par.val) :
    scoreRow q (kcol (keyPad X Y) blk) j = ∑ d : Fin 64, q ⟨64 * par.val + d.val, by omega⟩ * kvAt C L b j h d := by
  unfold scoreRow
  rw [Fin.sum_univ_tiles 2 64 rfl, Fin.sum_univ_two]
  have hh : h.val = blk.val / 2 := by omega
  simp only [kcol_src b X Y C L hX hY j blk h hh]
  have e : blk.val % 2 = par.val := by omega
  have z0 : ∀ d : Fin 64, (0 : Fin 2).val * 64 + d.val < 64 := fun d => by have := d.isLt; simp;
  have z1 : ∀ d : Fin 64, ¬ (1 : Fin 2).val * 64 + d.val < 64 := fun d => by simp
  simp only [z0, z1, e, true_iff, false_iff]
  obtain ⟨par, hp⟩ := par
  obtain rfl | rfl : par = 0 ∨ par = 1 := by omega
  · simp only [if_true, not_true, if_false, mul_zero, Finset.sum_const_zero, add_zero]
    refine Finset.sum_congr rfl fun d _ => congrArg₂ (· * ·) (congrArg q (Fin.ext ?_)) (congrArg _ (Fin.ext ?_))
    · simp
    · simp
      try omega
  · simp only [one_ne_zero, not_false_eq_true, if_true, if_false, mul_zero, Finset.sum_const_zero, zero_add]
    refine Finset.sum_congr rfl fun d _ => congrArg₂ (· * ·) (congrArg q (Fin.ext ?_)) (congrArg _ (Fin.ext ?_))
    · simp
    · simp
      try omega
end

/-- Finite queries and keys have finite scores; the kernel's are those over the logarithm of 2. -/
theorem scores_finite (x : Fin 64 → EReal) (kk : Fin 2304 → Fin 64 → EReal) (hx : ∀ d, ∃ r : ℝ, x d = r) (hk : ∀ j d, ∃ r : ℝ, kk j d = r) :
    ∃ S : Fin 2304 → ℝ, (∀ j, (∑ d : Fin 64, kk j d * x d) * ((1 / 8 : ℝ) : EReal) = S j) ∧
      ∀ j, ∑ d : Fin 64, x d * qscale * kk j d = (((Real.log 2)⁻¹ * S j : ℝ) : EReal) := by
  choose xr hxr using hx
  choose kr hkr using hk
  have hs : ∀ f : Fin 64 → ℝ, ∑ d, (f d : EReal) = ((∑ d, f d : ℝ) : EReal) := by
    intro f
    induction (Finset.univ : Finset (Fin 64)) using Finset.induction_on with
    | empty => simp
    | insert a s ha ih => rw [Finset.sum_insert ha, Finset.sum_insert ha, ih, EReal.coe_add]
  refine ⟨fun j => (∑ d, kr j d * xr d) * (1 / 8), fun j => ?_, fun j => ?_⟩
  · simp only [hxr, hkr, ← EReal.coe_mul, hs]
  · unfold qscale
    simp only [hxr, hkr, ← EReal.coe_mul, hs]
    congr 1
    rw [Finset.sum_mul, Finset.mul_sum]
    exact Finset.sum_congr rfl fun d _ => by ring

section
variable (b : Fin 32) (X X' : Vec Ideal S1x256x256 .bf16) (Y Y' : Vec Ideal S1x2048x256 .bf16)
  (Q : FVec Ideal S32x2048x384 .f32)
  (C C' : FVec Ideal S32x256x128 .f32) (L L' : FVec Ideal S32x2048x128 .f32)
  (hX : ∀ (r : Fin 256) (k : Fin 256), X (ix3 0 r k) = C (ix3 b r (swapCol k)))
  (hY : ∀ (r : Fin 2048) (k : Fin 256), Y (ix3 0 r k) = L (ix3 b r (swapCol k)))
  (hX' : ∀ (r : Fin 256) (k : Fin 256), X' (ix3 0 r k) = C' (ix3 b r (swapCol k)))
  (hY' : ∀ (r : Fin 2048) (k : Fin 256), Y' (ix3 0 r k) = L' (ix3 b r (swapCol k)))
  (fQ : ∀ i, ∃ r : ℝ, Q i = (r : EReal)) (fC : ∀ i, ∃ r : ℝ, C i = (r : EReal)) (fL : ∀ i, ∃ r : ℝ, L i = (r : EReal))
include hX hY hX' hY' fQ fC fL

theorem headOf_src (t : Fin 2048) (p : Fin 3) (blk : Fin 4) (h : Fin 2) (g : Fin 3) (par : Fin 2) (hb : blk.val = 2 * h.val + par.val)
    (hn : 3 * h.val + g.val = 2 * p.val + par.val) (q : Fin 128 → EReal)
    (hq : ∀ d, q d = Q (ix3 b t ⟨128 * p.val + d.val, by omega⟩) * qscale) (l : Fin 128) :
    headOf (keyPad X Y) (valPad X' Y') blk q l =
      if l.val < 64 ↔ par.val = 0 then attAt Q C C' L L' b h g t ⟨l.val % 64, by omega⟩ else 0 := by
  have hh : h.val = blk.val / 2 := by omega
  have hp : blk.val % 2 = par.val := by omega
  obtain ⟨S, hS, hS'⟩ := scores_finite (fun d : Fin 64 => Q (ix3 b t ⟨64 * (3 * h.val + g.val) + d.val, by omega⟩))
    (fun j d => kvAt C L b j h d) (fun d => fQ _) (fun j d => by
      unfold kvAt
      split
      · exact fC _
      · exact fL _)
  have hs : scoreRow q (kcol (keyPad X Y) blk) = fun j => (((Real.log 2)⁻¹ * S j : ℝ) : EReal) := by
    funext j
    rw [scoreRow_src b X Y C L hX hY q j blk h par hb, ← hS' j]
    refine Finset.sum_congr rfl fun d _ => ?_
    rw [hq]
    refine congrArg (· * _) (congrArg (· * _) (congrArg (fun k => Q (ix3 b t k)) (Fin.ext ?_)))
    show 128 * p.val + (64 * par.val + d.val) = 64 * (3 * h.val + g.val) + d.val
    omega
  have hsc : scoreAt Q C L b h g t = fun j => (S j : EReal) := funext fun j => hS j
  unfold headOf
  rw [hs, headRow_eq S _ l (fun j => vcol_one X' Y' j blk l)]
  simp only [vcol_src b X' Y' C' L' hX' hY' _ blk h hh l, hp]
  by_cases hl : l.val < 64 ↔ par.val = 0
  · simp only [if_pos hl]
    unfold attAt
    rw [hsc]
  · simp only [if_neg hl, zero_mul, Finset.sum_const_zero]

/-- The lane of a pair's output block is one head's output; the other head adds zero. -/
theorem pairOf_src (t : Fin 2048) (p : Fin 3) (h : Fin 2) (g : Fin 3) (d : Fin 64) (l : Fin 128)
    (hl : 64 * (3 * h.val + g.val) + d.val = 128 * p.val + l.val) (q : Fin 128 → EReal)
    (hq : ∀ d, q d = Q (ix3 b t ⟨128 * p.val + d.val, by omega⟩) * qscale) :
    pairOf (keyPad X Y) (valPad X' Y') p q l = attAt Q C C' L L' b h g t d := by
  have hE : (evenBlk p).val = if p.val = 2 then 2 else 0 := by unfold evenBlk; split <;> rfl
  have hO : (oddBlk p).val = if p.val = 0 then 1 else 3 := by unfold oddBlk; split <;> rfl
  have key : ∀ (h₀ h₁ : Fin 2) (g₀ g₁ : Fin 3), (evenBlk p).val = 2 * h₀.val → 3 * h₀.val + g₀.val = 2 * p.val →
      (oddBlk p).val = 2 * h₁.val + 1 → 3 * h₁.val + g₁.val = 2 * p.val + 1 →
      pairOf (keyPad X Y) (valPad X' Y') p q l = attAt Q C C' L L' b h g t d := by
    intro h₀ h₁ g₀ g₁ e0 n0 e1 n1
    unfold pairOf
    rw [headOf_src b X X' Y Y' Q C C' L L' hX hY hX' hY' fQ fC fL t p (evenBlk p) h₀ g₀ 0 e0 n0 q hq l,
      headOf_src b X X' Y Y' Q C C' L L' hX hY hX' hY' fQ fC fL t p (oddBlk p) h₁ g₁ 1 e1 n1 q hq l]
    by_cases h64 : l.val < 64
    · have a : h₀ = h := Fin.ext (by omega)
      have a' : g₀ = g := Fin.ext (by omega)
      have a'' : (⟨l.val % 64, by omega⟩ : Fin 64) = d := Fin.ext (by show l.val % 64 = d.val; omega)
      rw [if_pos (by simp [h64]), if_neg (by simp [h64]), add_zero, a, a', a'']
    · have a : h₁ = h := Fin.ext (by omega)
      have a' : g₁ = g := Fin.ext (by omega)
      have a'' : (⟨l.val % 64, by omega⟩ : Fin 64) = d := Fin.ext (by show l.val % 64 = d.val; omega)
      rw [if_neg (by simp [h64]), if_pos (by simp [h64]), zero_add, a, a', a'']
  obtain ⟨p, hp⟩ := p
  obtain rfl | rfl | rfl : p = 0 ∨ p = 1 ∨ p = 2 := by omega
  · exact key 0 0 0 1 (by simpa using hE) (by simp) (by simpa using hO) (by simp)
  · exact key 0 1 2 0 (by simpa using hE) (by simp) (by simpa using hO) (by simp)
  · exact key 1 1 1 2 (by simpa using hE) (by simp) (by simpa using hO) (by simp)
end

end Cert.KernelIdeal.Att
end
-- ==== Proof.Final.lean ====
module
public import proofs.«01_k».proof.Proof.Points
public import proofs.«01_k».proof.Proof.Pair
@[expose] public section
set_option maxRecDepth 16384
noncomputable section
open Idealize.ShloMosaic Idealize.ShloMosaic.TcCoe Idealize.SL.Sem
namespace Cert.KernelIdeal.Att
open Cert.KernelIdeal Cert.KernelIdeal.Gen Cert.KernelIdeal.Value

/-! The result array, entry by entry. -/

/-- The gated attention of the argument arrays. -/
def spec (Q A : FVec Ideal S32x2048x384 .f32) (CK CV : FVec Ideal S32x256x128 .f32) (LK LV : FVec Ideal S32x2048x128 .f32)
    (b : Fin 32) (t : Fin 2048) (k : Fin 384) : EReal :=
  attAt Q CK CV LK LV b ⟨k.val / 192, by omega⟩ ⟨k.val / 64 % 3, by omega⟩ t ⟨k.val % 64, by omega⟩
    * (A (ix3 b t k) * Ideal.div 1 (1 + Ideal.exp (-A (ix3 b t k))))

variable (m : (ℓ : Loc nD τ sig) → Buf (Elt Ideal) ℓ)

theorem entry_at (c : Dev nD)
    (fQ : ∀ i : S32x2048x384.Idx, ∃ r : ℝ, (show EReal from m ((c : Thread nD τ).loc main_arg0) i) = (r : EReal))
    (fC : ∀ i : S32x256x128.Idx, ∃ r : ℝ, (show EReal from m ((c : Thread nD τ).loc main_arg2) i) = (r : EReal))
    (fL : ∀ i : S32x2048x128.Idx, ∃ r : ℝ, (show EReal from m ((c : Thread nD τ).loc main_arg4) i) = (r : EReal))
    (t : Fin cfg0.N) (y : S1x2048x384.Idx) (b : Fin 32) (hb : b.val = t.val) (r : Fin 2048) (hr : r.val = (y 1).val)
    (k : Fin 384) (hk : k.val = (y 2).val) :
    (outsAt0 m c t.val t.isLt).1 y = spec (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b r k := by
  obtain ⟨i0, i1, i2, rfl⟩ : ∃ (i0 : Fin 1) (i1 : Fin 2048) (i2 : Fin 384), y = ix3 i0 i1 i2 := ⟨y 0, y 1, y 2, eq_ix3 y⟩
  obtain rfl : r = i1 := Fin.ext hr
  obtain rfl : k = i2 := Fin.ext hk
  obtain rfl : i0 = 0 := Subsingleton.elim _ _
  have hk384 := k.isLt
  rw [out_at m c t, outBlk_at _ _ _ _ _ ⟨k.val / 128, by omega⟩ ⟨k.val % 128, by omega⟩ r rfl (by show k.val = 128 * (k.val / 128) + k.val % 128; omega)]
  unfold spec
  refine Ideal.mul_congr ?_ ?_
  · refine pairOf_src b _ _ _ _ (m ((c : Thread nD τ).loc main_arg0)) (m ((c : Thread nD τ).loc main_arg2)) (m ((c : Thread nD τ).loc main_arg3))
      (m ((c : Thread nD τ).loc main_arg4)) (m ((c : Thread nD τ).loc main_arg5))
      (win2_at m c t b hb) (win4_at m c t b hb) (win3_at m c t b hb) (win5_at m c t b hb) fQ fC fL r ⟨k.val / 128, by omega⟩ ⟨k.val / 192, by omega⟩ ⟨k.val / 64 % 3, by omega⟩
      ⟨k.val % 64, by omega⟩ ⟨k.val % 128, by omega⟩ ?_ _ (fun d => ?_)
    · show 64 * (3 * (k.val / 192) + k.val / 64 % 3) + k.val % 64 = 128 * (k.val / 128) + k.val % 128
      omega
    · exact congrArg (· * qscale) (win0_at m c t b hb r ⟨128 * (k.val / 128) + d.val, by omega⟩)
  · exact (win1_at m c t b hb r k).trans (gate_at _ b r k)

theorem result_eq (c : Dev nD)
    (fQ : ∀ i : S32x2048x384.Idx, ∃ r : ℝ, (show EReal from m ((c : Thread nD τ).loc main_arg0) i) = (r : EReal))
    (fC : ∀ i : S32x256x128.Idx, ∃ r : ℝ, (show EReal from m ((c : Thread nD τ).loc main_arg2) i) = (r : EReal))
    (fL : ∀ i : S32x2048x128.Idx, ∃ r : ℝ, (show EReal from m ((c : Thread nD τ).loc main_arg4) i) = (r : EReal)) :
    (dats m 0 c).arrAt 6 cfg0.N = fun i : S32x2048x384.Idx => spec (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) (i 2) := by
  refine (dats m 0 c).arrAt_eq_of_covers 6 _ (by decide +kernel) fun t _ y => ?_
  blk_simp
  obtain ⟨-, -, -, -, -, -, -, -, -, -, -, -, -, -, -, -, -, -, h60, h61, h62⟩ := point_batch t
  have e0 : ((win0_6.blk t).view.emb y 0).val = t.val := by blk_simp [h60, h61, h62]
  have e1 : ((win0_6.blk t).view.emb y 1).val = (y 1).val := by blk_simp [h60, h61, h62]
  have e2 : ((win0_6.blk t).view.emb y 2).val = (y 2).val := by blk_simp [h60, h61, h62]
  exact entry_at m c fQ fC fL t y _ e0 _ e1 _ e2

end Cert.KernelIdeal.Att
end
-- ==== Proof.Ref.lean ====
module
public import proofs.«01_k».proof.Proof.Gen.ReferenceIdeal.Run
public import Idealize.ShloMosaic.Lib.Pointwise
@[expose] public section
set_option maxRecDepth 16384
noncomputable section
open Idealize.ShloMosaic Idealize.ShloMosaic.TcCoe Idealize.SL.Sem
namespace Cert.ReferenceIdeal.Att
open Cert.ReferenceIdeal Cert.ReferenceIdeal.Gen Cert.ReferenceIdeal.Value

/-! The reference's composed term, cut into its steps and read at an index. -/

/-- Context rows before latent rows, split into key heads. -/
def joined (C : FVec Ideal S32x256x128 .f32) (L : FVec Ideal S32x2048x128 .f32) : FVec Ideal S32x2304x2x64 .f32 :=
  shapeCast _ (concatenate S32x2304x128 1 [⟨S32x256x128, C⟩, ⟨S32x2048x128, L⟩] concatenates_S32x256x128_S32x2048x128_S32x2304x128_d1) shapeCasts_S32x2304x128_S32x2304x2x64

def scoresV (Q : FVec Ideal S32x2048x384 .f32) (K : FVec Ideal S32x2304x2x64 .f32) : FVec Ideal S32x2x3x2048x2304 .f32 :=
  mulf (transpose S32x2x3x2048x2304 [0, 1, 4, 3, 2] (Host.dotGeneral dot_S32x2304x2x64_S32x2048x2x3x64_S32x2x2304x2048x3_3_4_1_13_02_02 none K (shapeCast _ Q shapeCasts_S32x2048x384_S32x2048x2x3x64)) transposes_S32x2x2304x2048x3_S32x2x3x2048x2304_0_1_4_3_2) (broadcastInDim S32x2x3x2048x2304 ![] bcast_S_S32x2x3x2048x2304 (constant S_ .f32 0x3E000000#32))

def maxV (s : FVec Ideal S32x2x3x2048x2304 .f32) : FVec Ideal S32x2x3x2048 .f32 :=
  Host.reduce FloatOps.maximumf s (constant S_ .f32 0xFF800000#32) reducesTo_S32x2x3x2048x2304_S32x2x3x2048_d4 h_S_

def expV (s : FVec Ideal S32x2x3x2048x2304 .f32) (mx : FVec Ideal S32x2x3x2048 .f32) : FVec Ideal S32x2x3x2048x2304 .f32 :=
  Host.exp (subf s (broadcastInDim S32x2x3x2048x2304 ![0, 1, 2, 3, 4] bcast_S32x2x3x2048x1_S32x2x3x2048x2304_0_1_2_3_4 (broadcastInDim S32x2x3x2048x1 ![0, 1, 2, 3] bcast_S32x2x3x2048_S32x2x3x2048x1_0_1_2_3 (maximumf (broadcastInDim S32x2x3x2048 ![] bcast_S_S32x2x3x2048 (constant S_ .f32 0xFF800000#32)) mx))))

def expd (s : FVec Ideal S32x2x3x2048x2304 .f32) : FVec Ideal S32x2x3x2048x2304 .f32 := expV s (maxV s)

def probV (e : FVec Ideal S32x2x3x2048x2304 .f32) : FVec Ideal S32x2x3x2048x2304 .f32 :=
  Host.divf e (broadcastInDim S32x2x3x2048x2304 ![0, 1, 2, 3, 4] bcast_S32x2x3x2048x1_S32x2x3x2048x2304_0_1_2_3_4 (broadcastInDim S32x2x3x2048x1 ![0, 1, 2, 3] bcast_S32x2x3x2048_S32x2x3x2048x1_0_1_2_3 (Host.reduceAdd e (constant S_ .f32 0x00000000#32) reducesTo_S32x2x3x2048x2304_S32x2x3x2048_d4 h_S_)))

def outV (V : FVec Ideal S32x2304x2x64 .f32) (p : FVec Ideal S32x2x3x2048x2304 .f32) (A : FVec Ideal S32x2048x384 .f32) : FVec Ideal S32x2048x384 .bf16 :=
  truncf .bf16 (mulf (shapeCast _ (transpose S32x2048x2x3x64 [0, 4, 1, 3, 2] (Host.dotGeneral dot_S32x2304x2x64_S32x2x3x2048x2304_S32x2x64x3x2048_1_4_3_23_02_01 none V p) transposes_S32x2x64x3x2048_S32x2048x2x3x64_0_4_1_3_2) shapeCasts_S32x2048x2x3x64_S32x2048x384) (mulf A (Host.divf (broadcastInDim S32x2048x384 ![] bcast_S_S32x2048x384 (constant S_ .f32 0x3F800000#32)) (addf (broadcastInDim S32x2048x384 ![] bcast_S_S32x2048x384 (constant S_ .f32 0x3F800000#32)) (Host.exp (Host.negf A)))))) bitsLt_bf16_f32

theorem res_eq (m : (ℓ : Loc nD τ sig) → Buf (Elt Ideal) ℓ) (c : Dev nD) :
    res_main_v25 m c = outV (joined (m ((c.tc : Thread nD τ).loc main_arg3)) (m ((c.tc : Thread nD τ).loc main_arg5)))
      (probV (expd (scoresV (m ((c.tc : Thread nD τ).loc main_arg0)) (joined (m ((c.tc : Thread nD τ).loc main_arg2)) (m ((c.tc : Thread nD τ).loc main_arg4))))))
      (m ((c.tc : Thread nD τ).loc main_arg1)) := rfl

theorem joined_at (C : FVec Ideal S32x256x128 .f32) (L : FVec Ideal S32x2048x128 .f32) (b : Fin 32) (j : Fin 2304) (h : Fin 2) (d : Fin 64) :
    joined C L (ix4 b j h d) = if hj : j.val < 256 then C (ix3 b ⟨j.val, hj⟩ ⟨64 * h.val + d.val, by omega⟩)
      else L (ix3 b ⟨j.val - 256, by omega⟩ ⟨64 * h.val + d.val, by omega⟩) := by
  pointwise [joined]
  simp only [Nat.mul_comm]

theorem scoresV_at (Q : FVec Ideal S32x2048x384 .f32) (K : FVec Ideal S32x2304x2x64 .f32) (b : Fin 32) (h : Fin 2) (g : Fin 3) (t : Fin 2048) (j : Fin 2304) :
    scoresV Q K (ix5 b h g t j) = (∑ d : Fin 64, K (ix4 b j h d) * Q (ix3 b t ⟨64 * (3 * h.val + g.val) + d.val, by omega⟩)) * ((1 / 8 : ℝ) : EReal) := by
  pointwise [scoresV]
  have h8 : Ideal.ofBits .f32 0x3E000000#32 = ((1 / 8 : ℝ) : EReal) := by
    simp [Ideal.ofBits, Ideal.ieee, -EReal.coe_mul]; norm_num
  rw [h8]
  refine congrArg (· * _) (Finset.sum_congr rfl fun d _ => congrArg (_ * ·) (congrArg Q ?_))
  idx_ext

theorem neg_inf : Ideal.ofBits .f32 0xFF800000#32 = ⊥ := by simp [Ideal.ofBits, Ideal.ieee]

theorem fold_sup (s : Fin 2304 → EReal) : (Finset.univ : Finset (Fin 2304)).fold max ⊥ s = Finset.univ.sup s := rfl

theorem maxV_at (s : FVec Ideal S32x2x3x2048x2304 .f32) (b : Fin 32) (h : Fin 2) (g : Fin 3) (t : Fin 2048) :
    maxV s (ix4 b h g t) = Finset.univ.sup fun i : Fin 2304 => s (ix5 b h g t i) := by
  pointwise [maxV]
  rw [neg_inf, fold_sup]

theorem max_neg_inf (x : EReal) : max (Ideal.ofBits .f32 0xFF800000#32) x = x := by rw [neg_inf, max_eq_right bot_le]

theorem expV_at (s : FVec Ideal S32x2x3x2048x2304 .f32) (mx : FVec Ideal S32x2x3x2048 .f32) (b : Fin 32) (h : Fin 2) (g : Fin 3) (t : Fin 2048) (j : Fin 2304) :
    expV s mx (ix5 b h g t j) = Ideal.exp (s (ix5 b h g t j) - mx (ix4 b h g t)) := by
  pointwise [expV]
  rw [max_neg_inf]

theorem probV_at (e : FVec Ideal S32x2x3x2048x2304 .f32) (b : Fin 32) (h : Fin 2) (g : Fin 3) (t : Fin 2048) (j : Fin 2304) :
    probV e (ix5 b h g t j) = Ideal.div (e (ix5 b h g t j)) (∑ i : Fin 2304, e (ix5 b h g t i)) := by
  pointwise [probV]
  try simp only [zero_add]

theorem outV_at (V : FVec Ideal S32x2304x2x64 .f32) (p : FVec Ideal S32x2x3x2048x2304 .f32) (A : FVec Ideal S32x2048x384 .f32)
    (b : Fin 32) (h : Fin 2) (g : Fin 3) (d : Fin 64) (t : Fin 2048) :
    outV V p A (ix3 b t ⟨64 * (3 * h.val + g.val) + d.val, by omega⟩) = (∑ j : Fin 2304, V (ix4 b j h d) * p (ix5 b h g t j)) *
      (A (ix3 b t ⟨64 * (3 * h.val + g.val) + d.val, by omega⟩) * Ideal.div 1 (1 + Ideal.exp (-A (ix3 b t ⟨64 * (3 * h.val + g.val) + d.val, by omega⟩)))) := by
  pointwise [outV]

theorem expd_at (s : FVec Ideal S32x2x3x2048x2304 .f32) (b : Fin 32) (h : Fin 2) (g : Fin 3) (t : Fin 2048) (j : Fin 2304) :
    expd s (ix5 b h g t j) = Ideal.exp (s (ix5 b h g t j) - Finset.univ.sup fun i : Fin 2304 => s (ix5 b h g t i)) :=
  (expV_at s _ b h g t j).trans (by rw [maxV_at])
end Cert.ReferenceIdeal.Att
end
-- ==== Proof.Join.lean ====
module
public import proofs.«01_k».proof.Proof.Final
public import proofs.«01_k».proof.Proof.Ref
@[expose] public section
set_option maxRecDepth 16384
noncomputable section
open Idealize.ShloMosaic Idealize.ShloMosaic.TcCoe Idealize.SL.Sem
namespace Cert.ReferenceIdeal.Att
open Cert.ReferenceIdeal Cert.ReferenceIdeal.Gen
open Cert.KernelIdeal.Att (kvAt scoreAt attAt prob spec)

/-! The reference's result is the same function of the arguments. -/

variable (Q A : FVec Ideal S32x2048x384 .f32) (CK CV : FVec Ideal S32x256x128 .f32) (LK LV : FVec Ideal S32x2048x128 .f32)

theorem score_spec (b : Fin 32) (h : Fin 2) (g : Fin 3) (t : Fin 2048) (j : Fin 2304) :
    scoresV Q (joined CK LK) (ix5 b h g t j) = scoreAt Q CK LK b h g t j := by
  rw [scoresV_at]
  unfold scoreAt
  refine congrArg (· * _) (Finset.sum_congr rfl fun d _ => congrArg (· * _) ?_)
  exact joined_at CK LK b j h d

theorem prob_spec (b : Fin 32) (h : Fin 2) (g : Fin 3) (t : Fin 2048) (j : Fin 2304) :
    probV (expd (scoresV Q (joined CK LK))) (ix5 b h g t j) = prob (scoreAt Q CK LK b h g t) j := by
  rw [probV_at]
  simp only [expd_at, score_spec]
  rfl

theorem out_spec (b : Fin 32) (t : Fin 2048) (k : Fin 384) :
    outV (joined CV LV) (probV (expd (scoresV Q (joined CK LK)))) A (ix3 b t k) = spec Q A CK CV LK LV b t k := by
  have hk384 := k.isLt
  have e : (⟨64 * (3 * (k.val / 192) + k.val / 64 % 3) + k.val % 64, by omega⟩ : Fin 384) = k := Fin.ext (by
    show 64 * (3 * (k.val / 192) + k.val / 64 % 3) + k.val % 64 = k.val
    omega)
  have h := outV_at (joined CV LV) (probV (expd (scoresV Q (joined CK LK)))) A b ⟨k.val / 192, by omega⟩ ⟨k.val / 64 % 3, by omega⟩ ⟨k.val % 64, by omega⟩ t
  simp only [e] at h
  rw [h]
  unfold spec attAt
  refine congrArg (· * _) (Finset.sum_congr rfl fun j _ => ?_)
  rw [prob_spec]
  exact congrArg (· * _) (joined_at CV LV b j _ _)
end Cert.ReferenceIdeal.Att
end
-- ==== Proof.OutProj.lean ====
module
public import proofs.«01_k».proof.Proof.Gen.Kernel2Ideal.Value
public import proofs.«01_k».proof.Proof.Gen.Reference2Ideal.Run
public import proofs.«01_k».proof.Defs
public import Idealize.ShloMosaic.Lib.Pointwise
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem

/-! The output projection: the gated residual of the three mixers, side by side, times the output weights. -/

namespace Cert.Kernel2Ideal.Out
open Cert.Kernel2Ideal Cert.Kernel2Ideal.Gen Cert.Kernel2Ideal.Value

/-- Column `d` of the three mixers side by side. -/
def catAt (a : Fin 384 → EReal) (b : Fin 256 → EReal) (c : Fin 384 → EReal) (d : Fin 1024) : EReal :=
  if h : d.val < 384 then a ⟨d.val, h⟩ else if h' : d.val - 384 < 256 then b ⟨d.val - 384, h'⟩ else c ⟨d.val - 384 - 256, by omega⟩

/-- One entry of the gated residual. -/
def spec (X : FVec Ideal S32x2048x1024 .f32) (G : FVec Ideal S32x1024 .f32) (A : FVec Ideal S32x2048x384 .bf16)
    (B : FVec Ideal S32x2048x256 .bf16) (C : FVec Ideal S32x2048x384 .bf16) (W : FVec Ideal S1024x1024 .f32)
    (b : Fin 32) (t : Fin 2048) (k : Fin 1024) : EReal :=
  X (ix3 b t k) + G (ix2 b k) * ∑ d : Fin 1024,
    catAt (fun k => A (ix3 b t k)) (fun k => B (ix3 b t k)) (fun k => C (ix3 b t k)) d * W (ix2 d k)

/-- What a grid point stores, entry by entry. -/
theorem pay_at (x : FVec Ideal S1x1024x1024 .f32) (g : FVec Ideal S1x1x1024 .f32) (a : FVec Ideal S1x1024x384 .bf16)
    (b : FVec Ideal S1x1024x256 .bf16) (c : FVec Ideal S1x1024x384 .bf16) (w : FVec Ideal S1024x1024 .bf16)
    (r : Fin 1024) (k : Fin 1024) :
    k0_pay1 (F := Ideal) x g a b c w (ix3 0 r k) = x (ix3 0 r k) + g (ix3 0 0 k) * ∑ d : Fin 1024,
      catAt (fun k => a (ix3 0 r k)) (fun k => b (ix3 0 r k)) (fun k => c (ix3 0 r k)) d * w (ix2 d k) := by
  pointwise [k0_pay1]
  rfl

variable (m : (ℓ : Loc nD τ sig) → Buf (Elt Ideal) ℓ)

/-- The blocks a grid point stages: batch `t / 2`, rows from `1024 (t % 2)`. -/
theorem points : ∀ t : Fin cfg0.N, win0_0.index t 0 = t.val / 2 ∧ win0_0.index t 1 = t.val % 2 ∧ win0_0.index t 2 = 0 ∧
    win0_1.index t 0 = t.val / 2 ∧ win0_1.index t 1 = 0 ∧ win0_1.index t 2 = 0 ∧
    win0_2.index t 0 = t.val / 2 ∧ win0_2.index t 1 = t.val % 2 ∧ win0_2.index t 2 = 0 ∧
    win0_3.index t 0 = t.val / 2 ∧ win0_3.index t 1 = t.val % 2 ∧ win0_3.index t 2 = 0 ∧
    win0_4.index t 0 = t.val / 2 ∧ win0_4.index t 1 = t.val % 2 ∧ win0_4.index t 2 = 0 ∧
    win0_5.index t 0 = 0 ∧ win0_5.index t 1 = 0 ∧
    win0_6.index t 0 = t.val / 2 ∧ win0_6.index t 1 = t.val % 2 ∧ win0_6.index t 2 = 0 :=
  (by decide +kernel : ∀ t : Fin grid0.N, _)

theorem win0_at (c : Dev nD) (t : Fin cfg0.N) (b : Fin 32) (hb : b.val = t.val / 2) (r : Fin 1024) (q : Fin 2048)
    (hq : q.val = t.val % 2 * 1024 + r.val) (k : Fin 1024) :
    iblk m c 0 t (ix3 0 r k) = m ((c : Thread nD τ).loc main_arg0) (ix3 b q k) := by
  blk_ext [iblk, V, points t]

theorem gate_eq (c : Dev nD) : V m c main_v0 = (broadcastInDim S32x1x1024 ![0, 2] bcast_S32x1024_S32x1x1024_0_2
    (m ((c : Thread nD τ).loc main_arg1) : FVec Ideal S32x1024 .f32) : FVec Ideal S32x1x1024 .f32) := by
  unfold V
  simp only [List.flatten_cons, List.flatten_nil, List.cons_append, List.nil_append, hostOps0]
  after_results

theorem gate_at (G : FVec Ideal S32x1024 .f32) (b : Fin 32) (k : Fin 1024) :
    broadcastInDim S32x1x1024 ![0, 2] bcast_S32x1024_S32x1x1024_0_2 G (ix3 b 0 k) = G (ix2 b k) := by
  pointwise []

theorem win1_at (c : Dev nD) (t : Fin cfg0.N) (b : Fin 32) (hb : b.val = t.val / 2) (k : Fin 1024) :
    iblk m c 1 t (ix3 0 0 k) = m ((c : Thread nD τ).loc main_arg1) (ix2 b k) := by
  refine .trans ?_ (gate_at (m ((c : Thread nD τ).loc main_arg1)) b k)
  rw [← gate_eq]
  blk_ext [iblk, V, points t]

theorem win2_at (c : Dev nD) (t : Fin cfg0.N) (b : Fin 32) (hb : b.val = t.val / 2) (r : Fin 1024) (q : Fin 2048)
    (hq : q.val = t.val % 2 * 1024 + r.val) (k : Fin 384) :
    iblk m c 2 t (ix3 0 r k) = m ((c : Thread nD τ).loc main_arg2) (ix3 b q k) := by
  blk_ext [iblk, V, points t]

theorem win3_at (c : Dev nD) (t : Fin cfg0.N) (b : Fin 32) (hb : b.val = t.val / 2) (r : Fin 1024) (q : Fin 2048)
    (hq : q.val = t.val % 2 * 1024 + r.val) (k : Fin 256) :
    iblk m c 3 t (ix3 0 r k) = m ((c : Thread nD τ).loc main_arg3) (ix3 b q k) := by
  blk_ext [iblk, V, points t]

theorem win4_at (c : Dev nD) (t : Fin cfg0.N) (b : Fin 32) (hb : b.val = t.val / 2) (r : Fin 1024) (q : Fin 2048)
    (hq : q.val = t.val % 2 * 1024 + r.val) (k : Fin 384) :
    iblk m c 4 t (ix3 0 r k) = m ((c : Thread nD τ).loc main_arg4) (ix3 b q k) := by
  blk_ext [iblk, V, points t]

theorem weights_eq (c : Dev nD) : V m c main_v1 = (truncf .bf16 (m ((c : Thread nD τ).loc main_arg5) : FVec Ideal S1024x1024 .f32)
    bitsLt_bf16_f32 : FVec Ideal S1024x1024 .bf16) := by
  unfold V
  simp only [List.flatten_cons, List.flatten_nil, List.cons_append, List.nil_append, hostOps0]
  after_results

theorem win5_at (c : Dev nD) (t : Fin cfg0.N) (d k : Fin 1024) :
    iblk m c 5 t (ix2 d k) = m ((c : Thread nD τ).loc main_arg5) (ix2 d k) := by
  refine .trans (b := V m c main_v1 (ix2 d k)) ?_ (by rw [weights_eq]; rfl)
  blk_ext [iblk, V, points t]

theorem out_eq (x : FVec Ideal S1x1024x1024 .f32) (g : FVec Ideal S1x1x1024 .f32) (a : FVec Ideal S1x1024x384 .bf16)
    (b : FVec Ideal S1x1024x256 .bf16) (c : FVec Ideal S1x1024x384 .bf16) (w : FVec Ideal S1024x1024 .bf16) :
    out0_6 (F := Ideal) x g a b c w = k0_pay1 (F := Ideal) x g a b c w := by
  unfold out0_6
  rw [View.canon_unit_zero (by decide), View.ld_unit_zero (by decide), View.ld_unit_zero (by decide), View.ld_unit_zero (by decide),
    View.ld_unit_zero (by decide), View.ld_unit_zero (by decide), View.ld_unit_zero (by decide)]

/-- What a grid point's block holds, as an entry of the gated residual. -/
theorem entry_at (c : Dev nD) (t : Fin cfg0.N) (y : S1x1024x1024.Idx) (b : Fin 32) (hb : b.val = t.val / 2)
    (q : Fin 2048) (hq : q.val = t.val % 2 * 1024 + (y 1).val) (k : Fin 1024) (hk : k.val = (y 2).val) :
    out0_6 (iblk m c 0 t) (iblk m c 1 t) (iblk m c 2 t) (iblk m c 3 t) (iblk m c 4 t) (iblk m c 5 t) y =
    spec (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b q k := by
  obtain ⟨i0, i1, i2, rfl⟩ : ∃ (i0 : Fin 1) (i1 : Fin 1024) (i2 : Fin 1024), y = ix3 i0 i1 i2 := ⟨y 0, y 1, y 2, eq_ix3 y⟩
  obtain rfl : k = i2 := Fin.ext hk
  obtain rfl : i0 = 0 := Subsingleton.elim _ _
  have hq' : q.val = t.val % 2 * 1024 + i1.val := hq
  rw [out_eq]
  refine (pay_at _ _ _ _ _ _ i1 k).trans ?_
  unfold spec
  simp only [win0_at m c t b hb i1 q hq', win1_at m c t b hb, win2_at m c t b hb i1 q hq', win3_at m c t b hb i1 q hq', win4_at m c t b hb i1 q hq', win5_at m c t]

theorem result_eq (c : Dev nD) : (dats m 0 c).arrAt 6 cfg0.N = fun i : S32x2048x1024.Idx =>
    spec (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) (i 2) := by
  refine (dats m 0 c).arrAt_eq_of_covers 6 _ (by decide +kernel) fun t _ y => ?_
  blk_simp
  obtain ⟨-, -, -, -, -, -, -, -, -, -, -, -, -, -, -, -, -, h60, h61, h62⟩ := points t
  have e0 : ((win0_6.blk t).view.emb y 0).val = t.val / 2 := by blk_simp [h60, h61, h62]
  have e1 : ((win0_6.blk t).view.emb y 1).val = t.val % 2 * 1024 + (y 1).val := by blk_simp [h60, h61, h62]
  have e2 : ((win0_6.blk t).view.emb y 2).val = (y 2).val := by blk_simp [h60, h61, h62]
  exact (congrFun (after0_6 m c t) y).trans (entry_at m c t y _ e0 _ e1 _ e2)

end Cert.Kernel2Ideal.Out

namespace Cert.Reference2Ideal.Out
open Cert.Reference2Ideal Cert.Reference2Ideal.Gen

/-- The reference's result, as its operations give it. -/
def res (X : FVec Ideal S32x2048x1024 .f32) (G : FVec Ideal S32x1024 .f32) (A : FVec Ideal S32x2048x384 .bf16)
    (B : FVec Ideal S32x2048x256 .bf16) (C : FVec Ideal S32x2048x384 .bf16) (W : FVec Ideal S1024x1024 .f32) : FVec Ideal S32x2048x1024 .f32 :=
  addf X (mulf (broadcastInDim S32x2048x1024 ![0, 1, 2] bcast_S32x1x1024_S32x2048x1024_0_1_2
      (broadcastInDim S32x1x1024 ![0, 2] bcast_S32x1024_S32x1x1024_0_2 G))
    (Host.dotGeneral dot_S32x2048x1024_S1024x1024_S32x2048x1024_2_0_01_1_n_n none
      (extf .f32 (concatenate S32x2048x1024 2 [⟨S32x2048x384, A⟩, ⟨S32x2048x256, B⟩, ⟨S32x2048x384, C⟩]
        concatenates_S32x2048x384_S32x2048x256_S32x2048x384_S32x2048x1024_d2) bitsLt_bf16_f32) W))

theorem res_at (X : FVec Ideal S32x2048x1024 .f32) (G : FVec Ideal S32x1024 .f32) (A : FVec Ideal S32x2048x384 .bf16)
    (B : FVec Ideal S32x2048x256 .bf16) (C : FVec Ideal S32x2048x384 .bf16) (W : FVec Ideal S1024x1024 .f32)
    (b : Fin 32) (t : Fin 2048) (k : Fin 1024) :
    res X G A B C W (ix3 b t k) = Cert.Kernel2Ideal.Out.spec X G A B C W b t k := by
  pointwise [res]
  rfl

end Cert.Reference2Ideal.Out

/-- The kernel's output projection is the reference's. -/
theorem Cert.output_projection : letI := Cert.Kernel2Ideal.Gen.facts; letI := Cert.Reference2Ideal.Gen.facts
    Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  obtain ⟨e0, e1, e2, e3, e4, e5⟩ := hagree c
  rw [e0, e1, e2, e3, e4, e5]
  refine .trans (funext fun i => ?_) (Cert.Kernel2Ideal.Out.result_eq m c).symm
  rw [eq_ix3 i]
  exact Cert.Reference2Ideal.Out.res_at _ _ _ _ _ _ (i 0) (i 1) (i 2)
end
-- ==== Proof.ProjBody.lean ====
module
public import proofs.«01_k».proof.Proof.Gen.Kernel3Ideal.Value
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem

/-! What the input projection's body stores of one block of 256 rows, as functions of the block and of the operands. -/

namespace Cert.Kernel3Ideal.Proj
open Cert.Kernel3Ideal Cert.Kernel3Ideal.Gen

variable {F : FTy → Type} [FloatOps F] [∀ f, Nonempty (F f)]

/-- The lanes of the first of a chunk's two heads. -/
def firstHead : IVec S256x128 1 := broadcastTo S256x128 (shapeCast S1x128 k0_pay11 shapeCasts_S1x128_S1x128) broadcasts_S1x128_S256x128

/-- The lanes of the first half of an axis' pairs. -/
def firstHalf : IVec S256x128 1 := broadcastTo S256x128 (shapeCast S1x128 k0_pay17 shapeCasts_S1x128_S1x128) broadcasts_S1x128_S256x128

def laneSum (t : FVec F S256x128 .f32) : FVec F S256x128 .f32 :=
  broadcastTo S256x128 (shapeCast S256x1 (shapeCast S256x1
    (multiReduction .add [1] S256 t 0x00000000#32 reduces_S256x128_S256 (.inl rfl) rfl : FVec F S256 .f32) shapeCasts_S256_S256x1)
    shapeCasts_S256x1_S256x1) broadcasts_S256x1_S256x128

/-- At each lane the sum over its head's lanes. -/
def headSum (t : FVec F S256x128 .f32) : FVec F S256x128 .f32 :=
  select firstHead (laneSum (select firstHead t (broadcast S256x128 (Scalar.ofBits .f32 0x00000000#32 : F .f32))))
    (laneSum (select firstHead (broadcast S256x128 (Scalar.ofBits .f32 0x00000000#32 : F .f32)) t))

def chunk0 (t : FVec F S256x512 .f32) : FVec F S256x128 .f32 := extractStridedSlice S256x128 ![0, 0] t slices_S256x512_o0_0_S256x128
def chunk1 (t : FVec F S256x512 .f32) : FVec F S256x128 .f32 := extractStridedSlice S256x128 ![0, 128] t slices_S256x512_o0_128_S256x128
def chunk2 (t : FVec F S256x512 .f32) : FVec F S256x128 .f32 := extractStridedSlice S256x128 ![0, 256] t slices_S256x512_o0_256_S256x128
def chunk3 (t : FVec F S256x512 .f32) : FVec F S256x128 .f32 := extractStridedSlice S256x128 ![0, 384] t slices_S256x512_o0_384_S256x128

def join (a b c d : FVec F S256x128 .f32) : FVec F S256x512 .f32 :=
  concatenate S256x512 1 [⟨S256x128, a⟩, ⟨S256x128, b⟩, ⟨S256x128, c⟩, ⟨S256x128, d⟩]
    concatenates_S256x128_S256x128_S256x128_S256x128_S256x512_d1

def squares (t : FVec F S256x512 .f32) : FVec F S256x512 .f32 :=
  join (headSum (mulf (chunk0 t) (chunk0 t))) (headSum (mulf (chunk1 t) (chunk1 t))) (headSum (mulf (chunk2 t) (chunk2 t)))
    (headSum (mulf (chunk3 t) (chunk3 t)))

/-- The head norm, the sums of squares being given. -/
def normBy (t s : FVec F S256x512 .f32) (g : FVec F S1x512 .f32) : FVec F S256x512 .f32 :=
  mulf (mulf t (rsqrt (addf (mulf s (broadcast S256x512 (Scalar.ofBits .f32 0x3C800000#32 : F .f32)))
    (broadcast S256x512 (Scalar.ofBits .f32 0x358637BD#32 : F .f32))))) (broadcastTo S256x512 g broadcasts_S1x512_S256x512)

/-- One chunk's rotary. -/
def turn (t cos sin : FVec F S256x128 .f32) : FVec F S256x128 .f32 :=
  addf (mulf t cos) (mulf (select firstHalf (dynamicRotate 1 112#32 none t rotates_S256x128_d1)
    (dynamicRotate 1 16#32 none t rotates_S256x128_d1)) sin)

def turns (t : FVec F S256x512 .f32) (cos sin : FVec F S256x128 .f32) : FVec F S256x512 .f32 :=
  join (turn (chunk0 t) cos sin) (turn (chunk1 t) cos sin) (turn (chunk2 t) cos sin) (turn (chunk3 t) cos sin)

def headCols (p : FVec F S256x1024 .f32) : FVec F S256x512 .f32 := extractStridedSlice S256x512 ![0, 0] p slices_S256x1024_o0_0_S256x512

/-- Queries and keys: projected, normalized, turned. -/
def queriesKeys (p : FVec F S256x1024 .f32) (g : FVec F S1x512 .f32) (cos sin : FVec F S256x128 .f32) : FVec F S256x512 .f32 :=
  turns (normBy (headCols p) (squares (headCols p)) (shapeCast S1x512 g shapeCasts_S1x512_S1x512))
    (shapeCast S256x128 cos shapeCasts_S256x128_S256x128) (shapeCast S256x128 sin shapeCasts_S256x128_S256x128)

def qStored (r : FVec F S256x512 .f32) : FVec F S1x256x384 .bf16 :=
  shapeCast S1x256x384 (truncf .bf16 (extractStridedSlice S256x384 ![0, 0] r slices_S256x512_o0_0_S256x384 : FVec F S256x384 .f32) bitsLt_bf16_f32)
    shapeCasts_S256x384_S1x256x384

/-- A chunk beside itself with its heads exchanged. -/
def beside (t : FVec F S256x128 .f32) : FVec F S1x256x256 .bf16 :=
  shapeCast S1x256x256 (truncf .bf16 (concatenate S256x256 1 [⟨S256x128, t⟩, ⟨S256x128, dynamicRotate 1 64#32 none t rotates_S256x128_d1⟩]
    concatenates_S256x128_S256x128_S256x256_d1 : FVec F S256x256 .f32) bitsLt_bf16_f32) shapeCasts_S256x256_S1x256x256

def vCols (p : FVec F S256x1024 .f32) : FVec F S256x128 .f32 := extractStridedSlice S256x128 ![0, 512] p slices_S256x1024_o0_512_S256x128

def gStored (p : FVec F S256x1024 .f32) : FVec F S1x256x384 .bf16 := k0_pay28 (k0_pay27 p)

def hyStored (v0 v2 : Vec F S1x1x1024 .f32) (v4 : Vec F S1x256x1024 .f32) (v16 : Vec F S1x1024 .f32)
    (w : Vec F S1024x1024 .bf16) : FVec F S1x256x1024 .bf16 := k0_pay55 (k0_pay5 v0 v2 v4 v16) w

/-- Normalized, modulated rows times weights. -/
def rowsTimes (v0 v2 : Vec F S1x1x1024 .f32) (v4 : Vec F S1x256x1024 .f32) (v16 : Vec F S1x1024 .f32)
    (w : Vec F S1024x1024 .bf16) : FVec F S256x1024 .f32 := k0_pay8 v0 v2 v4 v16 w

variable (x0 : Vec F S1x1024x1024 .f32) (x1 : Vec F S1x1x3072 .f32) (x2 : Vec F S1x1024 .f32) (x3 : Vec F S1024x3072 .bf16)
  (x4 x5 : Vec F S1024x128 .f32) (x6 x7 : Vec F S1x512 .f32)

theorem q_a_eq : out0_8 x0 x1 x2 x3 x4 x5 x6 x7 = View.canon (Val := Elt F) [
    ⟨r0_21, qStored (queriesKeys (rowsTimes (View.ld x1 r0_0) (View.ld x1 r0_1) (View.ld x0 r0_19) (View.ld x2 r0_3) (View.ld x3 r0_5)) (View.ld x6 r0_6) (View.ld x4 r0_20) (View.ld x5 r0_20))⟩,
    ⟨r0_17, qStored (queriesKeys (rowsTimes (View.ld x1 r0_0) (View.ld x1 r0_1) (View.ld x0 r0_15) (View.ld x2 r0_3) (View.ld x3 r0_5)) (View.ld x6 r0_6) (View.ld x4 r0_16) (View.ld x5 r0_16))⟩,
    ⟨r0_13, qStored (queriesKeys (rowsTimes (View.ld x1 r0_0) (View.ld x1 r0_1) (View.ld x0 r0_11) (View.ld x2 r0_3) (View.ld x3 r0_5)) (View.ld x6 r0_6) (View.ld x4 r0_12) (View.ld x5 r0_12))⟩,
    ⟨r0_7, qStored (queriesKeys (rowsTimes (View.ld x1 r0_0) (View.ld x1 r0_1) (View.ld x0 r0_2) (View.ld x2 r0_3) (View.ld x3 r0_5)) (View.ld x6 r0_6) (View.ld x4 r0_4) (View.ld x5 r0_4))⟩] := by
  rfl

theorem k_a_eq : out0_9 x0 x1 x2 x3 x4 x5 x6 x7 = View.canon (Val := Elt F) [
    ⟨r0_22, beside (chunk3 (queriesKeys (rowsTimes (View.ld x1 r0_0) (View.ld x1 r0_1) (View.ld x0 r0_19) (View.ld x2 r0_3) (View.ld x3 r0_5)) (View.ld x6 r0_6) (View.ld x4 r0_20) (View.ld x5 r0_20)))⟩,
    ⟨r0_18, beside (chunk3 (queriesKeys (rowsTimes (View.ld x1 r0_0) (View.ld x1 r0_1) (View.ld x0 r0_15) (View.ld x2 r0_3) (View.ld x3 r0_5)) (View.ld x6 r0_6) (View.ld x4 r0_16) (View.ld x5 r0_16)))⟩,
    ⟨r0_14, beside (chunk3 (queriesKeys (rowsTimes (View.ld x1 r0_0) (View.ld x1 r0_1) (View.ld x0 r0_11) (View.ld x2 r0_3) (View.ld x3 r0_5)) (View.ld x6 r0_6) (View.ld x4 r0_12) (View.ld x5 r0_12)))⟩,
    ⟨r0_8, beside (chunk3 (queriesKeys (rowsTimes (View.ld x1 r0_0) (View.ld x1 r0_1) (View.ld x0 r0_2) (View.ld x2 r0_3) (View.ld x3 r0_5)) (View.ld x6 r0_6) (View.ld x4 r0_4) (View.ld x5 r0_4)))⟩] := by
  rfl

theorem v_a_eq : out0_10 x0 x1 x2 x3 x4 x5 x6 x7 = View.canon (Val := Elt F) [
    ⟨r0_22, beside (vCols (rowsTimes (View.ld x1 r0_0) (View.ld x1 r0_1) (View.ld x0 r0_19) (View.ld x2 r0_3) (View.ld x3 r0_5)))⟩,
    ⟨r0_18, beside (vCols (rowsTimes (View.ld x1 r0_0) (View.ld x1 r0_1) (View.ld x0 r0_15) (View.ld x2 r0_3) (View.ld x3 r0_5)))⟩,
    ⟨r0_14, beside (vCols (rowsTimes (View.ld x1 r0_0) (View.ld x1 r0_1) (View.ld x0 r0_11) (View.ld x2 r0_3) (View.ld x3 r0_5)))⟩,
    ⟨r0_8, beside (vCols (rowsTimes (View.ld x1 r0_0) (View.ld x1 r0_1) (View.ld x0 r0_2) (View.ld x2 r0_3) (View.ld x3 r0_5)))⟩] := by
  rfl

theorem g_a_eq : out0_11 x0 x1 x2 x3 x4 x5 x6 x7 = View.canon (Val := Elt F) [
    ⟨r0_21, gStored (rowsTimes (View.ld x1 r0_0) (View.ld x1 r0_1) (View.ld x0 r0_19) (View.ld x2 r0_3) (View.ld x3 r0_5))⟩,
    ⟨r0_17, gStored (rowsTimes (View.ld x1 r0_0) (View.ld x1 r0_1) (View.ld x0 r0_15) (View.ld x2 r0_3) (View.ld x3 r0_5))⟩,
    ⟨r0_13, gStored (rowsTimes (View.ld x1 r0_0) (View.ld x1 r0_1) (View.ld x0 r0_11) (View.ld x2 r0_3) (View.ld x3 r0_5))⟩,
    ⟨r0_7, gStored (rowsTimes (View.ld x1 r0_0) (View.ld x1 r0_1) (View.ld x0 r0_2) (View.ld x2 r0_3) (View.ld x3 r0_5))⟩] := by
  rfl

theorem q_c_eq : out0_13 x0 x1 x2 x3 x4 x5 x6 x7 = View.canon (Val := Elt F) [
    ⟨r0_21, qStored (queriesKeys (rowsTimes (View.ld x1 r0_0) (View.ld x1 r0_1) (View.ld x0 r0_19) (View.ld x2 r0_3) (View.ld x3 r0_9)) (View.ld x7 r0_6) (View.ld x4 r0_20) (View.ld x5 r0_20))⟩,
    ⟨r0_17, qStored (queriesKeys (rowsTimes (View.ld x1 r0_0) (View.ld x1 r0_1) (View.ld x0 r0_15) (View.ld x2 r0_3) (View.ld x3 r0_9)) (View.ld x7 r0_6) (View.ld x4 r0_16) (View.ld x5 r0_16))⟩,
    ⟨r0_13, qStored (queriesKeys (rowsTimes (View.ld x1 r0_0) (View.ld x1 r0_1) (View.ld x0 r0_11) (View.ld x2 r0_3) (View.ld x3 r0_9)) (View.ld x7 r0_6) (View.ld x4 r0_12) (View.ld x5 r0_12))⟩,
    ⟨r0_7, qStored (queriesKeys (rowsTimes (View.ld x1 r0_0) (View.ld x1 r0_1) (View.ld x0 r0_2) (View.ld x2 r0_3) (View.ld x3 r0_9)) (View.ld x7 r0_6) (View.ld x4 r0_4) (View.ld x5 r0_4))⟩] := by
  rfl

theorem k_c_eq : out0_14 x0 x1 x2 x3 x4 x5 x6 x7 = View.canon (Val := Elt F) [
    ⟨r0_22, beside (chunk3 (queriesKeys (rowsTimes (View.ld x1 r0_0) (View.ld x1 r0_1) (View.ld x0 r0_19) (View.ld x2 r0_3) (View.ld x3 r0_9)) (View.ld x7 r0_6) (View.ld x4 r0_20) (View.ld x5 r0_20)))⟩,
    ⟨r0_18, beside (chunk3 (queriesKeys (rowsTimes (View.ld x1 r0_0) (View.ld x1 r0_1) (View.ld x0 r0_15) (View.ld x2 r0_3) (View.ld x3 r0_9)) (View.ld x7 r0_6) (View.ld x4 r0_16) (View.ld x5 r0_16)))⟩,
    ⟨r0_14, beside (chunk3 (queriesKeys (rowsTimes (View.ld x1 r0_0) (View.ld x1 r0_1) (View.ld x0 r0_11) (View.ld x2 r0_3) (View.ld x3 r0_9)) (View.ld x7 r0_6) (View.ld x4 r0_12) (View.ld x5 r0_12)))⟩,
    ⟨r0_8, beside (chunk3 (queriesKeys (rowsTimes (View.ld x1 r0_0) (View.ld x1 r0_1) (View.ld x0 r0_2) (View.ld x2 r0_3) (View.ld x3 r0_9)) (View.ld x7 r0_6) (View.ld x4 r0_4) (View.ld x5 r0_4)))⟩] := by
  rfl

theorem v_c_eq : out0_15 x0 x1 x2 x3 x4 x5 x6 x7 = View.canon (Val := Elt F) [
    ⟨r0_22, beside (vCols (rowsTimes (View.ld x1 r0_0) (View.ld x1 r0_1) (View.ld x0 r0_19) (View.ld x2 r0_3) (View.ld x3 r0_9)))⟩,
    ⟨r0_18, beside (vCols (rowsTimes (View.ld x1 r0_0) (View.ld x1 r0_1) (View.ld x0 r0_15) (View.ld x2 r0_3) (View.ld x3 r0_9)))⟩,
    ⟨r0_14, beside (vCols (rowsTimes (View.ld x1 r0_0) (View.ld x1 r0_1) (View.ld x0 r0_11) (View.ld x2 r0_3) (View.ld x3 r0_9)))⟩,
    ⟨r0_8, beside (vCols (rowsTimes (View.ld x1 r0_0) (View.ld x1 r0_1) (View.ld x0 r0_2) (View.ld x2 r0_3) (View.ld x3 r0_9)))⟩] := by
  rfl

theorem g_c_eq : out0_16 x0 x1 x2 x3 x4 x5 x6 x7 = View.canon (Val := Elt F) [
    ⟨r0_21, gStored (rowsTimes (View.ld x1 r0_0) (View.ld x1 r0_1) (View.ld x0 r0_19) (View.ld x2 r0_3) (View.ld x3 r0_9))⟩,
    ⟨r0_17, gStored (rowsTimes (View.ld x1 r0_0) (View.ld x1 r0_1) (View.ld x0 r0_15) (View.ld x2 r0_3) (View.ld x3 r0_9))⟩,
    ⟨r0_13, gStored (rowsTimes (View.ld x1 r0_0) (View.ld x1 r0_1) (View.ld x0 r0_11) (View.ld x2 r0_3) (View.ld x3 r0_9))⟩,
    ⟨r0_7, gStored (rowsTimes (View.ld x1 r0_0) (View.ld x1 r0_1) (View.ld x0 r0_2) (View.ld x2 r0_3) (View.ld x3 r0_9))⟩] := by
  rfl

theorem hy_eq : out0_12 x0 x1 x2 x3 x4 x5 x6 x7 = View.canon (Val := Elt F) [
    ⟨r0_19, hyStored (View.ld x1 r0_0) (View.ld x1 r0_1) (View.ld x0 r0_19) (View.ld x2 r0_3) (View.ld x3 r0_10)⟩,
    ⟨r0_15, hyStored (View.ld x1 r0_0) (View.ld x1 r0_1) (View.ld x0 r0_15) (View.ld x2 r0_3) (View.ld x3 r0_10)⟩,
    ⟨r0_11, hyStored (View.ld x1 r0_0) (View.ld x1 r0_1) (View.ld x0 r0_11) (View.ld x2 r0_3) (View.ld x3 r0_10)⟩,
    ⟨r0_2, hyStored (View.ld x1 r0_0) (View.ld x1 r0_1) (View.ld x0 r0_2) (View.ld x2 r0_3) (View.ld x3 r0_10)⟩] := by
  rfl

end Cert.Kernel3Ideal.Proj
end
-- ==== Proof.ProjAt.lean ====
module
public import proofs.«01_k».proof.Proof.ProjBody
@[expose] public section
set_option maxRecDepth 16384
noncomputable section
open Idealize.ShloMosaic Idealize.ShloMosaic.TcCoe Idealize.SL.Sem

/-! The stored values of one block of rows, read at an entry. -/

namespace Cert.Kernel3Ideal.Proj
open Cert.Kernel3Ideal Cert.Kernel3Ideal.Gen

theorem firstHead_at (r : Fin 256) (l : Fin 128) : firstHead (ix2 r l) = if l.val < 64 then 1#1 else 0#1 := by
  have h : ∀ l : Fin 128, k0_pay11 (ix2 0 l) = if l.val < 64 then 1#1 else 0#1 := by
    intro l
    pointwise [k0_pay11]
    revert l
    decide +kernel
  pointwise [firstHead]
  exact h l

theorem firstHalf_at (r : Fin 256) (l : Fin 128) : firstHalf (ix2 r l) = if l.val % 32 < 16 then 1#1 else 0#1 := by
  have h : ∀ l : Fin 128, k0_pay17 (ix2 0 l) = if l.val % 32 < 16 then 1#1 else 0#1 := by
    intro l
    pointwise [k0_pay17]
    revert l
    decide +kernel
  pointwise [firstHalf]
  exact h l

theorem laneSum_at (t : FVec Ideal S256x128 .f32) (r : Fin 256) (l : Fin 128) :
    laneSum (F := Ideal) t (ix2 r l) = ∑ k : Fin 128, t (ix2 r k) := by
  pointwise [laneSum]

theorem headSum_at (t : FVec Ideal S256x128 .f32) (r : Fin 256) (l : Fin 128) :
    headSum (F := Ideal) t (ix2 r l) = ∑ j : Fin 64, t (ix2 r ⟨64 * (l.val / 64) + j.val, by omega⟩) := by
  have z : (Scalar.ofBits .f32 0x00000000#32 : Ideal .f32) = (0 : EReal) := by
    show Ideal.ofBits .f32 0x00000000#32 = 0
    simp [Ideal.ofBits, Ideal.ieee]
  have hs : ∀ (k : Fin 128) (a b : EReal), Scalar.select (firstHead (ix2 r k)) a b = if k.val < 64 then a else b := by
    intro k a b
    rw [firstHead_at]
    by_cases h : k.val < 64 <;> simp [h, Scalar.select]
  unfold headSum
  show Scalar.select (firstHead (ix2 r l)) (laneSum (F := Ideal) _ (ix2 r l)) (laneSum (F := Ideal) _ (ix2 r l)) = _
  rw [laneSum_at, laneSum_at, hs]
  have h1 : ∀ k : Fin 128, select firstHead t (broadcast S256x128 (Scalar.ofBits .f32 0x00000000#32 : Ideal .f32)) (ix2 r k) =
      if k.val < 64 then t (ix2 r k) else (0 : EReal) := fun k => (hs k _ _).trans (by rw [← z]; rfl)
  have h2 : ∀ k : Fin 128, select firstHead (broadcast S256x128 (Scalar.ofBits .f32 0x00000000#32 : Ideal .f32)) t (ix2 r k) =
      if k.val < 64 then (0 : EReal) else t (ix2 r k) := fun k => (hs k _ _).trans (by rw [← z]; rfl)
  rw [Finset.sum_congr rfl fun k _ => h1 k, Finset.sum_congr rfl fun k _ => h2 k]
  rw [Fin.sum_univ_two_halves 64 64 rfl, Fin.sum_univ_two_halves 64 64 rfl]
  by_cases h : l.val < 64
  · have e : l.val / 64 = 0 := by omega
    simp [h, e]
  · have e : l.val / 64 = 1 := by omega
    simp [h, e]

/-- The other lane of a lane's pair. -/
def other (c : ℕ) : ℕ := if c % 32 < 16 then c + 16 else c - 16

theorem other_lt (c : Fin 128) : other c.val < 128 := by
  unfold other
  split <;> omega

theorem other_lt' (c : Fin 512) : other c.val < 512 := by
  unfold other
  split <;> omega

theorem turn_at (t cos sin : FVec Ideal S256x128 .f32) (r : Fin 256) (l : Fin 128) :
    turn (F := Ideal) t cos sin (ix2 r l) = t (ix2 r l) * cos (ix2 r l) + t (ix2 r ⟨other l.val, other_lt l⟩) * sin (ix2 r l) := by
  pointwise [turn]
  rw [firstHalf_at]
  unfold other
  by_cases h : l.val % 32 < 16 <;> simp [h, Scalar.select]
  · exact congrArg (fun i => _ + t (ix2 r i) * _) (Fin.ext (by show (l.val + 16) % 128 = l.val + 16; omega))
  · exact congrArg (fun i => _ + t (ix2 r i) * _) (Fin.ext (by show (l.val + 112) % 128 = l.val - 16; omega))

theorem join_at (a b c d : FVec Ideal S256x128 .f32) (r : Fin 256) (k : Fin 512) (f : Fin 512 → EReal)
    (ha : ∀ l : Fin 128, a (ix2 r l) = f ⟨l.val, by omega⟩) (hb : ∀ l : Fin 128, b (ix2 r l) = f ⟨128 + l.val, by omega⟩)
    (hc : ∀ l : Fin 128, c (ix2 r l) = f ⟨256 + l.val, by omega⟩) (hd : ∀ l : Fin 128, d (ix2 r l) = f ⟨384 + l.val, by omega⟩) :
    join (F := Ideal) a b c d (ix2 r k) = f k := by
  pointwise [join]
  by_cases h0 : k.val < 128
  · rw [dif_pos h0]; exact ha _
  rw [dif_neg h0]
  by_cases h1 : k.val - 128 < 128
  · rw [dif_pos h1]; exact (hb _).trans (congrArg f (Fin.ext (by simp only []; omega)))
  rw [dif_neg h1]
  by_cases h2 : k.val - 128 - 128 < 128
  · rw [dif_pos h2]; exact (hc _).trans (congrArg f (Fin.ext (by simp only []; omega)))
  rw [dif_neg h2]
  exact (hd _).trans (congrArg f (Fin.ext (by simp only []; omega)))

theorem chunk0_at (t : FVec Ideal S256x512 .f32) (r : Fin 256) (l : Fin 128) : chunk0 (F := Ideal) t (ix2 r l) = t (ix2 r ⟨l.val, by omega⟩) := by
  pointwise [chunk0]
theorem chunk1_at (t : FVec Ideal S256x512 .f32) (r : Fin 256) (l : Fin 128) : chunk1 (F := Ideal) t (ix2 r l) = t (ix2 r ⟨128 + l.val, by omega⟩) := by
  pointwise [chunk1]
theorem chunk2_at (t : FVec Ideal S256x512 .f32) (r : Fin 256) (l : Fin 128) : chunk2 (F := Ideal) t (ix2 r l) = t (ix2 r ⟨256 + l.val, by omega⟩) := by
  pointwise [chunk2]
theorem chunk3_at (t : FVec Ideal S256x512 .f32) (r : Fin 256) (l : Fin 128) : chunk3 (F := Ideal) t (ix2 r l) = t (ix2 r ⟨384 + l.val, by omega⟩) := by
  pointwise [chunk3]

theorem mulf_at (a b : FVec Ideal S256x128 .f32) (r : Fin 256) (l : Fin 128) : mulf (F := Ideal) a b (ix2 r l) = a (ix2 r l) * b (ix2 r l) := rfl

/-- A row's sum of squares over the head of column `c`. -/
def headSq (p : Fin 512 → EReal) (c : Fin 512) : EReal :=
  ∑ j : Fin 64, p ⟨64 * (c.val / 64) + j.val, by omega⟩ * p ⟨64 * (c.val / 64) + j.val, by omega⟩

theorem squares_at (t : FVec Ideal S256x512 .f32) (r : Fin 256) (k : Fin 512) :
    squares (F := Ideal) t (ix2 r k) = headSq (fun k => t (ix2 r k)) k := by
  refine join_at _ _ _ _ r k (headSq (fun k => t (ix2 r k))) ?_ ?_ ?_ ?_ <;> intro l <;> rw [headSum_at] <;> unfold headSq <;>
    refine Finset.sum_congr rfl fun j _ => ?_ <;> rw [mulf_at]
  · rw [chunk0_at]
  · rw [chunk1_at]; exact congrArg (fun i => t (ix2 r i) * t (ix2 r i)) (Fin.ext (by show _ + (_ + _) = _; simp only []; omega))
  · rw [chunk2_at]; exact congrArg (fun i => t (ix2 r i) * t (ix2 r i)) (Fin.ext (by show _ + (_ + _) = _; simp only []; omega))
  · rw [chunk3_at]; exact congrArg (fun i => t (ix2 r i) * t (ix2 r i)) (Fin.ext (by show _ + (_ + _) = _; simp only []; omega))

/-- Column `c` after the rotary. -/
def turned (y : Fin 512 → EReal) (cs sn : Fin 128 → EReal) (c : Fin 512) : EReal :=
  y c * cs ⟨c.val % 128, by omega⟩ + y ⟨other c.val, other_lt' c⟩ * sn ⟨c.val % 128, by omega⟩

theorem turns_at (t : FVec Ideal S256x512 .f32) (cos sin : FVec Ideal S256x128 .f32) (r : Fin 256) (k : Fin 512) :
    turns (F := Ideal) t cos sin (ix2 r k) = turned (fun k => t (ix2 r k)) (fun l => cos (ix2 r l)) (fun l => sin (ix2 r l)) k := by
  have h : ∀ (n : ℕ) (l : Fin 128) (hn : n % 128 = 0) (hl : n + l.val < 512) (a b : EReal), a = t (ix2 r ⟨n + l.val, hl⟩) →
      (∀ h, b = t (ix2 r ⟨n + other l.val, h⟩)) → a * cos (ix2 r l) + b * sin (ix2 r l) =
      turned (fun k => t (ix2 r k)) (fun l => cos (ix2 r l)) (fun l => sin (ix2 r l)) ⟨n + l.val, hl⟩ := by
    intro n l hn hl a b ha hb
    have e1 : (⟨(n + l.val) % 128, by omega⟩ : Fin 128) = l := Fin.ext (by simp only []; omega)
    have e2 : n + other l.val = other (n + l.val) := by unfold other; split <;> split <;> omega
    have e3 := other_lt' ⟨n + l.val, hl⟩
    unfold turned
    simp only [e1]
    rw [ha, hb (by rw [e2]; exact e3)]
    simp only [e2]
  refine join_at _ _ _ _ r k _ ?_ ?_ ?_ ?_ <;> intro l <;> rw [turn_at]
  · have := h 0 l (by omega) (by omega) (chunk0 (F := Ideal) t (ix2 r l)) (chunk0 (F := Ideal) t (ix2 r ⟨other l.val, other_lt l⟩)) (by rw [chunk0_at]; exact congrArg (fun i => t (ix2 r i)) (Fin.ext (by simp only []; omega))) fun hh => by rw [chunk0_at]; exact congrArg (fun i => t (ix2 r i)) (Fin.ext (by simp only []; omega))
    simpa only [Nat.zero_add] using this
  · exact h 128 l (by omega) (by omega) _ _ (chunk1_at t r l) fun _ => chunk1_at t r _
  · exact h 256 l (by omega) (by omega) _ _ (chunk2_at t r l) fun _ => chunk2_at t r _
  · exact h 384 l (by omega) (by omega) _ _ (chunk3_at t r l) fun _ => chunk3_at t r _

/-- The head norm of a row, at column `c`. -/
def normed (p g : Fin 512 → EReal) (c : Fin 512) : EReal :=
  p c * Ideal.rsqrt (headSq p c * Ideal.ofBits .f32 0x3C800000#32 + Ideal.ofBits .f32 0x358637BD#32) * g c

theorem normBy_at (t s : FVec Ideal S256x512 .f32) (g : FVec Ideal S1x512 .f32) (r : Fin 256) (k : Fin 512) :
    normBy (F := Ideal) t s g (ix2 r k) = t (ix2 r k) * Ideal.rsqrt (s (ix2 r k) * Ideal.ofBits .f32 0x3C800000#32
      + Ideal.ofBits .f32 0x358637BD#32) * g (ix2 0 k) := by
  pointwise [normBy]

theorem headCols_at (p : FVec Ideal S256x1024 .f32) (r : Fin 256) (k : Fin 512) :
    headCols (F := Ideal) p (ix2 r k) = p (ix2 r ⟨k.val, by omega⟩) := by
  pointwise [headCols]

theorem vCols_at (p : FVec Ideal S256x1024 .f32) (r : Fin 256) (k : Fin 128) :
    vCols (F := Ideal) p (ix2 r k) = p (ix2 r ⟨512 + k.val, by omega⟩) := by
  pointwise [vCols]

theorem cast512 (g : FVec Ideal S1x512 .f32) (k : Fin 512) : shapeCast S1x512 g shapeCasts_S1x512_S1x512 (ix2 0 k) = g (ix2 0 k) := by
  pointwise []

theorem cast128 (g : FVec Ideal S256x128 .f32) (r : Fin 256) (k : Fin 128) :
    shapeCast S256x128 g shapeCasts_S256x128_S256x128 (ix2 r k) = g (ix2 r k) := by
  pointwise []

/-- One row's queries and keys. -/
def qk (p g : Fin 512 → EReal) (cs sn : Fin 128 → EReal) : Fin 512 → EReal := turned (normed p g) cs sn

theorem queriesKeys_at (p : FVec Ideal S256x1024 .f32) (g : FVec Ideal S1x512 .f32) (cos sin : FVec Ideal S256x128 .f32)
    (r : Fin 256) (k : Fin 512) :
    queriesKeys (F := Ideal) p g cos sin (ix2 r k) = qk (fun k => p (ix2 r ⟨k.val, by omega⟩)) (fun k => g (ix2 0 k))
      (fun l => cos (ix2 r l)) (fun l => sin (ix2 r l)) k := by
  unfold queriesKeys qk
  rw [turns_at]
  simp only [normBy_at, squares_at, headCols_at, cast512, cast128]
  rfl

theorem qStored_at (t : FVec Ideal S256x512 .f32) (r : Fin 256) (k : Fin 384) :
    qStored (F := Ideal) t (ix3 0 r k) = t (ix2 r ⟨k.val, by omega⟩) := by
  pointwise [qStored]

theorem beside_at (t : FVec Ideal S256x128 .f32) (r : Fin 256) (k : Fin 256) :
    beside (F := Ideal) t (ix3 0 r k) = t (ix2 r ⟨if k.val < 128 then k.val else (k.val - 64) % 128, by split <;> omega⟩) := by
  pointwise [beside]
  by_cases h : k.val < 128
  · simp [h]
  · rw [dif_neg h]
    exact congrArg (fun i => t (ix2 r i)) (Fin.ext (by simp only [h, if_false]; omega))

/-- SiLU. -/
def silu (x : EReal) : EReal := x * Ideal.div 1 (1 + Ideal.exp (-x))

theorem gStored_at (p : FVec Ideal S256x1024 .f32) (r : Fin 256) (k : Fin 384) :
    gStored (F := Ideal) p (ix3 0 r k) = silu (p (ix2 r ⟨640 + k.val, by omega⟩)) := by
  pointwise [gStored, k0_pay28, k0_pay27]
  unfold silu
  rw [zero_sub]

/-- The norm and the modulation of a row. -/
def modulated (x g sc sh : Fin 1024 → EReal) (d : Fin 1024) : EReal :=
  x d * Ideal.rsqrt (Ideal.div (∑ k : Fin 1024, x k * x k) (Ideal.ofBits .f32 0x44800000#32) + Ideal.ofBits .f32 0x358637BD#32) * g d
    * (1 + sc d) + sh d

theorem modulated_at (v0 v2 : FVec Ideal S1x1x1024 .f32) (v4 : FVec Ideal S1x256x1024 .f32) (v16 : FVec Ideal S1x1024 .f32)
    (r : Fin 256) (d : Fin 1024) : k0_pay5 (F := Ideal) v0 v2 v4 v16 (ix2 r d) =
      modulated (fun k => v4 (ix3 0 r k)) (fun k => v16 (ix2 0 k)) (fun k => v2 (ix3 0 0 k)) (fun k => v0 (ix3 0 0 k)) d := by
  pointwise [k0_pay5, k0_pay3, k0_pay4]
  rfl

theorem rowsTimes_at (v0 v2 : FVec Ideal S1x1x1024 .f32) (v4 : FVec Ideal S1x256x1024 .f32) (v16 : FVec Ideal S1x1024 .f32)
    (w : FVec Ideal S1024x1024 .bf16) (r : Fin 256) (k : Fin 1024) : rowsTimes (F := Ideal) v0 v2 v4 v16 w (ix2 r k) =
      ∑ d : Fin 1024, modulated (fun k => v4 (ix3 0 r k)) (fun k => v16 (ix2 0 k)) (fun k => v2 (ix3 0 0 k)) (fun k => v0 (ix3 0 0 k)) d
        * w (ix2 d k) := by
  refine .trans ?_ (Finset.sum_congr rfl fun d _ => congrArg (· * w (ix2 d k)) (modulated_at v0 v2 v4 v16 r d))
  pointwise [rowsTimes, k0_pay8]

theorem hyStored_at (v0 v2 : FVec Ideal S1x1x1024 .f32) (v4 : FVec Ideal S1x256x1024 .f32) (v16 : FVec Ideal S1x1024 .f32)
    (w : FVec Ideal S1024x1024 .bf16) (r : Fin 256) (k : Fin 1024) : hyStored (F := Ideal) v0 v2 v4 v16 w (ix3 0 r k) =
      ∑ d : Fin 1024, modulated (fun k => v4 (ix3 0 r k)) (fun k => v16 (ix2 0 k)) (fun k => v2 (ix3 0 0 k)) (fun k => v0 (ix3 0 0 k)) d
        * w (ix2 d k) := by
  refine .trans ?_ (Finset.sum_congr rfl fun d _ => congrArg (· * w (ix2 d k)) (modulated_at v0 v2 v4 v16 r d))
  pointwise [hyStored, k0_pay55]

end Cert.Kernel3Ideal.Proj
end
-- ==== Proof.ProjBlock.lean ====
module
public import proofs.«01_k».proof.Proof.ProjAt
public import Idealize.ShloMosaic.Lib.Pipeline.ReadBack
@[expose] public section
set_option maxRecDepth 16384
noncomputable section
open Idealize.ShloMosaic Idealize.ShloMosaic.TcCoe Idealize.SL.Sem

/-! The blocks a grid point stores, read at an entry: each entry is a function of one row. -/

namespace Cert.Kernel3Ideal.Proj
open Cert.Kernel3Ideal Cert.Kernel3Ideal.Gen

/-- A row, normalized, modulated and projected. -/
def proj (x g sc sh : Fin 1024 → EReal) (w : Fin 1024 → Fin 1024 → EReal) (k : Fin 1024) : EReal :=
  ∑ d : Fin 1024, modulated x g sc sh d * w d k

/-- The column that column `k` of a chunk beside itself with its heads exchanged shows. -/
def shown (k : ℕ) : ℕ := if k < 128 then k else (k - 64) % 128

theorem shown_lt (k : Fin 256) : shown k.val < 128 := by
  unfold shown
  split <;> omega

def qRow (p : Fin 1024 → EReal) (g : Fin 512 → EReal) (cs sn : Fin 128 → EReal) (k : Fin 384) : EReal :=
  qk (fun k => p ⟨k.val, by omega⟩) g cs sn ⟨k.val, by omega⟩

def kRow (p : Fin 1024 → EReal) (g : Fin 512 → EReal) (cs sn : Fin 128 → EReal) (k : Fin 256) : EReal :=
  qk (fun k => p ⟨k.val, by omega⟩) g cs sn ⟨384 + shown k.val, by have := shown_lt k; omega⟩

def vRow (p : Fin 1024 → EReal) (k : Fin 256) : EReal := p ⟨512 + shown k.val, by have := shown_lt k; omega⟩

def gRow (p : Fin 1024 → EReal) (k : Fin 384) : EReal := silu (p ⟨640 + k.val, by omega⟩)

variable (x0 : FVec Ideal S1x1024x1024 .f32) (x1 : FVec Ideal S1x1x3072 .f32) (x2 : FVec Ideal S1x1024 .f32) (x3 : FVec Ideal S1024x3072 .bf16)
  (x4 x5 : FVec Ideal S1024x128 .f32) (x6 x7 : FVec Ideal S1x512 .f32)

/-- Row `r` of a block, projected by the weights' columns from `o`. -/
def blkRow (o : ℕ) (ho : o + 1024 ≤ 3072) (r : Fin 1024) : Fin 1024 → EReal :=
  proj (fun k => x0 (ix3 0 r k)) (fun k => x2 (ix2 0 k)) (fun k => x1 (ix3 0 0 ⟨1024 + k.val, by omega⟩))
    (fun k => x1 (ix3 0 0 ⟨k.val, by omega⟩)) fun d k => x3 (ix2 d ⟨o + k.val, by omega⟩)

theorem rows_at (o : ℕ) (ho : o + 1024 ≤ 3072) (n : ℕ) (hn : n + 256 ≤ 1024) (v0 v2 : FVec Ideal S1x1x1024 .f32) (v4 : FVec Ideal S1x256x1024 .f32)
    (v16 : FVec Ideal S1x1024 .f32) (w : FVec Ideal S1024x1024 .bf16)
    (h0 : ∀ k : Fin 1024, v0 (ix3 0 0 k) = x1 (ix3 0 0 ⟨k.val, by omega⟩))
    (h2 : ∀ k : Fin 1024, v2 (ix3 0 0 k) = x1 (ix3 0 0 ⟨1024 + k.val, by omega⟩))
    (h4 : ∀ (r : Fin 256) (k : Fin 1024), v4 (ix3 0 r k) = x0 (ix3 0 ⟨n + r.val, by omega⟩ k))
    (h16 : ∀ k : Fin 1024, v16 (ix2 0 k) = x2 (ix2 0 k))
    (hw : ∀ d k : Fin 1024, w (ix2 d k) = x3 (ix2 d ⟨o + k.val, by omega⟩)) (r : Fin 256) (k : Fin 1024) :
    rowsTimes (F := Ideal) v0 v2 v4 v16 w (ix2 r k) = blkRow x0 x1 x2 x3 o ho ⟨n + r.val, by omega⟩ k := by
  rw [rowsTimes_at]
  unfold blkRow proj
  simp only [h0, h2, h4, h16, hw]

theorem ld_shift (k : Fin 1024) : (View.ld (Val := Elt Ideal) (e' := .f32) x1 r0_0 : FVec Ideal S1x1x1024 .f32) (ix3 0 0 k) = x1 (ix3 0 0 ⟨k.val, by omega⟩) := by
  pointwise []

theorem ld_scale (k : Fin 1024) : (View.ld (Val := Elt Ideal) (e' := .f32) x1 r0_1 : FVec Ideal S1x1x1024 .f32) (ix3 0 0 k) = x1 (ix3 0 0 ⟨1024 + k.val, by omega⟩) := by
  pointwise []

theorem ld_gain (k : Fin 1024) : (View.ld (Val := Elt Ideal) (e' := .f32) x2 r0_3 : FVec Ideal S1x1024 .f32) (ix2 0 k) = x2 (ix2 0 k) := by
  pointwise []

theorem ld_heads (k : Fin 512) : (View.ld (Val := Elt Ideal) (e' := .f32) x6 r0_6 : FVec Ideal S1x512 .f32) (ix2 0 k) = x6 (ix2 0 k) := by
  pointwise []

theorem ld_w0 (d k : Fin 1024) : (View.ld (Val := Elt Ideal) (e' := .bf16) x3 r0_5 : FVec Ideal S1024x1024 .bf16) (ix2 d k) = x3 (ix2 d ⟨0 + k.val, by omega⟩) := by
  pointwise []

theorem ld_w1024 (d k : Fin 1024) : (View.ld (Val := Elt Ideal) (e' := .bf16) x3 r0_10 : FVec Ideal S1024x1024 .bf16) (ix2 d k) = x3 (ix2 d ⟨1024 + k.val, by omega⟩) := by
  pointwise []

theorem ld_w2048 (d k : Fin 1024) : (View.ld (Val := Elt Ideal) (e' := .bf16) x3 r0_9 : FVec Ideal S1024x1024 .bf16) (ix2 d k) = x3 (ix2 d ⟨2048 + k.val, by omega⟩) := by
  pointwise []

theorem ld_x768 (r : Fin 256) (k : Fin 1024) : (View.ld (Val := Elt Ideal) (e' := .f32) x0 r0_19 : FVec Ideal S1x256x1024 .f32) (ix3 0 r k) = x0 (ix3 0 ⟨768 + r.val, by omega⟩ k) := by
  pointwise []

theorem ld_t768 (r : Fin 256) (k : Fin 128) : (View.ld (Val := Elt Ideal) (e' := .f32) x4 r0_20 : FVec Ideal S256x128 .f32) (ix2 r k) = x4 (ix2 ⟨768 + r.val, by omega⟩ k) := by
  pointwise []

theorem ld_x512 (r : Fin 256) (k : Fin 1024) : (View.ld (Val := Elt Ideal) (e' := .f32) x0 r0_15 : FVec Ideal S1x256x1024 .f32) (ix3 0 r k) = x0 (ix3 0 ⟨512 + r.val, by omega⟩ k) := by
  pointwise []

theorem ld_t512 (r : Fin 256) (k : Fin 128) : (View.ld (Val := Elt Ideal) (e' := .f32) x4 r0_16 : FVec Ideal S256x128 .f32) (ix2 r k) = x4 (ix2 ⟨512 + r.val, by omega⟩ k) := by
  pointwise []

theorem ld_x256 (r : Fin 256) (k : Fin 1024) : (View.ld (Val := Elt Ideal) (e' := .f32) x0 r0_11 : FVec Ideal S1x256x1024 .f32) (ix3 0 r k) = x0 (ix3 0 ⟨256 + r.val, by omega⟩ k) := by
  pointwise []

theorem ld_t256 (r : Fin 256) (k : Fin 128) : (View.ld (Val := Elt Ideal) (e' := .f32) x4 r0_12 : FVec Ideal S256x128 .f32) (ix2 r k) = x4 (ix2 ⟨256 + r.val, by omega⟩ k) := by
  pointwise []

theorem ld_x0 (r : Fin 256) (k : Fin 1024) : (View.ld (Val := Elt Ideal) (e' := .f32) x0 r0_2 : FVec Ideal S1x256x1024 .f32) (ix3 0 r k) = x0 (ix3 0 ⟨0 + r.val, by omega⟩ k) := by
  pointwise []

theorem ld_t0 (r : Fin 256) (k : Fin 128) : (View.ld (Val := Elt Ideal) (e' := .f32) x4 r0_4 : FVec Ideal S256x128 .f32) (ix2 r k) = x4 (ix2 ⟨0 + r.val, by omega⟩ k) := by
  pointwise []

/-- Where the stored pieces agree with one function and cover an index, the contents there are the function's. -/
theorem canon_of {s : Shape} {e : EltTy} (G : Vec Ideal s e) (L : List (View.Piece (Elt Ideal) s e))
    (h : View.PiecesOf (Val := Elt Ideal) G L) (y : s.Idx) (hc : ∃ p ∈ L, y ∈ p.1.set) : View.canon (Val := Elt Ideal) L y = G y := by
  have := View.canon_append_of_piecesOf (Val := Elt Ideal) G [] L h y hc
  rwa [List.append_nil] at this

/-- The queries' block. -/
def qBlock (o : ℕ) (ho : o + 1024 ≤ 3072) (g : FVec Ideal S1x512 .f32) : Vec Ideal S1x1024x384 .bf16 := fun y =>
  qRow (blkRow x0 x1 x2 x3 o ho (y 1)) (fun k => g (ix2 0 k)) (fun l => x4 (ix2 (y 1) l)) (fun l => x5 (ix2 (y 1) l)) (y 2)

/-- The keys' block. -/
def kBlock (o : ℕ) (ho : o + 1024 ≤ 3072) (g : FVec Ideal S1x512 .f32) : Vec Ideal S1x1024x256 .bf16 := fun y =>
  kRow (blkRow x0 x1 x2 x3 o ho (y 1)) (fun k => g (ix2 0 k)) (fun l => x4 (ix2 (y 1) l)) (fun l => x5 (ix2 (y 1) l)) (y 2)

/-- The values' block. -/
def vBlock (o : ℕ) (ho : o + 1024 ≤ 3072) : Vec Ideal S1x1024x256 .bf16 := fun y => vRow (blkRow x0 x1 x2 x3 o ho (y 1)) (y 2)

/-- The gate's block. -/
def gBlock (o : ℕ) (ho : o + 1024 ≤ 3072) : Vec Ideal S1x1024x384 .bf16 := fun y => gRow (blkRow x0 x1 x2 x3 o ho (y 1)) (y 2)

/-- The Hyena mixer's block. -/
def hyBlock : Vec Ideal S1x1024x1024 .bf16 := fun y => blkRow x0 x1 x2 x3 1024 (by decide) (y 1) (y 2)

theorem q_tile (o : ℕ) (ho : o + 1024 ≤ 3072) (n : ℕ) (hn : n + 256 ≤ 1024) (v0 v2 : FVec Ideal S1x1x1024 .f32) (v4 : FVec Ideal S1x256x1024 .f32)
    (v16 : FVec Ideal S1x1024 .f32) (w : FVec Ideal S1024x1024 .bf16)
    (h0 : ∀ k : Fin 1024, v0 (ix3 0 0 k) = x1 (ix3 0 0 ⟨k.val, by omega⟩))
    (h2 : ∀ k : Fin 1024, v2 (ix3 0 0 k) = x1 (ix3 0 0 ⟨1024 + k.val, by omega⟩))
    (h4 : ∀ (r : Fin 256) (k : Fin 1024), v4 (ix3 0 r k) = x0 (ix3 0 ⟨n + r.val, by omega⟩ k))
    (h16 : ∀ k : Fin 1024, v16 (ix2 0 k) = x2 (ix2 0 k))
    (hw : ∀ d k : Fin 1024, w (ix2 d k) = x3 (ix2 d ⟨o + k.val, by omega⟩))
    (g : FVec Ideal S1x512 .f32) (u : FVec Ideal S1x512 .f32) (hg : ∀ k : Fin 512, u (ix2 0 k) = g (ix2 0 k))
    (c s : FVec Ideal S256x128 .f32) (hc : ∀ (r : Fin 256) (k : Fin 128), c (ix2 r k) = x4 (ix2 ⟨n + r.val, by omega⟩ k))
    (hs : ∀ (r : Fin 256) (k : Fin 128), s (ix2 r k) = x5 (ix2 ⟨n + r.val, by omega⟩ k)) (r : Fin 256) (k : Fin 384) (i : S1x1024x384.Idx)
    (hi1 : (i 1).val = n + r.val) (hi2 : (i 2).val = k.val) :
    qStored (F := Ideal) (queriesKeys (rowsTimes v0 v2 v4 v16 w) u c s) (ix3 0 r k) = qBlock x0 x1 x2 x3 x4 x5 o ho g i := by
  have hl : n + r.val < 1024 := by omega
  obtain ⟨i0, i1, i2, rfl⟩ : ∃ (i0 : Fin 1) (i1 : Fin 1024) (i2 : Fin 384), i = ix3 i0 i1 i2 := ⟨i 0, i 1, i 2, eq_ix3 i⟩
  obtain rfl : i1 = ⟨n + r.val, hl⟩ := Fin.ext hi1
  obtain rfl : i2 = k := Fin.ext hi2
  refine (qStored_at _ r i2).trans ((queriesKeys_at _ _ _ _ _ _).trans ?_)
  simp only [rows_at x0 x1 x2 x3 o ho n hn v0 v2 v4 v16 w h0 h2 h4 h16 hw, hg, hc, hs]
  rfl

theorem k_tile (o : ℕ) (ho : o + 1024 ≤ 3072) (n : ℕ) (hn : n + 256 ≤ 1024) (v0 v2 : FVec Ideal S1x1x1024 .f32) (v4 : FVec Ideal S1x256x1024 .f32)
    (v16 : FVec Ideal S1x1024 .f32) (w : FVec Ideal S1024x1024 .bf16)
    (h0 : ∀ k : Fin 1024, v0 (ix3 0 0 k) = x1 (ix3 0 0 ⟨k.val, by omega⟩))
    (h2 : ∀ k : Fin 1024, v2 (ix3 0 0 k) = x1 (ix3 0 0 ⟨1024 + k.val, by omega⟩))
    (h4 : ∀ (r : Fin 256) (k : Fin 1024), v4 (ix3 0 r k) = x0 (ix3 0 ⟨n + r.val, by omega⟩ k))
    (h16 : ∀ k : Fin 1024, v16 (ix2 0 k) = x2 (ix2 0 k))
    (hw : ∀ d k : Fin 1024, w (ix2 d k) = x3 (ix2 d ⟨o + k.val, by omega⟩))
    (g : FVec Ideal S1x512 .f32) (u : FVec Ideal S1x512 .f32) (hg : ∀ k : Fin 512, u (ix2 0 k) = g (ix2 0 k))
    (c s : FVec Ideal S256x128 .f32) (hc : ∀ (r : Fin 256) (k : Fin 128), c (ix2 r k) = x4 (ix2 ⟨n + r.val, by omega⟩ k))
    (hs : ∀ (r : Fin 256) (k : Fin 128), s (ix2 r k) = x5 (ix2 ⟨n + r.val, by omega⟩ k)) (r : Fin 256) (k : Fin 256) (i : S1x1024x256.Idx)
    (hi1 : (i 1).val = n + r.val) (hi2 : (i 2).val = k.val) :
    beside (F := Ideal) (chunk3 (queriesKeys (rowsTimes v0 v2 v4 v16 w) u c s)) (ix3 0 r k) = kBlock x0 x1 x2 x3 x4 x5 o ho g i := by
  have hl : n + r.val < 1024 := by omega
  obtain ⟨i0, i1, i2, rfl⟩ : ∃ (i0 : Fin 1) (i1 : Fin 1024) (i2 : Fin 256), i = ix3 i0 i1 i2 := ⟨i 0, i 1, i 2, eq_ix3 i⟩
  obtain rfl : i1 = ⟨n + r.val, hl⟩ := Fin.ext hi1
  obtain rfl : i2 = k := Fin.ext hi2
  refine (beside_at _ r i2).trans ((chunk3_at _ _ _).trans ((queriesKeys_at _ _ _ _ _ _).trans ?_))
  simp only [rows_at x0 x1 x2 x3 o ho n hn v0 v2 v4 v16 w h0 h2 h4 h16 hw, hg, hc, hs]
  rfl

theorem v_tile (o : ℕ) (ho : o + 1024 ≤ 3072) (n : ℕ) (hn : n + 256 ≤ 1024) (v0 v2 : FVec Ideal S1x1x1024 .f32) (v4 : FVec Ideal S1x256x1024 .f32)
    (v16 : FVec Ideal S1x1024 .f32) (w : FVec Ideal S1024x1024 .bf16)
    (h0 : ∀ k : Fin 1024, v0 (ix3 0 0 k) = x1 (ix3 0 0 ⟨k.val, by omega⟩))
    (h2 : ∀ k : Fin 1024, v2 (ix3 0 0 k) = x1 (ix3 0 0 ⟨1024 + k.val, by omega⟩))
    (h4 : ∀ (r : Fin 256) (k : Fin 1024), v4 (ix3 0 r k) = x0 (ix3 0 ⟨n + r.val, by omega⟩ k))
    (h16 : ∀ k : Fin 1024, v16 (ix2 0 k) = x2 (ix2 0 k))
    (hw : ∀ d k : Fin 1024, w (ix2 d k) = x3 (ix2 d ⟨o + k.val, by omega⟩)) (r : Fin 256) (k : Fin 256) (i : S1x1024x256.Idx)
    (hi1 : (i 1).val = n + r.val) (hi2 : (i 2).val = k.val) :
    beside (F := Ideal) (vCols (rowsTimes v0 v2 v4 v16 w)) (ix3 0 r k) = vBlock x0 x1 x2 x3 o ho i := by
  have hl : n + r.val < 1024 := by omega
  obtain ⟨i0, i1, i2, rfl⟩ : ∃ (i0 : Fin 1) (i1 : Fin 1024) (i2 : Fin 256), i = ix3 i0 i1 i2 := ⟨i 0, i 1, i 2, eq_ix3 i⟩
  obtain rfl : i1 = ⟨n + r.val, hl⟩ := Fin.ext hi1
  obtain rfl : i2 = k := Fin.ext hi2
  refine (beside_at _ r i2).trans ((vCols_at _ _ _).trans ?_)
  rw [rows_at x0 x1 x2 x3 o ho n hn v0 v2 v4 v16 w h0 h2 h4 h16 hw]
  rfl

theorem g_tile (o : ℕ) (ho : o + 1024 ≤ 3072) (n : ℕ) (hn : n + 256 ≤ 1024) (v0 v2 : FVec Ideal S1x1x1024 .f32) (v4 : FVec Ideal S1x256x1024 .f32)
    (v16 : FVec Ideal S1x1024 .f32) (w : FVec Ideal S1024x1024 .bf16)
    (h0 : ∀ k : Fin 1024, v0 (ix3 0 0 k) = x1 (ix3 0 0 ⟨k.val, by omega⟩))
    (h2 : ∀ k : Fin 1024, v2 (ix3 0 0 k) = x1 (ix3 0 0 ⟨1024 + k.val, by omega⟩))
    (h4 : ∀ (r : Fin 256) (k : Fin 1024), v4 (ix3 0 r k) = x0 (ix3 0 ⟨n + r.val, by omega⟩ k))
    (h16 : ∀ k : Fin 1024, v16 (ix2 0 k) = x2 (ix2 0 k))
    (hw : ∀ d k : Fin 1024, w (ix2 d k) = x3 (ix2 d ⟨o + k.val, by omega⟩)) (r : Fin 256) (k : Fin 384) (i : S1x1024x384.Idx)
    (hi1 : (i 1).val = n + r.val) (hi2 : (i 2).val = k.val) :
    gStored (F := Ideal) (rowsTimes v0 v2 v4 v16 w) (ix3 0 r k) = gBlock x0 x1 x2 x3 o ho i := by
  have hl : n + r.val < 1024 := by omega
  obtain ⟨i0, i1, i2, rfl⟩ : ∃ (i0 : Fin 1) (i1 : Fin 1024) (i2 : Fin 384), i = ix3 i0 i1 i2 := ⟨i 0, i 1, i 2, eq_ix3 i⟩
  obtain rfl : i1 = ⟨n + r.val, hl⟩ := Fin.ext hi1
  obtain rfl : i2 = k := Fin.ext hi2
  refine (gStored_at _ r i2).trans ?_
  rw [rows_at x0 x1 x2 x3 o ho n hn v0 v2 v4 v16 w h0 h2 h4 h16 hw]
  rfl

theorem hy_tile (n : ℕ) (hn : n + 256 ≤ 1024) (v0 v2 : FVec Ideal S1x1x1024 .f32) (v4 : FVec Ideal S1x256x1024 .f32)
    (v16 : FVec Ideal S1x1024 .f32) (w : FVec Ideal S1024x1024 .bf16)
    (h0 : ∀ k : Fin 1024, v0 (ix3 0 0 k) = x1 (ix3 0 0 ⟨k.val, by omega⟩))
    (h2 : ∀ k : Fin 1024, v2 (ix3 0 0 k) = x1 (ix3 0 0 ⟨1024 + k.val, by omega⟩))
    (h4 : ∀ (r : Fin 256) (k : Fin 1024), v4 (ix3 0 r k) = x0 (ix3 0 ⟨n + r.val, by omega⟩ k))
    (h16 : ∀ k : Fin 1024, v16 (ix2 0 k) = x2 (ix2 0 k))
    (hw : ∀ d k : Fin 1024, w (ix2 d k) = x3 (ix2 d ⟨1024 + k.val, by omega⟩)) (r : Fin 256) (k : Fin 1024) (i : S1x1024x1024.Idx)
    (hi1 : (i 1).val = n + r.val) (hi2 : (i 2).val = k.val) :
    hyStored (F := Ideal) v0 v2 v4 v16 w (ix3 0 r k) = hyBlock x0 x1 x2 x3 i := by
  have hl : n + r.val < 1024 := by omega
  obtain ⟨i0, i1, i2, rfl⟩ : ∃ (i0 : Fin 1) (i1 : Fin 1024) (i2 : Fin 1024), i = ix3 i0 i1 i2 := ⟨i 0, i 1, i 2, eq_ix3 i⟩
  obtain rfl : i1 = ⟨n + r.val, hl⟩ := Fin.ext hi1
  obtain rfl : i2 = k := Fin.ext hi2
  refine (hyStored_at _ _ _ _ _ r i2).trans ?_
  refine .trans (b := blkRow x0 x1 x2 x3 1024 (by decide) ⟨n + r.val, hl⟩ i2) ?_ rfl
  unfold blkRow proj
  simp only [h0, h2, h4, h16, hw]

theorem q_a_at (y : S1x1024x384.Idx) : out0_8 (F := Ideal) x0 x1 x2 x3 x4 x5 x6 x7 y = qBlock x0 x1 x2 x3 x4 x5 0 (by decide) x6 y := by
  rw [q_a_eq]
  refine canon_of _ _ ?_ _ (View.cover_of_tiledBy _ ![1, 256, 384] (by sl_kernel_rfl) _)
  refine ⟨?_, ?_, ?_, ?_, trivial⟩ <;> intro y <;> obtain ⟨i0, i1, i2, rfl⟩ : ∃ (i0 : Fin 1) (i1 : Fin 256) (i2 : Fin 384), y = ix3 i0 i1 i2 := ⟨y 0, y 1, y 2, eq_ix3 y⟩ <;>
    obtain rfl : i0 = 0 := Subsingleton.elim _ _
  · exact q_tile x0 x1 x2 x3 x4 x5 0 (by decide) 768 (by decide) _ _ _ _ _ (ld_shift x1) (ld_scale x1) (ld_x768 x0) (ld_gain x2) (ld_w0 x3) x6 _ (ld_heads x6) _ _ (ld_t768 x4) (ld_t768 x5) i1 i2 _ (by simp [Rect.emb_apply]) (by simp [Rect.emb_apply])
  · exact q_tile x0 x1 x2 x3 x4 x5 0 (by decide) 512 (by decide) _ _ _ _ _ (ld_shift x1) (ld_scale x1) (ld_x512 x0) (ld_gain x2) (ld_w0 x3) x6 _ (ld_heads x6) _ _ (ld_t512 x4) (ld_t512 x5) i1 i2 _ (by simp [Rect.emb_apply]) (by simp [Rect.emb_apply])
  · exact q_tile x0 x1 x2 x3 x4 x5 0 (by decide) 256 (by decide) _ _ _ _ _ (ld_shift x1) (ld_scale x1) (ld_x256 x0) (ld_gain x2) (ld_w0 x3) x6 _ (ld_heads x6) _ _ (ld_t256 x4) (ld_t256 x5) i1 i2 _ (by simp [Rect.emb_apply]) (by simp [Rect.emb_apply])
  · exact q_tile x0 x1 x2 x3 x4 x5 0 (by decide) 0 (by decide) _ _ _ _ _ (ld_shift x1) (ld_scale x1) (ld_x0 x0) (ld_gain x2) (ld_w0 x3) x6 _ (ld_heads x6) _ _ (ld_t0 x4) (ld_t0 x5) i1 i2 _ (by simp [Rect.emb_apply]) (by simp [Rect.emb_apply])

theorem k_a_at (y : S1x1024x256.Idx) : out0_9 (F := Ideal) x0 x1 x2 x3 x4 x5 x6 x7 y = kBlock x0 x1 x2 x3 x4 x5 0 (by decide) x6 y := by
  rw [k_a_eq]
  refine canon_of _ _ ?_ _ (View.cover_of_tiledBy _ ![1, 256, 256] (by sl_kernel_rfl) _)
  refine ⟨?_, ?_, ?_, ?_, trivial⟩ <;> intro y <;> obtain ⟨i0, i1, i2, rfl⟩ : ∃ (i0 : Fin 1) (i1 : Fin 256) (i2 : Fin 256), y = ix3 i0 i1 i2 := ⟨y 0, y 1, y 2, eq_ix3 y⟩ <;>
    obtain rfl : i0 = 0 := Subsingleton.elim _ _
  · exact k_tile x0 x1 x2 x3 x4 x5 0 (by decide) 768 (by decide) _ _ _ _ _ (ld_shift x1) (ld_scale x1) (ld_x768 x0) (ld_gain x2) (ld_w0 x3) x6 _ (ld_heads x6) _ _ (ld_t768 x4) (ld_t768 x5) i1 i2 _ (by simp [Rect.emb_apply]) (by simp [Rect.emb_apply])
  · exact k_tile x0 x1 x2 x3 x4 x5 0 (by decide) 512 (by decide) _ _ _ _ _ (ld_shift x1) (ld_scale x1) (ld_x512 x0) (ld_gain x2) (ld_w0 x3) x6 _ (ld_heads x6) _ _ (ld_t512 x4) (ld_t512 x5) i1 i2 _ (by simp [Rect.emb_apply]) (by simp [Rect.emb_apply])
  · exact k_tile x0 x1 x2 x3 x4 x5 0 (by decide) 256 (by decide) _ _ _ _ _ (ld_shift x1) (ld_scale x1) (ld_x256 x0) (ld_gain x2) (ld_w0 x3) x6 _ (ld_heads x6) _ _ (ld_t256 x4) (ld_t256 x5) i1 i2 _ (by simp [Rect.emb_apply]) (by simp [Rect.emb_apply])
  · exact k_tile x0 x1 x2 x3 x4 x5 0 (by decide) 0 (by decide) _ _ _ _ _ (ld_shift x1) (ld_scale x1) (ld_x0 x0) (ld_gain x2) (ld_w0 x3) x6 _ (ld_heads x6) _ _ (ld_t0 x4) (ld_t0 x5) i1 i2 _ (by simp [Rect.emb_apply]) (by simp [Rect.emb_apply])

theorem v_a_at (y : S1x1024x256.Idx) : out0_10 (F := Ideal) x0 x1 x2 x3 x4 x5 x6 x7 y = vBlock x0 x1 x2 x3 0 (by decide) y := by
  rw [v_a_eq]
  refine canon_of _ _ ?_ _ (View.cover_of_tiledBy _ ![1, 256, 256] (by sl_kernel_rfl) _)
  refine ⟨?_, ?_, ?_, ?_, trivial⟩ <;> intro y <;> obtain ⟨i0, i1, i2, rfl⟩ : ∃ (i0 : Fin 1) (i1 : Fin 256) (i2 : Fin 256), y = ix3 i0 i1 i2 := ⟨y 0, y 1, y 2, eq_ix3 y⟩ <;>
    obtain rfl : i0 = 0 := Subsingleton.elim _ _
  · exact v_tile x0 x1 x2 x3 0 (by decide) 768 (by decide) _ _ _ _ _ (ld_shift x1) (ld_scale x1) (ld_x768 x0) (ld_gain x2) (ld_w0 x3) i1 i2 _ (by simp [Rect.emb_apply]) (by simp [Rect.emb_apply])
  · exact v_tile x0 x1 x2 x3 0 (by decide) 512 (by decide) _ _ _ _ _ (ld_shift x1) (ld_scale x1) (ld_x512 x0) (ld_gain x2) (ld_w0 x3) i1 i2 _ (by simp [Rect.emb_apply]) (by simp [Rect.emb_apply])
  · exact v_tile x0 x1 x2 x3 0 (by decide) 256 (by decide) _ _ _ _ _ (ld_shift x1) (ld_scale x1) (ld_x256 x0) (ld_gain x2) (ld_w0 x3) i1 i2 _ (by simp [Rect.emb_apply]) (by simp [Rect.emb_apply])
  · exact v_tile x0 x1 x2 x3 0 (by decide) 0 (by decide) _ _ _ _ _ (ld_shift x1) (ld_scale x1) (ld_x0 x0) (ld_gain x2) (ld_w0 x3) i1 i2 _ (by simp [Rect.emb_apply]) (by simp [Rect.emb_apply])

theorem g_a_at (y : S1x1024x384.Idx) : out0_11 (F := Ideal) x0 x1 x2 x3 x4 x5 x6 x7 y = gBlock x0 x1 x2 x3 0 (by decide) y := by
  rw [g_a_eq]
  refine canon_of _ _ ?_ _ (View.cover_of_tiledBy _ ![1, 256, 384] (by sl_kernel_rfl) _)
  refine ⟨?_, ?_, ?_, ?_, trivial⟩ <;> intro y <;> obtain ⟨i0, i1, i2, rfl⟩ : ∃ (i0 : Fin 1) (i1 : Fin 256) (i2 : Fin 384), y = ix3 i0 i1 i2 := ⟨y 0, y 1, y 2, eq_ix3 y⟩ <;>
    obtain rfl : i0 = 0 := Subsingleton.elim _ _
  · exact g_tile x0 x1 x2 x3 0 (by decide) 768 (by decide) _ _ _ _ _ (ld_shift x1) (ld_scale x1) (ld_x768 x0) (ld_gain x2) (ld_w0 x3) i1 i2 _ (by simp [Rect.emb_apply]) (by simp [Rect.emb_apply])
  · exact g_tile x0 x1 x2 x3 0 (by decide) 512 (by decide) _ _ _ _ _ (ld_shift x1) (ld_scale x1) (ld_x512 x0) (ld_gain x2) (ld_w0 x3) i1 i2 _ (by simp [Rect.emb_apply]) (by simp [Rect.emb_apply])
  · exact g_tile x0 x1 x2 x3 0 (by decide) 256 (by decide) _ _ _ _ _ (ld_shift x1) (ld_scale x1) (ld_x256 x0) (ld_gain x2) (ld_w0 x3) i1 i2 _ (by simp [Rect.emb_apply]) (by simp [Rect.emb_apply])
  · exact g_tile x0 x1 x2 x3 0 (by decide) 0 (by decide) _ _ _ _ _ (ld_shift x1) (ld_scale x1) (ld_x0 x0) (ld_gain x2) (ld_w0 x3) i1 i2 _ (by simp [Rect.emb_apply]) (by simp [Rect.emb_apply])

theorem q_c_at (y : S1x1024x384.Idx) : out0_13 (F := Ideal) x0 x1 x2 x3 x4 x5 x6 x7 y = qBlock x0 x1 x2 x3 x4 x5 2048 (by decide) x7 y := by
  rw [q_c_eq]
  refine canon_of _ _ ?_ _ (View.cover_of_tiledBy _ ![1, 256, 384] (by sl_kernel_rfl) _)
  refine ⟨?_, ?_, ?_, ?_, trivial⟩ <;> intro y <;> obtain ⟨i0, i1, i2, rfl⟩ : ∃ (i0 : Fin 1) (i1 : Fin 256) (i2 : Fin 384), y = ix3 i0 i1 i2 := ⟨y 0, y 1, y 2, eq_ix3 y⟩ <;>
    obtain rfl : i0 = 0 := Subsingleton.elim _ _
  · exact q_tile x0 x1 x2 x3 x4 x5 2048 (by decide) 768 (by decide) _ _ _ _ _ (ld_shift x1) (ld_scale x1) (ld_x768 x0) (ld_gain x2) (ld_w2048 x3) x7 _ (ld_heads x7) _ _ (ld_t768 x4) (ld_t768 x5) i1 i2 _ (by simp [Rect.emb_apply]) (by simp [Rect.emb_apply])
  · exact q_tile x0 x1 x2 x3 x4 x5 2048 (by decide) 512 (by decide) _ _ _ _ _ (ld_shift x1) (ld_scale x1) (ld_x512 x0) (ld_gain x2) (ld_w2048 x3) x7 _ (ld_heads x7) _ _ (ld_t512 x4) (ld_t512 x5) i1 i2 _ (by simp [Rect.emb_apply]) (by simp [Rect.emb_apply])
  · exact q_tile x0 x1 x2 x3 x4 x5 2048 (by decide) 256 (by decide) _ _ _ _ _ (ld_shift x1) (ld_scale x1) (ld_x256 x0) (ld_gain x2) (ld_w2048 x3) x7 _ (ld_heads x7) _ _ (ld_t256 x4) (ld_t256 x5) i1 i2 _ (by simp [Rect.emb_apply]) (by simp [Rect.emb_apply])
  · exact q_tile x0 x1 x2 x3 x4 x5 2048 (by decide) 0 (by decide) _ _ _ _ _ (ld_shift x1) (ld_scale x1) (ld_x0 x0) (ld_gain x2) (ld_w2048 x3) x7 _ (ld_heads x7) _ _ (ld_t0 x4) (ld_t0 x5) i1 i2 _ (by simp [Rect.emb_apply]) (by simp [Rect.emb_apply])

theorem k_c_at (y : S1x1024x256.Idx) : out0_14 (F := Ideal) x0 x1 x2 x3 x4 x5 x6 x7 y = kBlock x0 x1 x2 x3 x4 x5 2048 (by decide) x7 y := by
  rw [k_c_eq]
  refine canon_of _ _ ?_ _ (View.cover_of_tiledBy _ ![1, 256, 256] (by sl_kernel_rfl) _)
  refine ⟨?_, ?_, ?_, ?_, trivial⟩ <;> intro y <;> obtain ⟨i0, i1, i2, rfl⟩ : ∃ (i0 : Fin 1) (i1 : Fin 256) (i2 : Fin 256), y = ix3 i0 i1 i2 := ⟨y 0, y 1, y 2, eq_ix3 y⟩ <;>
    obtain rfl : i0 = 0 := Subsingleton.elim _ _
  · exact k_tile x0 x1 x2 x3 x4 x5 2048 (by decide) 768 (by decide) _ _ _ _ _ (ld_shift x1) (ld_scale x1) (ld_x768 x0) (ld_gain x2) (ld_w2048 x3) x7 _ (ld_heads x7) _ _ (ld_t768 x4) (ld_t768 x5) i1 i2 _ (by simp [Rect.emb_apply]) (by simp [Rect.emb_apply])
  · exact k_tile x0 x1 x2 x3 x4 x5 2048 (by decide) 512 (by decide) _ _ _ _ _ (ld_shift x1) (ld_scale x1) (ld_x512 x0) (ld_gain x2) (ld_w2048 x3) x7 _ (ld_heads x7) _ _ (ld_t512 x4) (ld_t512 x5) i1 i2 _ (by simp [Rect.emb_apply]) (by simp [Rect.emb_apply])
  · exact k_tile x0 x1 x2 x3 x4 x5 2048 (by decide) 256 (by decide) _ _ _ _ _ (ld_shift x1) (ld_scale x1) (ld_x256 x0) (ld_gain x2) (ld_w2048 x3) x7 _ (ld_heads x7) _ _ (ld_t256 x4) (ld_t256 x5) i1 i2 _ (by simp [Rect.emb_apply]) (by simp [Rect.emb_apply])
  · exact k_tile x0 x1 x2 x3 x4 x5 2048 (by decide) 0 (by decide) _ _ _ _ _ (ld_shift x1) (ld_scale x1) (ld_x0 x0) (ld_gain x2) (ld_w2048 x3) x7 _ (ld_heads x7) _ _ (ld_t0 x4) (ld_t0 x5) i1 i2 _ (by simp [Rect.emb_apply]) (by simp [Rect.emb_apply])

theorem v_c_at (y : S1x1024x256.Idx) : out0_15 (F := Ideal) x0 x1 x2 x3 x4 x5 x6 x7 y = vBlock x0 x1 x2 x3 2048 (by decide) y := by
  rw [v_c_eq]
  refine canon_of _ _ ?_ _ (View.cover_of_tiledBy _ ![1, 256, 256] (by sl_kernel_rfl) _)
  refine ⟨?_, ?_, ?_, ?_, trivial⟩ <;> intro y <;> obtain ⟨i0, i1, i2, rfl⟩ : ∃ (i0 : Fin 1) (i1 : Fin 256) (i2 : Fin 256), y = ix3 i0 i1 i2 := ⟨y 0, y 1, y 2, eq_ix3 y⟩ <;>
    obtain rfl : i0 = 0 := Subsingleton.elim _ _
  · exact v_tile x0 x1 x2 x3 2048 (by decide) 768 (by decide) _ _ _ _ _ (ld_shift x1) (ld_scale x1) (ld_x768 x0) (ld_gain x2) (ld_w2048 x3) i1 i2 _ (by simp [Rect.emb_apply]) (by simp [Rect.emb_apply])
  · exact v_tile x0 x1 x2 x3 2048 (by decide) 512 (by decide) _ _ _ _ _ (ld_shift x1) (ld_scale x1) (ld_x512 x0) (ld_gain x2) (ld_w2048 x3) i1 i2 _ (by simp [Rect.emb_apply]) (by simp [Rect.emb_apply])
  · exact v_tile x0 x1 x2 x3 2048 (by decide) 256 (by decide) _ _ _ _ _ (ld_shift x1) (ld_scale x1) (ld_x256 x0) (ld_gain x2) (ld_w2048 x3) i1 i2 _ (by simp [Rect.emb_apply]) (by simp [Rect.emb_apply])
  · exact v_tile x0 x1 x2 x3 2048 (by decide) 0 (by decide) _ _ _ _ _ (ld_shift x1) (ld_scale x1) (ld_x0 x0) (ld_gain x2) (ld_w2048 x3) i1 i2 _ (by simp [Rect.emb_apply]) (by simp [Rect.emb_apply])

theorem g_c_at (y : S1x1024x384.Idx) : out0_16 (F := Ideal) x0 x1 x2 x3 x4 x5 x6 x7 y = gBlock x0 x1 x2 x3 2048 (by decide) y := by
  rw [g_c_eq]
  refine canon_of _ _ ?_ _ (View.cover_of_tiledBy _ ![1, 256, 384] (by sl_kernel_rfl) _)
  refine ⟨?_, ?_, ?_, ?_, trivial⟩ <;> intro y <;> obtain ⟨i0, i1, i2, rfl⟩ : ∃ (i0 : Fin 1) (i1 : Fin 256) (i2 : Fin 384), y = ix3 i0 i1 i2 := ⟨y 0, y 1, y 2, eq_ix3 y⟩ <;>
    obtain rfl : i0 = 0 := Subsingleton.elim _ _
  · exact g_tile x0 x1 x2 x3 2048 (by decide) 768 (by decide) _ _ _ _ _ (ld_shift x1) (ld_scale x1) (ld_x768 x0) (ld_gain x2) (ld_w2048 x3) i1 i2 _ (by simp [Rect.emb_apply]) (by simp [Rect.emb_apply])
  · exact g_tile x0 x1 x2 x3 2048 (by decide) 512 (by decide) _ _ _ _ _ (ld_shift x1) (ld_scale x1) (ld_x512 x0) (ld_gain x2) (ld_w2048 x3) i1 i2 _ (by simp [Rect.emb_apply]) (by simp [Rect.emb_apply])
  · exact g_tile x0 x1 x2 x3 2048 (by decide) 256 (by decide) _ _ _ _ _ (ld_shift x1) (ld_scale x1) (ld_x256 x0) (ld_gain x2) (ld_w2048 x3) i1 i2 _ (by simp [Rect.emb_apply]) (by simp [Rect.emb_apply])
  · exact g_tile x0 x1 x2 x3 2048 (by decide) 0 (by decide) _ _ _ _ _ (ld_shift x1) (ld_scale x1) (ld_x0 x0) (ld_gain x2) (ld_w2048 x3) i1 i2 _ (by simp [Rect.emb_apply]) (by simp [Rect.emb_apply])

theorem hy_at (y : S1x1024x1024.Idx) : out0_12 (F := Ideal) x0 x1 x2 x3 x4 x5 x6 x7 y = hyBlock x0 x1 x2 x3 y := by
  rw [hy_eq]
  refine canon_of _ _ ?_ _ (View.cover_of_tiledBy _ ![1, 256, 1024] (by sl_kernel_rfl) _)
  refine ⟨?_, ?_, ?_, ?_, trivial⟩ <;> intro y <;> obtain ⟨i0, i1, i2, rfl⟩ : ∃ (i0 : Fin 1) (i1 : Fin 256) (i2 : Fin 1024), y = ix3 i0 i1 i2 := ⟨y 0, y 1, y 2, eq_ix3 y⟩ <;>
    obtain rfl : i0 = 0 := Subsingleton.elim _ _
  · exact hy_tile x0 x1 x2 x3 768 (by decide) _ _ _ _ _ (ld_shift x1) (ld_scale x1) (ld_x768 x0) (ld_gain x2) (ld_w1024 x3) i1 i2 _ (by simp [Rect.emb_apply]) (by simp [Rect.emb_apply])
  · exact hy_tile x0 x1 x2 x3 512 (by decide) _ _ _ _ _ (ld_shift x1) (ld_scale x1) (ld_x512 x0) (ld_gain x2) (ld_w1024 x3) i1 i2 _ (by simp [Rect.emb_apply]) (by simp [Rect.emb_apply])
  · exact hy_tile x0 x1 x2 x3 256 (by decide) _ _ _ _ _ (ld_shift x1) (ld_scale x1) (ld_x256 x0) (ld_gain x2) (ld_w1024 x3) i1 i2 _ (by simp [Rect.emb_apply]) (by simp [Rect.emb_apply])
  · exact hy_tile x0 x1 x2 x3 0 (by decide) _ _ _ _ _ (ld_shift x1) (ld_scale x1) (ld_x0 x0) (ld_gain x2) (ld_w1024 x3) i1 i2 _ (by simp [Rect.emb_apply]) (by simp [Rect.emb_apply])

end Cert.Kernel3Ideal.Proj
end
-- ==== Proof.ProjWin.lean ====
module
public import proofs.«01_k».proof.Proof.ProjBlock
@[expose] public section
set_option maxRecDepth 16384
noncomputable section
open Idealize.ShloMosaic Idealize.ShloMosaic.TcCoe Idealize.SL.Sem

/-! The input projection's operands at a grid point, as entries of the arguments. -/

namespace Cert.Kernel3Ideal.Proj
open Cert.Kernel3Ideal Cert.Kernel3Ideal.Gen Cert.Kernel3Ideal.Value

variable (m : (ℓ : Loc nD τ sig) → Buf (Elt Ideal) ℓ)

/-- The blocks a grid point stages: batch `t / 2`, rows from `1024 (t % 2)`. -/
theorem points : ∀ t : Fin cfg0.N, win0_0.index t 0 = t.val / 2 ∧ win0_0.index t 1 = t.val % 2 ∧ win0_0.index t 2 = 0 ∧
    win0_1.index t 0 = t.val / 2 ∧ win0_1.index t 1 = 0 ∧ win0_1.index t 2 = 0 ∧
    win0_2.index t 0 = 0 ∧ win0_2.index t 1 = 0 ∧ win0_3.index t 0 = 0 ∧ win0_3.index t 1 = 0 ∧
    win0_4.index t 0 = t.val % 2 ∧ win0_4.index t 1 = 0 ∧ win0_5.index t 0 = t.val % 2 ∧ win0_5.index t 1 = 0 ∧
    win0_6.index t 0 = 0 ∧ win0_6.index t 1 = 0 ∧ win0_7.index t 0 = 0 ∧ win0_7.index t 1 = 0 :=
  (by decide +kernel : ∀ t : Fin grid0.N, _)

theorem win0_at (c : Dev nD) (t : Fin cfg0.N) (b : Fin 32) (hb : b.val = t.val / 2) (r : Fin 1024) (q : Fin 2048)
    (hq : q.val = t.val % 2 * 1024 + r.val) (k : Fin 1024) :
    iblk m c 0 t (ix3 0 r k) = m ((c : Thread nD τ).loc main_arg0) (ix3 b q k) := by
  blk_ext [iblk, V, points t]

theorem mod_eq (c : Dev nD) : V m c main_v55 = (broadcastInDim S32x1x3072 ![0, 2] bcast_S32x3072_S32x1x3072_0_2
    (m ((c : Thread nD τ).loc main_arg1) : FVec Ideal S32x3072 .f32) : FVec Ideal S32x1x3072 .f32) := by
  unfold V
  simp only [List.flatten_cons, List.flatten_nil, List.cons_append, List.nil_append, hostOps0]
  after_results

theorem mod_at (G : FVec Ideal S32x3072 .f32) (b : Fin 32) (k : Fin 3072) :
    broadcastInDim S32x1x3072 ![0, 2] bcast_S32x3072_S32x1x3072_0_2 G (ix3 b 0 k) = G (ix2 b k) := by
  pointwise []

theorem win1_at (c : Dev nD) (t : Fin cfg0.N) (b : Fin 32) (hb : b.val = t.val / 2) (k : Fin 3072) :
    iblk m c 1 t (ix3 0 0 k) = m ((c : Thread nD τ).loc main_arg1) (ix2 b k) := by
  refine .trans ?_ (mod_at (m ((c : Thread nD τ).loc main_arg1)) b k)
  rw [← mod_eq]
  blk_ext [iblk, V, points t]

theorem normGain_eq (c : Dev nD) : V m c main_v56 = (broadcastInDim S1x1024 ![1] bcast_S1024_S1x1024_1
    (m ((c : Thread nD τ).loc main_arg2) : FVec Ideal S1024 .f32) : FVec Ideal S1x1024 .f32) := by
  unfold V
  simp only [List.flatten_cons, List.flatten_nil, List.cons_append, List.nil_append, hostOps0]
  after_results

theorem normGain_at (G : FVec Ideal S1024 .f32) (k : Fin 1024) :
    broadcastInDim S1x1024 ![1] bcast_S1024_S1x1024_1 G (ix2 0 k) = G (ix1 k) := by
  pointwise []

theorem win2_at (c : Dev nD) (t : Fin cfg0.N) (k : Fin 1024) :
    iblk m c 2 t (ix2 0 k) = m ((c : Thread nD τ).loc main_arg2) (ix1 k) := by
  refine .trans ?_ (normGain_at (m ((c : Thread nD τ).loc main_arg2)) k)
  rw [← normGain_eq]
  blk_ext [iblk, V, points t]

theorem weights_eq (c : Dev nD) : V m c main_v57 = (truncf .bf16 (m ((c : Thread nD τ).loc main_arg3) : FVec Ideal S1024x3072 .f32)
    bitsLt_bf16_f32 : FVec Ideal S1024x3072 .bf16) := by
  unfold V
  simp only [List.flatten_cons, List.flatten_nil, List.cons_append, List.nil_append, hostOps0]
  after_results

theorem win3_at (c : Dev nD) (t : Fin cfg0.N) (d : Fin 1024) (k : Fin 3072) :
    iblk m c 3 t (ix2 d k) = m ((c : Thread nD τ).loc main_arg3) (ix2 d k) := by
  refine .trans (b := V m c main_v57 (ix2 d k)) ?_ (by rw [weights_eq]; rfl)
  blk_ext [iblk, V, points t]

/-- A branch's query and key gains, one after the other. -/
def gains (q k : FVec Ideal S64 .f32) : FVec Ideal S1x512 .f32 :=
  broadcastInDim S1x512 ![1] bcast_S512_S1x512_1 (concatenate S512 0
    [⟨S384, shapeCast S384 (broadcastInDim S6x64 ![0, 1] bcast_S1x64_S6x64_0_1 (shapeCast S1x64 q shapeCasts_S64_S1x64)) shapeCasts_S6x64_S384⟩,
     ⟨S128, shapeCast S128 (broadcastInDim S2x64 ![0, 1] bcast_S1x64_S2x64_0_1 (shapeCast S1x64 k shapeCasts_S64_S1x64)) shapeCasts_S2x64_S128⟩]
    concatenates_S384_S128_S512_d0)

theorem gains_a_eq (c : Dev nD) : V m c main_v46 = gains (m ((c : Thread nD τ).loc main_arg4)) (m ((c : Thread nD τ).loc main_arg5)) := by
  unfold V
  simp only [List.flatten_cons, List.flatten_nil, List.cons_append, List.nil_append, hostOps0]
  after_results
  rfl

end Cert.Kernel3Ideal.Proj
end
-- ==== Proof.ProjTab.lean ====
module
public import proofs.«01_k».proof.Proof.ProjWin
@[expose] public section
set_option maxRecDepth 16384
noncomputable section
open Idealize.ShloMosaic Idealize.ShloMosaic.TcCoe Idealize.SL.Sem

/-! The gains and the rotation tables the host builds, read at a position. -/

namespace Cert.Kernel3Ideal.Proj
open Cert.Kernel3Ideal Cert.Kernel3Ideal.Gen Cert.Kernel3Ideal.Value

variable (m : (ℓ : Loc nD τ sig) → Buf (Elt Ideal) ℓ)

theorem gains_c_eq (c : Dev nD) : V m c main_v54 = gains (m ((c : Thread nD τ).loc main_arg6)) (m ((c : Thread nD τ).loc main_arg7)) := by
  unfold V
  simp only [List.flatten_cons, List.flatten_nil, List.cons_append, List.nil_append, hostOps0]
  after_results
  rfl

theorem gains_q_at (q k : FVec Ideal S64 .f32) (c : Fin 512) (h : c.val < 384) : gains q k (ix2 0 c) = q (ix1 ⟨c.val % 64, by omega⟩) := by
  pointwise [gains]
  simp only [h, dif_pos]

theorem gains_k_at (q k : FVec Ideal S64 .f32) (c : Fin 512) (h : 384 ≤ c.val) : gains q k (ix2 0 c) = k (ix1 ⟨c.val % 64, by omega⟩) := by
  pointwise [gains]
  rw [dif_neg (by omega)]
  have e : (c.val - 384) % 64 = c.val % 64 := by omega
  exact congrArg (fun i => k (ix1 i)) (Fin.ext e)

/-- The latent positions. -/
def positions : (⟨S2048, .i32⟩ : BufTy).Contents (Elt Ideal) := iotaInDim S2048 32 0
def splat (n : BitVec 32) : (⟨S2048, .i32⟩ : BufTy).Contents (Elt Ideal) := broadcastInDim S2048 ![] bcast_S_S2048 (constantI S_ 32 n)

/-- Positions divided by 64, rounding down. -/
def quotients : (⟨S2048, .i32⟩ : BufTy).Contents (Elt Ideal) :=
  select (andi (cmpi .ne (signi positions) (broadcastInDim S2048 ![] bcast_S_S2048 (signi (constantI S_ 32 64#32)))) (cmpi .ne (Host.remsi positions (splat 64#32)) (splat 0#32)))
    (subi (Host.divsi positions (splat 64#32)) (splat 1#32)) (Host.divsi positions (splat 64#32))

theorem quotients_at (t : Fin 2048) : quotients (ix1 t) = BitVec.ofNat 32 (t.val / 64) := by
  revert t
  decide +kernel

/-- The divisor of the remainder, which is not zero. -/
def divisor : (⟨S_, .i32⟩ : BufTy).Contents (Elt Ideal) :=
  select (cmpi .eq (constantI S_ 32 64#32) (constantI S_ 32 0#32)) (constantI S_ 32 1#32) (constantI S_ 32 64#32)

/-- Positions modulo 64. -/
def remainders : (⟨S2048, .i32⟩ : BufTy).Contents (Elt Ideal) :=
  select (andi (cmpi .ne (cmpi .slt (Host.remsi positions (broadcastInDim S2048 ![] bcast_S_S2048 divisor)) (splat 0#32))
      (broadcastInDim S2048 ![] bcast_S_S2048 (cmpi .slt divisor (constantI S_ 32 0#32))))
      (cmpi .ne (Host.remsi positions (broadcastInDim S2048 ![] bcast_S_S2048 divisor)) (splat 0#32)))
    (addi (Host.remsi positions (broadcastInDim S2048 ![] bcast_S_S2048 divisor)) (broadcastInDim S2048 ![] bcast_S_S2048 divisor))
    (Host.remsi positions (broadcastInDim S2048 ![] bcast_S_S2048 divisor))

theorem remainders_at (t : Fin 2048) : remainders (ix1 t) = BitVec.ofNat 32 (t.val % 64) := by
  revert t
  decide +kernel

/-- The inverse frequencies. -/
def freqs : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- One axis's angles. -/
def axis (n : (⟨S2048, .i32⟩ : BufTy).Contents (Elt Ideal)) (f : FVec Ideal S16 .f32) : FVec Ideal S2048x16 .f32 :=
  mulf (broadcastInDim S2048x16 ![0, 1] bcast_S2048x1_S2048x16_0_1 (broadcastInDim S2048x1 ![0] bcast_S2048_S2048x1_0 (sitofp .f32 n)))
    (broadcastInDim S2048x16 ![0, 1] bcast_S1x16_S2048x16_0_1 (broadcastInDim S1x16 ![1] bcast_S16_S1x16_1 f))

/-- Both axes' angles. -/
def angles (a b : FVec Ideal S2048x16 .f32) : FVec Ideal S2048x2x16 .f32 :=
  concatenate S2048x2x16 1 [⟨S2048x1x16, broadcastInDim S2048x1x16 ![0, 2] bcast_S2048x16_S2048x1x16_0_2 a⟩,
    ⟨S2048x1x16, broadcastInDim S2048x1x16 ![0, 2] bcast_S2048x16_S2048x1x16_0_2 b⟩] concatenates_S2048x1x16_S2048x1x16_S2048x2x16_d1

/-- A table of 64 lanes, twice. -/
def twice (T : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 T shapeCasts_S2048x64_S1x2048x1x64)) shapeCasts_S1x2048x2x64_S2048x128

def cosLanes (A : FVec Ideal S2048x2x16 .f32) : FVec Ideal S2048x64 .f32 :=
  shapeCast S2048x64 (broadcastInDim S2048x2x2x16 ![0, 1, 2, 3] bcast_S2048x2x1x16_S2048x2x2x16_0_1_2_3
    (broadcastInDim S2048x2x1x16 ![0, 1, 3] bcast_S2048x2x16_S2048x2x1x16_0_1_3 (Host.cos A))) shapeCasts_S2048x2x2x16_S2048x64

def sinLanes (A : FVec Ideal S2048x2x16 .f32) : FVec Ideal S2048x64 .f32 :=
  shapeCast S2048x64 (concatenate S2048x2x2x16 2
    [⟨S2048x2x1x16, Host.negf (broadcastInDim S2048x2x1x16 ![0, 1, 3] bcast_S2048x2x16_S2048x2x1x16_0_1_3 (Host.sin A))⟩,
     ⟨S2048x2x1x16, broadcastInDim S2048x2x1x16 ![0, 1, 3] bcast_S2048x2x16_S2048x2x1x16_0_1_3 (Host.sin A)⟩]
    concatenates_S2048x2x1x16_S2048x2x1x16_S2048x2x2x16_d2) shapeCasts_S2048x2x2x16_S2048x64

theorem cos_eq (c : Dev nD) : V m c main_v35 = twice (cosLanes (angles (axis quotients freqs) (axis remainders freqs))) := by
  unfold V
  simp only [List.flatten_cons, List.flatten_nil, List.cons_append, List.nil_append, hostOps0]
  after_results
  rfl

theorem sin_eq (c : Dev nD) : V m c main_v38 = twice (sinLanes (angles (axis quotients freqs) (axis remainders freqs))) := by
  unfold V
  simp only [List.flatten_cons, List.flatten_nil, List.cons_append, List.nil_append, hostOps0]
  after_results
  rfl

theorem twice_at (T : FVec Ideal S2048x64 .f32) (t : Fin 2048) (l : Fin 128) : twice T (ix2 t l) = T (ix2 t ⟨l.val % 64, by omega⟩) := by
  pointwise [twice]

theorem cosLanes_at (A : FVec Ideal S2048x2x16 .f32) (t : Fin 2048) (l : Fin 64) :
    cosLanes A (ix2 t l) = Ideal.cos (A (ix3 t ⟨l.val / 32, by omega⟩ ⟨l.val % 16, by omega⟩)) := by
  pointwise [cosLanes]

theorem sinLanes_at (A : FVec Ideal S2048x2x16 .f32) (t : Fin 2048) (l : Fin 64) :
    sinLanes A (ix2 t l) = if l.val % 32 < 16 then -(Ideal.sin (A (ix3 t ⟨l.val / 32, by omega⟩ ⟨l.val % 16, by omega⟩)))
      else Ideal.sin (A (ix3 t ⟨l.val / 32, by omega⟩ ⟨l.val % 16, by omega⟩)) := by
  pointwise [sinLanes]
  by_cases h : l.val % 32 < 16
  · rw [if_pos h, dif_pos (by omega)]
  · rw [if_neg h, dif_neg (by omega)]

theorem angles_at (a b : FVec Ideal S2048x16 .f32) (t : Fin 2048) (u : Fin 2) (w : Fin 16) :
    angles a b (ix3 t u w) = if u.val = 0 then a (ix2 t w) else b (ix2 t w) := by
  pointwise [angles]
  by_cases h : u.val = 0
  · rw [if_pos h, dif_pos (by omega)]
  · rw [if_neg h, dif_neg (by omega)]

theorem axis_at (n : (⟨S2048, .i32⟩ : BufTy).Contents (Elt Ideal)) (f : FVec Ideal S16 .f32) (t : Fin 2048) (w : Fin 16) :
    axis n f (ix2 t w) = (((n (ix1 t)).toInt : ℝ) : EReal) * f (ix1 w) := by
  pointwise [axis]
  rfl

/-- The angle of latent position `t`, axis `u`, frequency `w`. -/
def theta (t : Fin 2048) (u : ℕ) (w : Fin 16) : EReal :=
  (((BitVec.ofNat 32 (if u = 0 then t.val / 64 else t.val % 64)).toInt : ℝ) : EReal) * freqs (ix1 w)

theorem angles_theta (t : Fin 2048) (u : Fin 2) (w : Fin 16) :
    angles (axis quotients freqs) (axis remainders freqs) (ix3 t u w) = theta t u.val w := by
  rw [angles_at, axis_at, axis_at, quotients_at, remainders_at]
  unfold theta
  by_cases h : u.val = 0
  · rw [if_pos h, if_pos h]
  · rw [if_neg h, if_neg h]

/-- The rotation's factors of a lane's own value and of its pair's. -/
def cosAt (t : Fin 2048) (l : Fin 128) : EReal := Ideal.cos (theta t (l.val % 64 / 32) ⟨l.val % 16, by omega⟩)
def sinAt (t : Fin 2048) (l : Fin 128) : EReal :=
  if l.val % 32 < 16 then -Ideal.sin (theta t (l.val % 64 / 32) ⟨l.val % 16, by omega⟩) else Ideal.sin (theta t (l.val % 64 / 32) ⟨l.val % 16, by omega⟩)

theorem cos_at (c : Dev nD) (t : Fin 2048) (l : Fin 128) : V m c main_v35 (ix2 t l) = cosAt t l := by
  rw [cos_eq, twice_at, cosLanes_at, angles_theta]
  unfold cosAt
  simp only [show l.val % 64 % 16 = l.val % 16 by omega]

theorem sin_at (c : Dev nD) (t : Fin 2048) (l : Fin 128) : V m c main_v38 (ix2 t l) = sinAt t l := by
  rw [sin_eq, twice_at, sinLanes_at, angles_theta]
  unfold sinAt
  simp only [show l.val % 64 % 16 = l.val % 16 by omega, show l.val % 64 % 32 = l.val % 32 by omega]

theorem win4_at (c : Dev nD) (t : Fin cfg0.N) (r : Fin 1024) (q : Fin 2048) (hq : q.val = t.val % 2 * 1024 + r.val) (l : Fin 128) :
    iblk m c 4 t (ix2 r l) = cosAt q l := by
  refine .trans ?_ (cos_at m c q l)
  blk_ext [iblk, V, points t]

theorem win5_at (c : Dev nD) (t : Fin cfg0.N) (r : Fin 1024) (q : Fin 2048) (hq : q.val = t.val % 2 * 1024 + r.val) (l : Fin 128) :
    iblk m c 5 t (ix2 r l) = sinAt q l := by
  refine .trans ?_ (sin_at m c q l)
  blk_ext [iblk, V, points t]

/-- A gain of a query or a key column. -/
def gain (q k : FVec Ideal S64 .f32) (c : Fin 512) : EReal :=
  if c.val < 384 then q (ix1 ⟨c.val % 64, by omega⟩) else k (ix1 ⟨c.val % 64, by omega⟩)

theorem gains_at (q k : FVec Ideal S64 .f32) (c : Fin 512) : gains q k (ix2 0 c) = gain q k c := by
  unfold gain
  by_cases h : c.val < 384
  · rw [if_pos h, gains_q_at q k c h]
  · rw [if_neg h, gains_k_at q k c (by omega)]

theorem win6_at (c : Dev nD) (t : Fin cfg0.N) (k : Fin 512) :
    iblk m c 6 t (ix2 0 k) = gain (m ((c : Thread nD τ).loc main_arg4)) (m ((c : Thread nD τ).loc main_arg5)) k := by
  rw [← gains_at, ← gains_a_eq]
  blk_ext [iblk, V, points t]

theorem win7_at (c : Dev nD) (t : Fin cfg0.N) (k : Fin 512) :
    iblk m c 7 t (ix2 0 k) = gain (m ((c : Thread nD τ).loc main_arg6)) (m ((c : Thread nD τ).loc main_arg7)) k := by
  rw [← gains_at, ← gains_c_eq]
  blk_ext [iblk, V, points t]

/-- The blocks the nine results take. -/
theorem places : ∀ t : Fin cfg0.N, win0_8.index t 0 = t.val / 2 ∧ win0_8.index t 1 = t.val % 2 ∧ win0_8.index t 2 = 0 ∧
    win0_9.index t 0 = t.val / 2 ∧ win0_9.index t 1 = t.val % 2 ∧ win0_9.index t 2 = 0 ∧
    win0_10.index t 0 = t.val / 2 ∧ win0_10.index t 1 = t.val % 2 ∧ win0_10.index t 2 = 0 ∧
    win0_11.index t 0 = t.val / 2 ∧ win0_11.index t 1 = t.val % 2 ∧ win0_11.index t 2 = 0 ∧
    win0_12.index t 0 = t.val / 2 ∧ win0_12.index t 1 = t.val % 2 ∧ win0_12.index t 2 = 0 ∧
    win0_13.index t 0 = t.val / 2 ∧ win0_13.index t 1 = t.val % 2 ∧ win0_13.index t 2 = 0 ∧
    win0_14.index t 0 = t.val / 2 ∧ win0_14.index t 1 = t.val % 2 ∧ win0_14.index t 2 = 0 ∧
    win0_15.index t 0 = t.val / 2 ∧ win0_15.index t 1 = t.val % 2 ∧ win0_15.index t 2 = 0 ∧
    win0_16.index t 0 = t.val / 2 ∧ win0_16.index t 1 = t.val % 2 ∧ win0_16.index t 2 = 0 :=
  (by decide +kernel : ∀ t : Fin grid0.N, _)

end Cert.Kernel3Ideal.Proj
end
-- ==== Proof.ProjOut.lean ====
module
public import proofs.«01_k».proof.Proof.ProjTab
@[expose] public section
set_option maxRecDepth 16384
noncomputable section
open Idealize.ShloMosaic Idealize.ShloMosaic.TcCoe Idealize.SL.Sem

/-! The input projection's nine results as entries of the arguments. -/

namespace Cert.Kernel3Ideal.Proj
open Cert.Kernel3Ideal Cert.Kernel3Ideal.Gen Cert.Kernel3Ideal.Value

/-- Row `t` of batch `b`, normalized, modulated and projected by the weights' columns from `o`. -/
def argRow (X : FVec Ideal S32x2048x1024 .f32) (M : FVec Ideal S32x3072 .f32) (N : FVec Ideal S1024 .f32) (W : FVec Ideal S1024x3072 .f32)
    (o : ℕ) (ho : o + 1024 ≤ 3072) (b : Fin 32) (t : Fin 2048) : Fin 1024 → EReal :=
  proj (fun k => X (ix3 b t k)) (fun k => N (ix1 k)) (fun k => M (ix2 b ⟨1024 + k.val, by omega⟩))
    (fun k => M (ix2 b ⟨k.val, by omega⟩)) fun d k => W (ix2 d ⟨o + k.val, by omega⟩)

variable (m : (ℓ : Loc nD τ sig) → Buf (Elt Ideal) ℓ)

theorem row_at (c : Dev nD) (o : ℕ) (ho : o + 1024 ≤ 3072) (t : Fin cfg0.N) (b : Fin 32) (hb : b.val = t.val / 2) (r : Fin 1024) (q : Fin 2048)
    (hq : q.val = t.val % 2 * 1024 + r.val) :
    blkRow (iblk m c 0 t) (iblk m c 1 t) (iblk m c 2 t) (iblk m c 3 t) o ho r =
    argRow (m ((c : Thread nD τ).loc main_arg0)) (m ((c : Thread nD τ).loc main_arg1)) (m ((c : Thread nD τ).loc main_arg2))
      (m ((c : Thread nD τ).loc main_arg3)) o ho b q := by
  unfold blkRow argRow
  simp only [win0_at m c t b hb r q hq, win1_at m c t b hb, win2_at m c t, win3_at m c t]

theorem q_a_entry (c : Dev nD) (t : Fin cfg0.N) (y : S1x1024x384.Idx) (b : Fin 32) (hb : b.val = t.val / 2)
    (q : Fin 2048) (hq : q.val = t.val % 2 * 1024 + (y 1).val) (k : Fin 384) (hk : k.val = (y 2).val) :
    out0_8 (F := Ideal) (iblk m c 0 t) (iblk m c 1 t) (iblk m c 2 t) (iblk m c 3 t) (iblk m c 4 t) (iblk m c 5 t) (iblk m c 6 t) (iblk m c 7 t) y =
    qRow (argRow (m ((c : Thread nD τ).loc main_arg0)) (m ((c : Thread nD τ).loc main_arg1)) (m ((c : Thread nD τ).loc main_arg2))
      (m ((c : Thread nD τ).loc main_arg3)) 0 (by decide) b q) (gain (m ((c : Thread nD τ).loc main_arg4)) (m ((c : Thread nD τ).loc main_arg5))) (cosAt q) (sinAt q) k := by
  obtain rfl : k = y 2 := Fin.ext hk
  refine (q_a_at _ _ _ _ _ _ _ _ y).trans ?_
  unfold qBlock
  simp only [row_at m c 0 (by decide) t b hb _ q hq, win4_at m c t _ q hq, win5_at m c t _ q hq, win6_at m c t]

theorem q_a_result (c : Dev nD) : (dats m 0 c).arrAt 8 cfg0.N = fun i : S32x2048x384.Idx =>
    qRow (argRow (m ((c : Thread nD τ).loc main_arg0)) (m ((c : Thread nD τ).loc main_arg1)) (m ((c : Thread nD τ).loc main_arg2))
      (m ((c : Thread nD τ).loc main_arg3)) 0 (by decide) (i 0) (i 1)) (gain (m ((c : Thread nD τ).loc main_arg4)) (m ((c : Thread nD τ).loc main_arg5))) (cosAt (i 1)) (sinAt (i 1)) (i 2) := by
  refine (dats m 0 c).arrAt_eq_of_covers 8 _ (by decide +kernel) fun t _ y => ?_
  blk_simp
  obtain ⟨h0, h1, h2, -⟩ := places t
  have e0 : ((win0_8.blk t).view.emb y 0).val = t.val / 2 := by blk_simp [h0, h1, h2]
  have e1 : ((win0_8.blk t).view.emb y 1).val = t.val % 2 * 1024 + (y 1).val := by blk_simp [h0, h1, h2]
  have e2 : ((win0_8.blk t).view.emb y 2).val = (y 2).val := by blk_simp [h0, h1, h2]
  exact (congrFun (after0_8 m c t) y).trans (q_a_entry m c t y _ e0 _ e1 _ e2)

theorem k_a_entry (c : Dev nD) (t : Fin cfg0.N) (y : S1x1024x256.Idx) (b : Fin 32) (hb : b.val = t.val / 2)
    (q : Fin 2048) (hq : q.val = t.val % 2 * 1024 + (y 1).val) (k : Fin 256) (hk : k.val = (y 2).val) :
    out0_9 (F := Ideal) (iblk m c 0 t) (iblk m c 1 t) (iblk m c 2 t) (iblk m c 3 t) (iblk m c 4 t) (iblk m c 5 t) (iblk m c 6 t) (iblk m c 7 t) y =
    kRow (argRow (m ((c : Thread nD τ).loc main_arg0)) (m ((c : Thread nD τ).loc main_arg1)) (m ((c : Thread nD τ).loc main_arg2))
      (m ((c : Thread nD τ).loc main_arg3)) 0 (by decide) b q) (gain (m ((c : Thread nD τ).loc main_arg4)) (m ((c : Thread nD τ).loc main_arg5))) (cosAt q) (sinAt q) k := by
  obtain rfl : k = y 2 := Fin.ext hk
  refine (k_a_at _ _ _ _ _ _ _ _ y).trans ?_
  unfold kBlock
  simp only [row_at m c 0 (by decide) t b hb _ q hq, win4_at m c t _ q hq, win5_at m c t _ q hq, win6_at m c t]

theorem k_a_result (c : Dev nD) : (dats m 0 c).arrAt 9 cfg0.N = fun i : S32x2048x256.Idx =>
    kRow (argRow (m ((c : Thread nD τ).loc main_arg0)) (m ((c : Thread nD τ).loc main_arg1)) (m ((c : Thread nD τ).loc main_arg2))
      (m ((c : Thread nD τ).loc main_arg3)) 0 (by decide) (i 0) (i 1)) (gain (m ((c : Thread nD τ).loc main_arg4)) (m ((c : Thread nD τ).loc main_arg5))) (cosAt (i 1)) (sinAt (i 1)) (i 2) := by
  refine (dats m 0 c).arrAt_eq_of_covers 9 _ (by decide +kernel) fun t _ y => ?_
  blk_simp
  obtain ⟨-, -, -, h0, h1, h2, -⟩ := places t
  have e0 : ((win0_9.blk t).view.emb y 0).val = t.val / 2 := by blk_simp [h0, h1, h2]
  have e1 : ((win0_9.blk t).view.emb y 1).val = t.val % 2 * 1024 + (y 1).val := by blk_simp [h0, h1, h2]
  have e2 : ((win0_9.blk t).view.emb y 2).val = (y 2).val := by blk_simp [h0, h1, h2]
  exact (congrFun (after0_9 m c t) y).trans (k_a_entry m c t y _ e0 _ e1 _ e2)

theorem v_a_entry (c : Dev nD) (t : Fin cfg0.N) (y : S1x1024x256.Idx) (b : Fin 32) (hb : b.val = t.val / 2)
    (q : Fin 2048) (hq : q.val = t.val % 2 * 1024 + (y 1).val) (k : Fin 256) (hk : k.val = (y 2).val) :
    out0_10 (F := Ideal) (iblk m c 0 t) (iblk m c 1 t) (iblk m c 2 t) (iblk m c 3 t) (iblk m c 4 t) (iblk m c 5 t) (iblk m c 6 t) (iblk m c 7 t) y =
    vRow (argRow (m ((c : Thread nD τ).loc main_arg0)) (m ((c : Thread nD τ).loc main_arg1)) (m ((c : Thread nD τ).loc main_arg2))
      (m ((c : Thread nD τ).loc main_arg3)) 0 (by decide) b q) k := by
  obtain rfl : k = y 2 := Fin.ext hk
  refine (v_a_at _ _ _ _ _ _ _ _ y).trans ?_
  unfold vBlock
  simp only [row_at m c 0 (by decide) t b hb _ q hq]

theorem v_a_result (c : Dev nD) : (dats m 0 c).arrAt 10 cfg0.N = fun i : S32x2048x256.Idx =>
    vRow (argRow (m ((c : Thread nD τ).loc main_arg0)) (m ((c : Thread nD τ).loc main_arg1)) (m ((c : Thread nD τ).loc main_arg2))
      (m ((c : Thread nD τ).loc main_arg3)) 0 (by decide) (i 0) (i 1)) (i 2) := by
  refine (dats m 0 c).arrAt_eq_of_covers 10 _ (by decide +kernel) fun t _ y => ?_
  blk_simp
  obtain ⟨-, -, -, -, -, -, h0, h1, h2, -⟩ := places t
  have e0 : ((win0_10.blk t).view.emb y 0).val = t.val / 2 := by blk_simp [h0, h1, h2]
  have e1 : ((win0_10.blk t).view.emb y 1).val = t.val % 2 * 1024 + (y 1).val := by blk_simp [h0, h1, h2]
  have e2 : ((win0_10.blk t).view.emb y 2).val = (y 2).val := by blk_simp [h0, h1, h2]
  exact (congrFun (after0_10 m c t) y).trans (v_a_entry m c t y _ e0 _ e1 _ e2)

theorem g_a_entry (c : Dev nD) (t : Fin cfg0.N) (y : S1x1024x384.Idx) (b : Fin 32) (hb : b.val = t.val / 2)
    (q : Fin 2048) (hq : q.val = t.val % 2 * 1024 + (y 1).val) (k : Fin 384) (hk : k.val = (y 2).val) :
    out0_11 (F := Ideal) (iblk m c 0 t) (iblk m c 1 t) (iblk m c 2 t) (iblk m c 3 t) (iblk m c 4 t) (iblk m c 5 t) (iblk m c 6 t) (iblk m c 7 t) y =
    gRow (argRow (m ((c : Thread nD τ).loc main_arg0)) (m ((c : Thread nD τ).loc main_arg1)) (m ((c : Thread nD τ).loc main_arg2))
      (m ((c : Thread nD τ).loc main_arg3)) 0 (by decide) b q) k := by
  obtain rfl : k = y 2 := Fin.ext hk
  refine (g_a_at _ _ _ _ _ _ _ _ y).trans ?_
  unfold gBlock
  simp only [row_at m c 0 (by decide) t b hb _ q hq]

theorem g_a_result (c : Dev nD) : (dats m 0 c).arrAt 11 cfg0.N = fun i : S32x2048x384.Idx =>
    gRow (argRow (m ((c : Thread nD τ).loc main_arg0)) (m ((c : Thread nD τ).loc main_arg1)) (m ((c : Thread nD τ).loc main_arg2))
      (m ((c : Thread nD τ).loc main_arg3)) 0 (by decide) (i 0) (i 1)) (i 2) := by
  refine (dats m 0 c).arrAt_eq_of_covers 11 _ (by decide +kernel) fun t _ y => ?_
  blk_simp
  obtain ⟨-, -, -, -, -, -, -, -, -, h0, h1, h2, -⟩ := places t
  have e0 : ((win0_11.blk t).view.emb y 0).val = t.val / 2 := by blk_simp [h0, h1, h2]
  have e1 : ((win0_11.blk t).view.emb y 1).val = t.val % 2 * 1024 + (y 1).val := by blk_simp [h0, h1, h2]
  have e2 : ((win0_11.blk t).view.emb y 2).val = (y 2).val := by blk_simp [h0, h1, h2]
  exact (congrFun (after0_11 m c t) y).trans (g_a_entry m c t y _ e0 _ e1 _ e2)

theorem hy_entry (c : Dev nD) (t : Fin cfg0.N) (y : S1x1024x1024.Idx) (b : Fin 32) (hb : b.val = t.val / 2)
    (q : Fin 2048) (hq : q.val = t.val % 2 * 1024 + (y 1).val) (k : Fin 1024) (hk : k.val = (y 2).val) :
    out0_12 (F := Ideal) (iblk m c 0 t) (iblk m c 1 t) (iblk m c 2 t) (iblk m c 3 t) (iblk m c 4 t) (iblk m c 5 t) (iblk m c 6 t) (iblk m c 7 t) y =
    (argRow (m ((c : Thread nD τ).loc main_arg0)) (m ((c : Thread nD τ).loc main_arg1)) (m ((c : Thread nD τ).loc main_arg2))
      (m ((c : Thread nD τ).loc main_arg3)) 1024 (by decide) b q) k := by
  obtain rfl : k = y 2 := Fin.ext hk
  refine (hy_at _ _ _ _ _ _ _ _ y).trans ?_
  unfold hyBlock
  simp only [row_at m c 1024 (by decide) t b hb _ q hq]

theorem hy_result (c : Dev nD) : (dats m 0 c).arrAt 12 cfg0.N = fun i : S32x2048x1024.Idx =>
    (argRow (m ((c : Thread nD τ).loc main_arg0)) (m ((c : Thread nD τ).loc main_arg1)) (m ((c : Thread nD τ).loc main_arg2))
      (m ((c : Thread nD τ).loc main_arg3)) 1024 (by decide) (i 0) (i 1)) (i 2) := by
  refine (dats m 0 c).arrAt_eq_of_covers 12 _ (by decide +kernel) fun t _ y => ?_
  blk_simp
  obtain ⟨-, -, -, -, -, -, -, -, -, -, -, -, h0, h1, h2, -⟩ := places t
  have e0 : ((win0_12.blk t).view.emb y 0).val = t.val / 2 := by blk_simp [h0, h1, h2]
  have e1 : ((win0_12.blk t).view.emb y 1).val = t.val % 2 * 1024 + (y 1).val := by blk_simp [h0, h1, h2]
  have e2 : ((win0_12.blk t).view.emb y 2).val = (y 2).val := by blk_simp [h0, h1, h2]
  exact (congrFun (after0_12 m c t) y).trans (hy_entry m c t y _ e0 _ e1 _ e2)

theorem q_c_entry (c : Dev nD) (t : Fin cfg0.N) (y : S1x1024x384.Idx) (b : Fin 32) (hb : b.val = t.val / 2)
    (q : Fin 2048) (hq : q.val = t.val % 2 * 1024 + (y 1).val) (k : Fin 384) (hk : k.val = (y 2).val) :
    out0_13 (F := Ideal) (iblk m c 0 t) (iblk m c 1 t) (iblk m c 2 t) (iblk m c 3 t) (iblk m c 4 t) (iblk m c 5 t) (iblk m c 6 t) (iblk m c 7 t) y =
    qRow (argRow (m ((c : Thread nD τ).loc main_arg0)) (m ((c : Thread nD τ).loc main_arg1)) (m ((c : Thread nD τ).loc main_arg2))
      (m ((c : Thread nD τ).loc main_arg3)) 2048 (by decide) b q) (gain (m ((c : Thread nD τ).loc main_arg6)) (m ((c : Thread nD τ).loc main_arg7))) (cosAt q) (sinAt q) k := by
  obtain rfl : k = y 2 := Fin.ext hk
  refine (q_c_at _ _ _ _ _ _ _ _ y).trans ?_
  unfold qBlock
  simp only [row_at m c 2048 (by decide) t b hb _ q hq, win4_at m c t _ q hq, win5_at m c t _ q hq, win7_at m c t]

theorem q_c_result (c : Dev nD) : (dats m 0 c).arrAt 13 cfg0.N = fun i : S32x2048x384.Idx =>
    qRow (argRow (m ((c : Thread nD τ).loc main_arg0)) (m ((c : Thread nD τ).loc main_arg1)) (m ((c : Thread nD τ).loc main_arg2))
      (m ((c : Thread nD τ).loc main_arg3)) 2048 (by decide) (i 0) (i 1)) (gain (m ((c : Thread nD τ).loc main_arg6)) (m ((c : Thread nD τ).loc main_arg7))) (cosAt (i 1)) (sinAt (i 1)) (i 2) := by
  refine (dats m 0 c).arrAt_eq_of_covers 13 _ (by decide +kernel) fun t _ y => ?_
  blk_simp
  obtain ⟨-, -, -, -, -, -, -, -, -, -, -, -, -, -, -, h0, h1, h2, -⟩ := places t
  have e0 : ((win0_13.blk t).view.emb y 0).val = t.val / 2 := by blk_simp [h0, h1, h2]
  have e1 : ((win0_13.blk t).view.emb y 1).val = t.val % 2 * 1024 + (y 1).val := by blk_simp [h0, h1, h2]
  have e2 : ((win0_13.blk t).view.emb y 2).val = (y 2).val := by blk_simp [h0, h1, h2]
  exact (congrFun (after0_13 m c t) y).trans (q_c_entry m c t y _ e0 _ e1 _ e2)

theorem k_c_entry (c : Dev nD) (t : Fin cfg0.N) (y : S1x1024x256.Idx) (b : Fin 32) (hb : b.val = t.val / 2)
    (q : Fin 2048) (hq : q.val = t.val % 2 * 1024 + (y 1).val) (k : Fin 256) (hk : k.val = (y 2).val) :
    out0_14 (F := Ideal) (iblk m c 0 t) (iblk m c 1 t) (iblk m c 2 t) (iblk m c 3 t) (iblk m c 4 t) (iblk m c 5 t) (iblk m c 6 t) (iblk m c 7 t) y =
    kRow (argRow (m ((c : Thread nD τ).loc main_arg0)) (m ((c : Thread nD τ).loc main_arg1)) (m ((c : Thread nD τ).loc main_arg2))
      (m ((c : Thread nD τ).loc main_arg3)) 2048 (by decide) b q) (gain (m ((c : Thread nD τ).loc main_arg6)) (m ((c : Thread nD τ).loc main_arg7))) (cosAt q) (sinAt q) k := by
  obtain rfl : k = y 2 := Fin.ext hk
  refine (k_c_at _ _ _ _ _ _ _ _ y).trans ?_
  unfold kBlock
  simp only [row_at m c 2048 (by decide) t b hb _ q hq, win4_at m c t _ q hq, win5_at m c t _ q hq, win7_at m c t]

theorem k_c_result (c : Dev nD) : (dats m 0 c).arrAt 14 cfg0.N = fun i : S32x2048x256.Idx =>
    kRow (argRow (m ((c : Thread nD τ).loc main_arg0)) (m ((c : Thread nD τ).loc main_arg1)) (m ((c : Thread nD τ).loc main_arg2))
      (m ((c : Thread nD τ).loc main_arg3)) 2048 (by decide) (i 0) (i 1)) (gain (m ((c : Thread nD τ).loc main_arg6)) (m ((c : Thread nD τ).loc main_arg7))) (cosAt (i 1)) (sinAt (i 1)) (i 2) := by
  refine (dats m 0 c).arrAt_eq_of_covers 14 _ (by decide +kernel) fun t _ y => ?_
  blk_simp
  obtain ⟨-, -, -, -, -, -, -, -, -, -, -, -, -, -, -, -, -, -, h0, h1, h2, -⟩ := places t
  have e0 : ((win0_14.blk t).view.emb y 0).val = t.val / 2 := by blk_simp [h0, h1, h2]
  have e1 : ((win0_14.blk t).view.emb y 1).val = t.val % 2 * 1024 + (y 1).val := by blk_simp [h0, h1, h2]
  have e2 : ((win0_14.blk t).view.emb y 2).val = (y 2).val := by blk_simp [h0, h1, h2]
  exact (congrFun (after0_14 m c t) y).trans (k_c_entry m c t y _ e0 _ e1 _ e2)

theorem v_c_entry (c : Dev nD) (t : Fin cfg0.N) (y : S1x1024x256.Idx) (b : Fin 32) (hb : b.val = t.val / 2)
    (q : Fin 2048) (hq : q.val = t.val % 2 * 1024 + (y 1).val) (k : Fin 256) (hk : k.val = (y 2).val) :
    out0_15 (F := Ideal) (iblk m c 0 t) (iblk m c 1 t) (iblk m c 2 t) (iblk m c 3 t) (iblk m c 4 t) (iblk m c 5 t) (iblk m c 6 t) (iblk m c 7 t) y =
    vRow (argRow (m ((c : Thread nD τ).loc main_arg0)) (m ((c : Thread nD τ).loc main_arg1)) (m ((c : Thread nD τ).loc main_arg2))
      (m ((c : Thread nD τ).loc main_arg3)) 2048 (by decide) b q) k := by
  obtain rfl : k = y 2 := Fin.ext hk
  refine (v_c_at _ _ _ _ _ _ _ _ y).trans ?_
  unfold vBlock
  simp only [row_at m c 2048 (by decide) t b hb _ q hq]

theorem v_c_result (c : Dev nD) : (dats m 0 c).arrAt 15 cfg0.N = fun i : S32x2048x256.Idx =>
    vRow (argRow (m ((c : Thread nD τ).loc main_arg0)) (m ((c : Thread nD τ).loc main_arg1)) (m ((c : Thread nD τ).loc main_arg2))
      (m ((c : Thread nD τ).loc main_arg3)) 2048 (by decide) (i 0) (i 1)) (i 2) := by
  refine (dats m 0 c).arrAt_eq_of_covers 15 _ (by decide +kernel) fun t _ y => ?_
  blk_simp
  obtain ⟨-, -, -, -, -, -, -, -, -, -, -, -, -, -, -, -, -, -, -, -, -, h0, h1, h2, -⟩ := places t
  have e0 : ((win0_15.blk t).view.emb y 0).val = t.val / 2 := by blk_simp [h0, h1, h2]
  have e1 : ((win0_15.blk t).view.emb y 1).val = t.val % 2 * 1024 + (y 1).val := by blk_simp [h0, h1, h2]
  have e2 : ((win0_15.blk t).view.emb y 2).val = (y 2).val := by blk_simp [h0, h1, h2]
  exact (congrFun (after0_15 m c t) y).trans (v_c_entry m c t y _ e0 _ e1 _ e2)

theorem g_c_entry (c : Dev nD) (t : Fin cfg0.N) (y : S1x1024x384.Idx) (b : Fin 32) (hb : b.val = t.val / 2)
    (q : Fin 2048) (hq : q.val = t.val % 2 * 1024 + (y 1).val) (k : Fin 384) (hk : k.val = (y 2).val) :
    out0_16 (F := Ideal) (iblk m c 0 t) (iblk m c 1 t) (iblk m c 2 t) (iblk m c 3 t) (iblk m c 4 t) (iblk m c 5 t) (iblk m c 6 t) (iblk m c 7 t) y =
    gRow (argRow (m ((c : Thread nD τ).loc main_arg0)) (m ((c : Thread nD τ).loc main_arg1)) (m ((c : Thread nD τ).loc main_arg2))
      (m ((c : Thread nD τ).loc main_arg3)) 2048 (by decide) b q) k := by
  obtain rfl : k = y 2 := Fin.ext hk
  refine (g_c_at _ _ _ _ _ _ _ _ y).trans ?_
  unfold gBlock
  simp only [row_at m c 2048 (by decide) t b hb _ q hq]

theorem g_c_result (c : Dev nD) : (dats m 0 c).arrAt 16 cfg0.N = fun i : S32x2048x384.Idx =>
    gRow (argRow (m ((c : Thread nD τ).loc main_arg0)) (m ((c : Thread nD τ).loc main_arg1)) (m ((c : Thread nD τ).loc main_arg2))
      (m ((c : Thread nD τ).loc main_arg3)) 2048 (by decide) (i 0) (i 1)) (i 2) := by
  refine (dats m 0 c).arrAt_eq_of_covers 16 _ (by decide +kernel) fun t _ y => ?_
  blk_simp
  obtain ⟨-, -, -, -, -, -, -, -, -, -, -, -, -, -, -, -, -, -, -, -, -, -, -, -, h0, h1, h2⟩ := places t
  have e0 : ((win0_16.blk t).view.emb y 0).val = t.val / 2 := by blk_simp [h0, h1, h2]
  have e1 : ((win0_16.blk t).view.emb y 1).val = t.val % 2 * 1024 + (y 1).val := by blk_simp [h0, h1, h2]
  have e2 : ((win0_16.blk t).view.emb y 2).val = (y 2).val := by blk_simp [h0, h1, h2]
  exact (congrFun (after0_16 m c t) y).trans (g_c_entry m c t y _ e0 _ e1 _ e2)

end Cert.Kernel3Ideal.Proj
end
-- ==== Proof.ProjRef.lean ====
module
public import proofs.«01_k».proof.Proof.Gen.Reference3Ideal.Run
public import proofs.«01_k».proof.Proof.ProjOut
@[expose] public section
set_option maxRecDepth 16384
noncomputable section
open Idealize.ShloMosaic Idealize.ShloMosaic.TcCoe Idealize.SL.Sem

/-! The plain input projection's results, piece by piece, read at an index. -/

namespace Cert.Reference3Ideal.Proj
open Cert.Reference3Ideal Cert.Reference3Ideal.Gen

/-- The rows' mean square. -/
def meanSquare (X : FVec Ideal S32x2048x1024 .f32) : FVec Ideal S32x2048x1 .f32 :=
  Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))

/-- The rows over their root mean square, with the norm's gains. -/
def normalized (X : FVec Ideal S32x2048x1024 .f32) (Q : FVec Ideal S32x2048x1 .f32) (N : FVec Ideal S1024 .f32) : FVec Ideal S32x2048x1024 .f32 :=
  mulf (mulf X (broadcastInDim S32x2048x1024 ![0, 1, 2] bcast_S32x2048x1_S32x2048x1024_0_1_2 (Host.rsqrt (addf Q (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 N))

/-- Scaled and shifted by the modulation. -/
def scaled (Y : FVec Ideal S32x2048x1024 .f32) (M : FVec Ideal S32x3072 .f32) : FVec Ideal S32x2048x1024 .f32 :=
  addf (mulf Y (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![0, 1024] M slices_S32x3072_S32x1024_0_1024))))) (broadcastInDim S32x2048x1024 ![0, 1, 2] bcast_S32x1x1024_S32x2048x1024_0_1_2 (broadcastInDim S32x1x1024 ![0, 2] bcast_S32x1024_S32x1x1024_0_2 (extractStridedSlice S32x1024 ![0, 0] M slices_S32x3072_S32x1024_0_0)))

def projected (Y : FVec Ideal S32x2048x1024 .f32) (W : FVec Ideal S1024x3072 .f32) : FVec Ideal S32x2048x3072 .f32 :=
  Host.dotGeneral dot_S32x2048x1024_S1024x3072_S32x2048x3072_2_0_01_1_n_n none Y W

theorem meanSquare_at (X : FVec Ideal S32x2048x1024 .f32) (b : Fin 32) (t : Fin 2048) :
    meanSquare X (ix3 b t 0) = Ideal.div (∑ k : Fin 1024, X (ix3 b t k) * X (ix3 b t k)) (Ideal.ofBits .f32 0x44800000#32) := by
  pointwise [meanSquare]

theorem normalized_at (X : FVec Ideal S32x2048x1024 .f32) (Q : FVec Ideal S32x2048x1 .f32) (N : FVec Ideal S1024 .f32) (b : Fin 32) (t : Fin 2048) (d : Fin 1024) :
    normalized X Q N (ix3 b t d) = X (ix3 b t d) * Ideal.rsqrt (Q (ix3 b t 0) + Ideal.ofBits .f32 0x358637BD#32) * N (ix1 d) := by
  pointwise [normalized]

theorem scaled_at (Y : FVec Ideal S32x2048x1024 .f32) (M : FVec Ideal S32x3072 .f32) (b : Fin 32) (t : Fin 2048) (d : Fin 1024) :
    scaled Y M (ix3 b t d) = Y (ix3 b t d) * (1 + M (ix2 b ⟨1024 + d.val, by omega⟩)) + M (ix2 b ⟨d.val, by omega⟩) := by
  pointwise [scaled]

theorem projected_at (Y : FVec Ideal S32x2048x1024 .f32) (W : FVec Ideal S1024x3072 .f32) (b : Fin 32) (t : Fin 2048) (k : Fin 3072) :
    projected Y W (ix3 b t k) = ∑ d : Fin 1024, Y (ix3 b t d) * W (ix2 d k) := by
  pointwise [projected]

/-- The projected rows. -/
def rows (X : FVec Ideal S32x2048x1024 .f32) (M : FVec Ideal S32x3072 .f32) (N : FVec Ideal S1024 .f32) (W : FVec Ideal S1024x3072 .f32) :
    FVec Ideal S32x2048x3072 .f32 := projected (scaled (normalized X (meanSquare X) N) M) W

theorem rows_at (X : FVec Ideal S32x2048x1024 .f32) (M : FVec Ideal S32x3072 .f32) (N : FVec Ideal S1024 .f32) (W : FVec Ideal S1024x3072 .f32)
    (o : ℕ) (ho : o + 1024 ≤ 3072) (b : Fin 32) (t : Fin 2048) (k : Fin 1024) (l : Fin 3072) (hl : l.val = o + k.val) :
    rows X M N W (ix3 b t l) = Cert.Kernel3Ideal.Proj.argRow X M N W o ho b t k := by
  have hk : o + k.val < 3072 := by omega
  obtain rfl : l = ⟨o + k.val, hk⟩ := Fin.ext hl
  unfold rows
  rw [projected_at]
  unfold Cert.Kernel3Ideal.Proj.argRow Cert.Kernel3Ideal.Proj.proj Cert.Kernel3Ideal.Proj.modulated
  simp only [scaled_at, normalized_at, meanSquare_at]

/-- The angles' cosines and sines, over the heads. -/
def angle (f : FVec Ideal S16 .f32) (p : (⟨S32x64, .i32⟩ : BufTy).Contents (Elt Ideal)) : FVec Ideal S2048x16 .f32 :=
  mulf (broadcastInDim S2048x16 ![0, 1] bcast_S2048x1_S2048x16_0_1 (broadcastInDim S2048x1 ![0] bcast_S2048_S2048x1_0 (sitofp .f32 (shapeCast S2048 p shapeCasts_S32x64_S2048)))) (broadcastInDim S2048x16 ![0, 1] bcast_S1x16_S2048x16_0_1 (broadcastInDim S1x16 ![1] bcast_S16_S1x16_1 f))

def bothAngles (a b : FVec Ideal S2048x16 .f32) : FVec Ideal S2048x2x16 .f32 :=
  concatenate S2048x2x16 1 [⟨S2048x1x16, broadcastInDim S2048x1x16 ![0, 2] bcast_S2048x16_S2048x1x16_0_2 a⟩, ⟨S2048x1x16, broadcastInDim S2048x1x16 ![0, 2] bcast_S2048x16_S2048x1x16_0_2 b⟩] concatenates_S2048x1x16_S2048x1x16_S2048x2x16_d1

def overHeads (T : FVec Ideal S2048x2x16 .f32) : FVec Ideal S1x2048x1x2x16 .f32 :=
  broadcastInDim S1x2048x1x2x16 ![1, 3, 4] bcast_S2048x2x16_S1x2048x1x2x16_1_3_4 T

theorem angle_at (f : FVec Ideal S16 .f32) (p : (⟨S32x64, .i32⟩ : BufTy).Contents (Elt Ideal)) (t : Fin 2048) (w : Fin 16) :
    angle f p (ix2 t w) = (((p (ix2 ⟨t.val / 64, by omega⟩ ⟨t.val % 64, by omega⟩)).toInt : ℝ) : EReal) * f (ix1 w) := by
  pointwise [angle]
  rfl

theorem bothAngles_at (a b : FVec Ideal S2048x16 .f32) (t : Fin 2048) (u : Fin 2) (w : Fin 16) :
    bothAngles a b (ix3 t u w) = if u.val = 0 then a (ix2 t w) else b (ix2 t w) := by
  pointwise [bothAngles]
  by_cases h : u.val = 0
  · rw [if_pos h, dif_pos (by omega)]
  · rw [if_neg h, dif_neg (by omega)]

theorem overHeads_at (T : FVec Ideal S2048x2x16 .f32) (t : Fin 2048) (u : Fin 2) (w : Fin 16) :
    overHeads T (ix5 0 t 0 u w) = T (ix3 t u w) := by
  pointwise [overHeads]

def iota0 : (⟨S32x64, .i32⟩ : BufTy).Contents (Elt Ideal) := iotaInDim S32x64 32 0
def iota1 : (⟨S32x64, .i32⟩ : BufTy).Contents (Elt Ideal) := iotaInDim S32x64 32 1

def angles : FVec Ideal S2048x2x16 .f32 := bothAngles (angle Cert.Kernel3Ideal.Proj.freqs iota0) (angle Cert.Kernel3Ideal.Proj.freqs iota1)

theorem iota0_at (x : Fin 32) (y : Fin 64) : iota0 (ix2 x y) = BitVec.ofNat 32 x.val := by
  pointwise [iota0]

theorem iota1_at (x : Fin 32) (y : Fin 64) : iota1 (ix2 x y) = BitVec.ofNat 32 y.val := by
  pointwise [iota1]

theorem angles_at (t : Fin 2048) (u : Fin 2) (w : Fin 16) : angles (ix3 t u w) = Cert.Kernel3Ideal.Proj.theta t u.val w := by
  unfold angles
  rw [bothAngles_at, angle_at, angle_at, iota0_at, iota1_at]
  unfold Cert.Kernel3Ideal.Proj.theta
  by_cases h : u.val = 0
  · rw [if_pos h, if_pos h]
  · rw [if_neg h, if_neg h]

def cosines : FVec Ideal S1x2048x1x2x16 .f32 := overHeads (Host.cos angles)
def sines : FVec Ideal S1x2048x1x2x16 .f32 := overHeads (Host.sin angles)

theorem cosines_at (t : Fin 2048) (u : Fin 2) (w : Fin 16) : cosines (ix5 0 t 0 u w) = Ideal.cos (Cert.Kernel3Ideal.Proj.theta t u.val w) := by
  unfold cosines
  rw [overHeads_at, ← angles_at]
  rfl

theorem sines_at (t : Fin 2048) (u : Fin 2) (w : Fin 16) : sines (ix5 0 t 0 u w) = Ideal.sin (Cert.Kernel3Ideal.Proj.theta t u.val w) := by
  unfold sines
  rw [overHeads_at, ← angles_at]
  rfl

def branchA (P : FVec Ideal S32x2048x3072 .f32) : FVec Ideal S32x2048x1024 .f32 := extractStridedSlice S32x2048x1024 ![0, 0, 0] P slices_S32x2048x3072_S32x2048x1024_0_0_0
def branchC (P : FVec Ideal S32x2048x3072 .f32) : FVec Ideal S32x2048x1024 .f32 := extractStridedSlice S32x2048x1024 ![0, 0, 2048] P slices_S32x2048x3072_S32x2048x1024_0_0_2048

theorem branchA_at (P : FVec Ideal S32x2048x3072 .f32) (b : Fin 32) (t : Fin 2048) (k : Fin 1024) : branchA P (ix3 b t k) = P (ix3 b t ⟨k.val, by omega⟩) := by
  pointwise [branchA]

theorem branchC_at (P : FVec Ideal S32x2048x3072 .f32) (b : Fin 32) (t : Fin 2048) (k : Fin 1024) : branchC P (ix3 b t k) = P (ix3 b t ⟨2048 + k.val, by omega⟩) := by
  pointwise [branchC]

def hyena (P : FVec Ideal S32x2048x3072 .f32) : FVec Ideal S32x2048x1024 .bf16 :=
  truncf .bf16 (extractStridedSlice S32x2048x1024 ![0, 0, 1024] P slices_S32x2048x3072_S32x2048x1024_0_0_1024) bitsLt_bf16_f32

theorem hyena_at (P : FVec Ideal S32x2048x3072 .f32) (b : Fin 32) (t : Fin 2048) (k : Fin 1024) : hyena P (ix3 b t k) = P (ix3 b t ⟨1024 + k.val, by omega⟩) := by
  pointwise [hyena]

def gate (P : FVec Ideal S32x2048x1024 .f32) : FVec Ideal S32x2048x384 .f32 := extractStridedSlice S32x2048x384 ![0, 0, 640] P slices_S32x2048x1024_S32x2048x384_0_0_640
def gated (g : FVec Ideal S32x2048x384 .f32) : FVec Ideal S32x2048x384 .bf16 :=
  truncf .bf16 (mulf g (Host.divf (broadcastInDim S32x2048x384 ![] bcast_S_S32x2048x384 (constant S_ .f32 0x3F800000#32)) (addf (broadcastInDim S32x2048x384 ![] bcast_S_S32x2048x384 (constant S_ .f32 0x3F800000#32)) (Host.exp (Host.negf g))))) bitsLt_bf16_f32

theorem gate_at (P : FVec Ideal S32x2048x1024 .f32) (b : Fin 32) (t : Fin 2048) (k : Fin 384) : gate P (ix3 b t k) = P (ix3 b t ⟨640 + k.val, by omega⟩) := by
  pointwise [gate]

theorem gated_at (g : FVec Ideal S32x2048x384 .f32) (b : Fin 32) (t : Fin 2048) (k : Fin 384) : gated g (ix3 b t k) = Cert.Kernel3Ideal.Proj.silu (g (ix3 b t k)) := by
  pointwise [gated, Cert.Kernel3Ideal.Proj.silu]

def vHeads (P : FVec Ideal S32x2048x1024 .f32) : FVec Ideal S32x2048x2x64 .f32 :=
  shapeCast S32x2048x2x64 (extractStridedSlice S32x2048x128 ![0, 0, 512] P slices_S32x2048x1024_S32x2048x128_0_0_512) shapeCasts_S32x2048x128_S32x2048x2x64

/-- Two heads, and beside them the two exchanged. -/
def withSwapped (T : FVec Ideal S32x2048x2x64 .f32) : FVec Ideal S32x2048x256 .bf16 :=
  truncf .bf16 (shapeCast S32x2048x256 (concatenate S32x2048x4x64 2 [⟨S32x2048x2x64, T⟩, ⟨S32x2048x2x64, Host.reverse [2] T⟩] concatenates_S32x2048x2x64_S32x2048x2x64_S32x2048x4x64_d2) shapeCasts_S32x2048x4x64_S32x2048x256) bitsLt_bf16_f32

theorem vHeads_at (P : FVec Ideal S32x2048x1024 .f32) (b : Fin 32) (t : Fin 2048) (h : Fin 2) (j : Fin 64) :
    vHeads P (ix4 b t h j) = P (ix3 b t ⟨512 + (h.val * 64 + j.val), by omega⟩) := by
  pointwise [vHeads]

theorem withSwapped_at (T : FVec Ideal S32x2048x2x64 .f32) (b : Fin 32) (t : Fin 2048) (k : Fin 256) :
    withSwapped T (ix3 b t k) = T (ix4 b t ⟨Cert.Kernel3Ideal.Proj.shown k.val / 64, by have := Cert.Kernel3Ideal.Proj.shown_lt k; omega⟩ ⟨k.val % 64, by omega⟩) := by
  pointwise [withSwapped]
  by_cases hk : k.val < 128
  · have hk' : k.val / 64 < 2 := by omega
    refine (dif_pos hk').trans (congrArg (fun h => T (ix4 b t h ⟨k.val % 64, by omega⟩)) (Fin.ext ?_))
    show k.val / 64 = Cert.Kernel3Ideal.Proj.shown k.val / 64
    unfold Cert.Kernel3Ideal.Proj.shown
    rw [if_pos hk]
  · have hk' : ¬ k.val / 64 < 2 := by omega
    refine (dif_neg hk').trans ?_
    show T (ix4 b t (Fin.rev (n := 2) ⟨k.val / 64 - 2, by omega⟩) ⟨k.val % 64, by omega⟩) = _
    refine congrArg (fun h => T (ix4 b t h ⟨k.val % 64, by omega⟩)) (Fin.ext ?_)
    show 2 - (k.val / 64 - 2 + 1) = Cert.Kernel3Ideal.Proj.shown k.val / 64
    unfold Cert.Kernel3Ideal.Proj.shown
    rw [if_neg hk]
    omega

def qHeads (P : FVec Ideal S32x2048x1024 .f32) : FVec Ideal S32x2048x6x64 .f32 :=
  shapeCast S32x2048x6x64 (extractStridedSlice S32x2048x384 ![0, 0, 0] P slices_S32x2048x1024_S32x2048x384_0_0_0) shapeCasts_S32x2048x384_S32x2048x6x64

def qMean (H : FVec Ideal S32x2048x6x64 .f32) : FVec Ideal S32x2048x6x1 .f32 :=
  Host.divf (broadcastInDim S32x2048x6x1 ![0, 1, 2] bcast_S32x2048x6_S32x2048x6x1_0_1_2 (Host.reduceAdd (mulf H H) (constant S_ .f32 0x00000000#32) reducesTo_S32x2048x6x64_S32x2048x6_d3 h_S_)) (broadcastInDim S32x2048x6x1 ![] bcast_S_S32x2048x6x1 (constant S_ .f32 0x42800000#32))

def qNorm (H : FVec Ideal S32x2048x6x64 .f32) (Q : FVec Ideal S32x2048x6x1 .f32) (g : FVec Ideal S64 .f32) : FVec Ideal S32x2048x6x64 .f32 :=
  mulf (mulf H (broadcastInDim S32x2048x6x64 ![0, 1, 2, 3] bcast_S32x2048x6x1_S32x2048x6x64_0_1_2_3 (Host.rsqrt (addf Q (broadcastInDim S32x2048x6x1 ![] bcast_S_S32x2048x6x1 (constant S_ .f32 0x358637BD#32)))))) (broadcastInDim S32x2048x6x64 ![0, 1, 2, 3] bcast_S1x1x1x64_S32x2048x6x64_0_1_2_3 (broadcastInDim S1x1x1x64 ![3] bcast_S64_S1x1x1x64_3 g))

def qFirst (Y : FVec Ideal S32x2048x6x64 .f32) : FVec Ideal S32x2048x6x2x16 .f32 :=
  shapeCast S32x2048x6x2x16 (extractStridedSlice S32x2048x6x2x1x16 ![0, 0, 0, 0, 0, 0] (shapeCast S32x2048x6x2x2x16 Y shapeCasts_S32x2048x6x64_S32x2048x6x2x2x16) slices_S32x2048x6x2x2x16_S32x2048x6x2x1x16_0_0_0_0_0_0) shapeCasts_S32x2048x6x2x1x16_S32x2048x6x2x16

def qSecond (Y : FVec Ideal S32x2048x6x64 .f32) : FVec Ideal S32x2048x6x2x16 .f32 :=
  shapeCast S32x2048x6x2x16 (extractStridedSlice S32x2048x6x2x1x16 ![0, 0, 0, 0, 1, 0] (shapeCast S32x2048x6x2x2x16 Y shapeCasts_S32x2048x6x64_S32x2048x6x2x2x16) slices_S32x2048x6x2x2x16_S32x2048x6x2x1x16_0_0_0_0_1_0) shapeCasts_S32x2048x6x2x1x16_S32x2048x6x2x16

def qEven (a b : FVec Ideal S32x2048x6x2x16 .f32) (c s : FVec Ideal S1x2048x1x2x16 .f32) : FVec Ideal S32x2048x6x2x16 .f32 :=
  subf (mulf a (broadcastInDim S32x2048x6x2x16 ![0, 1, 2, 3, 4] bcast_S1x2048x1x2x16_S32x2048x6x2x16_0_1_2_3_4 c)) (mulf b (broadcastInDim S32x2048x6x2x16 ![0, 1, 2, 3, 4] bcast_S1x2048x1x2x16_S32x2048x6x2x16_0_1_2_3_4 s))

def qOdd (a b : FVec Ideal S32x2048x6x2x16 .f32) (c s : FVec Ideal S1x2048x1x2x16 .f32) : FVec Ideal S32x2048x6x2x16 .f32 :=
  addf (mulf b (broadcastInDim S32x2048x6x2x16 ![0, 1, 2, 3, 4] bcast_S1x2048x1x2x16_S32x2048x6x2x16_0_1_2_3_4 c)) (mulf a (broadcastInDim S32x2048x6x2x16 ![0, 1, 2, 3, 4] bcast_S1x2048x1x2x16_S32x2048x6x2x16_0_1_2_3_4 s))

def qJoin (x y : FVec Ideal S32x2048x6x2x16 .f32) : FVec Ideal S32x2048x6x64 .f32 :=
  shapeCast S32x2048x6x64 (concatenate S32x2048x6x2x2x16 4 [⟨S32x2048x6x2x1x16, broadcastInDim S32x2048x6x2x1x16 ![0, 1, 2, 3, 5] bcast_S32x2048x6x2x16_S32x2048x6x2x1x16_0_1_2_3_5 x⟩,
    ⟨S32x2048x6x2x1x16, broadcastInDim S32x2048x6x2x1x16 ![0, 1, 2, 3, 5] bcast_S32x2048x6x2x16_S32x2048x6x2x1x16_0_1_2_3_5 y⟩] concatenates_S32x2048x6x2x1x16_S32x2048x6x2x1x16_S32x2048x6x2x2x16_d4) shapeCasts_S32x2048x6x2x2x16_S32x2048x6x64

theorem qHeads_at (P : FVec Ideal S32x2048x1024 .f32) (b : Fin 32) (t : Fin 2048) (h : Fin 6) (j : Fin 64) :
    qHeads P (ix4 b t h j) = P (ix3 b t ⟨h.val * 64 + j.val, by omega⟩) := by
  pointwise [qHeads]

theorem qMean_at (H : FVec Ideal S32x2048x6x64 .f32) (b : Fin 32) (t : Fin 2048) (h : Fin 6) :
    qMean H (ix4 b t h 0) = Ideal.div (∑ j : Fin 64, H (ix4 b t h j) * H (ix4 b t h j)) (Ideal.ofBits .f32 0x42800000#32) := by
  pointwise [qMean]

theorem qNorm_at (H : FVec Ideal S32x2048x6x64 .f32) (Q : FVec Ideal S32x2048x6x1 .f32) (g : FVec Ideal S64 .f32) (b : Fin 32) (t : Fin 2048) (h : Fin 6) (j : Fin 64) :
    qNorm H Q g (ix4 b t h j) = H (ix4 b t h j) * Ideal.rsqrt (Q (ix4 b t h 0) + Ideal.ofBits .f32 0x358637BD#32) * g (ix1 j) := by
  pointwise [qNorm]

theorem qFirst_at (Y : FVec Ideal S32x2048x6x64 .f32) (b : Fin 32) (t : Fin 2048) (h : Fin 6) (u : Fin 2) (w : Fin 16) :
    qFirst Y (ix5 b t h u w) = Y (ix4 b t h ⟨u.val * 32 + w.val, by omega⟩) := by
  pointwise [qFirst]

theorem qSecond_at (Y : FVec Ideal S32x2048x6x64 .f32) (b : Fin 32) (t : Fin 2048) (h : Fin 6) (u : Fin 2) (w : Fin 16) :
    qSecond Y (ix5 b t h u w) = Y (ix4 b t h ⟨u.val * 32 + 16 + w.val, by omega⟩) := by
  pointwise [qSecond]

theorem qEven_at (a b : FVec Ideal S32x2048x6x2x16 .f32) (c s : FVec Ideal S1x2048x1x2x16 .f32) (i : Fin 32) (t : Fin 2048) (h : Fin 6) (u : Fin 2) (w : Fin 16) :
    qEven a b c s (ix5 i t h u w) = a (ix5 i t h u w) * c (ix5 0 t 0 u w) - b (ix5 i t h u w) * s (ix5 0 t 0 u w) := by
  pointwise [qEven]

theorem qOdd_at (a b : FVec Ideal S32x2048x6x2x16 .f32) (c s : FVec Ideal S1x2048x1x2x16 .f32) (i : Fin 32) (t : Fin 2048) (h : Fin 6) (u : Fin 2) (w : Fin 16) :
    qOdd a b c s (ix5 i t h u w) = b (ix5 i t h u w) * c (ix5 0 t 0 u w) + a (ix5 i t h u w) * s (ix5 0 t 0 u w) := by
  pointwise [qOdd]

theorem qJoin_at (x y : FVec Ideal S32x2048x6x2x16 .f32) (i : Fin 32) (t : Fin 2048) (h : Fin 6) (j : Fin 64) :
    qJoin x y (ix4 i t h j) = if j.val % 32 < 16 then x (ix5 i t h ⟨j.val / 32, by omega⟩ ⟨j.val % 16, by omega⟩)
      else y (ix5 i t h ⟨j.val / 32, by omega⟩ ⟨j.val % 16, by omega⟩) := by
  pointwise [qJoin]
  by_cases hj : j.val % 32 < 16
  · have hj' : j.val / 16 % 2 < 1 := by omega
    exact (dif_pos hj').trans (if_pos hj).symm
  · have hj' : ¬ j.val / 16 % 2 < 1 := by omega
    exact (dif_neg hj').trans (if_neg hj).symm

def kHeads (P : FVec Ideal S32x2048x1024 .f32) : FVec Ideal S32x2048x2x64 .f32 :=
  shapeCast S32x2048x2x64 (extractStridedSlice S32x2048x128 ![0, 0, 384] P slices_S32x2048x1024_S32x2048x128_0_0_384) shapeCasts_S32x2048x128_S32x2048x2x64

def kMean (H : FVec Ideal S32x2048x2x64 .f32) : FVec Ideal S32x2048x2x1 .f32 :=
  Host.divf (broadcastInDim S32x2048x2x1 ![0, 1, 2] bcast_S32x2048x2_S32x2048x2x1_0_1_2 (Host.reduceAdd (mulf H H) (constant S_ .f32 0x00000000#32) reducesTo_S32x2048x2x64_S32x2048x2_d3 h_S_)) (broadcastInDim S32x2048x2x1 ![] bcast_S_S32x2048x2x1 (constant S_ .f32 0x42800000#32))

def kNorm (H : FVec Ideal S32x2048x2x64 .f32) (Q : FVec Ideal S32x2048x2x1 .f32) (g : FVec Ideal S64 .f32) : FVec Ideal S32x2048x2x64 .f32 :=
  mulf (mulf H (broadcastInDim S32x2048x2x64 ![0, 1, 2, 3] bcast_S32x2048x2x1_S32x2048x2x64_0_1_2_3 (Host.rsqrt (addf Q (broadcastInDim S32x2048x2x1 ![] bcast_S_S32x2048x2x1 (constant S_ .f32 0x358637BD#32)))))) (broadcastInDim S32x2048x2x64 ![0, 1, 2, 3] bcast_S1x1x1x64_S32x2048x2x64_0_1_2_3 (broadcastInDim S1x1x1x64 ![3] bcast_S64_S1x1x1x64_3 g))

def kFirst (Y : FVec Ideal S32x2048x2x64 .f32) : FVec Ideal S32x2048x2x2x16 .f32 :=
  shapeCast S32x2048x2x2x16 (extractStridedSlice S32x2048x2x2x1x16 ![0, 0, 0, 0, 0, 0] (shapeCast S32x2048x2x2x2x16 Y shapeCasts_S32x2048x2x64_S32x2048x2x2x2x16) slices_S32x2048x2x2x2x16_S32x2048x2x2x1x16_0_0_0_0_0_0) shapeCasts_S32x2048x2x2x1x16_S32x2048x2x2x16

def kSecond (Y : FVec Ideal S32x2048x2x64 .f32) : FVec Ideal S32x2048x2x2x16 .f32 :=
  shapeCast S32x2048x2x2x16 (extractStridedSlice S32x2048x2x2x1x16 ![0, 0, 0, 0, 1, 0] (shapeCast S32x2048x2x2x2x16 Y shapeCasts_S32x2048x2x64_S32x2048x2x2x2x16) slices_S32x2048x2x2x2x16_S32x2048x2x2x1x16_0_0_0_0_1_0) shapeCasts_S32x2048x2x2x1x16_S32x2048x2x2x16

def kEven (a b : FVec Ideal S32x2048x2x2x16 .f32) (c s : FVec Ideal S1x2048x1x2x16 .f32) : FVec Ideal S32x2048x2x2x16 .f32 :=
  subf (mulf a (broadcastInDim S32x2048x2x2x16 ![0, 1, 2, 3, 4] bcast_S1x2048x1x2x16_S32x2048x2x2x16_0_1_2_3_4 c)) (mulf b (broadcastInDim S32x2048x2x2x16 ![0, 1, 2, 3, 4] bcast_S1x2048x1x2x16_S32x2048x2x2x16_0_1_2_3_4 s))

def kOdd (a b : FVec Ideal S32x2048x2x2x16 .f32) (c s : FVec Ideal S1x2048x1x2x16 .f32) : FVec Ideal S32x2048x2x2x16 .f32 :=
  addf (mulf b (broadcastInDim S32x2048x2x2x16 ![0, 1, 2, 3, 4] bcast_S1x2048x1x2x16_S32x2048x2x2x16_0_1_2_3_4 c)) (mulf a (broadcastInDim S32x2048x2x2x16 ![0, 1, 2, 3, 4] bcast_S1x2048x1x2x16_S32x2048x2x2x16_0_1_2_3_4 s))

def kJoin (x y : FVec Ideal S32x2048x2x2x16 .f32) : FVec Ideal S32x2048x2x64 .f32 :=
  shapeCast S32x2048x2x64 (concatenate S32x2048x2x2x2x16 4 [⟨S32x2048x2x2x1x16, broadcastInDim S32x2048x2x2x1x16 ![0, 1, 2, 3, 5] bcast_S32x2048x2x2x16_S32x2048x2x2x1x16_0_1_2_3_5 x⟩,
    ⟨S32x2048x2x2x1x16, broadcastInDim S32x2048x2x2x1x16 ![0, 1, 2, 3, 5] bcast_S32x2048x2x2x16_S32x2048x2x2x1x16_0_1_2_3_5 y⟩] concatenates_S32x2048x2x2x1x16_S32x2048x2x2x1x16_S32x2048x2x2x2x16_d4) shapeCasts_S32x2048x2x2x2x16_S32x2048x2x64

theorem kHeads_at (P : FVec Ideal S32x2048x1024 .f32) (b : Fin 32) (t : Fin 2048) (h : Fin 2) (j : Fin 64) :
    kHeads P (ix4 b t h j) = P (ix3 b t ⟨384 + (h.val * 64 + j.val), by omega⟩) := by
  pointwise [kHeads]

theorem kMean_at (H : FVec Ideal S32x2048x2x64 .f32) (b : Fin 32) (t : Fin 2048) (h : Fin 2) :
    kMean H (ix4 b t h 0) = Ideal.div (∑ j : Fin 64, H (ix4 b t h j) * H (ix4 b t h j)) (Ideal.ofBits .f32 0x42800000#32) := by
  pointwise [kMean]

theorem kNorm_at (H : FVec Ideal S32x2048x2x64 .f32) (Q : FVec Ideal S32x2048x2x1 .f32) (g : FVec Ideal S64 .f32) (b : Fin 32) (t : Fin 2048) (h : Fin 2) (j : Fin 64) :
    kNorm H Q g (ix4 b t h j) = H (ix4 b t h j) * Ideal.rsqrt (Q (ix4 b t h 0) + Ideal.ofBits .f32 0x358637BD#32) * g (ix1 j) := by
  pointwise [kNorm]

theorem kFirst_at (Y : FVec Ideal S32x2048x2x64 .f32) (b : Fin 32) (t : Fin 2048) (h : Fin 2) (u : Fin 2) (w : Fin 16) :
    kFirst Y (ix5 b t h u w) = Y (ix4 b t h ⟨u.val * 32 + w.val, by omega⟩) := by
  pointwise [kFirst]

theorem kSecond_at (Y : FVec Ideal S32x2048x2x64 .f32) (b : Fin 32) (t : Fin 2048) (h : Fin 2) (u : Fin 2) (w : Fin 16) :
    kSecond Y (ix5 b t h u w) = Y (ix4 b t h ⟨u.val * 32 + 16 + w.val, by omega⟩) := by
  pointwise [kSecond]

theorem kEven_at (a b : FVec Ideal S32x2048x2x2x16 .f32) (c s : FVec Ideal S1x2048x1x2x16 .f32) (i : Fin 32) (t : Fin 2048) (h : Fin 2) (u : Fin 2) (w : Fin 16) :
    kEven a b c s (ix5 i t h u w) = a (ix5 i t h u w) * c (ix5 0 t 0 u w) - b (ix5 i t h u w) * s (ix5 0 t 0 u w) := by
  pointwise [kEven]

theorem kOdd_at (a b : FVec Ideal S32x2048x2x2x16 .f32) (c s : FVec Ideal S1x2048x1x2x16 .f32) (i : Fin 32) (t : Fin 2048) (h : Fin 2) (u : Fin 2) (w : Fin 16) :
    kOdd a b c s (ix5 i t h u w) = b (ix5 i t h u w) * c (ix5 0 t 0 u w) + a (ix5 i t h u w) * s (ix5 0 t 0 u w) := by
  pointwise [kOdd]

theorem kJoin_at (x y : FVec Ideal S32x2048x2x2x16 .f32) (i : Fin 32) (t : Fin 2048) (h : Fin 2) (j : Fin 64) :
    kJoin x y (ix4 i t h j) = if j.val % 32 < 16 then x (ix5 i t h ⟨j.val / 32, by omega⟩ ⟨j.val % 16, by omega⟩)
      else y (ix5 i t h ⟨j.val / 32, by omega⟩ ⟨j.val % 16, by omega⟩) := by
  pointwise [kJoin]
  by_cases hj : j.val % 32 < 16
  · have hj' : j.val / 16 % 2 < 1 := by omega
    exact (dif_pos hj').trans (if_pos hj).symm
  · have hj' : ¬ j.val / 16 % 2 < 1 := by omega
    exact (dif_neg hj').trans (if_neg hj).symm

def qOut (T : FVec Ideal S32x2048x6x64 .f32) : FVec Ideal S32x2048x384 .bf16 :=
  truncf .bf16 (shapeCast S32x2048x384 T shapeCasts_S32x2048x6x64_S32x2048x384) bitsLt_bf16_f32

theorem qOut_at (T : FVec Ideal S32x2048x6x64 .f32) (b : Fin 32) (t : Fin 2048) (k : Fin 384) :
    qOut T (ix3 b t k) = T (ix4 b t ⟨k.val / 64, by omega⟩ ⟨k.val % 64, by omega⟩) := by
  pointwise [qOut]

end Cert.Reference3Ideal.Proj
end
-- ==== Proof.ProjMatch.lean ====
module
public import proofs.«01_k».proof.Defs
public import proofs.«01_k».proof.Proof.ProjRef
@[expose] public section
set_option maxRecDepth 16384
noncomputable section
open Idealize.ShloMosaic Idealize.ShloMosaic.TcCoe Idealize.SL.Sem

/-! The plain input projection's results are the kernel's. -/

namespace Cert.Reference3Ideal.Proj
open Cert.Reference3Ideal Cert.Reference3Ideal.Gen Cert.Kernel3Ideal.Proj

theorem over64 (x : EReal) : Ideal.div x (Ideal.ofBits .f32 0x42800000#32) = x * Ideal.ofBits .f32 0x3C800000#32 := by
  have h1 : Ideal.ofBits .f32 0x42800000#32 = ((64 : ℝ) : EReal) := by
    simp [Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  rw [h1, h2, Ideal.div_coe (by norm_num)]

def qNormed (P : FVec Ideal S32x2048x1024 .f32) (g : FVec Ideal S64 .f32) : FVec Ideal S32x2048x6x64 .f32 := qNorm (qHeads P) (qMean (qHeads P)) g

def qTurned (Y : FVec Ideal S32x2048x6x64 .f32) (c s : FVec Ideal S1x2048x1x2x16 .f32) : FVec Ideal S32x2048x6x64 .f32 :=
  qJoin (qEven (qFirst Y) (qSecond Y) c s) (qOdd (qFirst Y) (qSecond Y) c s)

theorem qNormed_at (P : FVec Ideal S32x2048x1024 .f32) (Q K : FVec Ideal S64 .f32) (b : Fin 32) (t : Fin 2048) (p : Fin 512 → EReal)
    (hp : ∀ (k : Fin 512) (l : Fin 1024), l.val = k.val → P (ix3 b t l) = p k) (h : Fin 6) (j : Fin 64) (c : Fin 512) (hc : c.val = h.val * 64 + j.val) :
    qNormed P Q (ix4 b t h j) = normed p (gain Q K) c := by
  unfold qNormed normed headSq gain
  rw [qNorm_at, qMean_at, over64]
  simp only [qHeads_at]
  have e1 : P (ix3 b t ⟨h.val * 64 + j.val, by omega⟩) = p c := hp c _ hc.symm
  have e2 : ∀ j' : Fin 64, P (ix3 b t ⟨h.val * 64 + j'.val, by omega⟩) = p ⟨64 * (c.val / 64) + j'.val, by omega⟩ := fun j' => hp _ _ (by
    show h.val * 64 + j'.val = 64 * (c.val / 64) + j'.val
    omega)
  have e3 : j = ⟨c.val % 64, by omega⟩ := Fin.ext (by
    show j.val = c.val % 64
    omega)
  rw [e1]
  simp only [e2]
  rw [if_pos (by omega)]
  rw [← e3]

theorem qTurned_at (Y : FVec Ideal S32x2048x6x64 .f32) (b : Fin 32) (t : Fin 2048) (y : Fin 512 → EReal)
    (hY : ∀ (h : Fin 6) (j : Fin 64) (c : Fin 512), c.val = h.val * 64 + j.val → Y (ix4 b t h j) = y c)
    (h : Fin 6) (j : Fin 64) (c : Fin 512) (hc : c.val = h.val * 64 + j.val) :
    qTurned Y cosines sines (ix4 b t h j) = turned y (cosAt t) (sinAt t) c := by
  have hu : c.val % 128 % 64 / 32 = j.val / 32 := by omega
  have hw : c.val % 128 % 16 = j.val % 16 := by omega
  have hv : c.val % 128 % 32 = j.val % 32 := by omega
  have hc32 : c.val % 32 = j.val % 32 := by omega
  unfold qTurned turned cosAt sinAt
  simp only [hu, hw, hv]
  rw [qJoin_at]
  by_cases hj : j.val % 32 < 16
  · have e1 := hY h ⟨j.val / 32 * 32 + j.val % 16, by omega⟩ c (by
      show c.val = h.val * 64 + (j.val / 32 * 32 + j.val % 16)
      omega)
    have e2 := hY h ⟨j.val / 32 * 32 + 16 + j.val % 16, by omega⟩ ⟨other c.val, other_lt' c⟩ (by
      show other c.val = h.val * 64 + (j.val / 32 * 32 + 16 + j.val % 16)
      unfold other
      rw [if_pos (by omega)]
      omega)
    rw [if_pos hj, if_pos hj, qEven_at, qFirst_at, qSecond_at, cosines_at, sines_at, e1, e2, mul_neg, sub_eq_add_neg]
  · have e1 := hY h ⟨j.val / 32 * 32 + j.val % 16, by omega⟩ ⟨other c.val, other_lt' c⟩ (by
      show other c.val = h.val * 64 + (j.val / 32 * 32 + j.val % 16)
      unfold other
      rw [if_neg (by omega)]
      omega)
    have e2 := hY h ⟨j.val / 32 * 32 + 16 + j.val % 16, by omega⟩ c (by
      show c.val = h.val * 64 + (j.val / 32 * 32 + 16 + j.val % 16)
      omega)
    rw [if_neg hj, if_neg hj, qOdd_at, qFirst_at, qSecond_at, cosines_at, sines_at, e1, e2]

def kNormed (P : FVec Ideal S32x2048x1024 .f32) (g : FVec Ideal S64 .f32) : FVec Ideal S32x2048x2x64 .f32 := kNorm (kHeads P) (kMean (kHeads P)) g

def kTurned (Y : FVec Ideal S32x2048x2x64 .f32) (c s : FVec Ideal S1x2048x1x2x16 .f32) : FVec Ideal S32x2048x2x64 .f32 :=
  kJoin (kEven (kFirst Y) (kSecond Y) c s) (kOdd (kFirst Y) (kSecond Y) c s)

theorem kNormed_at (P : FVec Ideal S32x2048x1024 .f32) (Q K : FVec Ideal S64 .f32) (b : Fin 32) (t : Fin 2048) (p : Fin 512 → EReal)
    (hp : ∀ (k : Fin 512) (l : Fin 1024), l.val = k.val → P (ix3 b t l) = p k) (h : Fin 2) (j : Fin 64) (c : Fin 512) (hc : c.val = 384 + (h.val * 64 + j.val)) :
    kNormed P K (ix4 b t h j) = normed p (gain Q K) c := by
  unfold kNormed normed headSq gain
  rw [kNorm_at, kMean_at, over64]
  simp only [kHeads_at]
  have e1 : P (ix3 b t ⟨384 + (h.val * 64 + j.val), by omega⟩) = p c := hp c _ hc.symm
  have e2 : ∀ j' : Fin 64, P (ix3 b t ⟨384 + (h.val * 64 + j'.val), by omega⟩) = p ⟨64 * (c.val / 64) + j'.val, by omega⟩ := fun j' => hp _ _ (by
    show 384 + (h.val * 64 + j'.val) = 64 * (c.val / 64) + j'.val
    omega)
  have e3 : j = ⟨c.val % 64, by omega⟩ := Fin.ext (by
    show j.val = c.val % 64
    omega)
  rw [e1]
  simp only [e2]
  rw [if_neg (by omega)]
  rw [← e3]

theorem kTurned_at (Y : FVec Ideal S32x2048x2x64 .f32) (b : Fin 32) (t : Fin 2048) (y : Fin 512 → EReal)
    (hY : ∀ (h : Fin 2) (j : Fin 64) (c : Fin 512), c.val = 384 + (h.val * 64 + j.val) → Y (ix4 b t h j) = y c)
    (h : Fin 2) (j : Fin 64) (c : Fin 512) (hc : c.val = 384 + (h.val * 64 + j.val)) :
    kTurned Y cosines sines (ix4 b t h j) = turned y (cosAt t) (sinAt t) c := by
  have hu : c.val % 128 % 64 / 32 = j.val / 32 := by omega
  have hw : c.val % 128 % 16 = j.val % 16 := by omega
  have hv : c.val % 128 % 32 = j.val % 32 := by omega
  have hc32 : c.val % 32 = j.val % 32 := by omega
  unfold kTurned turned cosAt sinAt
  simp only [hu, hw, hv]
  rw [kJoin_at]
  by_cases hj : j.val % 32 < 16
  · have e1 := hY h ⟨j.val / 32 * 32 + j.val % 16, by omega⟩ c (by
      show c.val = 384 + (h.val * 64 + (j.val / 32 * 32 + j.val % 16))
      omega)
    have e2 := hY h ⟨j.val / 32 * 32 + 16 + j.val % 16, by omega⟩ ⟨other c.val, other_lt' c⟩ (by
      show other c.val = 384 + (h.val * 64 + (j.val / 32 * 32 + 16 + j.val % 16))
      unfold other
      rw [if_pos (by omega)]
      omega)
    rw [if_pos hj, if_pos hj, kEven_at, kFirst_at, kSecond_at, cosines_at, sines_at, e1, e2, mul_neg, sub_eq_add_neg]
  · have e1 := hY h ⟨j.val / 32 * 32 + j.val % 16, by omega⟩ ⟨other c.val, other_lt' c⟩ (by
      show other c.val = 384 + (h.val * 64 + (j.val / 32 * 32 + j.val % 16))
      unfold other
      rw [if_neg (by omega)]
      omega)
    have e2 := hY h ⟨j.val / 32 * 32 + 16 + j.val % 16, by omega⟩ c (by
      show c.val = 384 + (h.val * 64 + (j.val / 32 * 32 + 16 + j.val % 16))
      omega)
    rw [if_neg hj, if_neg hj, kOdd_at, kFirst_at, kSecond_at, cosines_at, sines_at, e1, e2]

section
variable (P : FVec Ideal S32x2048x1024 .f32) (Q K : FVec Ideal S64 .f32) (b : Fin 32) (t : Fin 2048) (p : Fin 1024 → EReal) (hp : ∀ l : Fin 1024, P (ix3 b t l) = p l)
include hp

theorem queries_at (k : Fin 384) : qOut (qTurned (qNormed P Q) cosines sines) (ix3 b t k) = qRow p (gain Q K) (cosAt t) (sinAt t) k := by
  rw [qOut_at]
  refine qTurned_at _ b t _ (qNormed_at P Q K b t (fun k => p ⟨k.val, by omega⟩) fun k l hl => ?_) _ _ ⟨k.val, by omega⟩ ?_
  · exact (hp l).trans (congrArg p (Fin.ext hl))
  · show k.val = k.val / 64 * 64 + k.val % 64
    omega

theorem keys_at (k : Fin 256) : withSwapped (kTurned (kNormed P K) cosines sines) (ix3 b t k) = kRow p (gain Q K) (cosAt t) (sinAt t) k := by
  rw [withSwapped_at]
  refine kTurned_at _ b t _ (kNormed_at P Q K b t (fun k => p ⟨k.val, by omega⟩) fun k l hl => ?_) _ _ ⟨384 + shown k.val, by have := shown_lt k; omega⟩ ?_
  · exact (hp l).trans (congrArg p (Fin.ext hl))
  · show 384 + shown k.val = 384 + (shown k.val / 64 * 64 + k.val % 64)
    unfold shown
    split <;> omega

theorem values_at (k : Fin 256) : withSwapped (vHeads P) (ix3 b t k) = vRow p k := by
  rw [withSwapped_at, vHeads_at, hp]
  unfold vRow
  refine congrArg p (Fin.ext ?_)
  show 512 + (shown k.val / 64 * 64 + k.val % 64) = 512 + shown k.val
  unfold shown
  split <;> omega

theorem gated_gate_at (k : Fin 384) : gated (gate P) (ix3 b t k) = gRow p k := by
  rw [gated_at, gate_at, hp]
  rfl

end

variable (X : FVec Ideal S32x2048x1024 .f32) (M : FVec Ideal S32x3072 .f32) (N : FVec Ideal S1024 .f32) (W : FVec Ideal S1024x3072 .f32) (b : Fin 32) (t : Fin 2048)

theorem branchA_rows (k : Fin 1024) : branchA (rows X M N W) (ix3 b t k) = argRow X M N W 0 (by decide) b t k :=
  (branchA_at _ b t k).trans (rows_at X M N W 0 (by decide) b t k _ (Nat.zero_add _).symm)

theorem branchC_rows (k : Fin 1024) : branchC (rows X M N W) (ix3 b t k) = argRow X M N W 2048 (by decide) b t k :=
  (branchC_at _ b t k).trans (rows_at X M N W 2048 (by decide) b t k _ rfl)

theorem hyena_rows (k : Fin 1024) : hyena (rows X M N W) (ix3 b t k) = argRow X M N W 1024 (by decide) b t k :=
  (hyena_at _ b t k).trans (rows_at X M N W 1024 (by decide) b t k _ rfl)

section
open Cert.Reference3Ideal.Value
variable (V0 : Valuation τ sig (Elt Ideal))

theorem v5_eq : res_main_v5 V0 = freqs := rfl

theorem v24_eq : res_main_v24 V0 = angles := by
  unfold res_main_v24
  rw [v5_eq]
  rfl

theorem v26_eq : res_main_v26 V0 = cosines := by
  unfold res_main_v26
  rw [v24_eq]
  rfl

theorem v28_eq : res_main_v28 V0 = sines := by
  unfold res_main_v28
  rw [v24_eq]
  rfl

theorem v53_eq : res_main_v53 V0 = rows (V0 (Proc.devRef .tc main_arg0)) (V0 (Proc.devRef .tc main_arg1)) (V0 (Proc.devRef .tc main_arg2)) (V0 (Proc.devRef .tc main_arg3)) := rfl

theorem v54_eq : res_main_v54 V0 = branchA (res_main_v53 V0) := rfl
theorem v56_eq : res_main_v56 V0 = branchC (res_main_v53 V0) := rfl

theorem v60_eq : res_main_v60 V0 = gate (res_main_v54 V0) := rfl
theorem v133_eq : res_main_v133 V0 = vHeads (res_main_v54 V0) := rfl
theorem v61_eq : res_main_v61 V0 = qHeads (res_main_v54 V0) := rfl
theorem v75_eq : res_main_v75 V0 = shapeCast S32x2048x6x2x2x16 (qNormed (res_main_v54 V0) (V0 (Proc.devRef .tc main_arg4))) shapeCasts_S32x2048x6x64_S32x2048x6x2x2x16 := by
  unfold res_main_v75
  rw [v61_eq]
  rfl
theorem v77_eq : res_main_v77 V0 = qFirst (qNormed (res_main_v54 V0) (V0 (Proc.devRef .tc main_arg4))) := by
  unfold res_main_v77
  rw [v75_eq]
  rfl
theorem v79_eq : res_main_v79 V0 = qSecond (qNormed (res_main_v54 V0) (V0 (Proc.devRef .tc main_arg4))) := by
  unfold res_main_v79
  rw [v75_eq]
  rfl
theorem v95_eq : res_main_v95 V0 = kHeads (res_main_v54 V0) := rfl
theorem v109_eq : res_main_v109 V0 = shapeCast S32x2048x2x2x2x16 (kNormed (res_main_v54 V0) (V0 (Proc.devRef .tc main_arg5))) shapeCasts_S32x2048x2x64_S32x2048x2x2x2x16 := by
  unfold res_main_v109
  rw [v95_eq]
  rfl
theorem v111_eq : res_main_v111 V0 = kFirst (kNormed (res_main_v54 V0) (V0 (Proc.devRef .tc main_arg5))) := by
  unfold res_main_v111
  rw [v109_eq]
  rfl
theorem v113_eq : res_main_v113 V0 = kSecond (kNormed (res_main_v54 V0) (V0 (Proc.devRef .tc main_arg5))) := by
  unfold res_main_v113
  rw [v109_eq]
  rfl
theorem v127_eq : res_main_v127 V0 = kTurned (kNormed (res_main_v54 V0) (V0 (Proc.devRef .tc main_arg5))) cosines sines := by
  unfold res_main_v127
  rw [v111_eq, v113_eq, v26_eq, v28_eq]
  rfl

theorem v144_eq : res_main_v144 V0 = gate (res_main_v56 V0) := rfl
theorem v217_eq : res_main_v217 V0 = vHeads (res_main_v56 V0) := rfl
theorem v145_eq : res_main_v145 V0 = qHeads (res_main_v56 V0) := rfl
theorem v159_eq : res_main_v159 V0 = shapeCast S32x2048x6x2x2x16 (qNormed (res_main_v56 V0) (V0 (Proc.devRef .tc main_arg6))) shapeCasts_S32x2048x6x64_S32x2048x6x2x2x16 := by
  unfold res_main_v159
  rw [v145_eq]
  rfl
theorem v161_eq : res_main_v161 V0 = qFirst (qNormed (res_main_v56 V0) (V0 (Proc.devRef .tc main_arg6))) := by
  unfold res_main_v161
  rw [v159_eq]
  rfl
theorem v163_eq : res_main_v163 V0 = qSecond (qNormed (res_main_v56 V0) (V0 (Proc.devRef .tc main_arg6))) := by
  unfold res_main_v163
  rw [v159_eq]
  rfl
theorem v179_eq : res_main_v179 V0 = kHeads (res_main_v56 V0) := rfl
theorem v193_eq : res_main_v193 V0 = shapeCast S32x2048x2x2x2x16 (kNormed (res_main_v56 V0) (V0 (Proc.devRef .tc main_arg7))) shapeCasts_S32x2048x2x64_S32x2048x2x2x2x16 := by
  unfold res_main_v193
  rw [v179_eq]
  rfl
theorem v195_eq : res_main_v195 V0 = kFirst (kNormed (res_main_v56 V0) (V0 (Proc.devRef .tc main_arg7))) := by
  unfold res_main_v195
  rw [v193_eq]
  rfl
theorem v197_eq : res_main_v197 V0 = kSecond (kNormed (res_main_v56 V0) (V0 (Proc.devRef .tc main_arg7))) := by
  unfold res_main_v197
  rw [v193_eq]
  rfl
theorem v211_eq : res_main_v211 V0 = kTurned (kNormed (res_main_v56 V0) (V0 (Proc.devRef .tc main_arg7))) cosines sines := by
  unfold res_main_v211
  rw [v195_eq, v197_eq, v26_eq, v28_eq]
  rfl
end

end Cert.Reference3Ideal.Proj

set_option maxHeartbeats 4000000 in
open Idealize.ShloMosaic.StableHlo Cert.Reference3Ideal.Proj Cert.Reference3Ideal.Value in
/-- The kernel's input projection is the reference's. -/
theorem Cert.input_projection : letI := Cert.Kernel3Ideal.Gen.facts; letI := Cert.Reference3Ideal.Gen.facts
    Cert.algebraic_Kernel3Ideal_Reference3Ideal := by
  intro m ρ m' ρ' _ hagree
  refine ⟨_, _, _, _, _, _, _, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨e0, e1, e2, e3, e4, e5, e6, e7⟩ := hagree c
  have a0 : launchContents m' c (Proc.devRef .tc Cert.Reference3Ideal.main_arg0) = m ((c.tc : Thread Cert.Kernel3Ideal.nD Cert.Kernel3Ideal.τ).loc Cert.Kernel3Ideal.main_arg0) := e0
  have a1 : launchContents m' c (Proc.devRef .tc Cert.Reference3Ideal.main_arg1) = m ((c.tc : Thread Cert.Kernel3Ideal.nD Cert.Kernel3Ideal.τ).loc Cert.Kernel3Ideal.main_arg1) := e1
  have a2 : launchContents m' c (Proc.devRef .tc Cert.Reference3Ideal.main_arg2) = m ((c.tc : Thread Cert.Kernel3Ideal.nD Cert.Kernel3Ideal.τ).loc Cert.Kernel3Ideal.main_arg2) := e2
  have a3 : launchContents m' c (Proc.devRef .tc Cert.Reference3Ideal.main_arg3) = m ((c.tc : Thread Cert.Kernel3Ideal.nD Cert.Kernel3Ideal.τ).loc Cert.Kernel3Ideal.main_arg3) := e3
  have a4 : launchContents m' c (Proc.devRef .tc Cert.Reference3Ideal.main_arg4) = m ((c.tc : Thread Cert.Kernel3Ideal.nD Cert.Kernel3Ideal.τ).loc Cert.Kernel3Ideal.main_arg4) := e4
  have a5 : launchContents m' c (Proc.devRef .tc Cert.Reference3Ideal.main_arg5) = m ((c.tc : Thread Cert.Kernel3Ideal.nD Cert.Kernel3Ideal.τ).loc Cert.Kernel3Ideal.main_arg5) := e5
  have a6 : launchContents m' c (Proc.devRef .tc Cert.Reference3Ideal.main_arg6) = m ((c.tc : Thread Cert.Kernel3Ideal.nD Cert.Kernel3Ideal.τ).loc Cert.Kernel3Ideal.main_arg6) := e6
  have a7 : launchContents m' c (Proc.devRef .tc Cert.Reference3Ideal.main_arg7) = m ((c.tc : Thread Cert.Kernel3Ideal.nD Cert.Kernel3Ideal.τ).loc Cert.Kernel3Ideal.main_arg7) := e7
  refine ⟨?_, ?_, ?_, ?_, ?_, ?_, ?_, ?_, ?_, (h c).2.2.2.2.2.2.2.2.2⟩
  · refine (h c).1.trans ?_
    rw [v77_eq, v79_eq, v26_eq, v28_eq]
    refine .trans (b := qOut (qTurned (qNormed (res_main_v54 (launchContents m' c)) (launchContents m' c (Proc.devRef .tc Cert.Reference3Ideal.main_arg4))) cosines sines)) (by rfl) ?_
    rw [v54_eq, v53_eq, a0, a1, a2, a3, a4]
    refine .trans (funext fun i => ?_) (Cert.Kernel3Ideal.Proj.q_a_result m c).symm
    rw [eq_ix3 i]
    exact queries_at _ _ _ (i 0) (i 1) _ (branchA_rows _ _ _ _ (i 0) (i 1)) (i 2)
  · refine (h c).2.1.trans ?_
    rw [v127_eq]
    refine .trans (b := withSwapped (kTurned (kNormed (res_main_v54 (launchContents m' c)) (launchContents m' c (Proc.devRef .tc Cert.Reference3Ideal.main_arg5))) cosines sines)) (by rfl) ?_
    rw [v54_eq, v53_eq, a0, a1, a2, a3, a5]
    refine .trans (funext fun i => ?_) (Cert.Kernel3Ideal.Proj.k_a_result m c).symm
    rw [eq_ix3 i]
    exact keys_at _ _ _ (i 0) (i 1) _ (branchA_rows _ _ _ _ (i 0) (i 1)) (i 2)
  · refine (h c).2.2.1.trans ?_
    rw [v133_eq]
    refine .trans (b := withSwapped (vHeads (res_main_v54 (launchContents m' c)))) (by rfl) ?_
    rw [v54_eq, v53_eq, a0, a1, a2, a3]
    refine .trans (funext fun i => ?_) (Cert.Kernel3Ideal.Proj.v_a_result m c).symm
    rw [eq_ix3 i]
    exact values_at _ (i 0) (i 1) _ (branchA_rows _ _ _ _ (i 0) (i 1)) (i 2)
  · refine (h c).2.2.2.1.trans ?_
    rw [v60_eq]
    refine .trans (b := gated (gate (res_main_v54 (launchContents m' c)))) (by rfl) ?_
    rw [v54_eq, v53_eq, a0, a1, a2, a3]
    refine .trans (funext fun i => ?_) (Cert.Kernel3Ideal.Proj.g_a_result m c).symm
    rw [eq_ix3 i]
    exact gated_gate_at _ (i 0) (i 1) _ (branchA_rows _ _ _ _ (i 0) (i 1)) (i 2)
  · refine (h c).2.2.2.2.1.trans ?_
    refine .trans (b := hyena (res_main_v53 (launchContents m' c))) (by rfl) ?_
    rw [v53_eq, a0, a1, a2, a3]
    refine .trans (funext fun i => ?_) (Cert.Kernel3Ideal.Proj.hy_result m c).symm
    rw [eq_ix3 i]
    exact hyena_rows _ _ _ _ (i 0) (i 1) (i 2)
  · refine (h c).2.2.2.2.2.1.trans ?_
    rw [v161_eq, v163_eq, v26_eq, v28_eq]
    refine .trans (b := qOut (qTurned (qNormed (res_main_v56 (launchContents m' c)) (launchContents m' c (Proc.devRef .tc Cert.Reference3Ideal.main_arg6))) cosines sines)) (by rfl) ?_
    rw [v56_eq, v53_eq, a0, a1, a2, a3, a6]
    refine .trans (funext fun i => ?_) (Cert.Kernel3Ideal.Proj.q_c_result m c).symm
    rw [eq_ix3 i]
    exact queries_at _ _ _ (i 0) (i 1) _ (branchC_rows _ _ _ _ (i 0) (i 1)) (i 2)
  · refine (h c).2.2.2.2.2.2.1.trans ?_
    rw [v211_eq]
    refine .trans (b := withSwapped (kTurned (kNormed (res_main_v56 (launchContents m' c)) (launchContents m' c (Proc.devRef .tc Cert.Reference3Ideal.main_arg7))) cosines sines)) (by rfl) ?_
    rw [v56_eq, v53_eq, a0, a1, a2, a3, a7]
    refine .trans (funext fun i => ?_) (Cert.Kernel3Ideal.Proj.k_c_result m c).symm
    rw [eq_ix3 i]
    exact keys_at _ _ _ (i 0) (i 1) _ (branchC_rows _ _ _ _ (i 0) (i 1)) (i 2)
  · refine (h c).2.2.2.2.2.2.2.1.trans ?_
    rw [v217_eq]
    refine .trans (b := withSwapped (vHeads (res_main_v56 (launchContents m' c)))) (by rfl) ?_
    rw [v56_eq, v53_eq, a0, a1, a2, a3]
    refine .trans (funext fun i => ?_) (Cert.Kernel3Ideal.Proj.v_c_result m c).symm
    rw [eq_ix3 i]
    exact values_at _ (i 0) (i 1) _ (branchC_rows _ _ _ _ (i 0) (i 1)) (i 2)
  · refine (h c).2.2.2.2.2.2.2.2.1.trans ?_
    rw [v144_eq]
    refine .trans (b := gated (gate (res_main_v56 (launchContents m' c)))) (by rfl) ?_
    rw [v56_eq, v53_eq, a0, a1, a2, a3]
    refine .trans (funext fun i => ?_) (Cert.Kernel3Ideal.Proj.g_c_result m c).symm
    rw [eq_ix3 i]
    exact gated_gate_at _ (i 0) (i 1) _ (branchC_rows _ _ _ _ (i 0) (i 1)) (i 2)
end
-- ==== Proof.FusedFrame.lean ====
/- The run of Kernel4Ideal, the second layer's in_projection: the generated frame with more heartbeats for the body's
   obligation, whose 23 windows take longer to compare than the default allows. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 5).trans (((dats 0 c).arrAt_in 5 rfl _).trans ((hA c 5).trans (V_main_arg0 m c))),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses -/

abbrev r0_0 : Rect S1x1x3072 := Rect.unit (s := S1x1x3072) ![0, 0, 0] S1x1x1024.size inb_S1x1x3072_S1x1x1024_0_0_0
abbrev r0_1 : Rect S1x1x3072 := Rect.unit (s := S1x1x3072) ![0, 0, 1024] S1x1x1024.size inb_S1x1x3072_S1x1x1024_0_0_1024
abbrev r0_2 : Rect S1x1024x1024 := Rect.unit (s := S1x1024x1024) ![0, 0, 0] S1x256x1024.size inb_S1x1024x1024_S1x256x1024_0_0_0
abbrev r0_3 : Rect S1x1x1024 := Rect.unit (s := S1x1x1024) ![0, 0, 0] S1x1x1024.size inb_S1x1x1024_S1x1x1024_0_0_0
abbrev r0_4 : Rect S1x1024x384 := Rect.unit (s := S1x1024x384) ![0, 0, 0] S1x256x384.size inb_S1x1024x384_S1x256x384_0_0_0
abbrev r0_5 : Rect S1x1024x256 := Rect.unit (s := S1x1024x256) ![0, 0, 0] S1x256x256.size inb_S1x1024x256_S1x256x256_0_0_0
abbrev r0_6 : Rect S1024x1024 := Rect.unit (s := S1024x1024) ![0, 0] S1024x1024.size inb_S1024x1024_S1024x1024_0_0
abbrev r0_7 : Rect S1x1024 := Rect.unit (s := S1x1024) ![0, 0] S1x1024.size inb_S1x1024_S1x1024_0_0
abbrev r0_8 : Rect S1024x128 := Rect.unit (s := S1024x128) ![0, 0] S256x128.size inb_S1024x128_S256x128_0_0
abbrev r0_9 : Rect S1024x3072 := Rect.unit (s := S1024x3072) ![0, 0] S1024x1024.size inb_S1024x3072_S1024x1024_0_0
abbrev r0_10 : Rect S1x512 := Rect.unit (s := S1x512) ![0, 0] S1x512.size inb_S1x512_S1x512_0_0
abbrev r0_11 : Rect S1024x3072 := Rect.unit (s := S1024x3072) ![0, 2048] S1024x1024.size inb_S1024x3072_S1024x1024_0_2048
abbrev r0_12 : Rect S1024x3072 := Rect.unit (s := S1024x3072) ![0, 1024] S1024x1024.size inb_S1024x3072_S1024x1024_0_1024
abbrev r0_13 : Rect S1x1024x1024 := Rect.unit (s := S1x1024x1024) ![0, 256, 0] S1x256x1024.size inb_S1x1024x1024_S1x256x1024_0_256_0
abbrev r0_14 : Rect S1x1024x384 := Rect.unit (s := S1x1024x384) ![0, 256, 0] S1x256x384.size inb_S1x1024x384_S1x256x384_0_256_0
abbrev r0_15 : Rect S1x1024x256 := Rect.unit (s := S1x1024x256) ![0, 256, 0] S1x256x256.size inb_S1x1024x256_S1x256x256_0_256_0
abbrev r0_16 : Rect S1024x128 := Rect.unit (s := S1024x128) ![256, 0] S256x128.size inb_S1024x128_S256x128_256_0
abbrev r0_17 : Rect S1x1024x1024 := Rect.unit (s := S1x1024x1024) ![0, 512, 0] S1x256x1024.size inb_S1x1024x1024_S1x256x1024_0_512_0
abbrev r0_18 : Rect S1x1024x384 := Rect.unit (s := S1x1024x384) ![0, 512, 0] S1x256x384.size inb_S1x1024x384_S1x256x384_0_512_0
abbrev r0_19 : Rect S1x1024x256 := Rect.unit (s := S1x1024x256) ![0, 512, 0] S1x256x256.size inb_S1x1024x256_S1x256x256_0_512_0
abbrev r0_20 : Rect S1024x128 := Rect.unit (s := S1024x128) ![512, 0] S256x128.size inb_S1024x128_S256x128_512_0
abbrev r0_21 : Rect S1x1024x1024 := Rect.unit (s := S1x1024x1024) ![0, 768, 0] S1x256x1024.size inb_S1x1024x1024_S1x256x1024_0_768_0
abbrev r0_22 : Rect S1x1024x384 := Rect.unit (s := S1x1024x384) ![0, 768, 0] S1x256x384.size inb_S1x1024x384_S1x256x384_0_768_0
abbrev r0_23 : Rect S1x1024x256 := Rect.unit (s := S1x1024x256) ![0, 768, 0] S1x256x256.size inb_S1x1024x256_S1x256x256_0_768_0
abbrev r0_24 : Rect S1024x128 := Rect.unit (s := S1024x128) ![768, 0] S256x128.size inb_S1024x128_S256x128_768_0

/-! ## What the body leaves in each output window's buffer -/

/-! ### Values of the body that the stores' payloads, spelt out, would write more than once

    Each is a vector the body binds (often a part call's result), stated over the input windows' blocks and
    numbered on from the skeleton's payload functions (`k0_pay213` …, after `k0_pay212`), so that
    `out0_W` and the values after it name it instead of spelling it out; the comment after each is the printed function's
    name for the value (a count appended where that name is bound again). -/

def k0_pay213 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S1x1024 .f32 :=
  k0_pay2 (View.ld x6 r0_0) -- `v1`
def k0_pay214 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S1x1024 .f32 :=
  k0_pay3 (View.ld x6 r0_1) -- `v3`
def k0_pay215 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay4 (View.ld x5 r0_2) (View.ld x0 r0_3) (View.ld x1 r0_4) (View.ld x2 r0_5) (View.ld x3 r0_4) (View.ld x4 r0_6) -- `v20`
def k0_pay216 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1 .f32 :=
  k0_pay6 (View.ld x5 r0_2) (View.ld x0 r0_3) (View.ld x1 r0_4) (View.ld x2 r0_5) (View.ld x3 r0_4) (View.ld x4 r0_6) -- `v26`
def k0_pay217 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1 .f32 :=
  k0_pay7 (F := F) -- `v27`
def k0_pay218 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .bf16 :=
  k0_pay8 (k0_pay213 x0 x1 x2 x3 x4 x5 x6 x7 x8 x9 x10 x11 x12) (k0_pay214 x0 x1 x2 x3 x4 x5 x6 x7 x8 x9 x10 x11 x12) (k0_pay215 x0 x1 x2 x3 x4 x5 x6 x7 x8 x9 x10 x11 x12) (k0_pay216 x0 x1 x2 x3 x4 x5 x6 x7 x8 x9 x10 x11 x12) (k0_pay217 x0 x1 x2 x3 x4 x5 x6 x7 x8 x9 x10 x11 x12) (View.ld x7 r0_7) -- `v44`
def k0_pay219 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay9 (View.ld x9 r0_8) -- `v46`
def k0_pay220 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay10 (View.ld x10 r0_8) -- `v48`
def k0_pay221 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay11 (k0_pay213 x0 x1 x2 x3 x4 x5 x6 x7 x8 x9 x10 x11 x12) (k0_pay214 x0 x1 x2 x3 x4 x5 x6 x7 x8 x9 x10 x11 x12) (k0_pay215 x0 x1 x2 x3 x4 x5 x6 x7 x8 x9 x10 x11 x12) (k0_pay216 x0 x1 x2 x3 x4 x5 x6 x7 x8 x9 x10 x11 x12) (k0_pay217 x0 x1 x2 x3 x4 x5 x6 x7 x8 x9 x10 x11 x12) (View.ld x7 r0_7) (View.ld x8 r0_9) -- `v51`
def k0_pay222 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay12 (k0_pay213 x0 x1 x2 x3 x4 x5 x6 x7 x8 x9 x10 x11 x12) (k0_pay214 x0 x1 x2 x3 x4 x5 x6 x7 x8 x9 x10 x11 x12) (k0_pay215 x0 x1 x2 x3 x4 x5 x6 x7 x8 x9 x10 x11 x12) (k0_pay216 x0 x1 x2 x3 x4 x5 x6 x7 x8 x9 x10 x11 x12) (k0_pay217 x0 x1 x2 x3 x4 x5 x6 x7 x8 x9 x10 x11 x12) (View.ld x7 r0_7) (View.ld x8 r0_9) -- `v52`
def k0_pay223 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 1 :=
  k0_pay14 -- `v57`
def k0_pay224 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay24 (k0_pay222 x0 x1 x2 x3 x4 x5 x6 x7 x8 x9 x10 x11 x12) (k0_pay13 (View.ld x11 r0_10)) (k0_pay223 x0 x1 x2 x3 x4 x5 x6 x7 x8 x9 x10 x11 x12) (k0_pay18 (k0_pay223 x0 x1 x2 x3 x4 x5 x6 x7 x8 x9 x10 x11 x12) (k0_pay16 (k0_pay213 x0 x1 x2 x3 x4 x5 x6 x7 x8 x9 x10 x11 x12) (k0_pay214 x0 x1 x2 x3 x4 x5 x6 x7 x8 x9 x10 x11 x12) (k0_pay215 x0 x1 x2 x3 x4 x5 x6 x7 x8 x9 x10 x11 x12) (k0_pay216 x0 x1 x2 x3 x4 x5 x6 x7 x8 x9 x10 x11 x12) (k0_pay217 x0 x1 x2 x3 x4 x5 x6 x7 x8 x9 x10 x11 x12) (View.ld x7 r0_7) (View.ld x8 r0_9)) (k0_pay17 (k0_pay213 x0 x1 x2 x3 x4 x5 x6 x7 x8 x9 x10 x11 x12) (k0_pay214 x0 x1 x2 x3 x4 x5 x6 x7 x8 x9 x10 x11 x12) (k0_pay215 x0 x1 x2 x3 x4 x5 x6 x7 x8 x9 x10 x11 x12) (k0_pay216 x0 x1 x2 x3 x4 x5 x6 x7 x8 x9 x10 x11 x12) (k0_pay217 x0 x1 x2 x3 x4 x5 x6 x7 x8 x9 x10 x11 x12) (View.ld x7 r0_7) (View.ld x8 r0_9))) (k0_pay19 (k0_pay222 x0 x1 x2 x3 x4 x5 x6 x7 x8 x9 x10 x11 x12) (k0_pay223 x0 x1 x2 x3 x4 x5 x6 x7 x8 x9 x10 x11 x12)) (k0_pay21 (k0_pay223 x0 x1 x2 x3 x4 x5 x6 x7 x8 x9 x10 x11 x12)) (k0_pay22 (k0_pay222 x0 x1 x2 x3 x4 x5 x6 x7 x8 x9 x10 x11 x12) (k0_pay223 x0 x1 x2 x3 x4 x5 x6 x7 x8 x9 x10 x11 x12)) (k0_pay23 (k0_pay222 x0 x1 x2 x3 x4 x5 x6 x7 x8 x9 x10 x11 x12) (k0_pay223 x0 x1 x2 x3 x4 x5 x6 x7 x8 x9 x10 x11 x12)) -- `v154`
def k0_pay225 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay25 -- `v159`
def k0_pay226 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 1 :=
  k0_pay26 -- `v168`
def k0_pay227 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay27 -- `v169`
def k0_pay228 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay34 (k0_pay218 x0 x1 x2 x3 x4 x5 x6 x7 x8 x9 x10 x11 x12) (View.ld x8 r0_11) -- `v245`
def k0_pay229 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay35 (k0_pay218 x0 x1 x2 x3 x4 x5 x6 x7 x8 x9 x10 x11 x12) (View.ld x8 r0_11) -- `v246`
def k0_pay230 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 1 :=
  k0_pay37 -- `v251`
def k0_pay231 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  iota .tc S1x128 32 [1] iota_S1x128_d1_w32 -- `v349`
def k0_pay232 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay44 (k0_pay229 x0 x1 x2 x3 x4 x5 x6 x7 x8 x9 x10 x11 x12) (k0_pay36 (View.ld x12 r0_10)) (k0_pay230 x0 x1 x2 x3 x4 x5 x6 x7 x8 x9 x10 x11 x12) (k0_pay40 (k0_pay230 x0 x1 x2 x3 x4 x5 x6 x7 x8 x9 x10 x11 x12) (k0_pay38 (k0_pay218 x0 x1 x2 x3 x4 x5 x6 x7 x8 x9 x10 x11 x12) (View.ld x8 r0_11)) (k0_pay39 (k0_pay218 x0 x1 x2 x3 x4 x5 x6 x7 x8 x9 x10 x11 x12) (View.ld x8 r0_11))) (k0_pay41 (k0_pay229 x0 x1 x2 x3 x4 x5 x6 x7 x8 x9 x10 x11 x12) (k0_pay230 x0 x1 x2 x3 x4 x5 x6 x7 x8 x9 x10 x11 x12)) (k0_pay42 (k0_pay229 x0 x1 x2 x3 x4 x5 x6 x7 x8 x9 x10 x11 x12)) (k0_pay43 (k0_pay229 x0 x1 x2 x3 x4 x5 x6 x7 x8 x9 x10 x11 x12) (k0_pay230 x0 x1 x2 x3 x4 x5 x6 x7 x8 x9 x10 x11 x12)) -- `v348`
def k0_pay233 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay45 -- `v352`
def k0_pay234 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay47 (k0_pay219 x0 x1 x2 x3 x4 x5 x6 x7 x8 x9 x10 x11 x12) (k0_pay220 x0 x1 x2 x3 x4 x5 x6 x7 x8 x9 x10 x11 x12) (k0_pay232 x0 x1 x2 x3 x4 x5 x6 x7 x8 x9 x10 x11 x12) (k0_pay231 x0 x1 x2 x3 x4 x5 x6 x7 x8 x9 x10 x11 x12) (Scalar.select (Scalar.cmpi .eq 32#32 0#32) 1#32 32#32) (k0_pay233 x0 x1 x2 x3 x4 x5 x6 x7 x8 x9 x10 x11 x12) -- `v376`
def k0_pay235 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay48 (k0_pay219 x0 x1 x2 x3 x4 x5 x6 x7 x8 x9 x10 x11 x12) (k0_pay220 x0 x1 x2 x3 x4 x5 x6 x7 x8 x9 x10 x11 x12) (k0_pay232 x0 x1 x2 x3 x4 x5 x6 x7 x8 x9 x10 x11 x12) (k0_pay231 x0 x1 x2 x3 x4 x5 x6 x7 x8 x9 x10 x11 x12) (Scalar.select (Scalar.cmpi .eq 32#32 0#32) 1#32 32#32) (k0_pay233 x0 x1 x2 x3 x4 x5 x6 x7 x8 x9 x10 x11 x12) -- `v385`
def k0_pay236 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay49 (k0_pay219 x0 x1 x2 x3 x4 x5 x6 x7 x8 x9 x10 x11 x12) (k0_pay220 x0 x1 x2 x3 x4 x5 x6 x7 x8 x9 x10 x11 x12) (k0_pay232 x0 x1 x2 x3 x4 x5 x6 x7 x8 x9 x10 x11 x12) (k0_pay231 x0 x1 x2 x3 x4 x5 x6 x7 x8 x9 x10 x11 x12) (Scalar.select (Scalar.cmpi .eq 32#32 0#32) 1#32 32#32) (k0_pay233 x0 x1 x2 x3 x4 x5 x6 x7 x8 x9 x10 x11 x12) -- `v394`
def k0_pay237 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay50 (k0_pay232 x0 x1 x2 x3 x4 x5 x6 x7 x8 x9 x10 x11 x12) -- `v395`
def k0_pay238 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay51 (k0_pay232 x0 x1 x2 x3 x4 x5 x6 x7 x8 x9 x10 x11 x12) (k0_pay231 x0 x1 x2 x3 x4 x5 x6 x7 x8 x9 x10 x11 x12) (Scalar.select (Scalar.cmpi .eq 32#32 0#32) 1#32 32#32) (k0_pay233 x0 x1 x2 x3 x4 x5 x6 x7 x8 x9 x10 x11 x12) -- `v400`
def k0_pay239 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay58 (View.ld x5 r0_13) (View.ld x0 r0_3) (View.ld x1 r0_14) (View.ld x2 r0_15) (View.ld x3 r0_14) (View.ld x4 r0_6) -- `v460`
def k0_pay240 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1 .f32 :=
  k0_pay60 (View.ld x5 r0_13) (View.ld x0 r0_3) (View.ld x1 r0_14) (View.ld x2 r0_15) (View.ld x3 r0_14) (View.ld x4 r0_6) -- `v468`
def k0_pay241 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .bf16 :=
  k0_pay61 (k0_pay213 x0 x1 x2 x3 x4 x5 x6 x7 x8 x9 x10 x11 x12) (k0_pay214 x0 x1 x2 x3 x4 x5 x6 x7 x8 x9 x10 x11 x12) (k0_pay239 x0 x1 x2 x3 x4 x5 x6 x7 x8 x9 x10 x11 x12) (k0_pay240 x0 x1 x2 x3 x4 x5 x6 x7 x8 x9 x10 x11 x12) (View.ld x7 r0_7) -- `v484`
def k0_pay242 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay62 (View.ld x9 r0_16) -- `v486`
def k0_pay243 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay63 (View.ld x10 r0_16) -- `v488`
def k0_pay244 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay64 (k0_pay213 x0 x1 x2 x3 x4 x5 x6 x7 x8 x9 x10 x11 x12) (k0_pay214 x0 x1 x2 x3 x4 x5 x6 x7 x8 x9 x10 x11 x12) (k0_pay239 x0 x1 x2 x3 x4 x5 x6 x7 x8 x9 x10 x11 x12) (k0_pay240 x0 x1 x2 x3 x4 x5 x6 x7 x8 x9 x10 x11 x12) (View.ld x7 r0_7) (View.ld x8 r0_9) -- `v491`
def k0_pay245 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay65 (k0_pay213 x0 x1 x2 x3 x4 x5 x6 x7 x8 x9 x10 x11 x12) (k0_pay214 x0 x1 x2 x3 x4 x5 x6 x7 x8 x9 x10 x11 x12) (k0_pay239 x0 x1 x2 x3 x4 x5 x6 x7 x8 x9 x10 x11 x12) (k0_pay240 x0 x1 x2 x3 x4 x5 x6 x7 x8 x9 x10 x11 x12) (View.ld x7 r0_7) (View.ld x8 r0_9) -- `v492`
def k0_pay246 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 1 :=
  k0_pay67 -- `v497`
def k0_pay247 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay77 (k0_pay245 x0 x1 x2 x3 x4 x5 x6 x7 x8 x9 x10 x11 x12) (k0_pay66 (View.ld x11 r0_10)) (k0_pay246 x0 x1 x2 x3 x4 x5 x6 x7 x8 x9 x10 x11 x12) (k0_pay71 (k0_pay246 x0 x1 x2 x3 x4 x5 x6 x7 x8 x9 x10 x11 x12) (k0_pay69 (k0_pay213 x0 x1 x2 x3 x4 x5 x6 x7 x8 x9 x10 x11 x12) (k0_pay214 x0 x1 x2 x3 x4 x5 x6 x7 x8 x9 x10 x11 x12) (k0_pay239 x0 x1 x2 x3 x4 x5 x6 x7 x8 x9 x10 x11 x12) (k0_pay240 x0 x1 x2 x3 x4 x5 x6 x7 x8 x9 x10 x11 x12) (View.ld x7 r0_7) (View.ld x8 r0_9)) (k0_pay70 (k0_pay213 x0 x1 x2 x3 x4 x5 x6 x7 x8 x9 x10 x11 x12) (k0_pay214 x0 x1 x2 x3 x4 x5 x6 x7 x8 x9 x10 x11 x12) (k0_pay239 x0 x1 x2 x3 x4 x5 x6 x7 x8 x9 x10 x11 x12) (k0_pay240 x0 x1 x2 x3 x4 x5 x6 x7 x8 x9 x10 x11 x12) (View.ld x7 r0_7) (View.ld x8 r0_9))) (k0_pay72 (k0_pay245 x0 x1 x2 x3 x4 x5 x6 x7 x8 x9 x10 x11 x12) (k0_pay246 x0 x1 x2 x3 x4 x5 x6 x7 x8 x9 x10 x11 x12)) (k0_pay74 (k0_pay246 x0 x1 x2 x3 x4 x5 x6 x7 x8 x9 x10 x11 x12)) (k0_pay75 (k0_pay245 x0 x1 x2 x3 x4 x5 x6 x7 x8 x9 x10 x11 x12) (k0_pay246 x0 x1 x2 x3 x4 x5 x6 x7 x8 x9 x10 x11 x12)) (k0_pay76 (k0_pay245 x0 x1 x2 x3 x4 x5 x6 x7 x8 x9 x10 x11 x12) (k0_pay246 x0 x1 x2 x3 x4 x5 x6 x7 x8 x9 x10 x11 x12)) -- `v594`
def k0_pay248 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay78 -- `v599`
def k0_pay249 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 1 :=
  k0_pay79 -- `v608`
def k0_pay250 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay80 -- `v610`
def k0_pay251 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay87 (k0_pay241 x0 x1 x2 x3 x4 x5 x6 x7 x8 x9 x10 x11 x12) (View.ld x8 r0_11) -- `v685`
def k0_pay252 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay88 (k0_pay241 x0 x1 x2 x3 x4 x5 x6 x7 x8 x9 x10 x11 x12) (View.ld x8 r0_11) -- `v686`
def k0_pay253 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 1 :=
  k0_pay90 -- `v691`
def k0_pay254 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay96 (k0_pay252 x0 x1 x2 x3 x4 x5 x6 x7 x8 x9 x10 x11 x12) (k0_pay89 (View.ld x12 r0_10)) (k0_pay253 x0 x1 x2 x3 x4 x5 x6 x7 x8 x9 x10 x11 x12) (k0_pay92 (k0_pay253 x0 x1 x2 x3 x4 x5 x6 x7 x8 x9 x10 x11 x12) (k0_pay91 (k0_pay241 x0 x1 x2 x3 x4 x5 x6 x7 x8 x9 x10 x11 x12) (View.ld x8 r0_11))) (k0_pay93 (k0_pay252 x0 x1 x2 x3 x4 x5 x6 x7 x8 x9 x10 x11 x12) (k0_pay253 x0 x1 x2 x3 x4 x5 x6 x7 x8 x9 x10 x11 x12)) (k0_pay94 (k0_pay252 x0 x1 x2 x3 x4 x5 x6 x7 x8 x9 x10 x11 x12)) (k0_pay95 (k0_pay252 x0 x1 x2 x3 x4 x5 x6 x7 x8 x9 x10 x11 x12) (k0_pay253 x0 x1 x2 x3 x4 x5 x6 x7 x8 x9 x10 x11 x12)) -- `v788`
def k0_pay255 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay97 -- `v793`
def k0_pay256 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay99 (k0_pay242 x0 x1 x2 x3 x4 x5 x6 x7 x8 x9 x10 x11 x12) (k0_pay243 x0 x1 x2 x3 x4 x5 x6 x7 x8 x9 x10 x11 x12) (k0_pay254 x0 x1 x2 x3 x4 x5 x6 x7 x8 x9 x10 x11 x12) (Scalar.select (Scalar.cmpi .eq 32#32 0#32) 1#32 32#32) (k0_pay255 x0 x1 x2 x3 x4 x5 x6 x7 x8 x9 x10 x11 x12) -- `v816`
def k0_pay257 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay100 (k0_pay242 x0 x1 x2 x3 x4 x5 x6 x7 x8 x9 x10 x11 x12) (k0_pay243 x0 x1 x2 x3 x4 x5 x6 x7 x8 x9 x10 x11 x12) (k0_pay254 x0 x1 x2 x3 x4 x5 x6 x7 x8 x9 x10 x11 x12) (Scalar.select (Scalar.cmpi .eq 32#32 0#32) 1#32 32#32) (k0_pay255 x0 x1 x2 x3 x4 x5 x6 x7 x8 x9 x10 x11 x12) -- `v825`
def k0_pay258 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay101 (k0_pay242 x0 x1 x2 x3 x4 x5 x6 x7 x8 x9 x10 x11 x12) (k0_pay243 x0 x1 x2 x3 x4 x5 x6 x7 x8 x9 x10 x11 x12) (k0_pay254 x0 x1 x2 x3 x4 x5 x6 x7 x8 x9 x10 x11 x12) (Scalar.select (Scalar.cmpi .eq 32#32 0#32) 1#32 32#32) (k0_pay255 x0 x1 x2 x3 x4 x5 x6 x7 x8 x9 x10 x11 x12) -- `v834`
def k0_pay259 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay103 (k0_pay254 x0 x1 x2 x3 x4 x5 x6 x7 x8 x9 x10 x11 x12) (Scalar.select (Scalar.cmpi .eq 32#32 0#32) 1#32 32#32) (k0_pay255 x0 x1 x2 x3 x4 x5 x6 x7 x8 x9 x10 x11 x12) -- `v840`
def k0_pay260 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay104 (k0_pay242 x0 x1 x2 x3 x4 x5 x6 x7 x8 x9 x10 x11 x12) (k0_pay254 x0 x1 x2 x3 x4 x5 x6 x7 x8 x9 x10 x11 x12) -- `v841`
def k0_pay261 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay112 (View.ld x5 r0_17) (View.ld x0 r0_3) (View.ld x1 r0_18) (View.ld x2 r0_19) (View.ld x3 r0_18) (View.ld x4 r0_6) -- `v900`
def k0_pay262 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1 .f32 :=
  k0_pay114 (View.ld x5 r0_17) (View.ld x0 r0_3) (View.ld x1 r0_18) (View.ld x2 r0_19) (View.ld x3 r0_18) (View.ld x4 r0_6) -- `v908`
def k0_pay263 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .bf16 :=
  k0_pay115 (k0_pay213 x0 x1 x2 x3 x4 x5 x6 x7 x8 x9 x10 x11 x12) (k0_pay214 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) (Scalar.ofBits .f32 0x358637BD#32) (View.ld x7 r0_7) -- `v924`
def k0_pay264 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay116 (View.ld x9 r0_20) -- `v926`
def k0_pay265 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay117 (View.ld x10 r0_20) -- `v928`
def k0_pay266 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay118 (k0_pay213 x0 x1 x2 x3 x4 x5 x6 x7 x8 x9 x10 x11 x12) (k0_pay214 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) (Scalar.ofBits .f32 0x358637BD#32) (View.ld x7 r0_7) (View.ld x8 r0_9) -- `v931`
def k0_pay267 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay119 (k0_pay213 x0 x1 x2 x3 x4 x5 x6 x7 x8 x9 x10 x11 x12) (k0_pay214 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) (Scalar.ofBits .f32 0x358637BD#32) (View.ld x7 r0_7) (View.ld x8 r0_9) -- `v932`
def k0_pay268 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 1 :=
  k0_pay121 -- `v937`
def k0_pay269 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay128 (k0_pay267 x0 x1 x2 x3 x4 x5 x6 x7 x8 x9 x10 x11 x12) (k0_pay120 (View.ld x11 r0_10)) (k0_pay268 x0 x1 x2 x3 x4 x5 x6 x7 x8 x9 x10 x11 x12) (k0_pay125 (k0_pay268 x0 x1 x2 x3 x4 x5 x6 x7 x8 x9 x10 x11 x12) (k0_pay123 (k0_pay213 x0 x1 x2 x3 x4 x5 x6 x7 x8 x9 x10 x11 x12) (k0_pay214 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) (Scalar.ofBits .f32 0x358637BD#32) (View.ld x7 r0_7) (View.ld x8 r0_9)) (k0_pay124 (k0_pay213 x0 x1 x2 x3 x4 x5 x6 x7 x8 x9 x10 x11 x12) (k0_pay214 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) (Scalar.ofBits .f32 0x358637BD#32) (View.ld x7 r0_7) (View.ld x8 r0_9))) (k0_pay126 (k0_pay267 x0 x1 x2 x3 x4 x5 x6 x7 x8 x9 x10 x11 x12) (k0_pay268 x0 x1 x2 x3 x4 x5 x6 x7 x8 x9 x10 x11 x12)) (k0_pay127 (k0_pay267 x0 x1 x2 x3 x4 x5 x6 x7 x8 x9 x10 x11 x12) (k0_pay268 x0 x1 x2 x3 x4 x5 x6 x7 x8 x9 x10 x11 x12)) -- `v1034`
def k0_pay270 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay129 -- `v1051`
def k0_pay271 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay137 (k0_pay263 x0 x1 x2 x3 x4 x5 x6 x7 x8 x9 x10 x11 x12) (View.ld x8 r0_11) -- `v1125`
def k0_pay272 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay138 (k0_pay263 x0 x1 x2 x3 x4 x5 x6 x7 x8 x9 x10 x11 x12) (View.ld x8 r0_11) -- `v1126`
def k0_pay273 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 1 :=
  k0_pay140 -- `v1131`
def k0_pay274 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay146 (k0_pay272 x0 x1 x2 x3 x4 x5 x6 x7 x8 x9 x10 x11 x12) (k0_pay139 (View.ld x12 r0_10)) (k0_pay273 x0 x1 x2 x3 x4 x5 x6 x7 x8 x9 x10 x11 x12) (k0_pay142 (k0_pay273 x0 x1 x2 x3 x4 x5 x6 x7 x8 x9 x10 x11 x12) (k0_pay141 (k0_pay263 x0 x1 x2 x3 x4 x5 x6 x7 x8 x9 x10 x11 x12) (View.ld x8 r0_11)) (Scalar.ofBits .f32 0x00000000#32)) (k0_pay143 (k0_pay272 x0 x1 x2 x3 x4 x5 x6 x7 x8 x9 x10 x11 x12) (k0_pay273 x0 x1 x2 x3 x4 x5 x6 x7 x8 x9 x10 x11 x12)) (k0_pay144 (k0_pay272 x0 x1 x2 x3 x4 x5 x6 x7 x8 x9 x10 x11 x12)) (k0_pay145 (k0_pay272 x0 x1 x2 x3 x4 x5 x6 x7 x8 x9 x10 x11 x12) (k0_pay273 x0 x1 x2 x3 x4 x5 x6 x7 x8 x9 x10 x11 x12)) (Scalar.ofBits .f32 0x00000000#32) -- `v1228`
def k0_pay275 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay147 -- `v1233`
def k0_pay276 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay149 (k0_pay264 x0 x1 x2 x3 x4 x5 x6 x7 x8 x9 x10 x11 x12) (k0_pay265 x0 x1 x2 x3 x4 x5 x6 x7 x8 x9 x10 x11 x12) (k0_pay274 x0 x1 x2 x3 x4 x5 x6 x7 x8 x9 x10 x11 x12) (Scalar.select (Scalar.cmpi .eq 32#32 0#32) 1#32 32#32) (k0_pay275 x0 x1 x2 x3 x4 x5 x6 x7 x8 x9 x10 x11 x12) 0#32 -- `v1256`
def k0_pay277 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay150 (k0_pay264 x0 x1 x2 x3 x4 x5 x6 x7 x8 x9 x10 x11 x12) (k0_pay265 x0 x1 x2 x3 x4 x5 x6 x7 x8 x9 x10 x11 x12) (k0_pay274 x0 x1 x2 x3 x4 x5 x6 x7 x8 x9 x10 x11 x12) (Scalar.select (Scalar.cmpi .eq 32#32 0#32) 1#32 32#32) (k0_pay275 x0 x1 x2 x3 x4 x5 x6 x7 x8 x9 x10 x11 x12) 0#32 -- `v1265`
def k0_pay278 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay151 (k0_pay264 x0 x1 x2 x3 x4 x5 x6 x7 x8 x9 x10 x11 x12) (k0_pay265 x0 x1 x2 x3 x4 x5 x6 x7 x8 x9 x10 x11 x12) (k0_pay274 x0 x1 x2 x3 x4 x5 x6 x7 x8 x9 x10 x11 x12) (Scalar.select (Scalar.cmpi .eq 32#32 0#32) 1#32 32#32) (k0_pay275 x0 x1 x2 x3 x4 x5 x6 x7 x8 x9 x10 x11 x12) 0#32 -- `v1274`
def k0_pay279 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay153 (k0_pay264 x0 x1 x2 x3 x4 x5 x6 x7 x8 x9 x10 x11 x12) (k0_pay274 x0 x1 x2 x3 x4 x5 x6 x7 x8 x9 x10 x11 x12) -- `v1281`
def k0_pay280 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay154 (k0_pay265 x0 x1 x2 x3 x4 x5 x6 x7 x8 x9 x10 x11 x12) (k0_pay274 x0 x1 x2 x3 x4 x5 x6 x7 x8 x9 x10 x11 x12) (Scalar.select (Scalar.cmpi .eq 32#32 0#32) 1#32 32#32) (k0_pay275 x0 x1 x2 x3 x4 x5 x6 x7 x8 x9 x10 x11 x12) 0#32 -- `v1282`
def k0_pay281 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay162 (View.ld x5 r0_21) (View.ld x0 r0_3) (View.ld x1 r0_22) (View.ld x2 r0_23) (View.ld x3 r0_22) (View.ld x4 r0_6) -- `v1340`
def k0_pay282 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1 .f32 :=
  k0_pay164 (View.ld x5 r0_21) (View.ld x0 r0_3) (View.ld x1 r0_22) (View.ld x2 r0_23) (View.ld x3 r0_22) (View.ld x4 r0_6) -- `v1348`
def k0_pay283 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1 .f32 :=
  k0_pay165 (F := F) -- `v1349`
def k0_pay284 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .bf16 :=
  k0_pay166 (k0_pay213 x0 x1 x2 x3 x4 x5 x6 x7 x8 x9 x10 x11 x12) (k0_pay214 x0 x1 x2 x3 x4 x5 x6 x7 x8 x9 x10 x11 x12) (k0_pay281 x0 x1 x2 x3 x4 x5 x6 x7 x8 x9 x10 x11 x12) (k0_pay282 x0 x1 x2 x3 x4 x5 x6 x7 x8 x9 x10 x11 x12) (k0_pay283 x0 x1 x2 x3 x4 x5 x6 x7 x8 x9 x10 x11 x12) (View.ld x7 r0_7) -- `v1364`
def k0_pay285 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay167 (View.ld x9 r0_24) -- `v1366`
def k0_pay286 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay168 (View.ld x10 r0_24) -- `v1368`
def k0_pay287 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay169 (k0_pay213 x0 x1 x2 x3 x4 x5 x6 x7 x8 x9 x10 x11 x12) (k0_pay214 x0 x1 x2 x3 x4 x5 x6 x7 x8 x9 x10 x11 x12) (k0_pay281 x0 x1 x2 x3 x4 x5 x6 x7 x8 x9 x10 x11 x12) (k0_pay282 x0 x1 x2 x3 x4 x5 x6 x7 x8 x9 x10 x11 x12) (k0_pay283 x0 x1 x2 x3 x4 x5 x6 x7 x8 x9 x10 x11 x12) (View.ld x7 r0_7) (View.ld x8 r0_9) -- `v1371`
def k0_pay288 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay170 (k0_pay213 x0 x1 x2 x3 x4 x5 x6 x7 x8 x9 x10 x11 x12) (k0_pay214 x0 x1 x2 x3 x4 x5 x6 x7 x8 x9 x10 x11 x12) (k0_pay281 x0 x1 x2 x3 x4 x5 x6 x7 x8 x9 x10 x11 x12) (k0_pay282 x0 x1 x2 x3 x4 x5 x6 x7 x8 x9 x10 x11 x12) (k0_pay283 x0 x1 x2 x3 x4 x5 x6 x7 x8 x9 x10 x11 x12) (View.ld x7 r0_7) (View.ld x8 r0_9) -- `v1372`
def k0_pay289 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 1 :=
  k0_pay172 -- `v1377`
def k0_pay290 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay180 (k0_pay288 x0 x1 x2 x3 x4 x5 x6 x7 x8 x9 x10 x11 x12) (k0_pay171 (View.ld x11 r0_10)) (k0_pay289 x0 x1 x2 x3 x4 x5 x6 x7 x8 x9 x10 x11 x12) (k0_pay176 (k0_pay289 x0 x1 x2 x3 x4 x5 x6 x7 x8 x9 x10 x11 x12) (k0_pay174 (k0_pay213 x0 x1 x2 x3 x4 x5 x6 x7 x8 x9 x10 x11 x12) (k0_pay214 x0 x1 x2 x3 x4 x5 x6 x7 x8 x9 x10 x11 x12) (k0_pay281 x0 x1 x2 x3 x4 x5 x6 x7 x8 x9 x10 x11 x12) (k0_pay282 x0 x1 x2 x3 x4 x5 x6 x7 x8 x9 x10 x11 x12) (k0_pay283 x0 x1 x2 x3 x4 x5 x6 x7 x8 x9 x10 x11 x12) (View.ld x7 r0_7) (View.ld x8 r0_9)) (k0_pay175 (k0_pay213 x0 x1 x2 x3 x4 x5 x6 x7 x8 x9 x10 x11 x12) (k0_pay214 x0 x1 x2 x3 x4 x5 x6 x7 x8 x9 x10 x11 x12) (k0_pay281 x0 x1 x2 x3 x4 x5 x6 x7 x8 x9 x10 x11 x12) (k0_pay282 x0 x1 x2 x3 x4 x5 x6 x7 x8 x9 x10 x11 x12) (k0_pay283 x0 x1 x2 x3 x4 x5 x6 x7 x8 x9 x10 x11 x12) (View.ld x7 r0_7) (View.ld x8 r0_9))) (k0_pay177 (k0_pay288 x0 x1 x2 x3 x4 x5 x6 x7 x8 x9 x10 x11 x12) (k0_pay289 x0 x1 x2 x3 x4 x5 x6 x7 x8 x9 x10 x11 x12)) (k0_pay178 (k0_pay288 x0 x1 x2 x3 x4 x5 x6 x7 x8 x9 x10 x11 x12) (k0_pay289 x0 x1 x2 x3 x4 x5 x6 x7 x8 x9 x10 x11 x12)) (k0_pay179 (k0_pay288 x0 x1 x2 x3 x4 x5 x6 x7 x8 x9 x10 x11 x12)) -- `v1474`
def k0_pay291 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay181 -- `v1491`
def k0_pay292 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x1024 .f32 :=
  k0_pay188 (k0_pay284 x0 x1 x2 x3 x4 x5 x6 x7 x8 x9 x10 x11 x12) (View.ld x8 r0_11) -- `v1565`
def k0_pay293 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay189 (k0_pay284 x0 x1 x2 x3 x4 x5 x6 x7 x8 x9 x10 x11 x12) (View.ld x8 r0_11) -- `v1566`
def k0_pay294 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 1 :=
  k0_pay191 -- `v1571`
def k0_pay295 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x512 .f32 :=
  k0_pay199 (k0_pay293 x0 x1 x2 x3 x4 x5 x6 x7 x8 x9 x10 x11 x12) (k0_pay190 (View.ld x12 r0_10)) (k0_pay294 x0 x1 x2 x3 x4 x5 x6 x7 x8 x9 x10 x11 x12) (k0_pay194 (k0_pay294 x0 x1 x2 x3 x4 x5 x6 x7 x8 x9 x10 x11 x12) (k0_pay192 (k0_pay284 x0 x1 x2 x3 x4 x5 x6 x7 x8 x9 x10 x11 x12) (View.ld x8 r0_11)) (Scalar.ofBits .f32 0x00000000#32) k0_pay193) (k0_pay195 (k0_pay293 x0 x1 x2 x3 x4 x5 x6 x7 x8 x9 x10 x11 x12) (k0_pay294 x0 x1 x2 x3 x4 x5 x6 x7 x8 x9 x10 x11 x12)) (k0_pay196 (k0_pay293 x0 x1 x2 x3 x4 x5 x6 x7 x8 x9 x10 x11 x12)) (k0_pay197 (k0_pay293 x0 x1 x2 x3 x4 x5 x6 x7 x8 x9 x10 x11 x12) (k0_pay294 x0 x1 x2 x3 x4 x5 x6 x7 x8 x9 x10 x11 x12)) (Scalar.ofBits .f32 0x00000000#32) (k0_pay198 (k0_pay294 x0 x1 x2 x3 x4 x5 x6 x7 x8 x9 x10 x11 x12)) -- `v1668`
def k0_pay296 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay200 -- `v1673`
def k0_pay297 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : IVec S1x128 32 :=
  k0_pay201 -- `v1674`
def k0_pay298 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay203 (k0_pay285 x0 x1 x2 x3 x4 x5 x6 x7 x8 x9 x10 x11 x12) (k0_pay286 x0 x1 x2 x3 x4 x5 x6 x7 x8 x9 x10 x11 x12) (k0_pay295 x0 x1 x2 x3 x4 x5 x6 x7 x8 x9 x10 x11 x12) (Scalar.select (Scalar.cmpi .eq 32#32 0#32) 1#32 32#32) (k0_pay296 x0 x1 x2 x3 x4 x5 x6 x7 x8 x9 x10 x11 x12) (k0_pay297 x0 x1 x2 x3 x4 x5 x6 x7 x8 x9 x10 x11 x12) -- `v1696`
def k0_pay299 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay204 (k0_pay285 x0 x1 x2 x3 x4 x5 x6 x7 x8 x9 x10 x11 x12) (k0_pay286 x0 x1 x2 x3 x4 x5 x6 x7 x8 x9 x10 x11 x12) (k0_pay295 x0 x1 x2 x3 x4 x5 x6 x7 x8 x9 x10 x11 x12) (Scalar.select (Scalar.cmpi .eq 32#32 0#32) 1#32 32#32) (k0_pay296 x0 x1 x2 x3 x4 x5 x6 x7 x8 x9 x10 x11 x12) (k0_pay297 x0 x1 x2 x3 x4 x5 x6 x7 x8 x9 x10 x11 x12) -- `v1705`
def k0_pay300 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay205 (k0_pay285 x0 x1 x2 x3 x4 x5 x6 x7 x8 x9 x10 x11 x12) (k0_pay286 x0 x1 x2 x3 x4 x5 x6 x7 x8 x9 x10 x11 x12) (k0_pay295 x0 x1 x2 x3 x4 x5 x6 x7 x8 x9 x10 x11 x12) (Scalar.select (Scalar.cmpi .eq 32#32 0#32) 1#32 32#32) (k0_pay296 x0 x1 x2 x3 x4 x5 x6 x7 x8 x9 x10 x11 x12) (k0_pay297 x0 x1 x2 x3 x4 x5 x6 x7 x8 x9 x10 x11 x12) -- `v1714`
def k0_pay301 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : FVec F S256x128 .f32 :=
  k0_pay206 (k0_pay285 x0 x1 x2 x3 x4 x5 x6 x7 x8 x9 x10 x11 x12) (k0_pay286 x0 x1 x2 x3 x4 x5 x6 x7 x8 x9 x10 x11 x12) (k0_pay295 x0 x1 x2 x3 x4 x5 x6 x7 x8 x9 x10 x11 x12) (Scalar.select (Scalar.cmpi .eq 32#32 0#32) 1#32 32#32) (k0_pay296 x0 x1 x2 x3 x4 x5 x6 x7 x8 x9 x10 x11 x12) (k0_pay297 x0 x1 x2 x3 x4 x5 x6 x7 x8 x9 x10 x11 x12) -- `v1723`

/-- Window 13's staging buffer after the body, from the input windows' blocks: its 4 stores as pieces, LAST
    FIRST (Lib/Pipeline/FrameBody.lean `View.canon`; the payloads are the skeleton's and the values stated above). -/
def out0_13 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : Vec F S1x1024x1024 .f32 :=
  View.canon [⟨r0_21, k0_pay163 (View.ld x5 r0_21) (View.ld x0 r0_3) (View.ld x1 r0_22) (View.ld x2 r0_23) (View.ld x3 r0_22) (View.ld x4 r0_6)⟩,
    ⟨r0_17, k0_pay113 (View.ld x5 r0_17) (View.ld x0 r0_3) (View.ld x1 r0_18) (View.ld x2 r0_19) (View.ld x3 r0_18) (View.ld x4 r0_6)⟩,
    ⟨r0_13, k0_pay59 (View.ld x5 r0_13) (View.ld x0 r0_3) (View.ld x1 r0_14) (View.ld x2 r0_15) (View.ld x3 r0_14) (View.ld x4 r0_6)⟩,
    ⟨r0_2, k0_pay5 (View.ld x5 r0_2) (View.ld x0 r0_3) (View.ld x1 r0_4) (View.ld x2 r0_5) (View.ld x3 r0_4) (View.ld x4 r0_6)⟩]

/-- Its stores tile the buffer (checked by evaluation), so they cover it. -/
theorem cover0_13 (p0 : Vec F S1x256x1024 .f32) (p1 : Vec F S1x256x1024 .f32) (p2 : Vec F S1x256x1024 .f32) (p3 : Vec F S1x256x1024 .f32) (y : S1x1024x1024.Idx) :
    ∃ pc ∈ ([⟨r0_21, p0⟩, ⟨r0_17, p1⟩, ⟨r0_13, p2⟩, ⟨r0_2, p3⟩] : List (View.Piece (Elt F) S1x1024x1024 .f32)), y ∈ pc.1.set :=
  View.cover_of_tiled [⟨r0_21, p0⟩, ⟨r0_17, p1⟩, ⟨r0_13, p2⟩, ⟨r0_2, p3⟩] S1x256x1024.size (by rfl) y

/-- Window 14's staging buffer after the body, from the input windows' blocks: its 4 stores as pieces, LAST
    FIRST (Lib/Pipeline/FrameBody.lean `View.canon`; the payloads are the skeleton's and the values stated above). -/
def out0_14 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : Vec F S1x1024x384 .bf16 :=
  View.canon [⟨r0_22, k0_pay183 (k0_pay285 x0 x1 x2 x3 x4 x5 x6 x7 x8 x9 x10 x11 x12) (k0_pay286 x0 x1 x2 x3 x4 x5 x6 x7 x8 x9 x10 x11 x12) (k0_pay290 x0 x1 x2 x3 x4 x5 x6 x7 x8 x9 x10 x11 x12) (k0_pay291 x0 x1 x2 x3 x4 x5 x6 x7 x8 x9 x10 x11 x12) 16#32⟩,
    ⟨r0_18, k0_pay131 (k0_pay264 x0 x1 x2 x3 x4 x5 x6 x7 x8 x9 x10 x11 x12) (k0_pay265 x0 x1 x2 x3 x4 x5 x6 x7 x8 x9 x10 x11 x12) (k0_pay269 x0 x1 x2 x3 x4 x5 x6 x7 x8 x9 x10 x11 x12) (k0_pay270 x0 x1 x2 x3 x4 x5 x6 x7 x8 x9 x10 x11 x12)⟩,
    ⟨r0_14, k0_pay82 (k0_pay242 x0 x1 x2 x3 x4 x5 x6 x7 x8 x9 x10 x11 x12) (k0_pay243 x0 x1 x2 x3 x4 x5 x6 x7 x8 x9 x10 x11 x12) (k0_pay247 x0 x1 x2 x3 x4 x5 x6 x7 x8 x9 x10 x11 x12) (k0_pay248 x0 x1 x2 x3 x4 x5 x6 x7 x8 x9 x10 x11 x12) (k0_pay249 x0 x1 x2 x3 x4 x5 x6 x7 x8 x9 x10 x11 x12) (k0_pay250 x0 x1 x2 x3 x4 x5 x6 x7 x8 x9 x10 x11 x12)⟩,
    ⟨r0_4, k0_pay29 (k0_pay219 x0 x1 x2 x3 x4 x5 x6 x7 x8 x9 x10 x11 x12) (k0_pay220 x0 x1 x2 x3 x4 x5 x6 x7 x8 x9 x10 x11 x12) (k0_pay224 x0 x1 x2 x3 x4 x5 x6 x7 x8 x9 x10 x11 x12) (k0_pay225 x0 x1 x2 x3 x4 x5 x6 x7 x8 x9 x10 x11 x12) (k0_pay226 x0 x1 x2 x3 x4 x5 x6 x7 x8 x9 x10 x11 x12) (k0_pay227 x0 x1 x2 x3 x4 x5 x6 x7 x8 x9 x10 x11 x12)⟩]

/-- Its stores tile the buffer (checked by evaluation), so they cover it. -/
theorem cover0_14 (p0 : Vec F S1x256x384 .bf16) (p1 : Vec F S1x256x384 .bf16) (p2 : Vec F S1x256x384 .bf16) (p3 : Vec F S1x256x384 .bf16) (y : S1x1024x384.Idx) :
    ∃ pc ∈ ([⟨r0_22, p0⟩, ⟨r0_18, p1⟩, ⟨r0_14, p2⟩, ⟨r0_4, p3⟩] : List (View.Piece (Elt F) S1x1024x384 .bf16)), y ∈ pc.1.set :=
  View.cover_of_tiled [⟨r0_22, p0⟩, ⟨r0_18, p1⟩, ⟨r0_14, p2⟩, ⟨r0_4, p3⟩] S1x256x384.size (by rfl) y

/-- Window 15's staging buffer after the body, from the input windows' blocks: its 4 stores as pieces, LAST
    FIRST (Lib/Pipeline/FrameBody.lean `View.canon`; the payloads are the skeleton's and the values stated above). -/
def out0_15 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : Vec F S1x1024x256 .bf16 :=
  View.canon [⟨r0_23, k0_pay185 (k0_pay184 (k0_pay285 x0 x1 x2 x3 x4 x5 x6 x7 x8 x9 x10 x11 x12) (k0_pay286 x0 x1 x2 x3 x4 x5 x6 x7 x8 x9 x10 x11 x12) (k0_pay290 x0 x1 x2 x3 x4 x5 x6 x7 x8 x9 x10 x11 x12) (k0_pay291 x0 x1 x2 x3 x4 x5 x6 x7 x8 x9 x10 x11 x12) 16#32)⟩,
    ⟨r0_19, k0_pay134 (k0_pay132 (k0_pay264 x0 x1 x2 x3 x4 x5 x6 x7 x8 x9 x10 x11 x12) (k0_pay265 x0 x1 x2 x3 x4 x5 x6 x7 x8 x9 x10 x11 x12) (k0_pay269 x0 x1 x2 x3 x4 x5 x6 x7 x8 x9 x10 x11 x12) (k0_pay270 x0 x1 x2 x3 x4 x5 x6 x7 x8 x9 x10 x11 x12)) (k0_pay133 (k0_pay264 x0 x1 x2 x3 x4 x5 x6 x7 x8 x9 x10 x11 x12) (k0_pay265 x0 x1 x2 x3 x4 x5 x6 x7 x8 x9 x10 x11 x12) (k0_pay269 x0 x1 x2 x3 x4 x5 x6 x7 x8 x9 x10 x11 x12) (k0_pay270 x0 x1 x2 x3 x4 x5 x6 x7 x8 x9 x10 x11 x12))⟩,
    ⟨r0_15, k0_pay84 (k0_pay83 (k0_pay242 x0 x1 x2 x3 x4 x5 x6 x7 x8 x9 x10 x11 x12) (k0_pay243 x0 x1 x2 x3 x4 x5 x6 x7 x8 x9 x10 x11 x12) (k0_pay247 x0 x1 x2 x3 x4 x5 x6 x7 x8 x9 x10 x11 x12) (k0_pay248 x0 x1 x2 x3 x4 x5 x6 x7 x8 x9 x10 x11 x12) (k0_pay249 x0 x1 x2 x3 x4 x5 x6 x7 x8 x9 x10 x11 x12) (k0_pay250 x0 x1 x2 x3 x4 x5 x6 x7 x8 x9 x10 x11 x12)) 64#32⟩,
    ⟨r0_5, k0_pay31 (k0_pay30 (k0_pay219 x0 x1 x2 x3 x4 x5 x6 x7 x8 x9 x10 x11 x12) (k0_pay220 x0 x1 x2 x3 x4 x5 x6 x7 x8 x9 x10 x11 x12) (k0_pay224 x0 x1 x2 x3 x4 x5 x6 x7 x8 x9 x10 x11 x12) (k0_pay225 x0 x1 x2 x3 x4 x5 x6 x7 x8 x9 x10 x11 x12) (k0_pay226 x0 x1 x2 x3 x4 x5 x6 x7 x8 x9 x10 x11 x12) (k0_pay227 x0 x1 x2 x3 x4 x5 x6 x7 x8 x9 x10 x11 x12))⟩]

/-- Its stores tile the buffer (checked by evaluation), so they cover it. -/
theorem cover0_15 (p0 : Vec F S1x256x256 .bf16) (p1 : Vec F S1x256x256 .bf16) (p2 : Vec F S1x256x256 .bf16) (p3 : Vec F S1x256x256 .bf16) (y : S1x1024x256.Idx) :
    ∃ pc ∈ ([⟨r0_23, p0⟩, ⟨r0_19, p1⟩, ⟨r0_15, p2⟩, ⟨r0_5, p3⟩] : List (View.Piece (Elt F) S1x1024x256 .bf16)), y ∈ pc.1.set :=
  View.cover_of_tiled [⟨r0_23, p0⟩, ⟨r0_19, p1⟩, ⟨r0_15, p2⟩, ⟨r0_5, p3⟩] S1x256x256.size (by rfl) y

/-- Window 16's staging buffer after the body, from the input windows' blocks: its 4 stores as pieces, LAST
    FIRST (Lib/Pipeline/FrameBody.lean `View.canon`; the payloads are the skeleton's and the values stated above). -/
def out0_16 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : Vec F S1x1024x256 .bf16 :=
  View.canon [⟨r0_23, k0_pay186 (k0_pay287 x0 x1 x2 x3 x4 x5 x6 x7 x8 x9 x10 x11 x12)⟩,
    ⟨r0_19, k0_pay135 (k0_pay266 x0 x1 x2 x3 x4 x5 x6 x7 x8 x9 x10 x11 x12)⟩,
    ⟨r0_15, k0_pay85 (k0_pay244 x0 x1 x2 x3 x4 x5 x6 x7 x8 x9 x10 x11 x12)⟩,
    ⟨r0_5, k0_pay32 (k0_pay221 x0 x1 x2 x3 x4 x5 x6 x7 x8 x9 x10 x11 x12)⟩]

/-- Its stores tile the buffer (checked by evaluation), so they cover it. -/
theorem cover0_16 (p0 : Vec F S1x256x256 .bf16) (p1 : Vec F S1x256x256 .bf16) (p2 : Vec F S1x256x256 .bf16) (p3 : Vec F S1x256x256 .bf16) (y : S1x1024x256.Idx) :
    ∃ pc ∈ ([⟨r0_23, p0⟩, ⟨r0_19, p1⟩, ⟨r0_15, p2⟩, ⟨r0_5, p3⟩] : List (View.Piece (Elt F) S1x1024x256 .bf16)), y ∈ pc.1.set :=
  View.cover_of_tiled [⟨r0_23, p0⟩, ⟨r0_19, p1⟩, ⟨r0_15, p2⟩, ⟨r0_5, p3⟩] S1x256x256.size (by rfl) y

/-- Window 17's staging buffer after the body, from the input windows' blocks: its 4 stores as pieces, LAST
    FIRST (Lib/Pipeline/FrameBody.lean `View.canon`; the payloads are the skeleton's and the values stated above). -/
def out0_17 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : Vec F S1x1024x384 .bf16 :=
  View.canon [⟨r0_22, k0_pay187 (k0_pay287 x0 x1 x2 x3 x4 x5 x6 x7 x8 x9 x10 x11 x12)⟩,
    ⟨r0_18, k0_pay136 (k0_pay266 x0 x1 x2 x3 x4 x5 x6 x7 x8 x9 x10 x11 x12)⟩,
    ⟨r0_14, k0_pay86 (k0_pay244 x0 x1 x2 x3 x4 x5 x6 x7 x8 x9 x10 x11 x12)⟩,
    ⟨r0_4, k0_pay33 (k0_pay221 x0 x1 x2 x3 x4 x5 x6 x7 x8 x9 x10 x11 x12)⟩]

/-- Its stores tile the buffer (checked by evaluation), so they cover it. -/
theorem cover0_17 (p0 : Vec F S1x256x384 .bf16) (p1 : Vec F S1x256x384 .bf16) (p2 : Vec F S1x256x384 .bf16) (p3 : Vec F S1x256x384 .bf16) (y : S1x1024x384.Idx) :
    ∃ pc ∈ ([⟨r0_22, p0⟩, ⟨r0_18, p1⟩, ⟨r0_14, p2⟩, ⟨r0_4, p3⟩] : List (View.Piece (Elt F) S1x1024x384 .bf16)), y ∈ pc.1.set :=
  View.cover_of_tiled [⟨r0_22, p0⟩, ⟨r0_18, p1⟩, ⟨r0_14, p2⟩, ⟨r0_4, p3⟩] S1x256x384.size (by rfl) y

/-- Window 18's staging buffer after the body, from the input windows' blocks: its 4 stores as pieces, LAST
    FIRST (Lib/Pipeline/FrameBody.lean `View.canon`; the payloads are the skeleton's and the values stated above). -/
def out0_18 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : Vec F S1x1024x1024 .bf16 :=
  View.canon [⟨r0_21, k0_pay1 (k0_pay212 (k0_pay284 x0 x1 x2 x3 x4 x5 x6 x7 x8 x9 x10 x11 x12) (View.ld x8 r0_12))⟩,
    ⟨r0_17, k0_pay161 (k0_pay263 x0 x1 x2 x3 x4 x5 x6 x7 x8 x9 x10 x11 x12) (k0_pay160 (View.ld x8 r0_12)) (constant S256x1024 .f32 0x00000000#32)⟩,
    ⟨r0_13, k0_pay111 (k0_pay241 x0 x1 x2 x3 x4 x5 x6 x7 x8 x9 x10 x11 x12) (k0_pay110 (View.ld x8 r0_12))⟩,
    ⟨r0_2, k0_pay57 (k0_pay218 x0 x1 x2 x3 x4 x5 x6 x7 x8 x9 x10 x11 x12) (View.ld x8 r0_12)⟩]

/-- Its stores tile the buffer (checked by evaluation), so they cover it. -/
theorem cover0_18 (p0 : Vec F S1x256x1024 .bf16) (p1 : Vec F S1x256x1024 .bf16) (p2 : Vec F S1x256x1024 .bf16) (p3 : Vec F S1x256x1024 .bf16) (y : S1x1024x1024.Idx) :
    ∃ pc ∈ ([⟨r0_21, p0⟩, ⟨r0_17, p1⟩, ⟨r0_13, p2⟩, ⟨r0_2, p3⟩] : List (View.Piece (Elt F) S1x1024x1024 .bf16)), y ∈ pc.1.set :=
  View.cover_of_tiled [⟨r0_21, p0⟩, ⟨r0_17, p1⟩, ⟨r0_13, p2⟩, ⟨r0_2, p3⟩] S1x256x1024.size (by rfl) y

/-- Window 19's staging buffer after the body, from the input windows' blocks: its 4 stores as pieces, LAST
    FIRST (Lib/Pipeline/FrameBody.lean `View.canon`; the payloads are the skeleton's and the values stated above). -/
def out0_19 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : Vec F S1x1024x384 .bf16 :=
  View.canon [⟨r0_22, k0_pay208 (k0_pay298 x0 x1 x2 x3 x4 x5 x6 x7 x8 x9 x10 x11 x12) (k0_pay299 x0 x1 x2 x3 x4 x5 x6 x7 x8 x9 x10 x11 x12) (k0_pay300 x0 x1 x2 x3 x4 x5 x6 x7 x8 x9 x10 x11 x12) (k0_pay301 x0 x1 x2 x3 x4 x5 x6 x7 x8 x9 x10 x11 x12)⟩,
    ⟨r0_18, k0_pay156 (k0_pay276 x0 x1 x2 x3 x4 x5 x6 x7 x8 x9 x10 x11 x12) (k0_pay277 x0 x1 x2 x3 x4 x5 x6 x7 x8 x9 x10 x11 x12) (k0_pay278 x0 x1 x2 x3 x4 x5 x6 x7 x8 x9 x10 x11 x12) (k0_pay279 x0 x1 x2 x3 x4 x5 x6 x7 x8 x9 x10 x11 x12) (k0_pay280 x0 x1 x2 x3 x4 x5 x6 x7 x8 x9 x10 x11 x12)⟩,
    ⟨r0_14, k0_pay106 (k0_pay243 x0 x1 x2 x3 x4 x5 x6 x7 x8 x9 x10 x11 x12) (k0_pay256 x0 x1 x2 x3 x4 x5 x6 x7 x8 x9 x10 x11 x12) (k0_pay257 x0 x1 x2 x3 x4 x5 x6 x7 x8 x9 x10 x11 x12) (k0_pay258 x0 x1 x2 x3 x4 x5 x6 x7 x8 x9 x10 x11 x12) (k0_pay259 x0 x1 x2 x3 x4 x5 x6 x7 x8 x9 x10 x11 x12) (k0_pay260 x0 x1 x2 x3 x4 x5 x6 x7 x8 x9 x10 x11 x12)⟩,
    ⟨r0_4, k0_pay53 (k0_pay219 x0 x1 x2 x3 x4 x5 x6 x7 x8 x9 x10 x11 x12) (k0_pay220 x0 x1 x2 x3 x4 x5 x6 x7 x8 x9 x10 x11 x12) (k0_pay234 x0 x1 x2 x3 x4 x5 x6 x7 x8 x9 x10 x11 x12) (k0_pay235 x0 x1 x2 x3 x4 x5 x6 x7 x8 x9 x10 x11 x12) (k0_pay236 x0 x1 x2 x3 x4 x5 x6 x7 x8 x9 x10 x11 x12) (k0_pay237 x0 x1 x2 x3 x4 x5 x6 x7 x8 x9 x10 x11 x12) (k0_pay238 x0 x1 x2 x3 x4 x5 x6 x7 x8 x9 x10 x11 x12)⟩]

/-- Its stores tile the buffer (checked by evaluation), so they cover it. -/
theorem cover0_19 (p0 : Vec F S1x256x384 .bf16) (p1 : Vec F S1x256x384 .bf16) (p2 : Vec F S1x256x384 .bf16) (p3 : Vec F S1x256x384 .bf16) (y : S1x1024x384.Idx) :
    ∃ pc ∈ ([⟨r0_22, p0⟩, ⟨r0_18, p1⟩, ⟨r0_14, p2⟩, ⟨r0_4, p3⟩] : List (View.Piece (Elt F) S1x1024x384 .bf16)), y ∈ pc.1.set :=
  View.cover_of_tiled [⟨r0_22, p0⟩, ⟨r0_18, p1⟩, ⟨r0_14, p2⟩, ⟨r0_4, p3⟩] S1x256x384.size (by rfl) y

/-- Window 20's staging buffer after the body, from the input windows' blocks: its 4 stores as pieces, LAST
    FIRST (Lib/Pipeline/FrameBody.lean `View.canon`; the payloads are the skeleton's and the values stated above). -/
def out0_20 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : Vec F S1x1024x256 .bf16 :=
  View.canon [⟨r0_23, k0_pay209 (k0_pay298 x0 x1 x2 x3 x4 x5 x6 x7 x8 x9 x10 x11 x12) (k0_pay299 x0 x1 x2 x3 x4 x5 x6 x7 x8 x9 x10 x11 x12) (k0_pay300 x0 x1 x2 x3 x4 x5 x6 x7 x8 x9 x10 x11 x12) (k0_pay301 x0 x1 x2 x3 x4 x5 x6 x7 x8 x9 x10 x11 x12)⟩,
    ⟨r0_19, k0_pay157 (k0_pay276 x0 x1 x2 x3 x4 x5 x6 x7 x8 x9 x10 x11 x12) (k0_pay277 x0 x1 x2 x3 x4 x5 x6 x7 x8 x9 x10 x11 x12) (k0_pay278 x0 x1 x2 x3 x4 x5 x6 x7 x8 x9 x10 x11 x12) (k0_pay279 x0 x1 x2 x3 x4 x5 x6 x7 x8 x9 x10 x11 x12) (k0_pay280 x0 x1 x2 x3 x4 x5 x6 x7 x8 x9 x10 x11 x12)⟩,
    ⟨r0_15, k0_pay107 (k0_pay243 x0 x1 x2 x3 x4 x5 x6 x7 x8 x9 x10 x11 x12) (k0_pay256 x0 x1 x2 x3 x4 x5 x6 x7 x8 x9 x10 x11 x12) (k0_pay257 x0 x1 x2 x3 x4 x5 x6 x7 x8 x9 x10 x11 x12) (k0_pay258 x0 x1 x2 x3 x4 x5 x6 x7 x8 x9 x10 x11 x12) (k0_pay259 x0 x1 x2 x3 x4 x5 x6 x7 x8 x9 x10 x11 x12) (k0_pay260 x0 x1 x2 x3 x4 x5 x6 x7 x8 x9 x10 x11 x12)⟩,
    ⟨r0_5, k0_pay54 (k0_pay219 x0 x1 x2 x3 x4 x5 x6 x7 x8 x9 x10 x11 x12) (k0_pay220 x0 x1 x2 x3 x4 x5 x6 x7 x8 x9 x10 x11 x12) (k0_pay234 x0 x1 x2 x3 x4 x5 x6 x7 x8 x9 x10 x11 x12) (k0_pay235 x0 x1 x2 x3 x4 x5 x6 x7 x8 x9 x10 x11 x12) (k0_pay236 x0 x1 x2 x3 x4 x5 x6 x7 x8 x9 x10 x11 x12) (k0_pay237 x0 x1 x2 x3 x4 x5 x6 x7 x8 x9 x10 x11 x12) (k0_pay238 x0 x1 x2 x3 x4 x5 x6 x7 x8 x9 x10 x11 x12)⟩]

/-- Its stores tile the buffer (checked by evaluation), so they cover it. -/
theorem cover0_20 (p0 : Vec F S1x256x256 .bf16) (p1 : Vec F S1x256x256 .bf16) (p2 : Vec F S1x256x256 .bf16) (p3 : Vec F S1x256x256 .bf16) (y : S1x1024x256.Idx) :
    ∃ pc ∈ ([⟨r0_23, p0⟩, ⟨r0_19, p1⟩, ⟨r0_15, p2⟩, ⟨r0_5, p3⟩] : List (View.Piece (Elt F) S1x1024x256 .bf16)), y ∈ pc.1.set :=
  View.cover_of_tiled [⟨r0_23, p0⟩, ⟨r0_19, p1⟩, ⟨r0_15, p2⟩, ⟨r0_5, p3⟩] S1x256x256.size (by rfl) y

/-- Window 21's staging buffer after the body, from the input windows' blocks: its 4 stores as pieces, LAST
    FIRST (Lib/Pipeline/FrameBody.lean `View.canon`; the payloads are the skeleton's and the values stated above). -/
def out0_21 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : Vec F S1x1024x256 .bf16 :=
  View.canon [⟨r0_23, k0_pay210 (k0_pay292 x0 x1 x2 x3 x4 x5 x6 x7 x8 x9 x10 x11 x12)⟩,
    ⟨r0_19, k0_pay158 (k0_pay271 x0 x1 x2 x3 x4 x5 x6 x7 x8 x9 x10 x11 x12)⟩,
    ⟨r0_15, k0_pay108 (k0_pay251 x0 x1 x2 x3 x4 x5 x6 x7 x8 x9 x10 x11 x12)⟩,
    ⟨r0_5, k0_pay55 (k0_pay228 x0 x1 x2 x3 x4 x5 x6 x7 x8 x9 x10 x11 x12)⟩]

/-- Its stores tile the buffer (checked by evaluation), so they cover it. -/
theorem cover0_21 (p0 : Vec F S1x256x256 .bf16) (p1 : Vec F S1x256x256 .bf16) (p2 : Vec F S1x256x256 .bf16) (p3 : Vec F S1x256x256 .bf16) (y : S1x1024x256.Idx) :
    ∃ pc ∈ ([⟨r0_23, p0⟩, ⟨r0_19, p1⟩, ⟨r0_15, p2⟩, ⟨r0_5, p3⟩] : List (View.Piece (Elt F) S1x1024x256 .bf16)), y ∈ pc.1.set :=
  View.cover_of_tiled [⟨r0_23, p0⟩, ⟨r0_19, p1⟩, ⟨r0_15, p2⟩, ⟨r0_5, p3⟩] S1x256x256.size (by rfl) y

/-- Window 22's staging buffer after the body, from the input windows' blocks: its 4 stores as pieces, LAST
    FIRST (Lib/Pipeline/FrameBody.lean `View.canon`; the payloads are the skeleton's and the values stated above). -/
def out0_22 (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) : Vec F S1x1024x384 .bf16 :=
  View.canon [⟨r0_22, k0_pay211 (k0_pay292 x0 x1 x2 x3 x4 x5 x6 x7 x8 x9 x10 x11 x12)⟩,
    ⟨r0_18, k0_pay159 (k0_pay271 x0 x1 x2 x3 x4 x5 x6 x7 x8 x9 x10 x11 x12)⟩,
    ⟨r0_14, k0_pay109 (k0_pay251 x0 x1 x2 x3 x4 x5 x6 x7 x8 x9 x10 x11 x12)⟩,
    ⟨r0_4, k0_pay56 (k0_pay228 x0 x1 x2 x3 x4 x5 x6 x7 x8 x9 x10 x11 x12)⟩]

/-- Its stores tile the buffer (checked by evaluation), so they cover it. -/
theorem cover0_22 (p0 : Vec F S1x256x384 .bf16) (p1 : Vec F S1x256x384 .bf16) (p2 : Vec F S1x256x384 .bf16) (p3 : Vec F S1x256x384 .bf16) (y : S1x1024x384.Idx) :
    ∃ pc ∈ ([⟨r0_22, p0⟩, ⟨r0_18, p1⟩, ⟨r0_14, p2⟩, ⟨r0_4, p3⟩] : List (View.Piece (Elt F) S1x1024x384 .bf16)), y ∈ pc.1.set :=
  View.cover_of_tiled [⟨r0_22, p0⟩, ⟨r0_18, p1⟩, ⟨r0_14, p2⟩, ⟨r0_4, p3⟩] S1x256x384.size (by rfl) y

/-! ## The body's triple -/

set_option maxHeartbeats 5804600 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x1x1024 .f32) (harg2 : arg2.IsWhole) (arg3 : Memref sig .tc .vmem S1x1024x384 .bf16) (harg3 : arg3.IsWhole) (arg4 : Memref sig .tc .vmem S1x1024x256 .bf16) (harg4 : arg4.IsWhole) (arg5 : Memref sig .tc .vmem S1x1024x384 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1x1x3072 .f32) (harg8 : arg8.IsWhole) (arg9 : Memref sig .tc .vmem S1x1024 .f32) (harg9 : arg9.IsWhole) (arg10 : Memref sig .tc .vmem S1024x3072 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x1024x1024 .f32) (harg15 : arg15.IsWhole) (arg16 : Memref sig .tc .vmem S1x1024x384 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x384 .bf16) (harg19 : arg19.IsWhole) (arg20 : Memref sig .tc .vmem S1x1024x1024 .bf16) (harg20 : arg20.IsWhole) (arg21 : Memref sig .tc .vmem S1x1024x384 .bf16) (harg21 : arg21.IsWhole) (arg22 : Memref sig .tc .vmem S1x1024x256 .bf16) (harg22 : arg22.IsWhole) (arg23 : Memref sig .tc .vmem S1x1024x256 .bf16) (harg23 : arg23.IsWhole) (arg24 : Memref sig .tc .vmem S1x1024x384 .bf16) (harg24 : arg24.IsWhole)
    (x0 : Vec F S1x1x1024 .f32) (x1 : Vec F S1x1024x384 .bf16) (x2 : Vec F S1x1024x256 .bf16) (x3 : Vec F S1x1024x384 .bf16) (x4 : Vec F S1024x1024 .bf16) (x5 : Vec F S1x1024x1024 .f32) (x6 : Vec F S1x1x3072 .f32) (x7 : Vec F S1x1024 .f32) (x8 : Vec F S1024x3072 .bf16) (x9 : Vec F S1024x128 .f32) (x10 : Vec F S1024x128 .f32) (x11 : Vec F S1x512 .f32) (x12 : Vec F S1x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (out0_13 x0 x1 x2 x3 x4 x5 x6 x7 x8 x9 x10 x11 x12) ∗ owns (c : Thread nD τ) arg16 fullShare (out0_14 x0 x1 x2 x3 x4 x5 x6 x7 x8 x9 x10 x11 x12) ∗ owns (c : Thread nD τ) arg17 fullShare (out0_15 x0 x1 x2 x3 x4 x5 x6 x7 x8 x9 x10 x11 x12) ∗ owns (c : Thread nD τ) arg18 fullShare (out0_16 x0 x1 x2 x3 x4 x5 x6 x7 x8 x9 x10 x11 x12) ∗ owns (c : Thread nD τ) arg19 fullShare (out0_17 x0 x1 x2 x3 x4 x5 x6 x7 x8 x9 x10 x11 x12) ∗ owns (c : Thread nD τ) arg20 fullShare (out0_18 x0 x1 x2 x3 x4 x5 x6 x7 x8 x9 x10 x11 x12) ∗ owns (c : Thread nD τ) arg21 fullShare (out0_19 x0 x1 x2 x3 x4 x5 x6 x7 x8 x9 x10 x11 x12) ∗ owns (c : Thread nD τ) arg22 fullShare (out0_20 x0 x1 x2 x3 x4 x5 x6 x7 x8 x9 x10 x11 x12) ∗ owns (c : Thread nD τ) arg23 fullShare (out0_21 x0 x1 x2 x3 x4 x5 x6 x7 x8 x9 x10 x11 x12) ∗ owns (c : Thread nD τ) arg24 fullShare (out0_22 x0 x1 x2 x3 x4 x5 x6 x7 x8 x9 x10 x11 x12)) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_in_projection_eq_skeleton]; unfold cc0_in_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _ _ _ _)).trans ?_
    rfl
  isplitl [H15]
  · iexists _; isplitr
    swap; · iexact H15
    ipureintro
    refine (View.read_writes_eq_canon _ _ _ (cover0_15 _ _ _ _)).trans ?_
    rfl
  isplitl [H16]
  · iexists _; isplitr
    swap; · iexact H16
    ipureintro
    refine (View.read_writes_eq_canon _ _ _ (cover0_16 _ _ _ _)).trans ?_
    rfl
  isplitl [H17]
  · iexists _; isplitr
    swap; · iexact H17
    ipureintro
    refine (View.read_writes_eq_canon _ _ _ (cover0_17 _ _ _ _)).trans ?_
    rfl
  isplitl [H18]
  · iexists _; isplitr
    swap; · iexact H18
    ipureintro
    refine (View.read_writes_eq_canon _ _ _ (cover0_18 _ _ _ _)).trans ?_
    rfl
  isplitl [H19]
  · iexists _; isplitr
    swap; · iexact H19
    ipureintro
    refine (View.read_writes_eq_canon _ _ _ (cover0_19 _ _ _ _)).trans ?_
    rfl
  isplitl [H20]
  · iexists _; isplitr
    swap; · iexact H20
    ipureintro
    refine (View.read_writes_eq_canon _ _ _ (cover0_20 _ _ _ _)).trans ?_
    rfl
  isplitl [H21]
  · iexists _; isplitr
    swap; · iexact H21
    ipureintro
    refine (View.read_writes_eq_canon _ _ _ (cover0_21 _ _ _ _)).trans ?_
    rfl
  iexists _; isplitr
  swap; · iexact H22
  ipureintro
  refine (View.read_writes_eq_canon _ _ _ (cover0_22 _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel4Ideal.Gen

end
-- ==== Proof.FusedKernel.lean ====
module
public import proofs.«01_k».proof.Defs
public import proofs.«01_k».proof.Proof.FusedFrame
public import proofs.«01_k».proof.Proof.Gen.Kernel4
@[expose] public section
set_option maxRecDepth 16384
noncomputable section
open Idealize.ShloMosaic Idealize.ShloMosaic.TcCoe Idealize.SL.Sem

/-! The second layer's in_projection as printed: its text is Kernel4Ideal's, whose run is over any float values. -/

namespace Cert.Kernel4Ideal.Fused

/-- What Kernel4Ideal's run at machine floats says. -/
def runs : Prop := letI := Cert.Kernel4Ideal.Gen.facts
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

theorem runs_true : runs := fun m g _ => Cert.Kernel4Ideal.Gen.frame (F := Bits) m g

theorem defs_same : letI := Cert.Kernel4.Gen.facts; letI := Cert.Kernel4Ideal.Gen.facts
    (@Cert.quiescent_Kernel4 Cert.Kernel4.Gen.facts) = runs := by
  sl_kernel_rfl

end Cert.Kernel4Ideal.Fused

theorem Cert.fused_frame : @Cert.quiescent_Kernel4 Cert.Kernel4.Gen.facts :=
  Cert.Kernel4Ideal.Fused.defs_same.mpr Cert.Kernel4Ideal.Fused.runs_true

end
-- ==== Proof.FusedRef.lean ====
module
public import proofs.«01_k».proof.Proof.ProjMatch
public import proofs.«01_k».proof.Proof.OutProj
public import proofs.«01_k».proof.Proof.Gen.Reference4Ideal.Run
@[expose] public section
set_option maxRecDepth 16384
noncomputable section
open Idealize.ShloMosaic Idealize.ShloMosaic.TcCoe Idealize.SL.Sem

/-! The plain second in_projection's values: of the residual stream with the output projection added, the first in_projection's. -/

namespace Cert.Reference4Ideal.Fused
open Cert.Reference4Ideal Cert.Reference4Ideal.Gen Cert.Reference4Ideal.Value
open Cert.Kernel3Ideal.Proj (freqs)
open Cert.Reference3Ideal.Proj (rows angles cosines sines branchA branchC gate vHeads qHeads qNormed qFirst qSecond kHeads kNormed kFirst kSecond kTurned)

variable (V0 : Valuation τ sig (Elt Ideal))

/-- The residual stream with the output projection added. -/
def mixed : FVec Ideal S32x2048x1024 .f32 := Cert.Reference2Ideal.Out.res (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))

theorem u6_eq : res_main_v6 V0 = mixed V0 := rfl

theorem u12_eq : res_main_v12 V0 = freqs := rfl

theorem u31_eq : res_main_v31 V0 = angles := by
  unfold res_main_v31
  rw [u12_eq]
  rfl

theorem u33_eq : res_main_v33 V0 = cosines := by
  unfold res_main_v33
  rw [u31_eq]
  rfl

theorem u35_eq : res_main_v35 V0 = sines := by
  unfold res_main_v35
  rw [u31_eq]
  rfl

theorem u60_eq : res_main_v60 V0 = rows (mixed V0) (V0 (Proc.devRef .tc main_arg6)) (V0 (Proc.devRef .tc main_arg7)) (V0 (Proc.devRef .tc main_arg8)) := by
  unfold res_main_v60
  rw [u6_eq]
  rfl

theorem u61_eq : res_main_v61 V0 = branchA (res_main_v60 V0) := rfl
theorem u63_eq : res_main_v63 V0 = branchC (res_main_v60 V0) := rfl

theorem u67_eq : res_main_v67 V0 = gate (res_main_v61 V0) := rfl
theorem u140_eq : res_main_v140 V0 = vHeads (res_main_v61 V0) := rfl
theorem u68_eq : res_main_v68 V0 = qHeads (res_main_v61 V0) := rfl
theorem u82_eq : res_main_v82 V0 = shapeCast S32x2048x6x2x2x16 (qNormed (res_main_v61 V0) (V0 (Proc.devRef .tc main_arg9))) shapeCasts_S32x2048x6x64_S32x2048x6x2x2x16 := by
  unfold res_main_v82
  rw [u68_eq]
  rfl
theorem u84_eq : res_main_v84 V0 = qFirst (qNormed (res_main_v61 V0) (V0 (Proc.devRef .tc main_arg9))) := by
  unfold res_main_v84
  rw [u82_eq]
  rfl
theorem u86_eq : res_main_v86 V0 = qSecond (qNormed (res_main_v61 V0) (V0 (Proc.devRef .tc main_arg9))) := by
  unfold res_main_v86
  rw [u82_eq]
  rfl
theorem u102_eq : res_main_v102 V0 = kHeads (res_main_v61 V0) := rfl
theorem u116_eq : res_main_v116 V0 = shapeCast S32x2048x2x2x2x16 (kNormed (res_main_v61 V0) (V0 (Proc.devRef .tc main_arg10))) shapeCasts_S32x2048x2x64_S32x2048x2x2x2x16 := by
  unfold res_main_v116
  rw [u102_eq]
  rfl
theorem u118_eq : res_main_v118 V0 = kFirst (kNormed (res_main_v61 V0) (V0 (Proc.devRef .tc main_arg10))) := by
  unfold res_main_v118
  rw [u116_eq]
  rfl
theorem u120_eq : res_main_v120 V0 = kSecond (kNormed (res_main_v61 V0) (V0 (Proc.devRef .tc main_arg10))) := by
  unfold res_main_v120
  rw [u116_eq]
  rfl
theorem u134_eq : res_main_v134 V0 = kTurned (kNormed (res_main_v61 V0) (V0 (Proc.devRef .tc main_arg10))) cosines sines := by
  unfold res_main_v134
  rw [u118_eq, u120_eq, u33_eq, u35_eq]
  rfl

theorem u151_eq : res_main_v151 V0 = gate (res_main_v63 V0) := rfl
theorem u224_eq : res_main_v224 V0 = vHeads (res_main_v63 V0) := rfl
theorem u152_eq : res_main_v152 V0 = qHeads (res_main_v63 V0) := rfl
theorem u166_eq : res_main_v166 V0 = shapeCast S32x2048x6x2x2x16 (qNormed (res_main_v63 V0) (V0 (Proc.devRef .tc main_arg11))) shapeCasts_S32x2048x6x64_S32x2048x6x2x2x16 := by
  unfold res_main_v166
  rw [u152_eq]
  rfl
theorem u168_eq : res_main_v168 V0 = qFirst (qNormed (res_main_v63 V0) (V0 (Proc.devRef .tc main_arg11))) := by
  unfold res_main_v168
  rw [u166_eq]
  rfl
theorem u170_eq : res_main_v170 V0 = qSecond (qNormed (res_main_v63 V0) (V0 (Proc.devRef .tc main_arg11))) := by
  unfold res_main_v170
  rw [u166_eq]
  rfl
theorem u186_eq : res_main_v186 V0 = kHeads (res_main_v63 V0) := rfl
theorem u200_eq : res_main_v200 V0 = shapeCast S32x2048x2x2x2x16 (kNormed (res_main_v63 V0) (V0 (Proc.devRef .tc main_arg12))) shapeCasts_S32x2048x2x64_S32x2048x2x2x2x16 := by
  unfold res_main_v200
  rw [u186_eq]
  rfl
theorem u202_eq : res_main_v202 V0 = kFirst (kNormed (res_main_v63 V0) (V0 (Proc.devRef .tc main_arg12))) := by
  unfold res_main_v202
  rw [u200_eq]
  rfl
theorem u204_eq : res_main_v204 V0 = kSecond (kNormed (res_main_v63 V0) (V0 (Proc.devRef .tc main_arg12))) := by
  unfold res_main_v204
  rw [u200_eq]
  rfl
theorem u218_eq : res_main_v218 V0 = kTurned (kNormed (res_main_v63 V0) (V0 (Proc.devRef .tc main_arg12))) cosines sines := by
  unfold res_main_v218
  rw [u202_eq, u204_eq, u33_eq, u35_eq]
  rfl

end Cert.Reference4Ideal.Fused
end
-- ==== Proof.FusedBody.lean ====
module
public import proofs.«01_k».proof.Proof.FusedFrame
public import proofs.«01_k».proof.Proof.ProjBlock
public import proofs.«01_k».proof.Proof.OutProj
@[expose] public section
set_option maxRecDepth 16384
noncomputable section
open Idealize.ShloMosaic Idealize.ShloMosaic.TcCoe Idealize.SL.Sem

/-! What the second layer's in_projection stores of one block of 256 rows: of the rows with the first layer's output projection
added, what the first layer's in_projection stores. -/

namespace Cert.Kernel4Ideal.Fused
open Cert.Kernel4Ideal Cert.Kernel4Ideal.Gen
open Cert.Kernel3Ideal.Proj (queriesKeys qStored beside chunk3 vCols gStored)

section bodies
variable {F : FTy → Type} [FloatOps F] [∀ f, Nonempty (F f)]

/-- The rows with the previous layer's output projection added. -/
def mixedRows (x : Vec F S1x256x1024 .f32) (g : Vec F S1x1x1024 .f32) (a : Vec F S1x256x384 .bf16) (b : Vec F S1x256x256 .bf16)
    (c : Vec F S1x256x384 .bf16) (w : Vec F S1024x1024 .bf16) : FVec F S256x1024 .f32 := k0_pay4 x g a b c w

/-- The rows normalized and modulated. -/
def normRows (v0 v2 : Vec F S1x1x1024 .f32) (x : FVec F S256x1024 .f32) (v16 : Vec F S1x1024 .f32) : FVec F S256x1024 .bf16 :=
  k0_pay8 (k0_pay2 v0) (k0_pay3 v2) x (shapeCast S256x1 (multiReduction .add [1] S256 (mulf x x) 0x00000000#32 reduces_S256x1024_S256 (.inl rfl) rfl : FVec F S256 .f32)
    shapeCasts_S256_S256x1) k0_pay7 v16

/-- Rows times weights. -/
def rowsTimes (h : FVec F S256x1024 .bf16) (w : Vec F S1024x1024 .bf16) : FVec F S256x1024 .f32 :=
  matmul dot_S256x1024_S1024x1024_S256x1024_1_0_0_1_n_n none h (shapeCast S1024x1024 w shapeCasts_S1024x1024_S1024x1024) (constant S256x1024 .f32 0x00000000#32)

def hyStored (h : FVec F S256x1024 .bf16) (w : Vec F S1024x1024 .bf16) : FVec F S1x256x1024 .bf16 := k0_pay57 h w

def xStored (x : FVec F S256x1024 .f32) : FVec F S1x256x1024 .f32 := shapeCast S1x256x1024 x shapeCasts_S256x1024_S1x256x1024

variable (x0 : Vec F S1x1x1024 .f32) (x1 : Vec F S1x1024x384 .bf16) (x2 : Vec F S1x1024x256 .bf16) (x3 : Vec F S1x1024x384 .bf16)
  (x4 : Vec F S1024x1024 .bf16) (x5 : Vec F S1x1024x1024 .f32) (x6 : Vec F S1x1x3072 .f32) (x7 : Vec F S1x1024 .f32)
  (x8 : Vec F S1024x3072 .bf16) (x9 x10 : Vec F S1024x128 .f32) (x11 x12 : Vec F S1x512 .f32)

theorem x_eq : out0_13 x0 x1 x2 x3 x4 x5 x6 x7 x8 x9 x10 x11 x12 = View.canon (Val := Elt F) [
    ⟨r0_21, xStored (mixedRows (View.ld x5 r0_21) (View.ld x0 r0_3) (View.ld x1 r0_22) (View.ld x2 r0_23) (View.ld x3 r0_22) (View.ld x4 r0_6))⟩,
    ⟨r0_17, xStored (mixedRows (View.ld x5 r0_17) (View.ld x0 r0_3) (View.ld x1 r0_18) (View.ld x2 r0_19) (View.ld x3 r0_18) (View.ld x4 r0_6))⟩,
    ⟨r0_13, xStored (mixedRows (View.ld x5 r0_13) (View.ld x0 r0_3) (View.ld x1 r0_14) (View.ld x2 r0_15) (View.ld x3 r0_14) (View.ld x4 r0_6))⟩,
    ⟨r0_2, xStored (mixedRows (View.ld x5 r0_2) (View.ld x0 r0_3) (View.ld x1 r0_4) (View.ld x2 r0_5) (View.ld x3 r0_4) (View.ld x4 r0_6))⟩] := by
  rfl

theorem q_a_eq : out0_14 x0 x1 x2 x3 x4 x5 x6 x7 x8 x9 x10 x11 x12 = View.canon (Val := Elt F) [
    ⟨r0_22, qStored (queriesKeys (rowsTimes (normRows (View.ld x6 r0_0) (View.ld x6 r0_1) (mixedRows (View.ld x5 r0_21) (View.ld x0 r0_3) (View.ld x1 r0_22) (View.ld x2 r0_23) (View.ld x3 r0_22) (View.ld x4 r0_6)) (View.ld x7 r0_7)) (View.ld x8 r0_9)) (View.ld x11 r0_10) (View.ld x9 r0_24) (View.ld x10 r0_24))⟩,
    ⟨r0_18, qStored (queriesKeys (rowsTimes (normRows (View.ld x6 r0_0) (View.ld x6 r0_1) (mixedRows (View.ld x5 r0_17) (View.ld x0 r0_3) (View.ld x1 r0_18) (View.ld x2 r0_19) (View.ld x3 r0_18) (View.ld x4 r0_6)) (View.ld x7 r0_7)) (View.ld x8 r0_9)) (View.ld x11 r0_10) (View.ld x9 r0_20) (View.ld x10 r0_20))⟩,
    ⟨r0_14, qStored (queriesKeys (rowsTimes (normRows (View.ld x6 r0_0) (View.ld x6 r0_1) (mixedRows (View.ld x5 r0_13) (View.ld x0 r0_3) (View.ld x1 r0_14) (View.ld x2 r0_15) (View.ld x3 r0_14) (View.ld x4 r0_6)) (View.ld x7 r0_7)) (View.ld x8 r0_9)) (View.ld x11 r0_10) (View.ld x9 r0_16) (View.ld x10 r0_16))⟩,
    ⟨r0_4, qStored (queriesKeys (rowsTimes (normRows (View.ld x6 r0_0) (View.ld x6 r0_1) (mixedRows (View.ld x5 r0_2) (View.ld x0 r0_3) (View.ld x1 r0_4) (View.ld x2 r0_5) (View.ld x3 r0_4) (View.ld x4 r0_6)) (View.ld x7 r0_7)) (View.ld x8 r0_9)) (View.ld x11 r0_10) (View.ld x9 r0_8) (View.ld x10 r0_8))⟩] := by
  rfl

theorem k_a_eq : out0_15 x0 x1 x2 x3 x4 x5 x6 x7 x8 x9 x10 x11 x12 = View.canon (Val := Elt F) [
    ⟨r0_23, beside (chunk3 (queriesKeys (rowsTimes (normRows (View.ld x6 r0_0) (View.ld x6 r0_1) (mixedRows (View.ld x5 r0_21) (View.ld x0 r0_3) (View.ld x1 r0_22) (View.ld x2 r0_23) (View.ld x3 r0_22) (View.ld x4 r0_6)) (View.ld x7 r0_7)) (View.ld x8 r0_9)) (View.ld x11 r0_10) (View.ld x9 r0_24) (View.ld x10 r0_24)))⟩,
    ⟨r0_19, beside (chunk3 (queriesKeys (rowsTimes (normRows (View.ld x6 r0_0) (View.ld x6 r0_1) (mixedRows (View.ld x5 r0_17) (View.ld x0 r0_3) (View.ld x1 r0_18) (View.ld x2 r0_19) (View.ld x3 r0_18) (View.ld x4 r0_6)) (View.ld x7 r0_7)) (View.ld x8 r0_9)) (View.ld x11 r0_10) (View.ld x9 r0_20) (View.ld x10 r0_20)))⟩,
    ⟨r0_15, beside (chunk3 (queriesKeys (rowsTimes (normRows (View.ld x6 r0_0) (View.ld x6 r0_1) (mixedRows (View.ld x5 r0_13) (View.ld x0 r0_3) (View.ld x1 r0_14) (View.ld x2 r0_15) (View.ld x3 r0_14) (View.ld x4 r0_6)) (View.ld x7 r0_7)) (View.ld x8 r0_9)) (View.ld x11 r0_10) (View.ld x9 r0_16) (View.ld x10 r0_16)))⟩,
    ⟨r0_5, beside (chunk3 (queriesKeys (rowsTimes (normRows (View.ld x6 r0_0) (View.ld x6 r0_1) (mixedRows (View.ld x5 r0_2) (View.ld x0 r0_3) (View.ld x1 r0_4) (View.ld x2 r0_5) (View.ld x3 r0_4) (View.ld x4 r0_6)) (View.ld x7 r0_7)) (View.ld x8 r0_9)) (View.ld x11 r0_10) (View.ld x9 r0_8) (View.ld x10 r0_8)))⟩] := by
  rfl

theorem v_a_eq : out0_16 x0 x1 x2 x3 x4 x5 x6 x7 x8 x9 x10 x11 x12 = View.canon (Val := Elt F) [
    ⟨r0_23, beside (vCols (rowsTimes (normRows (View.ld x6 r0_0) (View.ld x6 r0_1) (mixedRows (View.ld x5 r0_21) (View.ld x0 r0_3) (View.ld x1 r0_22) (View.ld x2 r0_23) (View.ld x3 r0_22) (View.ld x4 r0_6)) (View.ld x7 r0_7)) (View.ld x8 r0_9)))⟩,
    ⟨r0_19, beside (vCols (rowsTimes (normRows (View.ld x6 r0_0) (View.ld x6 r0_1) (mixedRows (View.ld x5 r0_17) (View.ld x0 r0_3) (View.ld x1 r0_18) (View.ld x2 r0_19) (View.ld x3 r0_18) (View.ld x4 r0_6)) (View.ld x7 r0_7)) (View.ld x8 r0_9)))⟩,
    ⟨r0_15, beside (vCols (rowsTimes (normRows (View.ld x6 r0_0) (View.ld x6 r0_1) (mixedRows (View.ld x5 r0_13) (View.ld x0 r0_3) (View.ld x1 r0_14) (View.ld x2 r0_15) (View.ld x3 r0_14) (View.ld x4 r0_6)) (View.ld x7 r0_7)) (View.ld x8 r0_9)))⟩,
    ⟨r0_5, beside (vCols (rowsTimes (normRows (View.ld x6 r0_0) (View.ld x6 r0_1) (mixedRows (View.ld x5 r0_2) (View.ld x0 r0_3) (View.ld x1 r0_4) (View.ld x2 r0_5) (View.ld x3 r0_4) (View.ld x4 r0_6)) (View.ld x7 r0_7)) (View.ld x8 r0_9)))⟩] := by
  rfl

theorem g_a_eq : out0_17 x0 x1 x2 x3 x4 x5 x6 x7 x8 x9 x10 x11 x12 = View.canon (Val := Elt F) [
    ⟨r0_22, gStored (rowsTimes (normRows (View.ld x6 r0_0) (View.ld x6 r0_1) (mixedRows (View.ld x5 r0_21) (View.ld x0 r0_3) (View.ld x1 r0_22) (View.ld x2 r0_23) (View.ld x3 r0_22) (View.ld x4 r0_6)) (View.ld x7 r0_7)) (View.ld x8 r0_9))⟩,
    ⟨r0_18, gStored (rowsTimes (normRows (View.ld x6 r0_0) (View.ld x6 r0_1) (mixedRows (View.ld x5 r0_17) (View.ld x0 r0_3) (View.ld x1 r0_18) (View.ld x2 r0_19) (View.ld x3 r0_18) (View.ld x4 r0_6)) (View.ld x7 r0_7)) (View.ld x8 r0_9))⟩,
    ⟨r0_14, gStored (rowsTimes (normRows (View.ld x6 r0_0) (View.ld x6 r0_1) (mixedRows (View.ld x5 r0_13) (View.ld x0 r0_3) (View.ld x1 r0_14) (View.ld x2 r0_15) (View.ld x3 r0_14) (View.ld x4 r0_6)) (View.ld x7 r0_7)) (View.ld x8 r0_9))⟩,
    ⟨r0_4, gStored (rowsTimes (normRows (View.ld x6 r0_0) (View.ld x6 r0_1) (mixedRows (View.ld x5 r0_2) (View.ld x0 r0_3) (View.ld x1 r0_4) (View.ld x2 r0_5) (View.ld x3 r0_4) (View.ld x4 r0_6)) (View.ld x7 r0_7)) (View.ld x8 r0_9))⟩] := by
  rfl

theorem q_c_eq : out0_19 x0 x1 x2 x3 x4 x5 x6 x7 x8 x9 x10 x11 x12 = View.canon (Val := Elt F) [
    ⟨r0_22, qStored (queriesKeys (rowsTimes (normRows (View.ld x6 r0_0) (View.ld x6 r0_1) (mixedRows (View.ld x5 r0_21) (View.ld x0 r0_3) (View.ld x1 r0_22) (View.ld x2 r0_23) (View.ld x3 r0_22) (View.ld x4 r0_6)) (View.ld x7 r0_7)) (View.ld x8 r0_11)) (View.ld x12 r0_10) (View.ld x9 r0_24) (View.ld x10 r0_24))⟩,
    ⟨r0_18, qStored (queriesKeys (rowsTimes (normRows (View.ld x6 r0_0) (View.ld x6 r0_1) (mixedRows (View.ld x5 r0_17) (View.ld x0 r0_3) (View.ld x1 r0_18) (View.ld x2 r0_19) (View.ld x3 r0_18) (View.ld x4 r0_6)) (View.ld x7 r0_7)) (View.ld x8 r0_11)) (View.ld x12 r0_10) (View.ld x9 r0_20) (View.ld x10 r0_20))⟩,
    ⟨r0_14, qStored (queriesKeys (rowsTimes (normRows (View.ld x6 r0_0) (View.ld x6 r0_1) (mixedRows (View.ld x5 r0_13) (View.ld x0 r0_3) (View.ld x1 r0_14) (View.ld x2 r0_15) (View.ld x3 r0_14) (View.ld x4 r0_6)) (View.ld x7 r0_7)) (View.ld x8 r0_11)) (View.ld x12 r0_10) (View.ld x9 r0_16) (View.ld x10 r0_16))⟩,
    ⟨r0_4, qStored (queriesKeys (rowsTimes (normRows (View.ld x6 r0_0) (View.ld x6 r0_1) (mixedRows (View.ld x5 r0_2) (View.ld x0 r0_3) (View.ld x1 r0_4) (View.ld x2 r0_5) (View.ld x3 r0_4) (View.ld x4 r0_6)) (View.ld x7 r0_7)) (View.ld x8 r0_11)) (View.ld x12 r0_10) (View.ld x9 r0_8) (View.ld x10 r0_8))⟩] := by
  rfl

theorem k_c_eq : out0_20 x0 x1 x2 x3 x4 x5 x6 x7 x8 x9 x10 x11 x12 = View.canon (Val := Elt F) [
    ⟨r0_23, beside (chunk3 (queriesKeys (rowsTimes (normRows (View.ld x6 r0_0) (View.ld x6 r0_1) (mixedRows (View.ld x5 r0_21) (View.ld x0 r0_3) (View.ld x1 r0_22) (View.ld x2 r0_23) (View.ld x3 r0_22) (View.ld x4 r0_6)) (View.ld x7 r0_7)) (View.ld x8 r0_11)) (View.ld x12 r0_10) (View.ld x9 r0_24) (View.ld x10 r0_24)))⟩,
    ⟨r0_19, beside (chunk3 (queriesKeys (rowsTimes (normRows (View.ld x6 r0_0) (View.ld x6 r0_1) (mixedRows (View.ld x5 r0_17) (View.ld x0 r0_3) (View.ld x1 r0_18) (View.ld x2 r0_19) (View.ld x3 r0_18) (View.ld x4 r0_6)) (View.ld x7 r0_7)) (View.ld x8 r0_11)) (View.ld x12 r0_10) (View.ld x9 r0_20) (View.ld x10 r0_20)))⟩,
    ⟨r0_15, beside (chunk3 (queriesKeys (rowsTimes (normRows (View.ld x6 r0_0) (View.ld x6 r0_1) (mixedRows (View.ld x5 r0_13) (View.ld x0 r0_3) (View.ld x1 r0_14) (View.ld x2 r0_15) (View.ld x3 r0_14) (View.ld x4 r0_6)) (View.ld x7 r0_7)) (View.ld x8 r0_11)) (View.ld x12 r0_10) (View.ld x9 r0_16) (View.ld x10 r0_16)))⟩,
    ⟨r0_5, beside (chunk3 (queriesKeys (rowsTimes (normRows (View.ld x6 r0_0) (View.ld x6 r0_1) (mixedRows (View.ld x5 r0_2) (View.ld x0 r0_3) (View.ld x1 r0_4) (View.ld x2 r0_5) (View.ld x3 r0_4) (View.ld x4 r0_6)) (View.ld x7 r0_7)) (View.ld x8 r0_11)) (View.ld x12 r0_10) (View.ld x9 r0_8) (View.ld x10 r0_8)))⟩] := by
  rfl

theorem v_c_eq : out0_21 x0 x1 x2 x3 x4 x5 x6 x7 x8 x9 x10 x11 x12 = View.canon (Val := Elt F) [
    ⟨r0_23, beside (vCols (rowsTimes (normRows (View.ld x6 r0_0) (View.ld x6 r0_1) (mixedRows (View.ld x5 r0_21) (View.ld x0 r0_3) (View.ld x1 r0_22) (View.ld x2 r0_23) (View.ld x3 r0_22) (View.ld x4 r0_6)) (View.ld x7 r0_7)) (View.ld x8 r0_11)))⟩,
    ⟨r0_19, beside (vCols (rowsTimes (normRows (View.ld x6 r0_0) (View.ld x6 r0_1) (mixedRows (View.ld x5 r0_17) (View.ld x0 r0_3) (View.ld x1 r0_18) (View.ld x2 r0_19) (View.ld x3 r0_18) (View.ld x4 r0_6)) (View.ld x7 r0_7)) (View.ld x8 r0_11)))⟩,
    ⟨r0_15, beside (vCols (rowsTimes (normRows (View.ld x6 r0_0) (View.ld x6 r0_1) (mixedRows (View.ld x5 r0_13) (View.ld x0 r0_3) (View.ld x1 r0_14) (View.ld x2 r0_15) (View.ld x3 r0_14) (View.ld x4 r0_6)) (View.ld x7 r0_7)) (View.ld x8 r0_11)))⟩,
    ⟨r0_5, beside (vCols (rowsTimes (normRows (View.ld x6 r0_0) (View.ld x6 r0_1) (mixedRows (View.ld x5 r0_2) (View.ld x0 r0_3) (View.ld x1 r0_4) (View.ld x2 r0_5) (View.ld x3 r0_4) (View.ld x4 r0_6)) (View.ld x7 r0_7)) (View.ld x8 r0_11)))⟩] := by
  rfl

theorem g_c_eq : out0_22 x0 x1 x2 x3 x4 x5 x6 x7 x8 x9 x10 x11 x12 = View.canon (Val := Elt F) [
    ⟨r0_22, gStored (rowsTimes (normRows (View.ld x6 r0_0) (View.ld x6 r0_1) (mixedRows (View.ld x5 r0_21) (View.ld x0 r0_3) (View.ld x1 r0_22) (View.ld x2 r0_23) (View.ld x3 r0_22) (View.ld x4 r0_6)) (View.ld x7 r0_7)) (View.ld x8 r0_11))⟩,
    ⟨r0_18, gStored (rowsTimes (normRows (View.ld x6 r0_0) (View.ld x6 r0_1) (mixedRows (View.ld x5 r0_17) (View.ld x0 r0_3) (View.ld x1 r0_18) (View.ld x2 r0_19) (View.ld x3 r0_18) (View.ld x4 r0_6)) (View.ld x7 r0_7)) (View.ld x8 r0_11))⟩,
    ⟨r0_14, gStored (rowsTimes (normRows (View.ld x6 r0_0) (View.ld x6 r0_1) (mixedRows (View.ld x5 r0_13) (View.ld x0 r0_3) (View.ld x1 r0_14) (View.ld x2 r0_15) (View.ld x3 r0_14) (View.ld x4 r0_6)) (View.ld x7 r0_7)) (View.ld x8 r0_11))⟩,
    ⟨r0_4, gStored (rowsTimes (normRows (View.ld x6 r0_0) (View.ld x6 r0_1) (mixedRows (View.ld x5 r0_2) (View.ld x0 r0_3) (View.ld x1 r0_4) (View.ld x2 r0_5) (View.ld x3 r0_4) (View.ld x4 r0_6)) (View.ld x7 r0_7)) (View.ld x8 r0_11))⟩] := by
  rfl

theorem hy_eq : out0_18 x0 x1 x2 x3 x4 x5 x6 x7 x8 x9 x10 x11 x12 = View.canon (Val := Elt F) [
    ⟨r0_21, hyStored (normRows (View.ld x6 r0_0) (View.ld x6 r0_1) (mixedRows (View.ld x5 r0_21) (View.ld x0 r0_3) (View.ld x1 r0_22) (View.ld x2 r0_23) (View.ld x3 r0_22) (View.ld x4 r0_6)) (View.ld x7 r0_7)) (View.ld x8 r0_12)⟩,
    ⟨r0_17, hyStored (normRows (View.ld x6 r0_0) (View.ld x6 r0_1) (mixedRows (View.ld x5 r0_17) (View.ld x0 r0_3) (View.ld x1 r0_18) (View.ld x2 r0_19) (View.ld x3 r0_18) (View.ld x4 r0_6)) (View.ld x7 r0_7)) (View.ld x8 r0_12)⟩,
    ⟨r0_13, hyStored (normRows (View.ld x6 r0_0) (View.ld x6 r0_1) (mixedRows (View.ld x5 r0_13) (View.ld x0 r0_3) (View.ld x1 r0_14) (View.ld x2 r0_15) (View.ld x3 r0_14) (View.ld x4 r0_6)) (View.ld x7 r0_7)) (View.ld x8 r0_12)⟩,
    ⟨r0_2, hyStored (normRows (View.ld x6 r0_0) (View.ld x6 r0_1) (mixedRows (View.ld x5 r0_2) (View.ld x0 r0_3) (View.ld x1 r0_4) (View.ld x2 r0_5) (View.ld x3 r0_4) (View.ld x4 r0_6)) (View.ld x7 r0_7)) (View.ld x8 r0_12)⟩] := by
  rfl

end bodies

end Cert.Kernel4Ideal.Fused
end
-- ==== Proof.FusedBlock.lean ====
module
public import proofs.«01_k».proof.Proof.FusedBody
@[expose] public section
set_option maxRecDepth 16384
noncomputable section
open Idealize.ShloMosaic Idealize.ShloMosaic.TcCoe Idealize.SL.Sem

/-! The blocks the second layer's in_projection stores, read at an entry. -/

namespace Cert.Kernel4Ideal.Fused
open Cert.Kernel4Ideal Cert.Kernel4Ideal.Gen
open Cert.Kernel3Ideal.Proj (queriesKeys qStored beside chunk3 vCols gStored qRow kRow vRow gRow blkRow qBlock kBlock vBlock gBlock
  hyBlock modulated proj qStored_at queriesKeys_at beside_at chunk3_at vCols_at gStored_at canon_of ld_shift ld_scale ld_gain ld_heads
  ld_w0 ld_w1024 ld_w2048 ld_x0 ld_x256 ld_x512 ld_x768 ld_t0 ld_t256 ld_t512 ld_t768)
open Cert.Kernel2Ideal.Out (catAt)

theorem mixedRows_at (x : FVec Ideal S1x256x1024 .f32) (g : FVec Ideal S1x1x1024 .f32) (a : FVec Ideal S1x256x384 .bf16)
    (b : FVec Ideal S1x256x256 .bf16) (c : FVec Ideal S1x256x384 .bf16) (w : FVec Ideal S1024x1024 .bf16) (r : Fin 256) (k : Fin 1024) :
    mixedRows (F := Ideal) x g a b c w (ix2 r k) = x (ix3 0 r k) + g (ix3 0 0 k) * ∑ d : Fin 1024,
      catAt (fun k => a (ix3 0 r k)) (fun k => b (ix3 0 r k)) (fun k => c (ix3 0 r k)) d * w (ix2 d k) := by
  pointwise [mixedRows, k0_pay4]
  rfl

theorem normRows_at (v0 v2 : FVec Ideal S1x1x1024 .f32) (x : FVec Ideal S256x1024 .f32) (v16 : FVec Ideal S1x1024 .f32)
    (r : Fin 256) (d : Fin 1024) : normRows (F := Ideal) v0 v2 x v16 (ix2 r d) =
      modulated (fun k => x (ix2 r k)) (fun k => v16 (ix2 0 k)) (fun k => v2 (ix3 0 0 k)) (fun k => v0 (ix3 0 0 k)) d := by
  pointwise [normRows, k0_pay8, k0_pay2, k0_pay3, k0_pay7]
  rfl

theorem rowsTimes_at (h : FVec Ideal S256x1024 .bf16) (w : FVec Ideal S1024x1024 .bf16) (r : Fin 256) (k : Fin 1024) :
    rowsTimes (F := Ideal) h w (ix2 r k) = ∑ d : Fin 1024, h (ix2 r d) * w (ix2 d k) := by
  pointwise [rowsTimes]

theorem hyStored_at (h : FVec Ideal S256x1024 .bf16) (w : FVec Ideal S1024x1024 .bf16) (r : Fin 256) (k : Fin 1024) :
    hyStored (F := Ideal) h w (ix3 0 r k) = ∑ d : Fin 1024, h (ix2 r d) * w (ix2 d k) := by
  pointwise [hyStored, k0_pay57]

theorem xStored_at (x : FVec Ideal S256x1024 .f32) (r : Fin 256) (k : Fin 1024) : xStored (F := Ideal) x (ix3 0 r k) = x (ix2 r k) := by
  pointwise [xStored]

variable (x0 : FVec Ideal S1x1x1024 .f32) (x1 : FVec Ideal S1x1024x384 .bf16) (x2 : FVec Ideal S1x1024x256 .bf16) (x3 : FVec Ideal S1x1024x384 .bf16)
  (x4 : FVec Ideal S1024x1024 .bf16) (x5 : FVec Ideal S1x1024x1024 .f32) (x6 : FVec Ideal S1x1x3072 .f32) (x7 : FVec Ideal S1x1024 .f32)
  (x8 : FVec Ideal S1024x3072 .bf16) (x9 x10 : FVec Ideal S1024x128 .f32) (x11 x12 : FVec Ideal S1x512 .f32)

/-- The block's rows with the previous layer's output projection added. -/
def newX : FVec Ideal S1x1024x1024 .f32 := fun y => x5 (ix3 0 (y 1) (y 2)) + x0 (ix3 0 0 (y 2)) * ∑ d : Fin 1024,
  catAt (fun k => x1 (ix3 0 (y 1) k)) (fun k => x2 (ix3 0 (y 1) k)) (fun k => x3 (ix3 0 (y 1) k)) d * x4 (ix2 d (y 2))

theorem mixed_of (n : ℕ) (hn : n + 256 ≤ 1024) (x : FVec Ideal S1x256x1024 .f32) (g : FVec Ideal S1x1x1024 .f32) (a : FVec Ideal S1x256x384 .bf16)
    (b : FVec Ideal S1x256x256 .bf16) (c : FVec Ideal S1x256x384 .bf16) (w : FVec Ideal S1024x1024 .bf16)
    (hx : ∀ (r : Fin 256) (k : Fin 1024), x (ix3 0 r k) = x5 (ix3 0 ⟨n + r.val, by omega⟩ k))
    (hg : ∀ k : Fin 1024, g (ix3 0 0 k) = x0 (ix3 0 0 k))
    (ha : ∀ (r : Fin 256) (k : Fin 384), a (ix3 0 r k) = x1 (ix3 0 ⟨n + r.val, by omega⟩ k))
    (hb : ∀ (r : Fin 256) (k : Fin 256), b (ix3 0 r k) = x2 (ix3 0 ⟨n + r.val, by omega⟩ k))
    (hc : ∀ (r : Fin 256) (k : Fin 384), c (ix3 0 r k) = x3 (ix3 0 ⟨n + r.val, by omega⟩ k))
    (hw : ∀ d k : Fin 1024, w (ix2 d k) = x4 (ix2 d k)) (r : Fin 256) (k : Fin 1024) :
    mixedRows (F := Ideal) x g a b c w (ix2 r k) = newX x0 x1 x2 x3 x4 x5 (ix3 0 ⟨n + r.val, by omega⟩ k) := by
  rw [mixedRows_at]
  simp only [hx, hg, ha, hb, hc, hw]
  rfl

theorem ld_gate (k : Fin 1024) : (View.ld (Val := Elt Ideal) (e' := .f32) x0 r0_3 : FVec Ideal S1x1x1024 .f32) (ix3 0 0 k) = x0 (ix3 0 0 k) := by
  pointwise []

theorem ld_wo (d k : Fin 1024) : (View.ld (Val := Elt Ideal) (e' := .bf16) x4 r0_6 : FVec Ideal S1024x1024 .bf16) (ix2 d k) = x4 (ix2 d k) := by
  pointwise []

theorem ld_a768 (r : Fin 256) (k : Fin 384) : (View.ld (Val := Elt Ideal) (e' := .bf16) x1 r0_22 : FVec Ideal S1x256x384 .bf16) (ix3 0 r k) = x1 (ix3 0 ⟨768 + r.val, by omega⟩ k) := by
  pointwise []

theorem ld_b768 (r : Fin 256) (k : Fin 256) : (View.ld (Val := Elt Ideal) (e' := .bf16) x2 r0_23 : FVec Ideal S1x256x256 .bf16) (ix3 0 r k) = x2 (ix3 0 ⟨768 + r.val, by omega⟩ k) := by
  pointwise []

theorem mixed768 (r : Fin 256) (k : Fin 1024) : (mixedRows (F := Ideal) (View.ld x5 r0_21) (View.ld x0 r0_3) (View.ld x1 r0_22) (View.ld x2 r0_23) (View.ld x3 r0_22) (View.ld x4 r0_6)) (ix2 r k) =
    newX x0 x1 x2 x3 x4 x5 (ix3 0 ⟨768 + r.val, by omega⟩ k) := by
  exact mixed_of x0 x1 x2 x3 x4 x5 768 (by decide) _ _ _ _ _ _ (ld_x768 x5) (ld_gate x0) (ld_a768 x1) (ld_b768 x2) (ld_a768 x3) (ld_wo x4) r k

theorem ld_a512 (r : Fin 256) (k : Fin 384) : (View.ld (Val := Elt Ideal) (e' := .bf16) x1 r0_18 : FVec Ideal S1x256x384 .bf16) (ix3 0 r k) = x1 (ix3 0 ⟨512 + r.val, by omega⟩ k) := by
  pointwise []

theorem ld_b512 (r : Fin 256) (k : Fin 256) : (View.ld (Val := Elt Ideal) (e' := .bf16) x2 r0_19 : FVec Ideal S1x256x256 .bf16) (ix3 0 r k) = x2 (ix3 0 ⟨512 + r.val, by omega⟩ k) := by
  pointwise []

theorem mixed512 (r : Fin 256) (k : Fin 1024) : (mixedRows (F := Ideal) (View.ld x5 r0_17) (View.ld x0 r0_3) (View.ld x1 r0_18) (View.ld x2 r0_19) (View.ld x3 r0_18) (View.ld x4 r0_6)) (ix2 r k) =
    newX x0 x1 x2 x3 x4 x5 (ix3 0 ⟨512 + r.val, by omega⟩ k) := by
  exact mixed_of x0 x1 x2 x3 x4 x5 512 (by decide) _ _ _ _ _ _ (ld_x512 x5) (ld_gate x0) (ld_a512 x1) (ld_b512 x2) (ld_a512 x3) (ld_wo x4) r k

theorem ld_a256 (r : Fin 256) (k : Fin 384) : (View.ld (Val := Elt Ideal) (e' := .bf16) x1 r0_14 : FVec Ideal S1x256x384 .bf16) (ix3 0 r k) = x1 (ix3 0 ⟨256 + r.val, by omega⟩ k) := by
  pointwise []

theorem ld_b256 (r : Fin 256) (k : Fin 256) : (View.ld (Val := Elt Ideal) (e' := .bf16) x2 r0_15 : FVec Ideal S1x256x256 .bf16) (ix3 0 r k) = x2 (ix3 0 ⟨256 + r.val, by omega⟩ k) := by
  pointwise []

theorem mixed256 (r : Fin 256) (k : Fin 1024) : (mixedRows (F := Ideal) (View.ld x5 r0_13) (View.ld x0 r0_3) (View.ld x1 r0_14) (View.ld x2 r0_15) (View.ld x3 r0_14) (View.ld x4 r0_6)) (ix2 r k) =
    newX x0 x1 x2 x3 x4 x5 (ix3 0 ⟨256 + r.val, by omega⟩ k) := by
  exact mixed_of x0 x1 x2 x3 x4 x5 256 (by decide) _ _ _ _ _ _ (ld_x256 x5) (ld_gate x0) (ld_a256 x1) (ld_b256 x2) (ld_a256 x3) (ld_wo x4) r k

theorem ld_a0 (r : Fin 256) (k : Fin 384) : (View.ld (Val := Elt Ideal) (e' := .bf16) x1 r0_4 : FVec Ideal S1x256x384 .bf16) (ix3 0 r k) = x1 (ix3 0 ⟨0 + r.val, by omega⟩ k) := by
  pointwise []

theorem ld_b0 (r : Fin 256) (k : Fin 256) : (View.ld (Val := Elt Ideal) (e' := .bf16) x2 r0_5 : FVec Ideal S1x256x256 .bf16) (ix3 0 r k) = x2 (ix3 0 ⟨0 + r.val, by omega⟩ k) := by
  pointwise []

theorem mixed0 (r : Fin 256) (k : Fin 1024) : (mixedRows (F := Ideal) (View.ld x5 r0_2) (View.ld x0 r0_3) (View.ld x1 r0_4) (View.ld x2 r0_5) (View.ld x3 r0_4) (View.ld x4 r0_6)) (ix2 r k) =
    newX x0 x1 x2 x3 x4 x5 (ix3 0 ⟨0 + r.val, by omega⟩ k) := by
  exact mixed_of x0 x1 x2 x3 x4 x5 0 (by decide) _ _ _ _ _ _ (ld_x0 x5) (ld_gate x0) (ld_a0 x1) (ld_b0 x2) (ld_a0 x3) (ld_wo x4) r k

/-- Projected rows, as the block's rows. -/
theorem rows_at (X : FVec Ideal S1x1024x1024 .f32) (o : ℕ) (ho : o + 1024 ≤ 3072) (n : ℕ) (hn : n + 256 ≤ 1024) (v0 v2 : FVec Ideal S1x1x1024 .f32)
    (x : FVec Ideal S256x1024 .f32) (v16 : FVec Ideal S1x1024 .f32) (w : FVec Ideal S1024x1024 .bf16)
    (h0 : ∀ k : Fin 1024, v0 (ix3 0 0 k) = x6 (ix3 0 0 ⟨k.val, by omega⟩))
    (h2 : ∀ k : Fin 1024, v2 (ix3 0 0 k) = x6 (ix3 0 0 ⟨1024 + k.val, by omega⟩))
    (h4 : ∀ (r : Fin 256) (k : Fin 1024), x (ix2 r k) = X (ix3 0 ⟨n + r.val, by omega⟩ k))
    (h16 : ∀ k : Fin 1024, v16 (ix2 0 k) = x7 (ix2 0 k))
    (hw : ∀ d k : Fin 1024, w (ix2 d k) = x8 (ix2 d ⟨o + k.val, by omega⟩)) (r : Fin 256) (k : Fin 1024) :
    ∑ d : Fin 1024, normRows (F := Ideal) v0 v2 x v16 (ix2 r d) * w (ix2 d k) = blkRow X x6 x7 x8 o ho ⟨n + r.val, by omega⟩ k := by
  unfold blkRow proj
  simp only [normRows_at, h0, h2, h4, h16, hw]

theorem q_tile (p : FVec Ideal S256x1024 .f32) (R : Fin 1024 → Fin 1024 → EReal) (n : ℕ) (hn : n + 256 ≤ 1024)
    (hp : ∀ (r : Fin 256) (k : Fin 1024), p (ix2 r k) = R ⟨n + r.val, by omega⟩ k)
    (g u : FVec Ideal S1x512 .f32) (hg : ∀ k : Fin 512, u (ix2 0 k) = g (ix2 0 k))
    (c s : FVec Ideal S256x128 .f32) (hc : ∀ (r : Fin 256) (k : Fin 128), c (ix2 r k) = x9 (ix2 ⟨n + r.val, by omega⟩ k))
    (hs : ∀ (r : Fin 256) (k : Fin 128), s (ix2 r k) = x10 (ix2 ⟨n + r.val, by omega⟩ k)) (r : Fin 256) (k : Fin 384) (l : Fin 1024) (k' : Fin 384)
    (hl : l.val = n + r.val) (hk : k'.val = k.val) :
    qStored (F := Ideal) (queriesKeys p u c s) (ix3 0 r k) = qRow (R l) (fun k => g (ix2 0 k)) (fun j => x9 (ix2 l j)) (fun j => x10 (ix2 l j)) k' := by
  have hlt : n + r.val < 1024 := by omega
  obtain rfl : l = ⟨n + r.val, hlt⟩ := Fin.ext hl
  obtain rfl : k' = k := Fin.ext hk
  refine (qStored_at _ r k').trans ((queriesKeys_at _ _ _ _ _ _).trans ?_)
  simp only [hp, hg, hc, hs]
  rfl

theorem k_tile (p : FVec Ideal S256x1024 .f32) (R : Fin 1024 → Fin 1024 → EReal) (n : ℕ) (hn : n + 256 ≤ 1024)
    (hp : ∀ (r : Fin 256) (k : Fin 1024), p (ix2 r k) = R ⟨n + r.val, by omega⟩ k)
    (g u : FVec Ideal S1x512 .f32) (hg : ∀ k : Fin 512, u (ix2 0 k) = g (ix2 0 k))
    (c s : FVec Ideal S256x128 .f32) (hc : ∀ (r : Fin 256) (k : Fin 128), c (ix2 r k) = x9 (ix2 ⟨n + r.val, by omega⟩ k))
    (hs : ∀ (r : Fin 256) (k : Fin 128), s (ix2 r k) = x10 (ix2 ⟨n + r.val, by omega⟩ k)) (r : Fin 256) (k : Fin 256) (l : Fin 1024) (k' : Fin 256)
    (hl : l.val = n + r.val) (hk : k'.val = k.val) :
    beside (F := Ideal) (chunk3 (queriesKeys p u c s)) (ix3 0 r k) = kRow (R l) (fun k => g (ix2 0 k)) (fun j => x9 (ix2 l j)) (fun j => x10 (ix2 l j)) k' := by
  have hlt : n + r.val < 1024 := by omega
  obtain rfl : l = ⟨n + r.val, hlt⟩ := Fin.ext hl
  obtain rfl : k' = k := Fin.ext hk
  refine (beside_at _ r k').trans ((chunk3_at _ _ _).trans ((queriesKeys_at _ _ _ _ _ _).trans ?_))
  simp only [hp, hg, hc, hs]
  rfl

theorem v_tile (p : FVec Ideal S256x1024 .f32) (R : Fin 1024 → Fin 1024 → EReal) (n : ℕ) (hn : n + 256 ≤ 1024)
    (hp : ∀ (r : Fin 256) (k : Fin 1024), p (ix2 r k) = R ⟨n + r.val, by omega⟩ k) (r : Fin 256) (k : Fin 256) (l : Fin 1024) (k' : Fin 256)
    (hl : l.val = n + r.val) (hk : k'.val = k.val) :
    beside (F := Ideal) (vCols p) (ix3 0 r k) = vRow (R l) k' := by
  have hlt : n + r.val < 1024 := by omega
  obtain rfl : l = ⟨n + r.val, hlt⟩ := Fin.ext hl
  obtain rfl : k' = k := Fin.ext hk
  refine (beside_at _ r k').trans ((vCols_at _ _ _).trans ?_)
  rw [hp]
  rfl

theorem g_tile (p : FVec Ideal S256x1024 .f32) (R : Fin 1024 → Fin 1024 → EReal) (n : ℕ) (hn : n + 256 ≤ 1024)
    (hp : ∀ (r : Fin 256) (k : Fin 1024), p (ix2 r k) = R ⟨n + r.val, by omega⟩ k) (r : Fin 256) (k : Fin 384) (l : Fin 1024) (k' : Fin 384)
    (hl : l.val = n + r.val) (hk : k'.val = k.val) :
    gStored (F := Ideal) p (ix3 0 r k) = gRow (R l) k' := by
  have hlt : n + r.val < 1024 := by omega
  obtain rfl : l = ⟨n + r.val, hlt⟩ := Fin.ext hl
  obtain rfl : k' = k := Fin.ext hk
  refine (gStored_at _ r k').trans ?_
  rw [hp]
  rfl

theorem hy_tile (X : FVec Ideal S1x1024x1024 .f32) (n : ℕ) (hn : n + 256 ≤ 1024) (v0 v2 : FVec Ideal S1x1x1024 .f32)
    (x : FVec Ideal S256x1024 .f32) (v16 : FVec Ideal S1x1024 .f32) (w : FVec Ideal S1024x1024 .bf16)
    (h0 : ∀ k : Fin 1024, v0 (ix3 0 0 k) = x6 (ix3 0 0 ⟨k.val, by omega⟩))
    (h2 : ∀ k : Fin 1024, v2 (ix3 0 0 k) = x6 (ix3 0 0 ⟨1024 + k.val, by omega⟩))
    (h4 : ∀ (r : Fin 256) (k : Fin 1024), x (ix2 r k) = X (ix3 0 ⟨n + r.val, by omega⟩ k))
    (h16 : ∀ k : Fin 1024, v16 (ix2 0 k) = x7 (ix2 0 k))
    (hw : ∀ d k : Fin 1024, w (ix2 d k) = x8 (ix2 d ⟨1024 + k.val, by omega⟩)) (r : Fin 256) (k : Fin 1024) (l : Fin 1024) (k' : Fin 1024)
    (hl : l.val = n + r.val) (hk : k'.val = k.val) :
    hyStored (F := Ideal) (normRows v0 v2 x v16) w (ix3 0 r k) = blkRow X x6 x7 x8 1024 (by decide) l k' := by
  have hlt : n + r.val < 1024 := by omega
  obtain rfl : l = ⟨n + r.val, hlt⟩ := Fin.ext hl
  obtain rfl : k' = k := Fin.ext hk
  exact (hyStored_at _ _ r k').trans (rows_at x6 x7 x8 X 1024 (by decide) n hn v0 v2 x v16 w h0 h2 h4 h16 hw r k')

theorem x_at (y : S1x1024x1024.Idx) : out0_13 (F := Ideal) x0 x1 x2 x3 x4 x5 x6 x7 x8 x9 x10 x11 x12 y = newX x0 x1 x2 x3 x4 x5 y := by
  rw [x_eq]
  refine canon_of _ _ ?_ _ (View.cover_of_tiledBy _ ![1, 256, 1024] (by sl_kernel_rfl) _)
  refine ⟨?_, ?_, ?_, ?_, trivial⟩ <;> intro y <;> obtain ⟨i0, i1, i2, rfl⟩ : ∃ (i0 : Fin 1) (i1 : Fin 256) (i2 : Fin 1024), y = ix3 i0 i1 i2 := ⟨y 0, y 1, y 2, eq_ix3 y⟩ <;>
    obtain rfl : i0 = 0 := Subsingleton.elim _ _
  · exact (xStored_at _ i1 i2).trans ((mixed768 x0 x1 x2 x3 x4 x5 i1 i2).trans (congrArg (newX x0 x1 x2 x3 x4 x5) (by funext a; fin_cases a <;> exact Fin.ext (by simp [Rect.emb_apply]))))
  · exact (xStored_at _ i1 i2).trans ((mixed512 x0 x1 x2 x3 x4 x5 i1 i2).trans (congrArg (newX x0 x1 x2 x3 x4 x5) (by funext a; fin_cases a <;> exact Fin.ext (by simp [Rect.emb_apply]))))
  · exact (xStored_at _ i1 i2).trans ((mixed256 x0 x1 x2 x3 x4 x5 i1 i2).trans (congrArg (newX x0 x1 x2 x3 x4 x5) (by funext a; fin_cases a <;> exact Fin.ext (by simp [Rect.emb_apply]))))
  · exact (xStored_at _ i1 i2).trans ((mixed0 x0 x1 x2 x3 x4 x5 i1 i2).trans (congrArg (newX x0 x1 x2 x3 x4 x5) (by funext a; fin_cases a <;> exact Fin.ext (by simp [Rect.emb_apply]))))

theorem q_a_at (y : S1x1024x384.Idx) : out0_14 (F := Ideal) x0 x1 x2 x3 x4 x5 x6 x7 x8 x9 x10 x11 x12 y = qBlock (newX x0 x1 x2 x3 x4 x5) x6 x7 x8 x9 x10 0 (by decide) x11 y := by
  rw [q_a_eq]
  refine canon_of _ _ ?_ _ (View.cover_of_tiledBy _ ![1, 256, 384] (by sl_kernel_rfl) _)
  refine ⟨?_, ?_, ?_, ?_, trivial⟩ <;> intro y <;> obtain ⟨i0, i1, i2, rfl⟩ : ∃ (i0 : Fin 1) (i1 : Fin 256) (i2 : Fin 384), y = ix3 i0 i1 i2 := ⟨y 0, y 1, y 2, eq_ix3 y⟩ <;>
    obtain rfl : i0 = 0 := Subsingleton.elim _ _
  · exact q_tile x9 x10 _ (blkRow (newX x0 x1 x2 x3 x4 x5) x6 x7 x8 0 (by decide)) 768 (by decide) (fun r k => (rowsTimes_at _ _ r k).trans (rows_at x6 x7 x8 (newX x0 x1 x2 x3 x4 x5) 0 (by decide) 768 (by decide) _ _ _ _ _ (ld_shift x6) (ld_scale x6) (mixed768 x0 x1 x2 x3 x4 x5) (ld_gain x7) (ld_w0 x8) r k)) x11 _ (ld_heads x11) _ _ (ld_t768 x9) (ld_t768 x10) i1 i2 _ _ (by simp [Rect.emb_apply]) (by simp [Rect.emb_apply])
  · exact q_tile x9 x10 _ (blkRow (newX x0 x1 x2 x3 x4 x5) x6 x7 x8 0 (by decide)) 512 (by decide) (fun r k => (rowsTimes_at _ _ r k).trans (rows_at x6 x7 x8 (newX x0 x1 x2 x3 x4 x5) 0 (by decide) 512 (by decide) _ _ _ _ _ (ld_shift x6) (ld_scale x6) (mixed512 x0 x1 x2 x3 x4 x5) (ld_gain x7) (ld_w0 x8) r k)) x11 _ (ld_heads x11) _ _ (ld_t512 x9) (ld_t512 x10) i1 i2 _ _ (by simp [Rect.emb_apply]) (by simp [Rect.emb_apply])
  · exact q_tile x9 x10 _ (blkRow (newX x0 x1 x2 x3 x4 x5) x6 x7 x8 0 (by decide)) 256 (by decide) (fun r k => (rowsTimes_at _ _ r k).trans (rows_at x6 x7 x8 (newX x0 x1 x2 x3 x4 x5) 0 (by decide) 256 (by decide) _ _ _ _ _ (ld_shift x6) (ld_scale x6) (mixed256 x0 x1 x2 x3 x4 x5) (ld_gain x7) (ld_w0 x8) r k)) x11 _ (ld_heads x11) _ _ (ld_t256 x9) (ld_t256 x10) i1 i2 _ _ (by simp [Rect.emb_apply]) (by simp [Rect.emb_apply])
  · exact q_tile x9 x10 _ (blkRow (newX x0 x1 x2 x3 x4 x5) x6 x7 x8 0 (by decide)) 0 (by decide) (fun r k => (rowsTimes_at _ _ r k).trans (rows_at x6 x7 x8 (newX x0 x1 x2 x3 x4 x5) 0 (by decide) 0 (by decide) _ _ _ _ _ (ld_shift x6) (ld_scale x6) (mixed0 x0 x1 x2 x3 x4 x5) (ld_gain x7) (ld_w0 x8) r k)) x11 _ (ld_heads x11) _ _ (ld_t0 x9) (ld_t0 x10) i1 i2 _ _ (by simp [Rect.emb_apply]) (by simp [Rect.emb_apply])

theorem k_a_at (y : S1x1024x256.Idx) : out0_15 (F := Ideal) x0 x1 x2 x3 x4 x5 x6 x7 x8 x9 x10 x11 x12 y = kBlock (newX x0 x1 x2 x3 x4 x5) x6 x7 x8 x9 x10 0 (by decide) x11 y := by
  rw [k_a_eq]
  refine canon_of _ _ ?_ _ (View.cover_of_tiledBy _ ![1, 256, 256] (by sl_kernel_rfl) _)
  refine ⟨?_, ?_, ?_, ?_, trivial⟩ <;> intro y <;> obtain ⟨i0, i1, i2, rfl⟩ : ∃ (i0 : Fin 1) (i1 : Fin 256) (i2 : Fin 256), y = ix3 i0 i1 i2 := ⟨y 0, y 1, y 2, eq_ix3 y⟩ <;>
    obtain rfl : i0 = 0 := Subsingleton.elim _ _
  · exact k_tile x9 x10 _ (blkRow (newX x0 x1 x2 x3 x4 x5) x6 x7 x8 0 (by decide)) 768 (by decide) (fun r k => (rowsTimes_at _ _ r k).trans (rows_at x6 x7 x8 (newX x0 x1 x2 x3 x4 x5) 0 (by decide) 768 (by decide) _ _ _ _ _ (ld_shift x6) (ld_scale x6) (mixed768 x0 x1 x2 x3 x4 x5) (ld_gain x7) (ld_w0 x8) r k)) x11 _ (ld_heads x11) _ _ (ld_t768 x9) (ld_t768 x10) i1 i2 _ _ (by simp [Rect.emb_apply]) (by simp [Rect.emb_apply])
  · exact k_tile x9 x10 _ (blkRow (newX x0 x1 x2 x3 x4 x5) x6 x7 x8 0 (by decide)) 512 (by decide) (fun r k => (rowsTimes_at _ _ r k).trans (rows_at x6 x7 x8 (newX x0 x1 x2 x3 x4 x5) 0 (by decide) 512 (by decide) _ _ _ _ _ (ld_shift x6) (ld_scale x6) (mixed512 x0 x1 x2 x3 x4 x5) (ld_gain x7) (ld_w0 x8) r k)) x11 _ (ld_heads x11) _ _ (ld_t512 x9) (ld_t512 x10) i1 i2 _ _ (by simp [Rect.emb_apply]) (by simp [Rect.emb_apply])
  · exact k_tile x9 x10 _ (blkRow (newX x0 x1 x2 x3 x4 x5) x6 x7 x8 0 (by decide)) 256 (by decide) (fun r k => (rowsTimes_at _ _ r k).trans (rows_at x6 x7 x8 (newX x0 x1 x2 x3 x4 x5) 0 (by decide) 256 (by decide) _ _ _ _ _ (ld_shift x6) (ld_scale x6) (mixed256 x0 x1 x2 x3 x4 x5) (ld_gain x7) (ld_w0 x8) r k)) x11 _ (ld_heads x11) _ _ (ld_t256 x9) (ld_t256 x10) i1 i2 _ _ (by simp [Rect.emb_apply]) (by simp [Rect.emb_apply])
  · exact k_tile x9 x10 _ (blkRow (newX x0 x1 x2 x3 x4 x5) x6 x7 x8 0 (by decide)) 0 (by decide) (fun r k => (rowsTimes_at _ _ r k).trans (rows_at x6 x7 x8 (newX x0 x1 x2 x3 x4 x5) 0 (by decide) 0 (by decide) _ _ _ _ _ (ld_shift x6) (ld_scale x6) (mixed0 x0 x1 x2 x3 x4 x5) (ld_gain x7) (ld_w0 x8) r k)) x11 _ (ld_heads x11) _ _ (ld_t0 x9) (ld_t0 x10) i1 i2 _ _ (by simp [Rect.emb_apply]) (by simp [Rect.emb_apply])

theorem v_a_at (y : S1x1024x256.Idx) : out0_16 (F := Ideal) x0 x1 x2 x3 x4 x5 x6 x7 x8 x9 x10 x11 x12 y = vBlock (newX x0 x1 x2 x3 x4 x5) x6 x7 x8 0 (by decide) y := by
  rw [v_a_eq]
  refine canon_of _ _ ?_ _ (View.cover_of_tiledBy _ ![1, 256, 256] (by sl_kernel_rfl) _)
  refine ⟨?_, ?_, ?_, ?_, trivial⟩ <;> intro y <;> obtain ⟨i0, i1, i2, rfl⟩ : ∃ (i0 : Fin 1) (i1 : Fin 256) (i2 : Fin 256), y = ix3 i0 i1 i2 := ⟨y 0, y 1, y 2, eq_ix3 y⟩ <;>
    obtain rfl : i0 = 0 := Subsingleton.elim _ _
  · exact v_tile _ (blkRow (newX x0 x1 x2 x3 x4 x5) x6 x7 x8 0 (by decide)) 768 (by decide) (fun r k => (rowsTimes_at _ _ r k).trans (rows_at x6 x7 x8 (newX x0 x1 x2 x3 x4 x5) 0 (by decide) 768 (by decide) _ _ _ _ _ (ld_shift x6) (ld_scale x6) (mixed768 x0 x1 x2 x3 x4 x5) (ld_gain x7) (ld_w0 x8) r k)) i1 i2 _ _ (by simp [Rect.emb_apply]) (by simp [Rect.emb_apply])
  · exact v_tile _ (blkRow (newX x0 x1 x2 x3 x4 x5) x6 x7 x8 0 (by decide)) 512 (by decide) (fun r k => (rowsTimes_at _ _ r k).trans (rows_at x6 x7 x8 (newX x0 x1 x2 x3 x4 x5) 0 (by decide) 512 (by decide) _ _ _ _ _ (ld_shift x6) (ld_scale x6) (mixed512 x0 x1 x2 x3 x4 x5) (ld_gain x7) (ld_w0 x8) r k)) i1 i2 _ _ (by simp [Rect.emb_apply]) (by simp [Rect.emb_apply])
  · exact v_tile _ (blkRow (newX x0 x1 x2 x3 x4 x5) x6 x7 x8 0 (by decide)) 256 (by decide) (fun r k => (rowsTimes_at _ _ r k).trans (rows_at x6 x7 x8 (newX x0 x1 x2 x3 x4 x5) 0 (by decide) 256 (by decide) _ _ _ _ _ (ld_shift x6) (ld_scale x6) (mixed256 x0 x1 x2 x3 x4 x5) (ld_gain x7) (ld_w0 x8) r k)) i1 i2 _ _ (by simp [Rect.emb_apply]) (by simp [Rect.emb_apply])
  · exact v_tile _ (blkRow (newX x0 x1 x2 x3 x4 x5) x6 x7 x8 0 (by decide)) 0 (by decide) (fun r k => (rowsTimes_at _ _ r k).trans (rows_at x6 x7 x8 (newX x0 x1 x2 x3 x4 x5) 0 (by decide) 0 (by decide) _ _ _ _ _ (ld_shift x6) (ld_scale x6) (mixed0 x0 x1 x2 x3 x4 x5) (ld_gain x7) (ld_w0 x8) r k)) i1 i2 _ _ (by simp [Rect.emb_apply]) (by simp [Rect.emb_apply])

theorem g_a_at (y : S1x1024x384.Idx) : out0_17 (F := Ideal) x0 x1 x2 x3 x4 x5 x6 x7 x8 x9 x10 x11 x12 y = gBlock (newX x0 x1 x2 x3 x4 x5) x6 x7 x8 0 (by decide) y := by
  rw [g_a_eq]
  refine canon_of _ _ ?_ _ (View.cover_of_tiledBy _ ![1, 256, 384] (by sl_kernel_rfl) _)
  refine ⟨?_, ?_, ?_, ?_, trivial⟩ <;> intro y <;> obtain ⟨i0, i1, i2, rfl⟩ : ∃ (i0 : Fin 1) (i1 : Fin 256) (i2 : Fin 384), y = ix3 i0 i1 i2 := ⟨y 0, y 1, y 2, eq_ix3 y⟩ <;>
    obtain rfl : i0 = 0 := Subsingleton.elim _ _
  · exact g_tile _ (blkRow (newX x0 x1 x2 x3 x4 x5) x6 x7 x8 0 (by decide)) 768 (by decide) (fun r k => (rowsTimes_at _ _ r k).trans (rows_at x6 x7 x8 (newX x0 x1 x2 x3 x4 x5) 0 (by decide) 768 (by decide) _ _ _ _ _ (ld_shift x6) (ld_scale x6) (mixed768 x0 x1 x2 x3 x4 x5) (ld_gain x7) (ld_w0 x8) r k)) i1 i2 _ _ (by simp [Rect.emb_apply]) (by simp [Rect.emb_apply])
  · exact g_tile _ (blkRow (newX x0 x1 x2 x3 x4 x5) x6 x7 x8 0 (by decide)) 512 (by decide) (fun r k => (rowsTimes_at _ _ r k).trans (rows_at x6 x7 x8 (newX x0 x1 x2 x3 x4 x5) 0 (by decide) 512 (by decide) _ _ _ _ _ (ld_shift x6) (ld_scale x6) (mixed512 x0 x1 x2 x3 x4 x5) (ld_gain x7) (ld_w0 x8) r k)) i1 i2 _ _ (by simp [Rect.emb_apply]) (by simp [Rect.emb_apply])
  · exact g_tile _ (blkRow (newX x0 x1 x2 x3 x4 x5) x6 x7 x8 0 (by decide)) 256 (by decide) (fun r k => (rowsTimes_at _ _ r k).trans (rows_at x6 x7 x8 (newX x0 x1 x2 x3 x4 x5) 0 (by decide) 256 (by decide) _ _ _ _ _ (ld_shift x6) (ld_scale x6) (mixed256 x0 x1 x2 x3 x4 x5) (ld_gain x7) (ld_w0 x8) r k)) i1 i2 _ _ (by simp [Rect.emb_apply]) (by simp [Rect.emb_apply])
  · exact g_tile _ (blkRow (newX x0 x1 x2 x3 x4 x5) x6 x7 x8 0 (by decide)) 0 (by decide) (fun r k => (rowsTimes_at _ _ r k).trans (rows_at x6 x7 x8 (newX x0 x1 x2 x3 x4 x5) 0 (by decide) 0 (by decide) _ _ _ _ _ (ld_shift x6) (ld_scale x6) (mixed0 x0 x1 x2 x3 x4 x5) (ld_gain x7) (ld_w0 x8) r k)) i1 i2 _ _ (by simp [Rect.emb_apply]) (by simp [Rect.emb_apply])

theorem q_c_at (y : S1x1024x384.Idx) : out0_19 (F := Ideal) x0 x1 x2 x3 x4 x5 x6 x7 x8 x9 x10 x11 x12 y = qBlock (newX x0 x1 x2 x3 x4 x5) x6 x7 x8 x9 x10 2048 (by decide) x12 y := by
  rw [q_c_eq]
  refine canon_of _ _ ?_ _ (View.cover_of_tiledBy _ ![1, 256, 384] (by sl_kernel_rfl) _)
  refine ⟨?_, ?_, ?_, ?_, trivial⟩ <;> intro y <;> obtain ⟨i0, i1, i2, rfl⟩ : ∃ (i0 : Fin 1) (i1 : Fin 256) (i2 : Fin 384), y = ix3 i0 i1 i2 := ⟨y 0, y 1, y 2, eq_ix3 y⟩ <;>
    obtain rfl : i0 = 0 := Subsingleton.elim _ _
  · exact q_tile x9 x10 _ (blkRow (newX x0 x1 x2 x3 x4 x5) x6 x7 x8 2048 (by decide)) 768 (by decide) (fun r k => (rowsTimes_at _ _ r k).trans (rows_at x6 x7 x8 (newX x0 x1 x2 x3 x4 x5) 2048 (by decide) 768 (by decide) _ _ _ _ _ (ld_shift x6) (ld_scale x6) (mixed768 x0 x1 x2 x3 x4 x5) (ld_gain x7) (ld_w2048 x8) r k)) x12 _ (ld_heads x12) _ _ (ld_t768 x9) (ld_t768 x10) i1 i2 _ _ (by simp [Rect.emb_apply]) (by simp [Rect.emb_apply])
  · exact q_tile x9 x10 _ (blkRow (newX x0 x1 x2 x3 x4 x5) x6 x7 x8 2048 (by decide)) 512 (by decide) (fun r k => (rowsTimes_at _ _ r k).trans (rows_at x6 x7 x8 (newX x0 x1 x2 x3 x4 x5) 2048 (by decide) 512 (by decide) _ _ _ _ _ (ld_shift x6) (ld_scale x6) (mixed512 x0 x1 x2 x3 x4 x5) (ld_gain x7) (ld_w2048 x8) r k)) x12 _ (ld_heads x12) _ _ (ld_t512 x9) (ld_t512 x10) i1 i2 _ _ (by simp [Rect.emb_apply]) (by simp [Rect.emb_apply])
  · exact q_tile x9 x10 _ (blkRow (newX x0 x1 x2 x3 x4 x5) x6 x7 x8 2048 (by decide)) 256 (by decide) (fun r k => (rowsTimes_at _ _ r k).trans (rows_at x6 x7 x8 (newX x0 x1 x2 x3 x4 x5) 2048 (by decide) 256 (by decide) _ _ _ _ _ (ld_shift x6) (ld_scale x6) (mixed256 x0 x1 x2 x3 x4 x5) (ld_gain x7) (ld_w2048 x8) r k)) x12 _ (ld_heads x12) _ _ (ld_t256 x9) (ld_t256 x10) i1 i2 _ _ (by simp [Rect.emb_apply]) (by simp [Rect.emb_apply])
  · exact q_tile x9 x10 _ (blkRow (newX x0 x1 x2 x3 x4 x5) x6 x7 x8 2048 (by decide)) 0 (by decide) (fun r k => (rowsTimes_at _ _ r k).trans (rows_at x6 x7 x8 (newX x0 x1 x2 x3 x4 x5) 2048 (by decide) 0 (by decide) _ _ _ _ _ (ld_shift x6) (ld_scale x6) (mixed0 x0 x1 x2 x3 x4 x5) (ld_gain x7) (ld_w2048 x8) r k)) x12 _ (ld_heads x12) _ _ (ld_t0 x9) (ld_t0 x10) i1 i2 _ _ (by simp [Rect.emb_apply]) (by simp [Rect.emb_apply])

theorem k_c_at (y : S1x1024x256.Idx) : out0_20 (F := Ideal) x0 x1 x2 x3 x4 x5 x6 x7 x8 x9 x10 x11 x12 y = kBlock (newX x0 x1 x2 x3 x4 x5) x6 x7 x8 x9 x10 2048 (by decide) x12 y := by
  rw [k_c_eq]
  refine canon_of _ _ ?_ _ (View.cover_of_tiledBy _ ![1, 256, 256] (by sl_kernel_rfl) _)
  refine ⟨?_, ?_, ?_, ?_, trivial⟩ <;> intro y <;> obtain ⟨i0, i1, i2, rfl⟩ : ∃ (i0 : Fin 1) (i1 : Fin 256) (i2 : Fin 256), y = ix3 i0 i1 i2 := ⟨y 0, y 1, y 2, eq_ix3 y⟩ <;>
    obtain rfl : i0 = 0 := Subsingleton.elim _ _
  · exact k_tile x9 x10 _ (blkRow (newX x0 x1 x2 x3 x4 x5) x6 x7 x8 2048 (by decide)) 768 (by decide) (fun r k => (rowsTimes_at _ _ r k).trans (rows_at x6 x7 x8 (newX x0 x1 x2 x3 x4 x5) 2048 (by decide) 768 (by decide) _ _ _ _ _ (ld_shift x6) (ld_scale x6) (mixed768 x0 x1 x2 x3 x4 x5) (ld_gain x7) (ld_w2048 x8) r k)) x12 _ (ld_heads x12) _ _ (ld_t768 x9) (ld_t768 x10) i1 i2 _ _ (by simp [Rect.emb_apply]) (by simp [Rect.emb_apply])
  · exact k_tile x9 x10 _ (blkRow (newX x0 x1 x2 x3 x4 x5) x6 x7 x8 2048 (by decide)) 512 (by decide) (fun r k => (rowsTimes_at _ _ r k).trans (rows_at x6 x7 x8 (newX x0 x1 x2 x3 x4 x5) 2048 (by decide) 512 (by decide) _ _ _ _ _ (ld_shift x6) (ld_scale x6) (mixed512 x0 x1 x2 x3 x4 x5) (ld_gain x7) (ld_w2048 x8) r k)) x12 _ (ld_heads x12) _ _ (ld_t512 x9) (ld_t512 x10) i1 i2 _ _ (by simp [Rect.emb_apply]) (by simp [Rect.emb_apply])
  · exact k_tile x9 x10 _ (blkRow (newX x0 x1 x2 x3 x4 x5) x6 x7 x8 2048 (by decide)) 256 (by decide) (fun r k => (rowsTimes_at _ _ r k).trans (rows_at x6 x7 x8 (newX x0 x1 x2 x3 x4 x5) 2048 (by decide) 256 (by decide) _ _ _ _ _ (ld_shift x6) (ld_scale x6) (mixed256 x0 x1 x2 x3 x4 x5) (ld_gain x7) (ld_w2048 x8) r k)) x12 _ (ld_heads x12) _ _ (ld_t256 x9) (ld_t256 x10) i1 i2 _ _ (by simp [Rect.emb_apply]) (by simp [Rect.emb_apply])
  · exact k_tile x9 x10 _ (blkRow (newX x0 x1 x2 x3 x4 x5) x6 x7 x8 2048 (by decide)) 0 (by decide) (fun r k => (rowsTimes_at _ _ r k).trans (rows_at x6 x7 x8 (newX x0 x1 x2 x3 x4 x5) 2048 (by decide) 0 (by decide) _ _ _ _ _ (ld_shift x6) (ld_scale x6) (mixed0 x0 x1 x2 x3 x4 x5) (ld_gain x7) (ld_w2048 x8) r k)) x12 _ (ld_heads x12) _ _ (ld_t0 x9) (ld_t0 x10) i1 i2 _ _ (by simp [Rect.emb_apply]) (by simp [Rect.emb_apply])

theorem v_c_at (y : S1x1024x256.Idx) : out0_21 (F := Ideal) x0 x1 x2 x3 x4 x5 x6 x7 x8 x9 x10 x11 x12 y = vBlock (newX x0 x1 x2 x3 x4 x5) x6 x7 x8 2048 (by decide) y := by
  rw [v_c_eq]
  refine canon_of _ _ ?_ _ (View.cover_of_tiledBy _ ![1, 256, 256] (by sl_kernel_rfl) _)
  refine ⟨?_, ?_, ?_, ?_, trivial⟩ <;> intro y <;> obtain ⟨i0, i1, i2, rfl⟩ : ∃ (i0 : Fin 1) (i1 : Fin 256) (i2 : Fin 256), y = ix3 i0 i1 i2 := ⟨y 0, y 1, y 2, eq_ix3 y⟩ <;>
    obtain rfl : i0 = 0 := Subsingleton.elim _ _
  · exact v_tile _ (blkRow (newX x0 x1 x2 x3 x4 x5) x6 x7 x8 2048 (by decide)) 768 (by decide) (fun r k => (rowsTimes_at _ _ r k).trans (rows_at x6 x7 x8 (newX x0 x1 x2 x3 x4 x5) 2048 (by decide) 768 (by decide) _ _ _ _ _ (ld_shift x6) (ld_scale x6) (mixed768 x0 x1 x2 x3 x4 x5) (ld_gain x7) (ld_w2048 x8) r k)) i1 i2 _ _ (by simp [Rect.emb_apply]) (by simp [Rect.emb_apply])
  · exact v_tile _ (blkRow (newX x0 x1 x2 x3 x4 x5) x6 x7 x8 2048 (by decide)) 512 (by decide) (fun r k => (rowsTimes_at _ _ r k).trans (rows_at x6 x7 x8 (newX x0 x1 x2 x3 x4 x5) 2048 (by decide) 512 (by decide) _ _ _ _ _ (ld_shift x6) (ld_scale x6) (mixed512 x0 x1 x2 x3 x4 x5) (ld_gain x7) (ld_w2048 x8) r k)) i1 i2 _ _ (by simp [Rect.emb_apply]) (by simp [Rect.emb_apply])
  · exact v_tile _ (blkRow (newX x0 x1 x2 x3 x4 x5) x6 x7 x8 2048 (by decide)) 256 (by decide) (fun r k => (rowsTimes_at _ _ r k).trans (rows_at x6 x7 x8 (newX x0 x1 x2 x3 x4 x5) 2048 (by decide) 256 (by decide) _ _ _ _ _ (ld_shift x6) (ld_scale x6) (mixed256 x0 x1 x2 x3 x4 x5) (ld_gain x7) (ld_w2048 x8) r k)) i1 i2 _ _ (by simp [Rect.emb_apply]) (by simp [Rect.emb_apply])
  · exact v_tile _ (blkRow (newX x0 x1 x2 x3 x4 x5) x6 x7 x8 2048 (by decide)) 0 (by decide) (fun r k => (rowsTimes_at _ _ r k).trans (rows_at x6 x7 x8 (newX x0 x1 x2 x3 x4 x5) 2048 (by decide) 0 (by decide) _ _ _ _ _ (ld_shift x6) (ld_scale x6) (mixed0 x0 x1 x2 x3 x4 x5) (ld_gain x7) (ld_w2048 x8) r k)) i1 i2 _ _ (by simp [Rect.emb_apply]) (by simp [Rect.emb_apply])

theorem g_c_at (y : S1x1024x384.Idx) : out0_22 (F := Ideal) x0 x1 x2 x3 x4 x5 x6 x7 x8 x9 x10 x11 x12 y = gBlock (newX x0 x1 x2 x3 x4 x5) x6 x7 x8 2048 (by decide) y := by
  rw [g_c_eq]
  refine canon_of _ _ ?_ _ (View.cover_of_tiledBy _ ![1, 256, 384] (by sl_kernel_rfl) _)
  refine ⟨?_, ?_, ?_, ?_, trivial⟩ <;> intro y <;> obtain ⟨i0, i1, i2, rfl⟩ : ∃ (i0 : Fin 1) (i1 : Fin 256) (i2 : Fin 384), y = ix3 i0 i1 i2 := ⟨y 0, y 1, y 2, eq_ix3 y⟩ <;>
    obtain rfl : i0 = 0 := Subsingleton.elim _ _
  · exact g_tile _ (blkRow (newX x0 x1 x2 x3 x4 x5) x6 x7 x8 2048 (by decide)) 768 (by decide) (fun r k => (rowsTimes_at _ _ r k).trans (rows_at x6 x7 x8 (newX x0 x1 x2 x3 x4 x5) 2048 (by decide) 768 (by decide) _ _ _ _ _ (ld_shift x6) (ld_scale x6) (mixed768 x0 x1 x2 x3 x4 x5) (ld_gain x7) (ld_w2048 x8) r k)) i1 i2 _ _ (by simp [Rect.emb_apply]) (by simp [Rect.emb_apply])
  · exact g_tile _ (blkRow (newX x0 x1 x2 x3 x4 x5) x6 x7 x8 2048 (by decide)) 512 (by decide) (fun r k => (rowsTimes_at _ _ r k).trans (rows_at x6 x7 x8 (newX x0 x1 x2 x3 x4 x5) 2048 (by decide) 512 (by decide) _ _ _ _ _ (ld_shift x6) (ld_scale x6) (mixed512 x0 x1 x2 x3 x4 x5) (ld_gain x7) (ld_w2048 x8) r k)) i1 i2 _ _ (by simp [Rect.emb_apply]) (by simp [Rect.emb_apply])
  · exact g_tile _ (blkRow (newX x0 x1 x2 x3 x4 x5) x6 x7 x8 2048 (by decide)) 256 (by decide) (fun r k => (rowsTimes_at _ _ r k).trans (rows_at x6 x7 x8 (newX x0 x1 x2 x3 x4 x5) 2048 (by decide) 256 (by decide) _ _ _ _ _ (ld_shift x6) (ld_scale x6) (mixed256 x0 x1 x2 x3 x4 x5) (ld_gain x7) (ld_w2048 x8) r k)) i1 i2 _ _ (by simp [Rect.emb_apply]) (by simp [Rect.emb_apply])
  · exact g_tile _ (blkRow (newX x0 x1 x2 x3 x4 x5) x6 x7 x8 2048 (by decide)) 0 (by decide) (fun r k => (rowsTimes_at _ _ r k).trans (rows_at x6 x7 x8 (newX x0 x1 x2 x3 x4 x5) 2048 (by decide) 0 (by decide) _ _ _ _ _ (ld_shift x6) (ld_scale x6) (mixed0 x0 x1 x2 x3 x4 x5) (ld_gain x7) (ld_w2048 x8) r k)) i1 i2 _ _ (by simp [Rect.emb_apply]) (by simp [Rect.emb_apply])

theorem hy_at (y : S1x1024x1024.Idx) : out0_18 (F := Ideal) x0 x1 x2 x3 x4 x5 x6 x7 x8 x9 x10 x11 x12 y = hyBlock (newX x0 x1 x2 x3 x4 x5) x6 x7 x8 y := by
  rw [hy_eq]
  refine canon_of _ _ ?_ _ (View.cover_of_tiledBy _ ![1, 256, 1024] (by sl_kernel_rfl) _)
  refine ⟨?_, ?_, ?_, ?_, trivial⟩ <;> intro y <;> obtain ⟨i0, i1, i2, rfl⟩ : ∃ (i0 : Fin 1) (i1 : Fin 256) (i2 : Fin 1024), y = ix3 i0 i1 i2 := ⟨y 0, y 1, y 2, eq_ix3 y⟩ <;>
    obtain rfl : i0 = 0 := Subsingleton.elim _ _
  · exact hy_tile x6 x7 x8 (newX x0 x1 x2 x3 x4 x5) 768 (by decide) _ _ _ _ _ (ld_shift x6) (ld_scale x6) (mixed768 x0 x1 x2 x3 x4 x5) (ld_gain x7) (ld_w1024 x8) i1 i2 _ _ (by simp [Rect.emb_apply]) (by simp [Rect.emb_apply])
  · exact hy_tile x6 x7 x8 (newX x0 x1 x2 x3 x4 x5) 512 (by decide) _ _ _ _ _ (ld_shift x6) (ld_scale x6) (mixed512 x0 x1 x2 x3 x4 x5) (ld_gain x7) (ld_w1024 x8) i1 i2 _ _ (by simp [Rect.emb_apply]) (by simp [Rect.emb_apply])
  · exact hy_tile x6 x7 x8 (newX x0 x1 x2 x3 x4 x5) 256 (by decide) _ _ _ _ _ (ld_shift x6) (ld_scale x6) (mixed256 x0 x1 x2 x3 x4 x5) (ld_gain x7) (ld_w1024 x8) i1 i2 _ _ (by simp [Rect.emb_apply]) (by simp [Rect.emb_apply])
  · exact hy_tile x6 x7 x8 (newX x0 x1 x2 x3 x4 x5) 0 (by decide) _ _ _ _ _ (ld_shift x6) (ld_scale x6) (mixed0 x0 x1 x2 x3 x4 x5) (ld_gain x7) (ld_w1024 x8) i1 i2 _ _ (by simp [Rect.emb_apply]) (by simp [Rect.emb_apply])

end Cert.Kernel4Ideal.Fused
end
-- ==== Proof.FusedWin.lean ====
module
public import proofs.«01_k».proof.Proof.FusedFrame
public import proofs.«01_k».proof.Proof.ProjOut
public import proofs.«01_k».proof.Proof.OutProj
@[expose] public section
set_option maxRecDepth 16384
noncomputable section
open Idealize.ShloMosaic Idealize.ShloMosaic.TcCoe Idealize.SL.Sem

/-! The second layer's in_projection: its operands at a grid point, as entries of the arguments. -/

namespace Cert.Kernel4Ideal.Fused
open Cert.Kernel4Ideal Cert.Kernel4Ideal.Gen
open Cert.Kernel3Ideal.Proj (gains gain gains_at mod_at normGain_at twice cosLanes sinLanes angles axis quotients remainders freqs
  twice_at cosLanes_at sinLanes_at angles_theta cosAt sinAt)
open Cert.Kernel2Ideal.Out (gate_at)

variable (m : (ℓ : Loc nD τ sig) → Buf (Elt Ideal) ℓ)

/-- The blocks a grid point stages: batch `t / 2`, rows from `1024 (t % 2)`. -/
theorem points : ∀ t : Fin cfg0.N, win0_0.index t 0 = t.val / 2 ∧ win0_0.index t 1 = 0 ∧ win0_0.index t 2 = 0 ∧
    win0_1.index t 0 = t.val / 2 ∧ win0_1.index t 1 = t.val % 2 ∧ win0_1.index t 2 = 0 ∧
    win0_2.index t 0 = t.val / 2 ∧ win0_2.index t 1 = t.val % 2 ∧ win0_2.index t 2 = 0 ∧
    win0_3.index t 0 = t.val / 2 ∧ win0_3.index t 1 = t.val % 2 ∧ win0_3.index t 2 = 0 ∧
    win0_4.index t 0 = 0 ∧ win0_4.index t 1 = 0 ∧
    win0_5.index t 0 = t.val / 2 ∧ win0_5.index t 1 = t.val % 2 ∧ win0_5.index t 2 = 0 ∧
    win0_6.index t 0 = t.val / 2 ∧ win0_6.index t 1 = 0 ∧ win0_6.index t 2 = 0 ∧
    win0_7.index t 0 = 0 ∧ win0_7.index t 1 = 0 ∧
    win0_8.index t 0 = 0 ∧ win0_8.index t 1 = 0 ∧
    win0_9.index t 0 = t.val % 2 ∧ win0_9.index t 1 = 0 ∧
    win0_10.index t 0 = t.val % 2 ∧ win0_10.index t 1 = 0 ∧
    win0_11.index t 0 = 0 ∧ win0_11.index t 1 = 0 ∧
    win0_12.index t 0 = 0 ∧ win0_12.index t 1 = 0 :=
  (by decide +kernel : ∀ t : Fin grid0.N, _)

/-- The blocks the ten results take. -/
theorem places : ∀ t : Fin cfg0.N,
    win0_13.index t 0 = t.val / 2 ∧ win0_13.index t 1 = t.val % 2 ∧ win0_13.index t 2 = 0 ∧
    win0_14.index t 0 = t.val / 2 ∧ win0_14.index t 1 = t.val % 2 ∧ win0_14.index t 2 = 0 ∧
    win0_15.index t 0 = t.val / 2 ∧ win0_15.index t 1 = t.val % 2 ∧ win0_15.index t 2 = 0 ∧
    win0_16.index t 0 = t.val / 2 ∧ win0_16.index t 1 = t.val % 2 ∧ win0_16.index t 2 = 0 ∧
    win0_17.index t 0 = t.val / 2 ∧ win0_17.index t 1 = t.val % 2 ∧ win0_17.index t 2 = 0 ∧
    win0_18.index t 0 = t.val / 2 ∧ win0_18.index t 1 = t.val % 2 ∧ win0_18.index t 2 = 0 ∧
    win0_19.index t 0 = t.val / 2 ∧ win0_19.index t 1 = t.val % 2 ∧ win0_19.index t 2 = 0 ∧
    win0_20.index t 0 = t.val / 2 ∧ win0_20.index t 1 = t.val % 2 ∧ win0_20.index t 2 = 0 ∧
    win0_21.index t 0 = t.val / 2 ∧ win0_21.index t 1 = t.val % 2 ∧ win0_21.index t 2 = 0 ∧
    win0_22.index t 0 = t.val / 2 ∧ win0_22.index t 1 = t.val % 2 ∧ win0_22.index t 2 = 0 :=
  (by decide +kernel : ∀ t : Fin grid0.N, _)

theorem win1_at (c : Dev nD) (t : Fin cfg0.N) (b : Fin 32) (hb : b.val = t.val / 2) (r : Fin 1024) (q : Fin 2048)
    (hq : q.val = t.val % 2 * 1024 + r.val) (k : Fin 384) :
    iblk m c 1 t (ix3 0 r k) = m ((c : Thread nD τ).loc main_arg2) (ix3 b q k) := by
  blk_ext [iblk, V, points t]

theorem win2_at (c : Dev nD) (t : Fin cfg0.N) (b : Fin 32) (hb : b.val = t.val / 2) (r : Fin 1024) (q : Fin 2048)
    (hq : q.val = t.val % 2 * 1024 + r.val) (k : Fin 256) :
    iblk m c 2 t (ix3 0 r k) = m ((c : Thread nD τ).loc main_arg3) (ix3 b q k) := by
  blk_ext [iblk, V, points t]

theorem win3_at (c : Dev nD) (t : Fin cfg0.N) (b : Fin 32) (hb : b.val = t.val / 2) (r : Fin 1024) (q : Fin 2048)
    (hq : q.val = t.val % 2 * 1024 + r.val) (k : Fin 384) :
    iblk m c 3 t (ix3 0 r k) = m ((c : Thread nD τ).loc main_arg4) (ix3 b q k) := by
  blk_ext [iblk, V, points t]

theorem win5_at (c : Dev nD) (t : Fin cfg0.N) (b : Fin 32) (hb : b.val = t.val / 2) (r : Fin 1024) (q : Fin 2048)
    (hq : q.val = t.val % 2 * 1024 + r.val) (k : Fin 1024) :
    iblk m c 5 t (ix3 0 r k) = m ((c : Thread nD τ).loc main_arg0) (ix3 b q k) := by
  blk_ext [iblk, V, points t]

theorem gate_eq (c : Dev nD) : V m c main_v58 = (broadcastInDim S32x1x1024 ![0, 2] bcast_S32x1024_S32x1x1024_0_2
    (m ((c : Thread nD τ).loc main_arg1) : FVec Ideal S32x1024 .f32) : FVec Ideal S32x1x1024 .f32) := by
  unfold V
  simp only [List.flatten_cons, List.flatten_nil, List.cons_append, List.nil_append, hostOps0, hostOps0_1, hostOps0_2, hostOps0_3, hostOps0_4]
  after_results

theorem win0_at (c : Dev nD) (t : Fin cfg0.N) (b : Fin 32) (hb : b.val = t.val / 2) (k : Fin 1024) :
    iblk m c 0 t (ix3 0 0 k) = m ((c : Thread nD τ).loc main_arg1) (ix2 b k) := by
  refine .trans ?_ (gate_at (m ((c : Thread nD τ).loc main_arg1)) b k)
  refine .trans (b := V m c main_v58 (ix3 b 0 k)) ?_ (by rw [gate_eq])
  blk_ext [iblk, V, points t]

theorem outWeights_eq (c : Dev nD) : V m c main_v59 = (truncf .bf16 (m ((c : Thread nD τ).loc main_arg5) : FVec Ideal S1024x1024 .f32) bitsLt_bf16_f32 : FVec Ideal S1024x1024 .bf16) := by
  unfold V
  simp only [List.flatten_cons, List.flatten_nil, List.cons_append, List.nil_append, hostOps0, hostOps0_1, hostOps0_2, hostOps0_3, hostOps0_4]
  after_results

theorem win4_at (c : Dev nD) (t : Fin cfg0.N) (d k : Fin 1024) : iblk m c 4 t (ix2 d k) = m ((c : Thread nD τ).loc main_arg5) (ix2 d k) := by
  refine .trans (b := V m c main_v59 (ix2 d k)) ?_ (by rw [outWeights_eq]; rfl)
  blk_ext [iblk, V, points t]

theorem mod_eq (c : Dev nD) : V m c main_v55 = (broadcastInDim S32x1x3072 ![0, 2] bcast_S32x3072_S32x1x3072_0_2
    (m ((c : Thread nD τ).loc main_arg6) : FVec Ideal S32x3072 .f32) : FVec Ideal S32x1x3072 .f32) := by
  unfold V
  simp only [List.flatten_cons, List.flatten_nil, List.cons_append, List.nil_append, hostOps0, hostOps0_1, hostOps0_2, hostOps0_3, hostOps0_4]
  after_results

theorem win6_at (c : Dev nD) (t : Fin cfg0.N) (b : Fin 32) (hb : b.val = t.val / 2) (k : Fin 3072) :
    iblk m c 6 t (ix3 0 0 k) = m ((c : Thread nD τ).loc main_arg6) (ix2 b k) := by
  refine .trans ?_ (mod_at (m ((c : Thread nD τ).loc main_arg6)) b k)
  refine .trans (b := V m c main_v55 (ix3 b 0 k)) ?_ (by rw [mod_eq])
  blk_ext [iblk, V, points t]

theorem normGain_eq (c : Dev nD) : V m c main_v56 = (broadcastInDim S1x1024 ![1] bcast_S1024_S1x1024_1
    (m ((c : Thread nD τ).loc main_arg7) : FVec Ideal S1024 .f32) : FVec Ideal S1x1024 .f32) := by
  unfold V
  simp only [List.flatten_cons, List.flatten_nil, List.cons_append, List.nil_append, hostOps0, hostOps0_1, hostOps0_2, hostOps0_3, hostOps0_4]
  after_results

theorem win7_at (c : Dev nD) (t : Fin cfg0.N) (k : Fin 1024) : iblk m c 7 t (ix2 0 k) = m ((c : Thread nD τ).loc main_arg7) (ix1 k) := by
  refine .trans ?_ (normGain_at (m ((c : Thread nD τ).loc main_arg7)) k)
  refine .trans (b := V m c main_v56 (ix2 0 k)) ?_ (by rw [normGain_eq])
  blk_ext [iblk, V, points t]

theorem weights_eq (c : Dev nD) : V m c main_v57 = (truncf .bf16 (m ((c : Thread nD τ).loc main_arg8) : FVec Ideal S1024x3072 .f32) bitsLt_bf16_f32 : FVec Ideal S1024x3072 .bf16) := by
  unfold V
  simp only [List.flatten_cons, List.flatten_nil, List.cons_append, List.nil_append, hostOps0, hostOps0_1, hostOps0_2, hostOps0_3, hostOps0_4]
  after_results

theorem win8_at (c : Dev nD) (t : Fin cfg0.N) (d : Fin 1024) (k : Fin 3072) :
    iblk m c 8 t (ix2 d k) = m ((c : Thread nD τ).loc main_arg8) (ix2 d k) := by
  refine .trans (b := V m c main_v57 (ix2 d k)) ?_ (by rw [weights_eq]; rfl)
  blk_ext [iblk, V, points t]

theorem gains_a_eq (c : Dev nD) : V m c main_v46 = gains (m ((c : Thread nD τ).loc main_arg9)) (m ((c : Thread nD τ).loc main_arg10)) := by
  unfold V
  simp only [List.flatten_cons, List.flatten_nil, List.cons_append, List.nil_append, hostOps0, hostOps0_1, hostOps0_2, hostOps0_3, hostOps0_4]
  after_results
  rfl

theorem win11_at (c : Dev nD) (t : Fin cfg0.N) (k : Fin 512) : iblk m c 11 t (ix2 0 k) = gain (m ((c : Thread nD τ).loc main_arg9)) (m ((c : Thread nD τ).loc main_arg10)) k := by
  refine .trans (b := V m c main_v46 (ix2 0 k)) ?_ (by rw [gains_a_eq]; exact gains_at _ _ k)
  blk_ext [iblk, V, points t]

theorem gains_c_eq (c : Dev nD) : V m c main_v54 = gains (m ((c : Thread nD τ).loc main_arg11)) (m ((c : Thread nD τ).loc main_arg12)) := by
  unfold V
  simp only [List.flatten_cons, List.flatten_nil, List.cons_append, List.nil_append, hostOps0, hostOps0_1, hostOps0_2, hostOps0_3, hostOps0_4]
  after_results
  rfl

theorem win12_at (c : Dev nD) (t : Fin cfg0.N) (k : Fin 512) : iblk m c 12 t (ix2 0 k) = gain (m ((c : Thread nD τ).loc main_arg11)) (m ((c : Thread nD τ).loc main_arg12)) k := by
  refine .trans (b := V m c main_v54 (ix2 0 k)) ?_ (by rw [gains_c_eq]; exact gains_at _ _ k)
  blk_ext [iblk, V, points t]

theorem cos_eq (c : Dev nD) : V m c main_v35 = twice (cosLanes (angles (axis quotients freqs) (axis remainders freqs))) := by
  unfold V
  simp only [List.flatten_cons, List.flatten_nil, List.cons_append, List.nil_append, hostOps0, hostOps0_1, hostOps0_2, hostOps0_3, hostOps0_4]
  after_results
  rfl

theorem cos_at (c : Dev nD) (t : Fin 2048) (l : Fin 128) : V m c main_v35 (ix2 t l) = cosAt t l := by
  rw [cos_eq]
  refine (twice_at _ t l).trans ((cosLanes_at _ _ _).trans ?_)
  rw [angles_theta]
  unfold cosAt
  simp only [show l.val % 64 % 16 = l.val % 16 by omega]

theorem win9_at (c : Dev nD) (t : Fin cfg0.N) (r : Fin 1024) (q : Fin 2048) (hq : q.val = t.val % 2 * 1024 + r.val) (l : Fin 128) :
    iblk m c 9 t (ix2 r l) = cosAt q l := by
  refine .trans ?_ (cos_at m c q l)
  blk_ext [iblk, V, points t]

theorem sin_eq (c : Dev nD) : V m c main_v38 = twice (sinLanes (angles (axis quotients freqs) (axis remainders freqs))) := by
  unfold V
  simp only [List.flatten_cons, List.flatten_nil, List.cons_append, List.nil_append, hostOps0, hostOps0_1, hostOps0_2, hostOps0_3, hostOps0_4]
  after_results
  rfl

theorem sin_at (c : Dev nD) (t : Fin 2048) (l : Fin 128) : V m c main_v38 (ix2 t l) = sinAt t l := by
  rw [sin_eq]
  refine (twice_at _ t l).trans ((sinLanes_at _ _ _).trans ?_)
  rw [angles_theta]
  unfold sinAt
  simp only [show l.val % 64 % 16 = l.val % 16 by omega, show l.val % 64 % 32 = l.val % 32 by omega]

theorem win10_at (c : Dev nD) (t : Fin cfg0.N) (r : Fin 1024) (q : Fin 2048) (hq : q.val = t.val % 2 * 1024 + r.val) (l : Fin 128) :
    iblk m c 10 t (ix2 r l) = sinAt q l := by
  refine .trans ?_ (sin_at m c q l)
  blk_ext [iblk, V, points t]

end Cert.Kernel4Ideal.Fused
end
-- ==== Proof.FusedOut.lean ====
module
public import proofs.«01_k».proof.Proof.FusedBlock
public import proofs.«01_k».proof.Proof.FusedWin
@[expose] public section
set_option maxRecDepth 16384
noncomputable section
open Idealize.ShloMosaic Idealize.ShloMosaic.TcCoe Idealize.SL.Sem

/-! The second layer's in_projection: its ten results as entries of the arguments. -/

namespace Cert.Kernel4Ideal.Fused
open Cert.Kernel4Ideal Cert.Kernel4Ideal.Gen
open Cert.Kernel3Ideal.Proj (gain cosAt sinAt qRow kRow vRow gRow blkRow argRow qBlock kBlock vBlock gBlock hyBlock)
open Cert.Kernel2Ideal.Out (catAt spec)

/-- The residual stream with the previous layer's output projection added. -/
def mixedX (X : FVec Ideal S32x2048x1024 .f32) (G : FVec Ideal S32x1024 .f32) (A : FVec Ideal S32x2048x384 .bf16)
    (B : FVec Ideal S32x2048x256 .bf16) (C : FVec Ideal S32x2048x384 .bf16) (W : FVec Ideal S1024x1024 .f32) : FVec Ideal S32x2048x1024 .f32 :=
  fun i => spec X G A B C W (i 0) (i 1) (i 2)

theorem newX_of (X : FVec Ideal S32x2048x1024 .f32) (G : FVec Ideal S32x1024 .f32) (A : FVec Ideal S32x2048x384 .bf16)
    (B : FVec Ideal S32x2048x256 .bf16) (C : FVec Ideal S32x2048x384 .bf16) (W : FVec Ideal S1024x1024 .f32)
    (x0 : FVec Ideal S1x1x1024 .f32) (x1 : FVec Ideal S1x1024x384 .bf16) (x2 : FVec Ideal S1x1024x256 .bf16) (x3 : FVec Ideal S1x1024x384 .bf16)
    (x4 : FVec Ideal S1024x1024 .bf16) (x5 : FVec Ideal S1x1024x1024 .f32) (b : Fin 32) (r : Fin 1024) (q : Fin 2048)
    (h5 : ∀ k : Fin 1024, x5 (ix3 0 r k) = X (ix3 b q k)) (h0 : ∀ k : Fin 1024, x0 (ix3 0 0 k) = G (ix2 b k))
    (h1 : ∀ k : Fin 384, x1 (ix3 0 r k) = A (ix3 b q k)) (h2 : ∀ k : Fin 256, x2 (ix3 0 r k) = B (ix3 b q k))
    (h3 : ∀ k : Fin 384, x3 (ix3 0 r k) = C (ix3 b q k)) (h4 : ∀ d k : Fin 1024, x4 (ix2 d k) = W (ix2 d k)) (k : Fin 1024) :
    newX x0 x1 x2 x3 x4 x5 (ix3 0 r k) = mixedX X G A B C W (ix3 b q k) := by
  refine .trans (b := x5 (ix3 0 r k) + x0 (ix3 0 0 k) * ∑ d : Fin 1024,
    catAt (fun k => x1 (ix3 0 r k)) (fun k => x2 (ix3 0 r k)) (fun k => x3 (ix3 0 r k)) d * x4 (ix2 d k)) rfl ?_
  refine .trans (b := spec X G A B C W b q k) ?_ rfl
  unfold spec
  simp only [h0, h1, h2, h3, h4, h5]

theorem row_of (X : FVec Ideal S32x2048x1024 .f32) (M : FVec Ideal S32x3072 .f32) (N : FVec Ideal S1024 .f32) (W : FVec Ideal S1024x3072 .f32)
    (x : FVec Ideal S1x1024x1024 .f32) (x6 : FVec Ideal S1x1x3072 .f32) (x7 : FVec Ideal S1x1024 .f32) (x8 : FVec Ideal S1024x3072 .bf16)
    (o : ℕ) (ho : o + 1024 ≤ 3072) (b : Fin 32) (r : Fin 1024) (q : Fin 2048)
    (hx : ∀ k : Fin 1024, x (ix3 0 r k) = X (ix3 b q k)) (h6 : ∀ k : Fin 3072, x6 (ix3 0 0 k) = M (ix2 b k))
    (h7 : ∀ k : Fin 1024, x7 (ix2 0 k) = N (ix1 k)) (h8 : ∀ (d : Fin 1024) (k : Fin 3072), x8 (ix2 d k) = W (ix2 d k)) :
    blkRow x x6 x7 x8 o ho r = argRow X M N W o ho b q := by
  unfold blkRow argRow
  simp only [hx, h6, h7, h8]

variable (m : (ℓ : Loc nD τ sig) → Buf (Elt Ideal) ℓ)

theorem newX_at (c : Dev nD) (t : Fin cfg0.N) (b : Fin 32) (hb : b.val = t.val / 2) (r : Fin 1024) (q : Fin 2048)
    (hq : q.val = t.val % 2 * 1024 + r.val) (k : Fin 1024) :
    newX (iblk m c 0 t) (iblk m c 1 t) (iblk m c 2 t) (iblk m c 3 t) (iblk m c 4 t) (iblk m c 5 t) (ix3 0 r k) = (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix3 b q k) := by
  refine newX_of _ _ _ _ _ _ _ _ _ _ _ _ b r q (win5_at m c t b hb r q hq) (win0_at m c t b hb) (win1_at m c t b hb r q hq)
    (win2_at m c t b hb r q hq) (win3_at m c t b hb r q hq) (win4_at m c t) k

theorem row_at (c : Dev nD) (o : ℕ) (ho : o + 1024 ≤ 3072) (t : Fin cfg0.N) (b : Fin 32) (hb : b.val = t.val / 2) (r : Fin 1024) (q : Fin 2048)
    (hq : q.val = t.val % 2 * 1024 + r.val) :
    blkRow (newX (iblk m c 0 t) (iblk m c 1 t) (iblk m c 2 t) (iblk m c 3 t) (iblk m c 4 t) (iblk m c 5 t)) (iblk m c 6 t) (iblk m c 7 t) (iblk m c 8 t) o ho r =
    argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) o ho b q := by
  exact row_of _ _ _ _ _ _ _ _ o ho b r q (newX_at m c t b hb r q hq) (win6_at m c t b hb) (win7_at m c t) (win8_at m c t)

theorem x_entry (c : Dev nD) (t : Fin cfg0.N) (y : S1x1024x1024.Idx) (b : Fin 32) (hb : b.val = t.val / 2)
    (q : Fin 2048) (hq : q.val = t.val % 2 * 1024 + (y 1).val) (k : Fin 1024) (hk : k.val = (y 2).val) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y =
    (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix3 b q k) := by
  obtain rfl : k = y 2 := Fin.ext hk
  refine (x_at _ _ _ _ _ _ _ _ _ _ _ _ _ y).trans ?_
  exact newX_at m c t b hb (y 1) q hq (y 2)

theorem x_result (c : Dev nD) : (dats m 0 c).arrAt 13 cfg0.N = (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 13 _ (by decide +kernel) fun t _ y => ?_
  blk_simp
  obtain ⟨h0, h1, h2, -⟩ := places t
  have e0 : ((win0_13.blk t).view.emb y 0).val = t.val / 2 := by blk_simp [h0, h1, h2]
  have e1 : ((win0_13.blk t).view.emb y 1).val = t.val % 2 * 1024 + (y 1).val := by blk_simp [h0, h1, h2]
  have e2 : ((win0_13.blk t).view.emb y 2).val = (y 2).val := by blk_simp [h0, h1, h2]
  exact ((congrFun (after0_13 m c t) y).trans (x_entry m c t y _ e0 _ e1 _ e2)).trans (congrArg _ (eq_ix3 _).symm)

theorem q_a_entry (c : Dev nD) (t : Fin cfg0.N) (y : S1x1024x384.Idx) (b : Fin 32) (hb : b.val = t.val / 2)
    (q : Fin 2048) (hq : q.val = t.val % 2 * 1024 + (y 1).val) (k : Fin 384) (hk : k.val = (y 2).val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y =
    qRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 0 (by decide) b q) (gain (m ((c : Thread nD τ).loc main_arg9)) (m ((c : Thread nD τ).loc main_arg10))) (cosAt q) (sinAt q) k := by
  obtain rfl : k = y 2 := Fin.ext hk
  refine (q_a_at _ _ _ _ _ _ _ _ _ _ _ _ _ y).trans ?_
  unfold qBlock
  simp only [row_at m c 0 (by decide) t b hb _ q hq, win9_at m c t _ q hq, win10_at m c t _ q hq, win11_at m c t]

theorem q_a_result (c : Dev nD) : (dats m 0 c).arrAt 14 cfg0.N = fun i : S32x2048x384.Idx =>
    qRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 0 (by decide) (i 0) (i 1)) (gain (m ((c : Thread nD τ).loc main_arg9)) (m ((c : Thread nD τ).loc main_arg10))) (cosAt (i 1)) (sinAt (i 1)) (i 2) := by
  refine (dats m 0 c).arrAt_eq_of_covers 14 _ (by decide +kernel) fun t _ y => ?_
  blk_simp
  obtain ⟨-, -, -, h0, h1, h2, -⟩ := places t
  have e0 : ((win0_14.blk t).view.emb y 0).val = t.val / 2 := by blk_simp [h0, h1, h2]
  have e1 : ((win0_14.blk t).view.emb y 1).val = t.val % 2 * 1024 + (y 1).val := by blk_simp [h0, h1, h2]
  have e2 : ((win0_14.blk t).view.emb y 2).val = (y 2).val := by blk_simp [h0, h1, h2]
  exact (congrFun (after0_14 m c t) y).trans (q_a_entry m c t y _ e0 _ e1 _ e2)

theorem k_a_entry (c : Dev nD) (t : Fin cfg0.N) (y : S1x1024x256.Idx) (b : Fin 32) (hb : b.val = t.val / 2)
    (q : Fin 2048) (hq : q.val = t.val % 2 * 1024 + (y 1).val) (k : Fin 256) (hk : k.val = (y 2).val) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y =
    kRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 0 (by decide) b q) (gain (m ((c : Thread nD τ).loc main_arg9)) (m ((c : Thread nD τ).loc main_arg10))) (cosAt q) (sinAt q) k := by
  obtain rfl : k = y 2 := Fin.ext hk
  refine (k_a_at _ _ _ _ _ _ _ _ _ _ _ _ _ y).trans ?_
  unfold kBlock
  simp only [row_at m c 0 (by decide) t b hb _ q hq, win9_at m c t _ q hq, win10_at m c t _ q hq, win11_at m c t]

theorem k_a_result (c : Dev nD) : (dats m 0 c).arrAt 15 cfg0.N = fun i : S32x2048x256.Idx =>
    kRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 0 (by decide) (i 0) (i 1)) (gain (m ((c : Thread nD τ).loc main_arg9)) (m ((c : Thread nD τ).loc main_arg10))) (cosAt (i 1)) (sinAt (i 1)) (i 2) := by
  refine (dats m 0 c).arrAt_eq_of_covers 15 _ (by decide +kernel) fun t _ y => ?_
  blk_simp
  obtain ⟨-, -, -, -, -, -, h0, h1, h2, -⟩ := places t
  have e0 : ((win0_15.blk t).view.emb y 0).val = t.val / 2 := by blk_simp [h0, h1, h2]
  have e1 : ((win0_15.blk t).view.emb y 1).val = t.val % 2 * 1024 + (y 1).val := by blk_simp [h0, h1, h2]
  have e2 : ((win0_15.blk t).view.emb y 2).val = (y 2).val := by blk_simp [h0, h1, h2]
  exact (congrFun (after0_15 m c t) y).trans (k_a_entry m c t y _ e0 _ e1 _ e2)

theorem v_a_entry (c : Dev nD) (t : Fin cfg0.N) (y : S1x1024x256.Idx) (b : Fin 32) (hb : b.val = t.val / 2)
    (q : Fin 2048) (hq : q.val = t.val % 2 * 1024 + (y 1).val) (k : Fin 256) (hk : k.val = (y 2).val) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y =
    vRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 0 (by decide) b q) k := by
  obtain rfl : k = y 2 := Fin.ext hk
  refine (v_a_at _ _ _ _ _ _ _ _ _ _ _ _ _ y).trans ?_
  unfold vBlock
  simp only [row_at m c 0 (by decide) t b hb _ q hq]

theorem v_a_result (c : Dev nD) : (dats m 0 c).arrAt 16 cfg0.N = fun i : S32x2048x256.Idx =>
    vRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 0 (by decide) (i 0) (i 1)) (i 2) := by
  refine (dats m 0 c).arrAt_eq_of_covers 16 _ (by decide +kernel) fun t _ y => ?_
  blk_simp
  obtain ⟨-, -, -, -, -, -, -, -, -, h0, h1, h2, -⟩ := places t
  have e0 : ((win0_16.blk t).view.emb y 0).val = t.val / 2 := by blk_simp [h0, h1, h2]
  have e1 : ((win0_16.blk t).view.emb y 1).val = t.val % 2 * 1024 + (y 1).val := by blk_simp [h0, h1, h2]
  have e2 : ((win0_16.blk t).view.emb y 2).val = (y 2).val := by blk_simp [h0, h1, h2]
  exact (congrFun (after0_16 m c t) y).trans (v_a_entry m c t y _ e0 _ e1 _ e2)

theorem g_a_entry (c : Dev nD) (t : Fin cfg0.N) (y : S1x1024x384.Idx) (b : Fin 32) (hb : b.val = t.val / 2)
    (q : Fin 2048) (hq : q.val = t.val % 2 * 1024 + (y 1).val) (k : Fin 384) (hk : k.val = (y 2).val) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y =
    gRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 0 (by decide) b q) k := by
  obtain rfl : k = y 2 := Fin.ext hk
  refine (g_a_at _ _ _ _ _ _ _ _ _ _ _ _ _ y).trans ?_
  unfold gBlock
  simp only [row_at m c 0 (by decide) t b hb _ q hq]

theorem g_a_result (c : Dev nD) : (dats m 0 c).arrAt 17 cfg0.N = fun i : S32x2048x384.Idx =>
    gRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 0 (by decide) (i 0) (i 1)) (i 2) := by
  refine (dats m 0 c).arrAt_eq_of_covers 17 _ (by decide +kernel) fun t _ y => ?_
  blk_simp
  obtain ⟨-, -, -, -, -, -, -, -, -, -, -, -, h0, h1, h2, -⟩ := places t
  have e0 : ((win0_17.blk t).view.emb y 0).val = t.val / 2 := by blk_simp [h0, h1, h2]
  have e1 : ((win0_17.blk t).view.emb y 1).val = t.val % 2 * 1024 + (y 1).val := by blk_simp [h0, h1, h2]
  have e2 : ((win0_17.blk t).view.emb y 2).val = (y 2).val := by blk_simp [h0, h1, h2]
  exact (congrFun (after0_17 m c t) y).trans (g_a_entry m c t y _ e0 _ e1 _ e2)

theorem hy_entry (c : Dev nD) (t : Fin cfg0.N) (y : S1x1024x1024.Idx) (b : Fin 32) (hb : b.val = t.val / 2)
    (q : Fin 2048) (hq : q.val = t.val % 2 * 1024 + (y 1).val) (k : Fin 1024) (hk : k.val = (y 2).val) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y =
    (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 1024 (by decide) b q) k := by
  obtain rfl : k = y 2 := Fin.ext hk
  refine (hy_at _ _ _ _ _ _ _ _ _ _ _ _ _ y).trans ?_
  unfold hyBlock
  simp only [row_at m c 1024 (by decide) t b hb _ q hq]

theorem hy_result (c : Dev nD) : (dats m 0 c).arrAt 18 cfg0.N = fun i : S32x2048x1024.Idx =>
    (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 1024 (by decide) (i 0) (i 1)) (i 2) := by
  refine (dats m 0 c).arrAt_eq_of_covers 18 _ (by decide +kernel) fun t _ y => ?_
  blk_simp
  obtain ⟨-, -, -, -, -, -, -, -, -, -, -, -, -, -, -, h0, h1, h2, -⟩ := places t
  have e0 : ((win0_18.blk t).view.emb y 0).val = t.val / 2 := by blk_simp [h0, h1, h2]
  have e1 : ((win0_18.blk t).view.emb y 1).val = t.val % 2 * 1024 + (y 1).val := by blk_simp [h0, h1, h2]
  have e2 : ((win0_18.blk t).view.emb y 2).val = (y 2).val := by blk_simp [h0, h1, h2]
  exact (congrFun (after0_18 m c t) y).trans (hy_entry m c t y _ e0 _ e1 _ e2)

theorem q_c_entry (c : Dev nD) (t : Fin cfg0.N) (y : S1x1024x384.Idx) (b : Fin 32) (hb : b.val = t.val / 2)
    (q : Fin 2048) (hq : q.val = t.val % 2 * 1024 + (y 1).val) (k : Fin 384) (hk : k.val = (y 2).val) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y =
    qRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 2048 (by decide) b q) (gain (m ((c : Thread nD τ).loc main_arg11)) (m ((c : Thread nD τ).loc main_arg12))) (cosAt q) (sinAt q) k := by
  obtain rfl : k = y 2 := Fin.ext hk
  refine (q_c_at _ _ _ _ _ _ _ _ _ _ _ _ _ y).trans ?_
  unfold qBlock
  simp only [row_at m c 2048 (by decide) t b hb _ q hq, win9_at m c t _ q hq, win10_at m c t _ q hq, win12_at m c t]

theorem q_c_result (c : Dev nD) : (dats m 0 c).arrAt 19 cfg0.N = fun i : S32x2048x384.Idx =>
    qRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 2048 (by decide) (i 0) (i 1)) (gain (m ((c : Thread nD τ).loc main_arg11)) (m ((c : Thread nD τ).loc main_arg12))) (cosAt (i 1)) (sinAt (i 1)) (i 2) := by
  refine (dats m 0 c).arrAt_eq_of_covers 19 _ (by decide +kernel) fun t _ y => ?_
  blk_simp
  obtain ⟨-, -, -, -, -, -, -, -, -, -, -, -, -, -, -, -, -, -, h0, h1, h2, -⟩ := places t
  have e0 : ((win0_19.blk t).view.emb y 0).val = t.val / 2 := by blk_simp [h0, h1, h2]
  have e1 : ((win0_19.blk t).view.emb y 1).val = t.val % 2 * 1024 + (y 1).val := by blk_simp [h0, h1, h2]
  have e2 : ((win0_19.blk t).view.emb y 2).val = (y 2).val := by blk_simp [h0, h1, h2]
  exact (congrFun (after0_19 m c t) y).trans (q_c_entry m c t y _ e0 _ e1 _ e2)

theorem k_c_entry (c : Dev nD) (t : Fin cfg0.N) (y : S1x1024x256.Idx) (b : Fin 32) (hb : b.val = t.val / 2)
    (q : Fin 2048) (hq : q.val = t.val % 2 * 1024 + (y 1).val) (k : Fin 256) (hk : k.val = (y 2).val) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y =
    kRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 2048 (by decide) b q) (gain (m ((c : Thread nD τ).loc main_arg11)) (m ((c : Thread nD τ).loc main_arg12))) (cosAt q) (sinAt q) k := by
  obtain rfl : k = y 2 := Fin.ext hk
  refine (k_c_at _ _ _ _ _ _ _ _ _ _ _ _ _ y).trans ?_
  unfold kBlock
  simp only [row_at m c 2048 (by decide) t b hb _ q hq, win9_at m c t _ q hq, win10_at m c t _ q hq, win12_at m c t]

theorem k_c_result (c : Dev nD) : (dats m 0 c).arrAt 20 cfg0.N = fun i : S32x2048x256.Idx =>
    kRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 2048 (by decide) (i 0) (i 1)) (gain (m ((c : Thread nD τ).loc main_arg11)) (m ((c : Thread nD τ).loc main_arg12))) (cosAt (i 1)) (sinAt (i 1)) (i 2) := by
  refine (dats m 0 c).arrAt_eq_of_covers 20 _ (by decide +kernel) fun t _ y => ?_
  blk_simp
  obtain ⟨-, -, -, -, -, -, -, -, -, -, -, -, -, -, -, -, -, -, -, -, -, h0, h1, h2, -⟩ := places t
  have e0 : ((win0_20.blk t).view.emb y 0).val = t.val / 2 := by blk_simp [h0, h1, h2]
  have e1 : ((win0_20.blk t).view.emb y 1).val = t.val % 2 * 1024 + (y 1).val := by blk_simp [h0, h1, h2]
  have e2 : ((win0_20.blk t).view.emb y 2).val = (y 2).val := by blk_simp [h0, h1, h2]
  exact (congrFun (after0_20 m c t) y).trans (k_c_entry m c t y _ e0 _ e1 _ e2)

theorem v_c_entry (c : Dev nD) (t : Fin cfg0.N) (y : S1x1024x256.Idx) (b : Fin 32) (hb : b.val = t.val / 2)
    (q : Fin 2048) (hq : q.val = t.val % 2 * 1024 + (y 1).val) (k : Fin 256) (hk : k.val = (y 2).val) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y =
    vRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 2048 (by decide) b q) k := by
  obtain rfl : k = y 2 := Fin.ext hk
  refine (v_c_at _ _ _ _ _ _ _ _ _ _ _ _ _ y).trans ?_
  unfold vBlock
  simp only [row_at m c 2048 (by decide) t b hb _ q hq]

theorem v_c_result (c : Dev nD) : (dats m 0 c).arrAt 21 cfg0.N = fun i : S32x2048x256.Idx =>
    vRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 2048 (by decide) (i 0) (i 1)) (i 2) := by
  refine (dats m 0 c).arrAt_eq_of_covers 21 _ (by decide +kernel) fun t _ y => ?_
  blk_simp
  obtain ⟨-, -, -, -, -, -, -, -, -, -, -, -, -, -, -, -, -, -, -, -, -, -, -, -, h0, h1, h2, -⟩ := places t
  have e0 : ((win0_21.blk t).view.emb y 0).val = t.val / 2 := by blk_simp [h0, h1, h2]
  have e1 : ((win0_21.blk t).view.emb y 1).val = t.val % 2 * 1024 + (y 1).val := by blk_simp [h0, h1, h2]
  have e2 : ((win0_21.blk t).view.emb y 2).val = (y 2).val := by blk_simp [h0, h1, h2]
  exact (congrFun (after0_21 m c t) y).trans (v_c_entry m c t y _ e0 _ e1 _ e2)

theorem g_c_entry (c : Dev nD) (t : Fin cfg0.N) (y : S1x1024x384.Idx) (b : Fin 32) (hb : b.val = t.val / 2)
    (q : Fin 2048) (hq : q.val = t.val % 2 * 1024 + (y 1).val) (k : Fin 384) (hk : k.val = (y 2).val) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y =
    gRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 2048 (by decide) b q) k := by
  obtain rfl : k = y 2 := Fin.ext hk
  refine (g_c_at _ _ _ _ _ _ _ _ _ _ _ _ _ y).trans ?_
  unfold gBlock
  simp only [row_at m c 2048 (by decide) t b hb _ q hq]

theorem g_c_result (c : Dev nD) : (dats m 0 c).arrAt 22 cfg0.N = fun i : S32x2048x384.Idx =>
    gRow (argRow (mixedX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) 2048 (by decide) (i 0) (i 1)) (i 2) := by
  refine (dats m 0 c).arrAt_eq_of_covers 22 _ (by decide +kernel) fun t _ y => ?_
  blk_simp
  obtain ⟨-, -, -, -, -, -, -, -, -, -, -, -, -, -, -, -, -, -, -, -, -, -, -, -, -, -, -, h0, h1, h2⟩ := places t
  have e0 : ((win0_22.blk t).view.emb y 0).val = t.val / 2 := by blk_simp [h0, h1, h2]
  have e1 : ((win0_22.blk t).view.emb y 1).val = t.val % 2 * 1024 + (y 1).val := by blk_simp [h0, h1, h2]
  have e2 : ((win0_22.blk t).view.emb y 2).val = (y 2).val := by blk_simp [h0, h1, h2]
  exact (congrFun (after0_22 m c t) y).trans (g_c_entry m c t y _ e0 _ e1 _ e2)

end Cert.Kernel4Ideal.Fused
end
-- ==== Proof.FusedValue.lean ====
module
public import proofs.«01_k».proof.Proof.FusedFrame
public import Idealize.ShloMosaic.Lib.Pipeline.Value
@[expose] public section
noncomputable section

/-! The second layer's in_projection: its run, with the ten arrays after it named. -/

namespace Cert.Kernel4Ideal.Value
open Cert.Kernel4Ideal Cert.Kernel4Ideal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v60_0) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v60_1) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v60_2) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v60_3) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v60_4) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v60_5) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v60_6) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v60_7) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v60_8) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v60_9) = (dats m 0 c).arrAt 22 cfg0.N :=
  (h c).1 22

/-- After the frame run, argument `main_arg0` is as launched: input window 5 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 5).trans (((dats m 0 c).arrAt_in 5 rfl _).trans ((A_eq m c 5).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 1 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

set_option maxHeartbeats 366940 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v60_0) = (dats m 0 c).arrAt 13 cfg0.N
      ∧ r.2.mem ((c : Thread nD τ).loc main_v60_1) = (dats m 0 c).arrAt 14 cfg0.N
      ∧ r.2.mem ((c : Thread nD τ).loc main_v60_2) = (dats m 0 c).arrAt 15 cfg0.N
      ∧ r.2.mem ((c : Thread nD τ).loc main_v60_3) = (dats m 0 c).arrAt 16 cfg0.N
      ∧ r.2.mem ((c : Thread nD τ).loc main_v60_4) = (dats m 0 c).arrAt 17 cfg0.N
      ∧ r.2.mem ((c : Thread nD τ).loc main_v60_5) = (dats m 0 c).arrAt 18 cfg0.N
      ∧ r.2.mem ((c : Thread nD τ).loc main_v60_6) = (dats m 0 c).arrAt 19 cfg0.N
      ∧ r.2.mem ((c : Thread nD τ).loc main_v60_7) = (dats m 0 c).arrAt 20 cfg0.N
      ∧ r.2.mem ((c : Thread nD τ).loc main_v60_8) = (dats m 0 c).arrAt 21 cfg0.N
      ∧ r.2.mem ((c : Thread nD τ).loc main_v60_9) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post13 m r h c,
      post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.Kernel4Ideal.Value
end
-- ==== Proof.FusedMatch.lean ====
module
public import proofs.«01_k».proof.Defs
public import proofs.«01_k».proof.Proof.FusedRef
public import proofs.«01_k».proof.Proof.FusedOut
public import proofs.«01_k».proof.Proof.FusedValue
@[expose] public section
set_option maxRecDepth 16384
noncomputable section
open Idealize.ShloMosaic Idealize.ShloMosaic.TcCoe Idealize.SL.Sem

/-! The second layer's in_projection is the plain one. -/

set_option maxHeartbeats 4000000 in
open Idealize.ShloMosaic.StableHlo Cert.Reference3Ideal.Proj Cert.Reference4Ideal.Fused Cert.Reference4Ideal.Value in
/-- The kernel's second in_projection, with the first layer's output projection, is the reference's. -/
theorem Cert.fused_projection : letI := Cert.Kernel4Ideal.Gen.facts; letI := Cert.Reference4Ideal.Gen.facts
    Cert.algebraic_Kernel4Ideal_Reference4Ideal := by
  intro m ρ m' ρ' _ hagree
  refine ⟨_, _, _, _, _, _, _, _, _, _, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨e0, e1, e2, e3, e4, e5, e6, e7, e8, e9, e10, e11, e12⟩ := hagree c
  have a0 : launchContents m' c (Proc.devRef .tc Cert.Reference4Ideal.main_arg0) = m ((c.tc : Thread Cert.Kernel4Ideal.nD Cert.Kernel4Ideal.τ).loc Cert.Kernel4Ideal.main_arg0) := e0
  have a1 : launchContents m' c (Proc.devRef .tc Cert.Reference4Ideal.main_arg1) = m ((c.tc : Thread Cert.Kernel4Ideal.nD Cert.Kernel4Ideal.τ).loc Cert.Kernel4Ideal.main_arg1) := e1
  have a2 : launchContents m' c (Proc.devRef .tc Cert.Reference4Ideal.main_arg2) = m ((c.tc : Thread Cert.Kernel4Ideal.nD Cert.Kernel4Ideal.τ).loc Cert.Kernel4Ideal.main_arg2) := e2
  have a3 : launchContents m' c (Proc.devRef .tc Cert.Reference4Ideal.main_arg3) = m ((c.tc : Thread Cert.Kernel4Ideal.nD Cert.Kernel4Ideal.τ).loc Cert.Kernel4Ideal.main_arg3) := e3
  have a4 : launchContents m' c (Proc.devRef .tc Cert.Reference4Ideal.main_arg4) = m ((c.tc : Thread Cert.Kernel4Ideal.nD Cert.Kernel4Ideal.τ).loc Cert.Kernel4Ideal.main_arg4) := e4
  have a5 : launchContents m' c (Proc.devRef .tc Cert.Reference4Ideal.main_arg5) = m ((c.tc : Thread Cert.Kernel4Ideal.nD Cert.Kernel4Ideal.τ).loc Cert.Kernel4Ideal.main_arg5) := e5
  have a6 : launchContents m' c (Proc.devRef .tc Cert.Reference4Ideal.main_arg6) = m ((c.tc : Thread Cert.Kernel4Ideal.nD Cert.Kernel4Ideal.τ).loc Cert.Kernel4Ideal.main_arg6) := e6
  have a7 : launchContents m' c (Proc.devRef .tc Cert.Reference4Ideal.main_arg7) = m ((c.tc : Thread Cert.Kernel4Ideal.nD Cert.Kernel4Ideal.τ).loc Cert.Kernel4Ideal.main_arg7) := e7
  have a8 : launchContents m' c (Proc.devRef .tc Cert.Reference4Ideal.main_arg8) = m ((c.tc : Thread Cert.Kernel4Ideal.nD Cert.Kernel4Ideal.τ).loc Cert.Kernel4Ideal.main_arg8) := e8
  have a9 : launchContents m' c (Proc.devRef .tc Cert.Reference4Ideal.main_arg9) = m ((c.tc : Thread Cert.Kernel4Ideal.nD Cert.Kernel4Ideal.τ).loc Cert.Kernel4Ideal.main_arg9) := e9
  have a10 : launchContents m' c (Proc.devRef .tc Cert.Reference4Ideal.main_arg10) = m ((c.tc : Thread Cert.Kernel4Ideal.nD Cert.Kernel4Ideal.τ).loc Cert.Kernel4Ideal.main_arg10) := e10
  have a11 : launchContents m' c (Proc.devRef .tc Cert.Reference4Ideal.main_arg11) = m ((c.tc : Thread Cert.Kernel4Ideal.nD Cert.Kernel4Ideal.τ).loc Cert.Kernel4Ideal.main_arg11) := e11
  have a12 : launchContents m' c (Proc.devRef .tc Cert.Reference4Ideal.main_arg12) = m ((c.tc : Thread Cert.Kernel4Ideal.nD Cert.Kernel4Ideal.τ).loc Cert.Kernel4Ideal.main_arg12) := e12
  have hx : mixed (launchContents m' c) = Cert.Kernel4Ideal.Fused.mixedX (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) := by
    unfold mixed
    rw [a0, a1, a2, a3, a4, a5]
    refine funext fun i => ?_
    rw [eq_ix3 i]
    exact Cert.Reference2Ideal.Out.res_at _ _ _ _ _ _ (i 0) (i 1) (i 2)
  refine ⟨?_, ?_, ?_, ?_, ?_, ?_, ?_, ?_, ?_, ?_, (h c).2.2.2.2.2.2.2.2.2.2⟩
  · refine (h c).1.trans ?_
    rw [u6_eq, hx]
    exact (Cert.Kernel4Ideal.Fused.x_result m c).symm
  · refine (h c).2.1.trans ?_
    rw [u84_eq, u86_eq, u33_eq, u35_eq]
    refine .trans (b := qOut (qTurned (qNormed (res_main_v61 (launchContents m' c)) (launchContents m' c (Proc.devRef .tc Cert.Reference4Ideal.main_arg9))) cosines sines)) (by rfl) ?_
    rw [u61_eq, u60_eq, hx, a6, a7, a8, a9]
    refine .trans (funext fun i => ?_) (Cert.Kernel4Ideal.Fused.q_a_result m c).symm
    rw [eq_ix3 i]
    exact queries_at _ _ _ (i 0) (i 1) _ (branchA_rows _ _ _ _ (i 0) (i 1)) (i 2)
  · refine (h c).2.2.1.trans ?_
    rw [u134_eq]
    refine .trans (b := withSwapped (kTurned (kNormed (res_main_v61 (launchContents m' c)) (launchContents m' c (Proc.devRef .tc Cert.Reference4Ideal.main_arg10))) cosines sines)) (by rfl) ?_
    rw [u61_eq, u60_eq, hx, a6, a7, a8, a10]
    refine .trans (funext fun i => ?_) (Cert.Kernel4Ideal.Fused.k_a_result m c).symm
    rw [eq_ix3 i]
    exact keys_at _ _ _ (i 0) (i 1) _ (branchA_rows _ _ _ _ (i 0) (i 1)) (i 2)
  · refine (h c).2.2.2.1.trans ?_
    rw [u140_eq]
    refine .trans (b := withSwapped (vHeads (res_main_v61 (launchContents m' c)))) (by rfl) ?_
    rw [u61_eq, u60_eq, hx, a6, a7, a8]
    refine .trans (funext fun i => ?_) (Cert.Kernel4Ideal.Fused.v_a_result m c).symm
    rw [eq_ix3 i]
    exact values_at _ (i 0) (i 1) _ (branchA_rows _ _ _ _ (i 0) (i 1)) (i 2)
  · refine (h c).2.2.2.2.1.trans ?_
    rw [u67_eq]
    refine .trans (b := gated (gate (res_main_v61 (launchContents m' c)))) (by rfl) ?_
    rw [u61_eq, u60_eq, hx, a6, a7, a8]
    refine .trans (funext fun i => ?_) (Cert.Kernel4Ideal.Fused.g_a_result m c).symm
    rw [eq_ix3 i]
    exact gated_gate_at _ (i 0) (i 1) _ (branchA_rows _ _ _ _ (i 0) (i 1)) (i 2)
  · refine (h c).2.2.2.2.2.1.trans ?_
    refine .trans (b := hyena (res_main_v60 (launchContents m' c))) (by rfl) ?_
    rw [u60_eq, hx, a6, a7, a8]
    refine .trans (funext fun i => ?_) (Cert.Kernel4Ideal.Fused.hy_result m c).symm
    rw [eq_ix3 i]
    exact hyena_rows _ _ _ _ (i 0) (i 1) (i 2)
  · refine (h c).2.2.2.2.2.2.1.trans ?_
    rw [u168_eq, u170_eq, u33_eq, u35_eq]
    refine .trans (b := qOut (qTurned (qNormed (res_main_v63 (launchContents m' c)) (launchContents m' c (Proc.devRef .tc Cert.Reference4Ideal.main_arg11))) cosines sines)) (by rfl) ?_
    rw [u63_eq, u60_eq, hx, a6, a7, a8, a11]
    refine .trans (funext fun i => ?_) (Cert.Kernel4Ideal.Fused.q_c_result m c).symm
    rw [eq_ix3 i]
    exact queries_at _ _ _ (i 0) (i 1) _ (branchC_rows _ _ _ _ (i 0) (i 1)) (i 2)
  · refine (h c).2.2.2.2.2.2.2.1.trans ?_
    rw [u218_eq]
    refine .trans (b := withSwapped (kTurned (kNormed (res_main_v63 (launchContents m' c)) (launchContents m' c (Proc.devRef .tc Cert.Reference4Ideal.main_arg12))) cosines sines)) (by rfl) ?_
    rw [u63_eq, u60_eq, hx, a6, a7, a8, a12]
    refine .trans (funext fun i => ?_) (Cert.Kernel4Ideal.Fused.k_c_result m c).symm
    rw [eq_ix3 i]
    exact keys_at _ _ _ (i 0) (i 1) _ (branchC_rows _ _ _ _ (i 0) (i 1)) (i 2)
  · refine (h c).2.2.2.2.2.2.2.2.1.trans ?_
    rw [u224_eq]
    refine .trans (b := withSwapped (vHeads (res_main_v63 (launchContents m' c)))) (by rfl) ?_
    rw [u63_eq, u60_eq, hx, a6, a7, a8]
    refine .trans (funext fun i => ?_) (Cert.Kernel4Ideal.Fused.v_c_result m c).symm
    rw [eq_ix3 i]
    exact values_at _ (i 0) (i 1) _ (branchC_rows _ _ _ _ (i 0) (i 1)) (i 2)
  · refine (h c).2.2.2.2.2.2.2.2.2.1.trans ?_
    rw [u151_eq]
    refine .trans (b := gated (gate (res_main_v63 (launchContents m' c)))) (by rfl) ?_
    rw [u63_eq, u60_eq, hx, a6, a7, a8]
    refine .trans (funext fun i => ?_) (Cert.Kernel4Ideal.Fused.g_c_result m c).symm
    rw [eq_ix3 i]
    exact gated_gate_at _ (i 0) (i 1) _ (branchC_rows _ _ _ _ (i 0) (i 1)) (i 2)
end
-- ==== Proof.Pre.lean ====
module
public import proofs.«01_k».proof.Proof.Gen.Pre_finite_qk
public import Idealize.ShloMosaic.Lib.Pointwise
public import Idealize.ShloMosaic.Lib.ReduceAll
@[expose] public section
set_option maxRecDepth 16384
noncomputable section
open Idealize.ShloMosaic Idealize.ShloMosaic.TcCoe Idealize.SL.Sem
namespace Cert.Pre_finite_qk.Att
open Cert.Pre_finite_qk Cert.Pre_finite_qk.Facts

/-! The precondition: every query and every key is a real number. -/

instance : Subsingleton S_.Idx := ⟨fun a b => funext fun i => i.elim0⟩

theorem between (x : EReal) (h : IntOp.andi (FloatOps.cmpf (F := Ideal) (φ := .f32) .olt x (Ideal.ofBits .f32 0x7F800000#32)) (FloatOps.cmpf (F := Ideal) (φ := .f32) .ogt x (Ideal.ofBits .f32 0xFF800000#32)) = 1#1) :
    ∃ r : ℝ, x = (r : EReal) := by
  have ht : Ideal.ofBits .f32 0x7F800000#32 = ⊤ := by simp [Ideal.ofBits, Ideal.ieee]
  have hb : Ideal.ofBits .f32 0xFF800000#32 = ⊥ := by simp [Ideal.ofBits, Ideal.ieee]
  rw [ht, hb] at h
  induction x using EReal.rec with
  | bot => simp [FloatOps.cmpf, Ideal.cmp, IntOp.andi] at h
  | coe r => exact ⟨r, rfl⟩
  | top => simp [FloatOps.cmpf, Ideal.cmp, IntOp.andi] at h

variable [Facts]

theorem reals (a0 a1 : FVec Ideal S32x2048x384 .f32) (a2 a3 : FVec Ideal S32x256x128 .f32) (a4 a5 : FVec Ideal S32x2048x128 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a4 i = (r : EReal)) := by
  have h0 := congrFun h (fun i => i.elim0)
  obtain ⟨h01, h2⟩ := IntOp.andi_eq_one.1 h0
  obtain ⟨h0, h1⟩ := IntOp.andi_eq_one.1 h01
  exact ⟨fun i => between _ (Host.reduce_andi_all _ _ _ _ _ h0 i), fun i => between _ (Host.reduce_andi_all _ _ _ _ _ h1 i), fun i => between _ (Host.reduce_andi_all _ _ _ _ _ h2 i)⟩

end Cert.Pre_finite_qk.Att
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite_qk
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal.Run
public import proofs.«01_k».proof.Proof.Join
public import proofs.«01_k».proof.Proof.OutProj
public import proofs.«01_k».proof.Proof.ProjMatch
public import proofs.«01_k».proof.Proof.FusedKernel
public import proofs.«01_k».proof.Proof.FusedMatch
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

/-- The attention: from finite queries and keys the kernel and the reference end with equal results. -/
theorem attention : letI := Cert.KernelIdeal.Gen.facts; letI := Cert.ReferenceIdeal.Gen.facts; letI := Cert.Pre_finite_qk.Gen.facts
    Cert.algebraic_KernelIdeal_ReferenceIdeal_pre_finite_qk := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨fQ, fC, fL⟩ := Cert.Pre_finite_qk.Att.reals _ _ _ _ _ _ (hpre c)
  obtain ⟨e0, e1, e2, e3, e4, e5⟩ := hagree c
  rw [Cert.ReferenceIdeal.Att.res_eq, e0, e1, e2, e3, e4, e5]
  refine .trans (funext fun i => ?_) (Cert.KernelIdeal.Att.result_eq m c fQ fC fL).symm
  rw [eq_ix3 i]
  exact Cert.ReferenceIdeal.Att.out_spec _ _ _ _ _ _ (i 0) (i 1) (i 2)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_qk.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩) (Cert.ReferenceIdeal.Value.run (F := Ideal) m ρ),
  fun m ρ _ => (θ_run Cert.ReferenceIdeal.defs _ _).mono (fun r h => ⟨fun c => (h c).2, sem_eq_zero_of_no_sems (by decide) r.2⟩) (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems (by decide) r.2⟩) (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2.2.2.2.2.2.2.2.2, sem_eq_zero_of_no_sems (by decide) r.2⟩) (Cert.Reference3Ideal.Value.run (F := Ideal) m ρ),
  Cert.fused_frame,
  fun m ρ _ => Cert.Kernel4Ideal.Gen.frame m ρ,
  fun m ρ _ => (θ_run Cert.Reference4Ideal.defs _ _).mono (fun r h => ⟨fun c => (h c).2.2.2.2.2.2.2.2.2.2, sem_eq_zero_of_no_sems (by decide) r.2⟩) (Cert.Reference4Ideal.Value.run (F := Ideal) m ρ),
  IdealRules.named_const.statement Cert.KernelIdeal.κ "q_scale" .f32 0x3E38AA3B#32 (((Real.log 2)⁻¹ * (1 / 8) : ℝ) : EReal) rfl,
  attention,
  trivial,
  Cert.output_projection,
  trivial,
  Cert.input_projection,
  trivial,
  Cert.fused_projection⟩

end Cert.Proof

end
